-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_causal : Cert.Pre_causal.Facts] (m : (ℓ : Loc Cert.Kernel2.nD Cert.Kernel2.τ Cert.Kernel2.sig) → Buf (Elt Bits) ℓ) : Prop :=
  ∀ c : Dev Cert.Kernel2.nD,
    (Cert.Pre_causal.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).1 = (fun _ => 1#1)
    ∧ (Cert.Pre_causal.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2 = (fun _ => 1#1)

def Pre_Kernel2Ideal [hPre_causal : Cert.Pre_causal.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_causal.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_causal.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_real [hPre_real : Cert.Pre_real.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_real.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).1 = (fun _ => 1#1)
    ∧ (Cert.Pre_real.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.1 = (fun _ => 1#1)
    ∧ (Cert.Pre_real.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.1 = (fun _ => 1#1)
    ∧ (Cert.Pre_real.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.2.1 = (fun _ => 1#1)
    ∧ (Cert.Pre_real.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.2.2.1 = (fun _ => 1#1)
    ∧ (Cert.Pre_real.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.2.2.2.1 = (fun _ => 1#1)
    ∧ (Cert.Pre_real.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.2.2.2.2.1 = (fun _ => 1#1)
    ∧ (Cert.Pre_real.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.2.2.2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_real [hPre_real : Cert.Pre_real.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_real.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).1 = (fun _ => 1#1)
    ∧ (Cert.Pre_real.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.1 = (fun _ => 1#1)
    ∧ (Cert.Pre_real.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.1 = (fun _ => 1#1)
    ∧ (Cert.Pre_real.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.2.1 = (fun _ => 1#1)
    ∧ (Cert.Pre_real.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.2.2.1 = (fun _ => 1#1)
    ∧ (Cert.Pre_real.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.2.2.2.1 = (fun _ => 1#1)
    ∧ (Cert.Pre_real.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.2.2.2.2.1 = (fun _ => 1#1)
    ∧ (Cert.Pre_real.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.2.2.2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_causal : Cert.Pre_causal.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_causal : Cert.Pre_causal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Kernel13Ideal_pre_real [hKernel13Ideal : Cert.Kernel13Ideal.Facts] [hPre_real : Cert.Pre_real.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_real m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Reference13Ideal_pre_real [hReference13Ideal : Cert.Reference13Ideal.Facts] [hPre_real : Cert.Pre_real.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_real m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def preserves_Kernel_KernelIdeal : Prop :=
  True

def algebraic_KernelIdeal_ReferenceIdeal_on_gate_columns [hKernelIdeal : Cert.KernelIdeal.Facts] [hReferenceIdeal : Cert.ReferenceIdeal.Facts] [hOn_gate_columns : Cert.On_gate_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 5760]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v0_0) i = v0 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v0_1) i = v1 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v0_2) i = v2 c i)
          ∧ (∀ i : (⟨2, ![8192, 512]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v0_3) i = v3 c i)
          ∧ (∀ i : (⟨2, ![8192, 512]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 i = 1#1 → r.2.mem ((c.tc : Thread Cert.KernelIdeal.nD Cert.KernelIdeal.τ).loc Cert.KernelIdeal.main_v0_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 5760]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v42) i = v0 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v43) i = v1 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v44) i = v2 c i)
          ∧ (∀ i : (⟨2, ![8192, 512]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v39) i = v3 c i)
          ∧ (∀ i : (⟨2, ![8192, 512]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 i = 1#1 → r.2.mem ((c.tc : Thread Cert.ReferenceIdeal.nD Cert.ReferenceIdeal.τ).loc Cert.ReferenceIdeal.main_v36) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v49_0)) (v1 : (c : Dev Cert.Kernel3Ideal.nD) → Buf (Elt Ideal) ((c.tc : Thread Cert.Kernel3Ideal.nD Cert.Kernel3Ideal.τ).loc Cert.Kernel3Ideal.main_v49_1)) (v2 : (c : Dev Cert.Kernel3Ideal.nD) → Buf (Elt Ideal) ((c.tc : Thread Cert.Kernel3Ideal.nD Cert.Kernel3Ideal.τ).loc Cert.Kernel3Ideal.main_v49_2)) (v3 : (c : Dev Cert.Kernel3Ideal.nD) → Buf (Elt Ideal) ((c.tc : Thread Cert.Kernel3Ideal.nD Cert.Kernel3Ideal.τ).loc Cert.Kernel3Ideal.main_v49_3)) (v4 : (c : Dev Cert.Kernel3Ideal.nD) → Buf (Elt Ideal) ((c.tc : Thread Cert.Kernel3Ideal.nD Cert.Kernel3Ideal.τ).loc Cert.Kernel3Ideal.main_v49_4)) (v5 : (c : Dev Cert.Kernel3Ideal.nD) → Buf (Elt Ideal) ((c.tc : Thread Cert.Kernel3Ideal.nD Cert.Kernel3Ideal.τ).loc Cert.Kernel3Ideal.main_v49_5)) (v6 : (c : Dev Cert.Kernel3Ideal.nD) → Buf (Elt Ideal) ((c.tc : Thread Cert.Kernel3Ideal.nD Cert.Kernel3Ideal.τ).loc Cert.Kernel3Ideal.main_v49_6)) (v7 : (c : Dev Cert.Kernel3Ideal.nD) → Buf (Elt Ideal) ((c.tc : Thread Cert.Kernel3Ideal.nD Cert.Kernel3Ideal.τ).loc Cert.Kernel3Ideal.main_v49_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v49_0) = v0 c
          ∧ r.2.mem ((c.tc : Thread Cert.Kernel3Ideal.nD Cert.Kernel3Ideal.τ).loc Cert.Kernel3Ideal.main_v49_1) = v1 c
          ∧ r.2.mem ((c.tc : Thread Cert.Kernel3Ideal.nD Cert.Kernel3Ideal.τ).loc Cert.Kernel3Ideal.main_v49_2) = v2 c
          ∧ r.2.mem ((c.tc : Thread Cert.Kernel3Ideal.nD Cert.Kernel3Ideal.τ).loc Cert.Kernel3Ideal.main_v49_3) = v3 c
          ∧ r.2.mem ((c.tc : Thread Cert.Kernel3Ideal.nD Cert.Kernel3Ideal.τ).loc Cert.Kernel3Ideal.main_v49_4) = v4 c
          ∧ r.2.mem ((c.tc : Thread Cert.Kernel3Ideal.nD Cert.Kernel3Ideal.τ).loc Cert.Kernel3Ideal.main_v49_5) = v5 c
          ∧ r.2.mem ((c.tc : Thread Cert.Kernel3Ideal.nD Cert.Kernel3Ideal.τ).loc Cert.Kernel3Ideal.main_v49_6) = v6 c
          ∧ r.2.mem ((c.tc : Thread Cert.Kernel3Ideal.nD Cert.Kernel3Ideal.τ).loc Cert.Kernel3Ideal.main_v49_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v147) = v0 c
          ∧ r.2.mem ((c.tc : Thread Cert.Reference3Ideal.nD Cert.Reference3Ideal.τ).loc Cert.Reference3Ideal.main_v150) = v1 c
          ∧ r.2.mem ((c.tc : Thread Cert.Reference3Ideal.nD Cert.Reference3Ideal.τ).loc Cert.Reference3Ideal.main_v153) = v2 c
          ∧ r.2.mem ((c.tc : Thread Cert.Reference3Ideal.nD Cert.Reference3Ideal.τ).loc Cert.Reference3Ideal.main_v155) = v3 c
          ∧ r.2.mem ((c.tc : Thread Cert.Reference3Ideal.nD Cert.Reference3Ideal.τ).loc Cert.Reference3Ideal.main_v157) = v4 c
          ∧ r.2.mem ((c.tc : Thread Cert.Reference3Ideal.nD Cert.Reference3Ideal.τ).loc Cert.Reference3Ideal.main_v159) = v5 c
          ∧ r.2.mem ((c.tc : Thread Cert.Reference3Ideal.nD Cert.Reference3Ideal.τ).loc Cert.Reference3Ideal.main_v141) = v6 c
          ∧ r.2.mem ((c.tc : Thread Cert.Reference3Ideal.nD Cert.Reference3Ideal.τ).loc Cert.Reference3Ideal.main_v144) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_v28) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v58) = v0 c
          ∧ r.2.mem ((c.tc : Thread Cert.Reference12Ideal.nD Cert.Reference12Ideal.τ).loc Cert.Reference12Ideal.main_v60) = v1 c
          ∧ r.2.mem ((c.tc : Thread Cert.Reference12Ideal.nD Cert.Reference12Ideal.τ).loc Cert.Reference12Ideal.main_v61) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9))

def preserves_Kernel13_Kernel13Ideal : Prop :=
  True

def algebraic_Kernel13Ideal_Reference13Ideal_pre_real [hKernel13Ideal : Cert.Kernel13Ideal.Facts] [hReference13Ideal : Cert.Reference13Ideal.Facts] [hPre_real : Cert.Pre_real.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_real m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)) (v4 : (c : Dev Cert.Kernel13Ideal.nD) → Buf (Elt Ideal) ((c.tc : Thread Cert.Kernel13Ideal.nD Cert.Kernel13Ideal.τ).loc Cert.Kernel13Ideal.main_v0_4)) (v5 : (c : Dev Cert.Kernel13Ideal.nD) → Buf (Elt Ideal) ((c.tc : Thread Cert.Kernel13Ideal.nD Cert.Kernel13Ideal.τ).loc Cert.Kernel13Ideal.main_v0_5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_v0_4) = v4 c
          ∧ r.2.mem ((c.tc : Thread Cert.Kernel13Ideal.nD Cert.Kernel13Ideal.τ).loc Cert.Kernel13Ideal.main_v0_5) = v5 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v131) = v0 c
          ∧ r.2.mem ((c.tc : Thread Cert.Reference13Ideal.nD Cert.Reference13Ideal.τ).loc Cert.Reference13Ideal.main_v134) = v1 c
          ∧ r.2.mem ((c.tc : Thread Cert.Reference13Ideal.nD Cert.Reference13Ideal.τ).loc Cert.Reference13Ideal.main_v136) = v2 c
          ∧ r.2.mem ((c.tc : Thread Cert.Reference13Ideal.nD Cert.Reference13Ideal.τ).loc Cert.Reference13Ideal.main_v137) = v3 c
          ∧ r.2.mem ((c.tc : Thread Cert.Reference13Ideal.nD Cert.Reference13Ideal.τ).loc Cert.Reference13Ideal.main_v125) = v4 c
          ∧ r.2.mem ((c.tc : Thread Cert.Reference13Ideal.nD Cert.Reference13Ideal.τ).loc Cert.Reference13Ideal.main_v128) = v5 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v30) = v1 c
          ∧ r.2.mem ((c.tc : Thread Cert.Reference14Ideal.nD Cert.Reference14Ideal.τ).loc Cert.Reference14Ideal.main_v11) = v2 c
          ∧ r.2.mem ((c.tc : Thread Cert.Reference14Ideal.nD Cert.Reference14Ideal.τ).loc Cert.Reference14Ideal.main_v17) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_v17) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_v30) = v1 c
          ∧ r.2.mem ((c.tc : Thread Cert.Reference16Ideal.nD Cert.Reference16Ideal.τ).loc Cert.Reference16Ideal.main_v11) = v2 c
          ∧ r.2.mem ((c.tc : Thread Cert.Reference16Ideal.nD Cert.Reference16Ideal.τ).loc Cert.Reference16Ideal.main_v17) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v17) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_causal : Cert.Pre_causal.Facts) (hPre_finite : Cert.Pre_finite.Facts) (hPre_real : Cert.Pre_real.Facts) (hOn_gate_columns : Cert.On_gate_columns.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_causal := hPre_causal)
    ∧ quiescent_Kernel2Ideal (hKernel2Ideal := hKernel2Ideal) (hPre_causal := hPre_causal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_real (hKernel13Ideal := hKernel13Ideal) (hPre_real := hPre_real)
    ∧ quiescent_Reference13Ideal (hReference13Ideal := hReference13Ideal)
    ∧ quiescent_Reference13Ideal_pre_real (hReference13Ideal := hReference13Ideal) (hPre_real := hPre_real)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_on_gate_columns (hKernelIdeal := hKernelIdeal) (hReferenceIdeal := hReferenceIdeal) (hOn_gate_columns := hOn_gate_columns)
    ∧ preserves_Kernel2_Kernel2Ideal
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_real (hKernel13Ideal := hKernel13Ideal) (hReference13Ideal := hReference13Ideal) (hPre_real := hPre_real)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== On_gate_columns.lean ====
abbrev S8192x1024 : Shape := ⟨2, ![8192, 1024]⟩
abbrev S8192x512 : Shape := ⟨2, ![8192, 512]⟩
abbrev S8192x5760 : Shape := ⟨2, ![8192, 5760]⟩
abbrev S512x1024 : Shape := ⟨2, ![512, 1024]⟩
abbrev S1024x1024 : Shape := ⟨2, ![1024, 1024]⟩
abbrev S8x128 : Shape := ⟨2, ![8, 128]⟩
abbrev S_ : Shape := ⟨0, ![]⟩

class Facts : Prop where
  bcast_S_S8192x5760 : S_.BroadcastsInDim S8192x5760 (![] : Fin 0 → Fin S8192x5760.rank)
  bcast_S_S8192x1024 : S_.BroadcastsInDim S8192x1024 (![] : Fin 0 → Fin S8192x1024.rank)
  bcast_S_S8192x512 : S_.BroadcastsInDim S8192x512 (![] : Fin 0 → Fin S8192x512.rank)

variable [Facts]

def fn {F : FTy → Type} [FloatOps F] (main_arg0 : FVec F S8192x1024 .bf16) (main_arg1 : FVec F S8192x512 .bf16) (main_arg2 : FVec F S8192x512 .bf16) (main_arg3 : FVec F S8192x5760 .bf16) (main_arg4 : FVec F S512x1024 .bf16) (main_arg5 : FVec F S512x1024 .bf16) (main_arg6 : FVec F S1024x1024 .bf16) (main_arg7 : FVec F S8x128 .f32) : IVec S8192x5760 1 × IVec S8192x1024 1 × IVec S8192x1024 1 × IVec S8192x512 1 × IVec S8192x512 1 :=
  let main_v0 : IVec S8192x5760 32 := iotaInDim S8192x5760 32 1
  let main_c : IVec S_ 32 := constantI S_ 32 2048#32
  let main_v1 : IVec S8192x5760 32 := broadcastInDim S8192x5760 ![] bcast_S_S8192x5760 main_c
  let main_v2 : IVec S8192x5760 1 := cmpi .slt main_v0 main_v1
  let main_v3 : IVec S8192x1024 32 := iotaInDim S8192x1024 32 1
  let main_c_0 : IVec S_ 32 := constantI S_ 32 1024#32
  let main_v4 : IVec S8192x1024 32 := broadcastInDim S8192x1024 ![] bcast_S_S8192x1024 main_c_0
  let main_v5 : IVec S8192x1024 1 := cmpi .slt main_v3 main_v4
  let main_v6 : IVec S8192x1024 32 := iotaInDim S8192x1024 32 1
  let main_c_1 : IVec S_ 32 := constantI S_ 32 1024#32
  let main_v7 : IVec S8192x1024 32 := broadcastInDim S8192x1024 ![] bcast_S_S8192x1024 main_c_1
  let main_v8 : IVec S8192x1024 1 := cmpi .slt main_v6 main_v7
  let main_v9 : IVec S8192x512 32 := iotaInDim S8192x512 32 1
  let main_c_2 : IVec S_ 32 := constantI S_ 32 512#32
  let main_v10 : IVec S8192x512 32 := broadcastInDim S8192x512 ![] bcast_S_S8192x512 main_c_2
  let main_v11 : IVec S8192x512 1 := cmpi .slt main_v9 main_v10
  let main_v12 : IVec S8192x512 32 := iotaInDim S8192x512 32 1
  let main_c_3 : IVec S_ 32 := constantI S_ 32 512#32
  let main_v13 : IVec S8192x512 32 := broadcastInDim S8192x512 ![] bcast_S_S8192x512 main_c_3
  let main_v14 : IVec S8192x512 1 := cmpi .slt main_v12 main_v13
  (main_v2, main_v5, main_v8, main_v11, main_v14)
-- ==== Pre_causal.lean ====
abbrev S36 : Shape := ⟨1, ![36]⟩
abbrev S8192x5632 : Shape := ⟨2, ![8192, 5632]⟩
abbrev S4x8192x128 : Shape := ⟨3, ![4, 8192, 128]⟩
abbrev S2x4x8x4096 : Shape := ⟨4, ![2, 4, 8, 4096]⟩
abbrev S8192x512 : Shape := ⟨2, ![8192, 512]⟩
abbrev S8 : Shape := ⟨1, ![8]⟩
abbrev S_ : Shape := ⟨0, ![]⟩
abbrev S7 : Shape := ⟨1, ![7]⟩
abbrev S6 : Shape := ⟨1, ![6]⟩
abbrev S5 : Shape := ⟨1, ![5]⟩
abbrev S4 : Shape := ⟨1, ![4]⟩
abbrev S3 : Shape := ⟨1, ![3]⟩
abbrev S2 : Shape := ⟨1, ![2]⟩
abbrev S1 : Shape := ⟨1, ![1]⟩

class Facts : Prop where
  bcast_S_S8 : S_.BroadcastsInDim S8 (![] : Fin 0 → Fin S8.rank)
  bcast_S_S7 : S_.BroadcastsInDim S7 (![] : Fin 0 → Fin S7.rank)
  bcast_S_S6 : S_.BroadcastsInDim S6 (![] : Fin 0 → Fin S6.rank)
  bcast_S_S5 : S_.BroadcastsInDim S5 (![] : Fin 0 → Fin S5.rank)
  bcast_S_S4 : S_.BroadcastsInDim S4 (![] : Fin 0 → Fin S4.rank)
  bcast_S_S3 : S_.BroadcastsInDim S3 (![] : Fin 0 → Fin S3.rank)
  bcast_S_S2 : S_.BroadcastsInDim S2 (![] : Fin 0 → Fin S2.rank)
  bcast_S_S1 : S_.BroadcastsInDim S1 (![] : Fin 0 → Fin S1.rank)
  concatenates_S8_S7_S6_S5_S4_S3_S2_S1_S36_d0 : Shape.Concatenates [S8, S7, S6, S5, S4, S3, S2, S1] S36 0

variable [Facts]

def fn_part2 {F : FTy → Type} [FloatOps F] (main_arg0 : IVec S36 32) (main_arg1 : IVec S36 32) (main_v24 : IVec S36 32) (main_v25 : IVec S8 32) (main_v26 : IVec S7 32) (main_v27 : IVec S6 32) (main_v28 : IVec S5 32) (main_v29 : IVec S4 32) (main_v30 : IVec S3 32) (main_v31 : IVec S2 32) (main_c_14 : IVec S_ 32) : IVec S36 1 × IVec S36 1 :=
  let main_v32 : IVec S1 32 := broadcastInDim S1 ![] bcast_S_S1 main_c_14
  let main_v33 : IVec S36 32 := concatenate S36 0 [⟨S8, main_v25⟩, ⟨S7, main_v26⟩, ⟨S6, main_v27⟩, ⟨S5, main_v28⟩, ⟨S4, main_v29⟩, ⟨S3, main_v30⟩, ⟨S2, main_v31⟩, ⟨S1, main_v32⟩] concatenates_S8_S7_S6_S5_S4_S3_S2_S1_S36_d0
  let main_v34 : IVec S36 1 := cmpi .eq main_arg0 main_v24
  let main_v35 : IVec S36 1 := cmpi .eq main_arg1 main_v33
  (main_v34, main_v35)

def fn_part1 {F : FTy → Type} [FloatOps F] (main_arg0 : IVec S36 32) (main_arg1 : IVec S36 32) (main_v2 : IVec S8 32) (main_v5 : IVec S7 32) (main_v8 : IVec S6 32) (main_v11 : IVec S5 32) (main_v14 : IVec S4 32) (main_v17 : IVec S3 32) : IVec S36 1 × IVec S36 1 :=
  let main_v18 : IVec S2 32 := iotaInDim S2 32 0
  let main_c_5 : IVec S_ 32 := constantI S_ 32 6#32
  let main_v19 : IVec S2 32 := broadcastInDim S2 ![] bcast_S_S2 main_c_5
  let main_v20 : IVec S2 32 := addi main_v18 main_v19
  let main_v21 : IVec S1 32 := iotaInDim S1 32 0
  let main_c_6 : IVec S_ 32 := constantI S_ 32 7#32
  let main_v22 : IVec S1 32 := broadcastInDim S1 ![] bcast_S_S1 main_c_6
  let main_v23 : IVec S1 32 := addi main_v21 main_v22
  let main_v24 : IVec S36 32 := concatenate S36 0 [⟨S8, main_v2⟩, ⟨S7, main_v5⟩, ⟨S6, main_v8⟩, ⟨S5, main_v11⟩, ⟨S4, main_v14⟩, ⟨S3, main_v17⟩, ⟨S2, main_v20⟩, ⟨S1, main_v23⟩] concatenates_S8_S7_S6_S5_S4_S3_S2_S1_S36_d0
  let main_c_7 : IVec S_ 32 := constantI S_ 32 0#32
  let main_v25 : IVec S8 32 := broadcastInDim S8 ![] bcast_S_S8 main_c_7
  let main_c_8 : IVec S_ 32 := constantI S_ 32 1#32
  let main_v26 : IVec S7 32 := broadcastInDim S7 ![] bcast_S_S7 main_c_8
  let main_c_9 : IVec S_ 32 := constantI S_ 32 2#32
  let main_v27 : IVec S6 32 := broadcastInDim S6 ![] bcast_S_S6 main_c_9
  let main_c_10 : IVec S_ 32 := constantI S_ 32 3#32
  let main_v28 : IVec S5 32 := broadcastInDim S5 ![] bcast_S_S5 main_c_10
  let main_c_11 : IVec S_ 32 := constantI S_ 32 4#32
  let main_v29 : IVec S4 32 := broadcastInDim S4 ![] bcast_S_S4 main_c_11
  let main_c_12 : IVec S_ 32 := constantI S_ 32 5#32
  let main_v30 : IVec S3 32 := broadcastInDim S3 ![] bcast_S_S3 main_c_12
  let main_c_13 : IVec S_ 32 := constantI S_ 32 6#32
  let main_v31 : IVec S2 32 := broadcastInDim S2 ![] bcast_S_S2 main_c_13
  let main_c_14 : IVec S_ 32 := constantI S_ 32 7#32
  fn_part2 (F := F) main_arg0 main_arg1 main_v24 main_v25 main_v26 main_v27 main_v28 main_v29 main_v30 main_v31 main_c_14

def fn {F : FTy → Type} [FloatOps F] (main_arg0 : IVec S36 32) (main_arg1 : IVec S36 32) (main_arg2 : FVec F S8192x5632 .bf16) (main_arg3 : FVec F S8192x5632 .bf16) (main_arg4 : FVec F S4x8192x128 .f32) (main_arg5 : FVec F S2x4x8x4096 .f32) (main_arg6 : FVec F S8192x512 .bf16) (main_arg7 : FVec F S8192x512 .f32) : IVec S36 1 × IVec S36 1 :=
  let main_v0 : IVec S8 32 := iotaInDim S8 32 0
  let main_c : IVec S_ 32 := constantI S_ 32 0#32
  let main_v1 : IVec S8 32 := broadcastInDim S8 ![] bcast_S_S8 main_c
  let main_v2 : IVec S8 32 := addi main_v0 main_v1
  let main_v3 : IVec S7 32 := iotaInDim S7 32 0
  let main_c_0 : IVec S_ 32 := constantI S_ 32 1#32
  let main_v4 : IVec S7 32 := broadcastInDim S7 ![] bcast_S_S7 main_c_0
  let main_v5 : IVec S7 32 := addi main_v3 main_v4
  let main_v6 : IVec S6 32 := iotaInDim S6 32 0
  let main_c_1 : IVec S_ 32 := constantI S_ 32 2#32
  let main_v7 : IVec S6 32 := broadcastInDim S6 ![] bcast_S_S6 main_c_1
  let main_v8 : IVec S6 32 := addi main_v6 main_v7
  let main_v9 : IVec S5 32 := iotaInDim S5 32 0
  let main_c_2 : IVec S_ 32 := constantI S_ 32 3#32
  let main_v10 : IVec S5 32 := broadcastInDim S5 ![] bcast_S_S5 main_c_2
  let main_v11 : IVec S5 32 := addi main_v9 main_v10
  let main_v12 : IVec S4 32 := iotaInDim S4 32 0
  let main_c_3 : IVec S_ 32 := constantI S_ 32 4#32
  let main_v13 : IVec S4 32 := broadcastInDim S4 ![] bcast_S_S4 main_c_3
  let main_v14 : IVec S4 32 := addi main_v12 main_v13
  let main_v15 : IVec S3 32 := iotaInDim S3 32 0
  let main_c_4 : IVec S_ 32 := constantI S_ 32 5#32
  let main_v16 : IVec S3 32 := broadcastInDim S3 ![] bcast_S_S3 main_c_4
  let main_v17 : IVec S3 32 := addi main_v15 main_v16
  fn_part1 (F := F) main_arg0 main_arg1 main_v2 main_v5 main_v8 main_v11 main_v14 main_v17
-- ==== Pre_finite.lean ====
abbrev S8192x1024 : Shape := ⟨2, ![8192, 1024]⟩
abbrev S2x8x1024 : Shape := ⟨3, ![2, 8, 1024]⟩
abbrev S1x1024 : Shape := ⟨2, ![1, 1024]⟩
abbrev S4x704x1024 : Shape := ⟨3, ![4, 704, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S2x8x1024 : S_.BroadcastsInDim S2x8x1024 (![] : Fin 0 → Fin S2x8x1024.rank)
  bcast_S_S1x1024 : S_.BroadcastsInDim S1x1024 (![] : Fin 0 → Fin S1x1024.rank)
  bcast_S_S4x704x1024 : S_.BroadcastsInDim S4x704x1024 (![] : Fin 0 → Fin S4x704x1024.rank)

variable [Facts]

def fn_part1 {F : FTy → Type} [FloatOps F] (main_arg6 : FVec F S4x704x1024 .bf16) (main_arg7 : FVec F S4x704x1024 .bf16) (main_arg8 : FVec F S8192x1024 .f32) (main_v2 : IVec S8192x1024 1) (main_v6 : IVec S8192x1024 1) (main_v9 : IVec S2x8x1024 1) (main_v12 : IVec S1x1024 1) (main_v15 : IVec S1x1024 1) (main_v17 : FVec F S4x704x1024 .f32) (main_cst_4 : FVec F S_ .f32) : IVec S8192x1024 1 × IVec S8192x1024 1 × IVec S2x8x1024 1 × IVec S1x1024 1 × IVec S1x1024 1 × IVec S4x704x1024 1 × IVec S4x704x1024 1 × IVec S4x704x1024 1 × IVec S8192x1024 1 :=
  let main_v18 : FVec F S4x704x1024 .f32 := broadcastInDim S4x704x1024 ![] bcast_S_S4x704x1024 main_cst_4
  let main_v19 : IVec S4x704x1024 1 := cmpf .olt main_v17 main_v18
  let main_v20 : FVec F S4x704x1024 .f32 := (extf .f32 · bitsLt_bf16_f32) main_arg6
  let main_v21 : FVec F S4x704x1024 .f32 := Host.absf main_v20
  let main_cst_5 : FVec F S_ .f32 := constant S_ .f32 0x7F800000#32
  let main_v22 : FVec F S4x704x1024 .f32 := broadcastInDim S4x704x1024 ![] bcast_S_S4x704x1024 main_cst_5
  let main_v23 : IVec S4x704x1024 1 := cmpf .olt main_v21 main_v22
  let main_v24 : FVec F S4x704x1024 .f32 := (extf .f32 · bitsLt_bf16_f32) main_arg7
  let main_v25 : FVec F S4x704x1024 .f32 := Host.absf main_v24
  let main_cst_6 : FVec F S_ .f32 := constant S_ .f32 0x7F800000#32
  let main_v26 : FVec F S4x704x1024 .f32 := broadcastInDim S4x704x1024 ![] bcast_S_S4x704x1024 main_cst_6
  let main_v27 : IVec S4x704x1024 1 := cmpf .olt main_v25 main_v26
  let main_v28 : FVec F S8192x1024 .f32 := Host.absf main_arg8
  let main_cst_7 : FVec F S_ .f32 := constant S_ .f32 0x7F800000#32
  let main_v29 : FVec F S8192x1024 .f32 := broadcastInDim S8192x1024 ![] bcast_S_S8192x1024 main_cst_7
  let main_v30 : IVec S8192x1024 1 := cmpf .olt main_v28 main_v29
  (main_v2, main_v6, main_v9, main_v12, main_v15, main_v19, main_v23, main_v27, main_v30)

def fn {F : FTy → Type} [FloatOps F] (main_arg0 : FVec F S8192x1024 .f32) (main_arg1 : FVec F S8192x1024 .bf16) (main_arg2 : FVec F S2x8x1024 .f32) (main_arg3 : FVec F S1x1024 .f32) (main_arg4 : FVec F S1x1024 .f32) (main_arg5 : FVec F S4x704x1024 .bf16) (main_arg6 : FVec F S4x704x1024 .bf16) (main_arg7 : FVec F S4x704x1024 .bf16) (main_arg8 : FVec F S8192x1024 .f32) : IVec S8192x1024 1 × IVec S8192x1024 1 × IVec S2x8x1024 1 × IVec S1x1024 1 × IVec S1x1024 1 × IVec S4x704x1024 1 × IVec S4x704x1024 1 × IVec S4x704x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := (extf .f32 · bitsLt_bf16_f32) main_arg1
  let main_v4 : FVec F S8192x1024 .f32 := Host.absf main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S2x8x1024 .f32 := Host.absf main_arg2
  let main_cst_1 : FVec F S_ .f32 := constant S_ .f32 0x7F800000#32
  let main_v8 : FVec F S2x8x1024 .f32 := broadcastInDim S2x8x1024 ![] bcast_S_S2x8x1024 main_cst_1
  let main_v9 : IVec S2x8x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  let main_v16 : FVec F S4x704x1024 .f32 := (extf .f32 · bitsLt_bf16_f32) main_arg5
  let main_v17 : FVec F S4x704x1024 .f32 := Host.absf main_v16
  let main_cst_4 : FVec F S_ .f32 := constant S_ .f32 0x7F800000#32
  fn_part1 (F := F) main_arg6 main_arg7 main_arg8 main_v2 main_v6 main_v9 main_v12 main_v15 main_v17 main_cst_4
-- ==== Pre_real.lean ====
abbrev S8192x1024 : Shape := ⟨2, ![8192, 1024]⟩
abbrev S2x8x1024 : Shape := ⟨3, ![2, 8, 1024]⟩
abbrev S4x704x1024 : Shape := ⟨3, ![4, 704, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S2x8x1024 : S_.BroadcastsInDim S2x8x1024 (![] : Fin 0 → Fin S2x8x1024.rank)
  bitsLt_bf16_f32 : FTy.bits .bf16 < FTy.bits .f32
  bcast_S_S4x704x1024 : S_.BroadcastsInDim S4x704x1024 (![] : Fin 0 → Fin S4x704x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S1x1024 .f32) (main_v2 : IVec S8192x1024 1) (main_v5 : IVec S2x8x1024 1) (main_v9 : IVec S4x704x1024 1) (main_v13 : IVec S4x704x1024 1) (main_v17 : IVec S4x704x1024 1) (main_v18 : FVec F S8192x1024 .f32) : IVec S8192x1024 1 × IVec S2x8x1024 1 × IVec S4x704x1024 1 × IVec S4x704x1024 1 × IVec S4x704x1024 1 × IVec S8192x1024 1 × IVec S1x1024 1 × IVec S1x1024 1 :=
  let main_cst_4 : FVec F S_ .f32 := constant S_ .f32 0x7F800000#32
  let main_v19 : FVec F S8192x1024 .f32 := broadcastInDim S8192x1024 ![] bcast_S_S8192x1024 main_cst_4
  let main_v20 : IVec S8192x1024 1 := cmpf .olt main_v18 main_v19
  let main_v21 : FVec F S1x1024 .f32 := Host.absf main_arg6
  let main_cst_5 : FVec F S_ .f32 := constant S_ .f32 0x7F800000#32
  let main_v22 : FVec F S1x1024 .f32 := broadcastInDim S1x1024 ![] bcast_S_S1x1024 main_cst_5
  let main_v23 : IVec S1x1024 1 := cmpf .olt main_v21 main_v22
  let main_v24 : FVec F S1x1024 .f32 := Host.absf main_arg7
  let main_cst_6 : FVec F S_ .f32 := constant S_ .f32 0x7F800000#32
  let main_v25 : FVec F S1x1024 .f32 := broadcastInDim S1x1024 ![] bcast_S_S1x1024 main_cst_6
  let main_v26 : IVec S1x1024 1 := cmpf .olt main_v24 main_v25
  (main_v2, main_v5, main_v9, main_v13, main_v17, main_v20, main_v23, main_v26)

def fn {F : FTy → Type} [FloatOps F] (main_arg0 : FVec F S8192x1024 .f32) (main_arg1 : FVec F S2x8x1024 .f32) (main_arg2 : FVec F S4x704x1024 .bf16) (main_arg3 : FVec F S4x704x1024 .bf16) (main_arg4 : FVec F S4x704x1024 .bf16) (main_arg5 : FVec F S8192x1024 .f32) (main_arg6 : FVec F S1x1024 .f32) (main_arg7 : FVec F S1x1024 .f32) : IVec S8192x1024 1 × IVec S2x8x1024 1 × IVec S4x704x1024 1 × IVec S4x704x1024 1 × IVec S4x704x1024 1 × IVec S8192x1024 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2x8x1024 .f32 := Host.absf main_arg1
  let main_cst_0 : FVec F S_ .f32 := constant S_ .f32 0x7F800000#32
  let main_v4 : FVec F S2x8x1024 .f32 := broadcastInDim S2x8x1024 ![] bcast_S_S2x8x1024 main_cst_0
  let main_v5 : IVec S2x8x1024 1 := cmpf .olt main_v3 main_v4
  let main_v6 : FVec F S4x704x1024 .f32 := (extf .f32 · bitsLt_bf16_f32) main_arg2
  let main_v7 : FVec F S4x704x1024 .f32 := Host.absf main_v6
  let main_cst_1 : FVec F S_ .f32 := constant S_ .f32 0x7F800000#32
  let main_v8 : FVec F S4x704x1024 .f32 := broadcastInDim S4x704x1024 ![] bcast_S_S4x704x1024 main_cst_1
  let main_v9 : IVec S4x704x1024 1 := cmpf .olt main_v7 main_v8
  let main_v10 : FVec F S4x704x1024 .f32 := (extf .f32 · bitsLt_bf16_f32) main_arg3
  let main_v11 : FVec F S4x704x1024 .f32 := Host.absf main_v10
  let main_cst_2 : FVec F S_ .f32 := constant S_ .f32 0x7F800000#32
  let main_v12 : FVec F S4x704x1024 .f32 := broadcastInDim S4x704x1024 ![] bcast_S_S4x704x1024 main_cst_2
  let main_v13 : IVec S4x704x1024 1 := cmpf .olt main_v11 main_v12
  let main_v14 : FVec F S4x704x1024 .f32 := (extf .f32 · bitsLt_bf16_f32) main_arg4
  let main_v15 : FVec F S4x704x1024 .f32 := Host.absf main_v14
  let main_cst_3 : FVec F S_ .f32 := constant S_ .f32 0x7F800000#32
  let main_v16 : FVec F S4x704x1024 .f32 := broadcastInDim S4x704x1024 ![] bcast_S_S4x704x1024 main_cst_3
  let main_v17 : IVec S4x704x1024 1 := cmpf .olt main_v15 main_v16
  let main_v18 : FVec F S8192x1024 .f32 := Host.absf main_arg5
  fn_part1 (F := F) main_arg6 main_arg7 main_v2 main_v5 main_v9 main_v13 main_v17 main_v18
-- ==== Kernel.lean ====
abbrev S8192x1024 : Shape := ⟨2, ![8192, 1024]⟩
abbrev S8192x512 : Shape := ⟨2, ![8192, 512]⟩
abbrev S8192x5760 : Shape := ⟨2, ![8192, 5760]⟩
abbrev S512x1024 : Shape := ⟨2, ![512, 1024]⟩
abbrev S1024x1024 : Shape := ⟨2, ![1024, 1024]⟩
abbrev S8x128 : Shape := ⟨2, ![8, 128]⟩
abbrev S512x512 : Shape := ⟨2, ![512, 512]⟩
abbrev S512x2048 : Shape := ⟨2, ![512, 2048]⟩

abbrev nBuf : Space → Nat
  | .hbm => 13
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x5760, .bf16⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S8x128, .f32⟩
  | .hbm, ⟨8, _⟩ => ⟨S8192x5760, .bf16⟩
  | .hbm, ⟨9, _⟩ => ⟨S8192x1024, .bf16⟩
  | .hbm, ⟨10, _⟩ => ⟨S8192x1024, .bf16⟩
  | .hbm, ⟨11, _⟩ => ⟨S8192x512, .f32⟩
  | .hbm, ⟨12, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S8x128, .f32⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8192x1024 : Shape := ⟨2, ![8192, 1024]⟩
abbrev S8192x512 : Shape := ⟨2, ![8192, 512]⟩
abbrev S8192x5760 : Shape := ⟨2, ![8192, 5760]⟩
abbrev S512x1024 : Shape := ⟨2, ![512, 1024]⟩
abbrev S1024x1024 : Shape := ⟨2, ![1024, 1024]⟩
abbrev S8x128 : Shape := ⟨2, ![8, 128]⟩
abbrev S8192x2048 : Shape := ⟨2, ![8192, 2048]⟩
abbrev S_ : Shape := ⟨0, ![]⟩
abbrev S1024x512 : Shape := ⟨2, ![1024, 512]⟩
abbrev S8192x3712 : Shape := ⟨2, ![8192, 3712]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x5760, .bf16⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S8x128, .f32⟩
  | .hbm, ⟨8, _⟩ => ⟨S8192x512, .f32⟩
  | .hbm, ⟨9, _⟩ => ⟨S8192x512, .f32⟩
  | .hbm, ⟨10, _⟩ => ⟨S512x1024, .f32⟩
  | .hbm, ⟨11, _⟩ => ⟨S512x1024, .f32⟩
  | .hbm, ⟨12, _⟩ => ⟨S8192x1024, .f32⟩
  | .hbm, ⟨13, _⟩ => ⟨S8192x1024, .f32⟩
  | .hbm, ⟨14, _⟩ => ⟨S8192x2048, .bf16⟩
  | .hbm, ⟨15, _⟩ => ⟨S8192x2048, .f32⟩
  | .hbm, ⟨16, _⟩ => ⟨S1024x1024, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1024x1024, .f32⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x2048, .f32⟩
  | .hbm, ⟨44, _⟩ => ⟨S8192x2048, .f32⟩
  | .hbm, ⟨45, _⟩ => ⟨S1024x512, .f32⟩
  | .hbm, ⟨46, _⟩ => ⟨S512x1024, .f32⟩
  | .hbm, ⟨47, _⟩ => ⟨S8192x512, .f32⟩
  | .hbm, ⟨48, _⟩ => ⟨S1024x512, .f32⟩
  | .hbm, ⟨49, _⟩ => ⟨S512x1024, .f32⟩
  | .hbm, ⟨50, _⟩ => ⟨S8192x512, .f32⟩
  | .hbm, ⟨51, _⟩ => ⟨S_, .f32⟩
  | .hbm, ⟨52, _⟩ => ⟨S8192x3712, .f32⟩
  | .hbm, ⟨53, _⟩ => ⟨S8192x5760, .f32⟩
  | .hbm, ⟨54, _⟩ => ⟨S8192x5760, .bf16⟩
  | .hbm, ⟨55, _⟩ => ⟨S8192x1024, .bf16⟩
  | .hbm, ⟨56, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Kernel2.lean ====
abbrev S36 : Shape := ⟨1, ![36]⟩
abbrev S8192x5632 : Shape := ⟨2, ![8192, 5632]⟩
abbrev S4x8192x128 : Shape := ⟨3, ![4, 8192, 128]⟩
abbrev S2x4x8x4096 : Shape := ⟨4, ![2, 4, 8, 4096]⟩
abbrev S8192x512 : Shape := ⟨2, ![8192, 512]⟩
abbrev S512x256 : Shape := ⟨2, ![512, 256]⟩
abbrev S1 : Shape := ⟨1, ![1]⟩
abbrev S512x512 : Shape := ⟨2, ![512, 512]⟩
abbrev S2x512x128 : Shape := ⟨3, ![2, 512, 128]⟩
abbrev S1x2x8x512 : Shape := ⟨4, ![1, 2, 8, 512]⟩
abbrev S4096x256 : Shape := ⟨2, ![4096, 256]⟩
abbrev S2x4096x128 : Shape := ⟨3, ![2, 4096, 128]⟩
abbrev S4x512x128 : Shape := ⟨3, ![4, 512, 128]⟩
abbrev S8x4x128x512 : Shape := ⟨4, ![8, 4, 128, 512]⟩
abbrev S1x512x128 : Shape := ⟨3, ![1, 512, 128]⟩
abbrev S512x128 : Shape := ⟨2, ![512, 128]⟩
abbrev S1x1x128x512 : Shape := ⟨4, ![1, 1, 128, 512]⟩
abbrev S128x512 : Shape := ⟨2, ![128, 512]⟩
abbrev S256x128 : Shape := ⟨2, ![256, 128]⟩
abbrev S512x1 : Shape := ⟨2, ![512, 1]⟩
abbrev S1x1x1x256 : Shape := ⟨4, ![1, 1, 1, 256]⟩
abbrev S1x256 : Shape := ⟨2, ![1, 256]⟩
abbrev S8x128 : Shape := ⟨2, ![8, 128]⟩
abbrev S8x256 : Shape := ⟨2, ![8, 256]⟩
abbrev S128x256 : Shape := ⟨2, ![128, 256]⟩

abbrev nBuf : Space → Nat
  | .hbm => 10
  | .vmem => 23
  | .smem => 2
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S4x8192x128, .f32⟩
  | .hbm, ⟨3, _⟩ => ⟨S2x4x8x4096, .f32⟩
  | .hbm, ⟨4, _⟩ => ⟨S8192x512, .bf16⟩
  | .hbm, ⟨5, _⟩ => ⟨S8192x512, .f32⟩
  | .hbm, ⟨6, _⟩ => ⟨S8192x5632, .bf16⟩
  | .hbm, ⟨7, _⟩ => ⟨S8192x512, .bf16⟩
  | .hbm, ⟨8, _⟩ => ⟨S4x8192x128, .f32⟩
  | .hbm, ⟨9, _⟩ => ⟨S4x8192x128, .f32⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S2x512x128, .f32⟩
  | .local _ .vmem, ⟨5, _⟩ => ⟨S2x512x128, .f32⟩
  | .local _ .vmem, ⟨6, _⟩ => ⟨S1x2x8x512, .f32⟩
  | .local _ .vmem, ⟨7, _⟩ => ⟨S1x2x8x512, .f32⟩
  | .local _ .vmem, ⟨8, _⟩ => ⟨S512x256, .bf16⟩
  | .local _ .vmem, ⟨9, _⟩ => ⟨S512x256, .bf16⟩
  | .local _ .vmem, ⟨10, _⟩ => ⟨S512x256, .f32⟩
  | .local _ .vmem, ⟨11, _⟩ => ⟨S512x256, .f32⟩
  | .local _ .vmem, ⟨12, _⟩ => ⟨S512x512, .bf16⟩
  | .local _ .vmem, ⟨13, _⟩ => ⟨S512x512, .bf16⟩
  | .local _ .vmem, ⟨14, _⟩ => ⟨S4096x256, .bf16⟩
  | .local _ .vmem, ⟨15, _⟩ => ⟨S4096x256, .bf16⟩
  | .local _ .vmem, ⟨16, _⟩ => ⟨S2x4096x128, .f32⟩
  | .local _ .vmem, ⟨17, _⟩ => ⟨S2x4096x128, .f32⟩
  | .local _ .vmem, ⟨18, _⟩ => ⟨S2x512x128, .f32⟩
  | .local _ .vmem, ⟨19, _⟩ => ⟨S2x512x128, .f32⟩
  | .local _ .vmem, ⟨20, _⟩ => ⟨S4x512x128, .f32⟩
  | .local _ .vmem, ⟨21, _⟩ => ⟨S2x512x128, .f32⟩
  | .local _ .vmem, ⟨22, _⟩ => ⟨S8x4x128x512, .f32⟩
  | .local _ .smem, ⟨0, _⟩ => ⟨S36, .i32⟩
  | .local _ .smem, ⟨1, _⟩ => ⟨S36, .i32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 2, 36], ![false, false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_off2 (v1 : BitVec 32) : Fin 4 → Nat :=
  let v30 : Index := Scalar.indexCast v1
  let c0_14 : Index := 0#32
  let c0_15 : Index := 0#32
  let c0_16 : Index := 0#32
  ![v30.toNat, 0, 0, 0]
def k0_cond3 (v1 : BitVec 32) (v3 : BitVec 32) : BitVec 1 :=
  let v10 : BitVec 1 := Scalar.cmpi .eq v1 v3
  let v11 : BitVec 32 := Scalar.extui v10
  let c0_i32_2 : BitVec 32 := 0#32
  let v12 : BitVec 1 := Scalar.cmpi .ne v11 c0_i32_2
  v12

def k0_off3 (v1 : BitVec 32) : Fin 4 → Nat :=
  let v33 : Index := Scalar.indexCast v1
  let c1_17 : Index := 1#32
  let c0_18 : Index := 0#32
  let c0_19 : Index := 0#32
  ![v33.toNat, 1, 0, 0]
def k0_off4 (v1 : BitVec 32) : Fin 4 → Nat :=
  let v36 : Index := Scalar.indexCast v1
  let c2_20 : Index := 2#32
  let c0_21 : Index := 0#32
  let c0_22 : Index := 0#32
  ![v36.toNat, 2, 0, 0]
def k0_off5 (v1 : BitVec 32) : Fin 4 → Nat :=
  let v39 : Index := Scalar.indexCast v1
  let c3_23 : Index := 3#32
  let c0_24 : Index := 0#32
  let c0_25 : Index := 0#32
  ![v39.toNat, 3, 0, 0]
def k0_off6 (v1 : BitVec 32) : Fin 4 → Nat :=
  let v30 : Index := Scalar.indexCast v1
  let c0_14 : Index := 0#32
  let c0_15 : Index := 0#32
  let c0_16 : Index := 0#32
  ![v30.toNat, 0, 0, 0]
def k0_cond4 (v1 : BitVec 32) (v3 : BitVec 32) : BitVec 1 :=
  let v13 : BitVec 1 := Scalar.cmpi .sgt v1 v3
  let v14 : BitVec 32 := Scalar.extui v13
  let c0_i32_3 : BitVec 32 := 0#32
  let v15 : BitVec 1 := Scalar.cmpi .ne v14 c0_i32_3
  v15

def k0_off7 (v1 : BitVec 32) : Fin 4 → Nat :=
  let v33 : Index := Scalar.indexCast v1
  let c1_17 : Index := 1#32
  let c0_18 : Index := 0#32
  let c0_19 : Index := 0#32
  ![v33.toNat, 1, 0, 0]
def k0_off8 (v1 : BitVec 32) : Fin 4 → Nat :=
  let v36 : Index := Scalar.indexCast v1
  let c2_20 : Index := 2#32
  let c0_21 : Index := 0#32
  let c0_22 : Index := 0#32
  ![v36.toNat, 2, 0, 0]
def k0_off9 (v1 : BitVec 32) : Fin 4 → Nat :=
  let v39 : Index := Scalar.indexCast v1
  let c3_23 : Index := 3#32
  let c0_24 : Index := 0#32
  let c0_25 : Index := 0#32
  ![v39.toNat, 3, 0, 0]

def k0_chk1 (v1 : BitVec 32) (v3 : BitVec 32) : Prop :=
  (∀ (k0_h3 : k0_cond3 v1 v3 = 1#1), ∀ a, (k0_off2 v1) a + S1x1x128x512.size a ≤ S8x4x128x512.size a) ∧
  (∀ (k0_h3 : k0_cond3 v1 v3 = 1#1), ∀ a, (k0_off3 v1) a + S1x1x128x512.size a ≤ S8x4x128x512.size a) ∧
  (∀ (k0_h3 : k0_cond3 v1 v3 = 1#1), ∀ a, (k0_off4 v1) a + S1x1x128x512.size a ≤ S8x4x128x512.size a) ∧
  (∀ (k0_h3 : k0_cond3 v1 v3 = 1#1), ∀ a, (k0_off5 v1) a + S1x1x128x512.size a ≤ S8x4x128x512.size a) ∧
  (∀ (k0_h4 : k0_cond4 v1 v3 = 1#1), ∀ a, (k0_off6 v1) a + S1x1x128x512.size a ≤ S8x4x128x512.size a) ∧
  (∀ (k0_h4 : k0_cond4 v1 v3 = 1#1), ∀ a, (k0_off7 v1) a + S1x1x128x512.size a ≤ S8x4x128x512.size a) ∧
  (∀ (k0_h4 : k0_cond4 v1 v3 = 1#1), ∀ a, (k0_off8 v1) a + S1x1x128x512.size a ≤ S8x4x128x512.size a) ∧
  (∀ (k0_h4 : k0_cond4 v1 v3 = 1#1), ∀ a, (k0_off9 v1) a + S1x1x128x512.size a ≤ S8x4x128x512.size a)
theorem k0_off2_inb : ∀ (v1 : BitVec 32) (v3 : BitVec 32) (k0_hw1 : k0_chk1 v1 v3), ∀ (k0_h3 : k0_cond3 v1 v3 = 1#1), ∀ a, (k0_off2 v1) a + S1x1x128x512.size a ≤ S8x4x128x512.size a := fun v1 v3 k0_hw1 k0_h3 => k0_hw1.1 k0_h3
theorem k0_off3_inb : ∀ (v1 : BitVec 32) (v3 : BitVec 32) (k0_hw1 : k0_chk1 v1 v3), ∀ (k0_h3 : k0_cond3 v1 v3 = 1#1), ∀ a, (k0_off3 v1) a + S1x1x128x512.size a ≤ S8x4x128x512.size a := fun v1 v3 k0_hw1 k0_h3 => k0_hw1.2.1 k0_h3
theorem k0_off4_inb : ∀ (v1 : BitVec 32) (v3 : BitVec 32) (k0_hw1 : k0_chk1 v1 v3), ∀ (k0_h3 : k0_cond3 v1 v3 = 1#1), ∀ a, (k0_off4 v1) a + S1x1x128x512.size a ≤ S8x4x128x512.size a := fun v1 v3 k0_hw1 k0_h3 => k0_hw1.2.2.1 k0_h3
theorem k0_off5_inb : ∀ (v1 : BitVec 32) (v3 : BitVec 32) (k0_hw1 : k0_chk1 v1 v3), ∀ (k0_h3 : k0_cond3 v1 v3 = 1#1), ∀ a, (k0_off5 v1) a + S1x1x128x512.size a ≤ S8x4x128x512.size a := fun v1 v3 k0_hw1 k0_h3 => k0_hw1.2.2.2.1 k0_h3
theorem k0_off6_inb : ∀ (v1 : BitVec 32) (v3 : BitVec 32) (k0_hw1 : k0_chk1 v1 v3), ∀ (k0_h4 : k0_cond4 v1 v3 = 1#1), ∀ a, (k0_off6 v1) a + S1x1x128x512.size a ≤ S8x4x128x512.size a := fun v1 v3 k0_hw1 k0_h4 => k0_hw1.2.2.2.2.1 k0_h4
theorem k0_off7_inb : ∀ (v1 : BitVec 32) (v3 : BitVec 32) (k0_hw1 : k0_chk1 v1 v3), ∀ (k0_h4 : k0_cond4 v1 v3 = 1#1), ∀ a, (k0_off7 v1) a + S1x1x128x512.size a ≤ S8x4x128x512.size a := fun v1 v3 k0_hw1 k0_h4 => k0_hw1.2.2.2.2.2.1 k0_h4
theorem k0_off8_inb : ∀ (v1 : BitVec 32) (v3 : BitVec 32) (k0_hw1 : k0_chk1 v1 v3), ∀ (k0_h4 : k0_cond4 v1 v3 = 1#1), ∀ a, (k0_off8 v1) a + S1x1x128x512.size a ≤ S8x4x128x512.size a := fun v1 v3 k0_hw1 k0_h4 => k0_hw1.2.2.2.2.2.2.1 k0_h4
theorem k0_off9_inb : ∀ (v1 : BitVec 32) (v3 : BitVec 32) (k0_hw1 : k0_chk1 v1 v3), ∀ (k0_h4 : k0_cond4 v1 v3 = 1#1), ∀ a, (k0_off9 v1) a + S1x1x128x512.size a ≤ S8x4x128x512.size a := fun v1 v3 k0_hw1 k0_h4 => k0_hw1.2.2.2.2.2.2.2 k0_h4

def k0_cond5 (v1 : BitVec 32) : BitVec 1 :=
  let c7_i32 : BitVec 32 := 7#32
  let v16 : BitVec 1 := Scalar.cmpi .eq v1 c7_i32
  let v17 : BitVec 32 := Scalar.extui v16
  let c0_i32_4 : BitVec 32 := 0#32
  let v18 : BitVec 1 := Scalar.cmpi .ne v17 c0_i32_4
  v18

def k0_cond6 (i : grid0.Coords) : BitVec 1 :=
  let arg2 : BitVec 32 := BitVec.ofNat 32 (i 2).val
  let c35_i32 : BitVec 32 := 35#32
  let v19 : BitVec 1 := Scalar.cmpi .eq arg2 c35_i32
  let v20 : BitVec 32 := Scalar.extui v19
  let c0_i32_5 : BitVec 32 := 0#32
  let v21 : BitVec 1 := Scalar.cmpi .ne v20 c0_i32_5
  v21

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c16_i32 : BitVec 32 := 16#32
  let v4 : BitVec 32 := Scalar.addi c16_i32 arg1
  let c0_i32 : BitVec 32 := 0#32
  ![v3.toNat, v4.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c9_i32 : BitVec 32 := 9#32
  let v4 : BitVec 32 := Scalar.addi c9_i32 arg1
  let c0_i32 : BitVec 32 := 0#32
  ![v3.toNat, v4.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  let c0_i32_0 : BitVec 32 := 0#32
  ![arg1.toNat, v3.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  let c0_i32_0 : BitVec 32 := 0#32
  ![arg0.toNat, arg1.toNat, c0_i32.toNat, v1.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c9_i32 : BitVec 32 := 9#32
  let v4 : BitVec 32 := Scalar.addi c9_i32 arg1
  let c0_i32 : BitVec 32 := 0#32
  ![v3.toNat, v4.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_9 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  let c0_i32_0 : BitVec 32 := 0#32
  ![arg1.toNat, v3.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Kernel3.lean ====
abbrev S8192x1024 : Shape := ⟨2, ![8192, 1024]⟩
abbrev S2x8x1024 : Shape := ⟨3, ![2, 8, 1024]⟩
abbrev S1x1024 : Shape := ⟨2, ![1, 1024]⟩
abbrev S4x704x1024 : Shape := ⟨3, ![4, 704, 1024]⟩
abbrev S2x3x1024 : Shape := ⟨3, ![2, 3, 1024]⟩
abbrev S2x4096x3x1024 : Shape := ⟨4, ![2, 4096, 3, 1024]⟩
abbrev S8192x3x1024 : Shape := ⟨3, ![8192, 3, 1024]⟩
abbrev S8192x1x1024 : Shape := ⟨3, ![8192, 1, 1024]⟩
abbrev S_ : Shape := ⟨0, ![]⟩
abbrev S8192 : Shape := ⟨1, ![8192]⟩
abbrev S8192x1 : Shape := ⟨2, ![8192, 1]⟩
abbrev S4x704x8192 : Shape := ⟨3, ![4, 704, 8192]⟩
abbrev S4x8192x704 : Shape := ⟨3, ![4, 8192, 704]⟩
abbrev S8x1024 : Shape := ⟨2, ![8, 1024]⟩
abbrev S512x1024 : Shape := ⟨2, ![512, 1024]⟩
abbrev S1x512x704 : Shape := ⟨3, ![1, 512, 704]⟩
abbrev S1x704x1024 : Shape := ⟨3, ![1, 704, 1024]⟩
abbrev S1x8x1024 : Shape := ⟨3, ![1, 8, 1024]⟩
abbrev S1x1x1024 : Shape := ⟨3, ![1, 1, 1024]⟩
abbrev S704x1024 : Shape := ⟨2, ![704, 1024]⟩
abbrev S512x704 : Shape := ⟨2, ![512, 704]⟩
abbrev S512 : Shape := ⟨1, ![512]⟩
abbrev S512x1 : Shape := ⟨2, ![512, 1]⟩
abbrev S1024 : Shape := ⟨1, ![1024]⟩
abbrev S6x1024 : Shape := ⟨2, ![6, 1024]⟩
abbrev S2x1024 : Shape := ⟨2, ![2, 1024]⟩
abbrev S3x1024 : Shape := ⟨2, ![3, 1024]⟩

abbrev nBuf : Space → Nat
  | .hbm => 74
  | .vmem => 37
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S2x8x1024, .f32⟩
  | .hbm, ⟨3, _⟩ => ⟨S1x1024, .f32⟩
  | .hbm, ⟨4, _⟩ => ⟨S1x1024, .f32⟩
  | .hbm, ⟨5, _⟩ => ⟨S4x704x1024, .bf16⟩
  | .hbm, ⟨6, _⟩ => ⟨S4x704x1024, .bf16⟩
  | .hbm, ⟨7, _⟩ => ⟨S4x704x1024, .bf16⟩
  | .hbm, ⟨8, _⟩ => ⟨S8192x1024, .f32⟩
  | .hbm, ⟨9, _⟩ => ⟨S2x3x1024, .f32⟩
  | .hbm, ⟨10, _⟩ => ⟨S2x4096x3x1024, .f32⟩
  | .hbm, ⟨11, _⟩ => ⟨S8192x3x1024, .f32⟩
  | .hbm, ⟨12, _⟩ => ⟨S8192x1x1024, .f32⟩
  | .hbm, ⟨13, _⟩ => ⟨S8192x1x1024, .f32⟩
  | .hbm, ⟨14, _⟩ => ⟨S8192x1x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S4x704x8192, .f32⟩
  | .hbm, ⟨61, _⟩ => ⟨S4x8192x704, .f32⟩
  | .hbm, ⟨62, _⟩ => ⟨S4x8192x704, .bf16⟩
  | .hbm, ⟨63, _⟩ => ⟨S4x704x8192, .f32⟩
  | .hbm, ⟨64, _⟩ => ⟨S4x8192x704, .f32⟩
  | .hbm, ⟨65, _⟩ => ⟨S4x8192x704, .bf16⟩
  | .hbm, ⟨66, _⟩ => ⟨S4x8192x704, .bf16⟩
  | .hbm, ⟨67, _⟩ => ⟨S4x8192x704, .bf16⟩
  | .hbm, ⟨68, _⟩ => ⟨S4x8192x704, .bf16⟩
  | .hbm, ⟨69, _⟩ => ⟨S8192x1024, .bf16⟩
  | .hbm, ⟨70, _⟩ => ⟨S8192x1024, .bf16⟩
  | .hbm, ⟨71, _⟩ => ⟨S8192x1024, .bf16⟩
  | .hbm, ⟨72, _⟩ => ⟨S8x1024, .f32⟩
  | .hbm, ⟨73, _⟩ => ⟨S2x8x1024, .f32⟩
  | .local _ .vmem, ⟨0, _⟩ => ⟨S512x1024, .f32⟩
  | .local _ .vmem, ⟨1, _⟩ => ⟨S512x1024, .f32⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x8x1024, .f32⟩
  | .local _ .vmem, ⟨19, _⟩ => ⟨S1x8x1024, .f32⟩
  | .local _ .vmem, ⟨20, _⟩ => ⟨S1x1024, .f32⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S1x512x704, .bf16⟩
  | .local _ .vmem, ⟨25, _⟩ => ⟨S1x512x704, .bf16⟩
  | .local _ .vmem, ⟨26, _⟩ => ⟨S1x512x704, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S8x1024, .f32⟩
  | .local _ .vmem, ⟨34, _⟩ => ⟨S1x8x1024, .f32⟩
  | .local _ .vmem, ⟨35, _⟩ => ⟨S1x8x1024, .f32⟩
  | .local _ .vmem, ⟨36, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49_0 : Ref sig .tc := ⟨.hbm, 66, rfl⟩
abbrev main_v49_1 : Ref sig .tc := ⟨.hbm, 67, rfl⟩
abbrev main_v49_2 : Ref sig .tc := ⟨.hbm, 68, rfl⟩
abbrev main_v49_3 : Ref sig .tc := ⟨.hbm, 69, rfl⟩
abbrev main_v49_4 : Ref sig .tc := ⟨.hbm, 70, rfl⟩
abbrev main_v49_5 : Ref sig .tc := ⟨.hbm, 71, rfl⟩
abbrev main_v49_6 : Ref sig .tc := ⟨.hbm, 72, rfl⟩
abbrev main_v49_7 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg18_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v59 : BitVec 1 := Scalar.cmpi .eq arg1 c3_i32
  let v60 : BitVec 32 := Scalar.extui v59
  let c0_i32_41 : BitVec 32 := 0#32
  let v61 : BitVec 1 := Scalar.cmpi .ne v60 c0_i32_41
  v61

def k0_cond3 (i : grid0.Coords) : BitVec 1 :=
  let arg0 : BitVec 32 := BitVec.ofNat 32 (i 0).val
  let c0_i32_88 : BitVec 32 := 0#32
  let v152 : BitVec 1 := Scalar.cmpi .eq arg0 c0_i32_88
  let v153 : BitVec 32 := Scalar.extui v152
  let c0_i32_89 : BitVec 32 := 0#32
  let v154 : BitVec 1 := Scalar.cmpi .ne v153 c0_i32_89
  v154

def k0_cond4 (i : grid0.Coords) : BitVec 1 :=
  let arg0 : BitVec 32 := BitVec.ofNat 32 (i 0).val
  let c0_i32_90 : BitVec 32 := 0#32
  let v155 : BitVec 1 := Scalar.cmpi .sgt arg0 c0_i32_90
  let v156 : BitVec 32 := Scalar.extui v155
  let c0_i32_91 : BitVec 32 := 0#32
  let v157 : BitVec 1 := Scalar.cmpi .ne v156 c0_i32_91
  v157

def k0_cond5 (i : grid0.Coords) : BitVec 1 :=
  let arg0 : BitVec 32 := BitVec.ofNat 32 (i 0).val
  let c8_i32 : BitVec 32 := 8#32
  let c0_i32_92 : BitVec 32 := 0#32
  let v158 : BitVec 1 := Scalar.cmpi .eq c8_i32 c0_i32_92
  let c1_i32 : BitVec 32 := 1#32
  let v159 : BitVec 32 := Scalar.select v158 c1_i32 c8_i32
  let v160 : BitVec 32 := Scalar.remsi arg0 v159
  let c0_i32_94 : BitVec 32 := 0#32
  let v162 : BitVec 1 := Scalar.cmpi .slt v160 c0_i32_94
  let c0_i32_95 : BitVec 32 := 0#32
  let v163 : BitVec 1 := Scalar.cmpi .slt v159 c0_i32_95
  let v164 : BitVec 1 := Scalar.xori v162 v163
  let c0_i32_93 : BitVec 32 := 0#32
  let v161 : BitVec 1 := Scalar.cmpi .ne v160 c0_i32_93
  let v165 : BitVec 1 := Scalar.andi v164 v161
  let v166 : BitVec 32 := Scalar.addi v160 v159
  let v167 : BitVec 32 := Scalar.select v165 v166 v160
  let c0_i32_96 : BitVec 32 := 0#32
  let v168 : BitVec 1 := Scalar.cmpi .eq v167 c0_i32_96
  let v169 : BitVec 32 := Scalar.extui v168
  let c0_i32_97 : BitVec 32 := 0#32
  let v170 : BitVec 1 := Scalar.cmpi .ne v169 c0_i32_97
  v170

def k0_cond6 (i : grid0.Coords) : BitVec 1 :=
  let arg0 : BitVec 32 := BitVec.ofNat 32 (i 0).val
  let c8_i32_98 : BitVec 32 := 8#32
  let c0_i32_99 : BitVec 32 := 0#32
  let v171 : BitVec 1 := Scalar.cmpi .eq c8_i32_98 c0_i32_99
  let c1_i32_100 : BitVec 32 := 1#32
  let v172 : BitVec 32 := Scalar.select v171 c1_i32_100 c8_i32_98
  let v173 : BitVec 32 := Scalar.remsi arg0 v172
  let c0_i32_102 : BitVec 32 := 0#32
  let v175 : BitVec 1 := Scalar.cmpi .slt v173 c0_i32_102
  let c0_i32_103 : BitVec 32 := 0#32
  let v176 : BitVec 1 := Scalar.cmpi .slt v172 c0_i32_103
  let v177 : BitVec 1 := Scalar.xori v175 v176
  let c0_i32_101 : BitVec 32 := 0#32
  let v174 : BitVec 1 := Scalar.cmpi .ne v173 c0_i32_101
  let v178 : BitVec 1 := Scalar.andi v177 v174
  let v179 : BitVec 32 := Scalar.addi v173 v172
  let v180 : BitVec 32 := Scalar.select v178 v179 v173
  let c0_i32_104 : BitVec 32 := 0#32
  let v181 : BitVec 1 := Scalar.cmpi .ne v180 c0_i32_104
  let v182 : BitVec 32 := Scalar.extui v181
  let c0_i32_105 : BitVec 32 := 0#32
  let v183 : BitVec 1 := Scalar.cmpi .ne v182 c0_i32_105
  v183

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x8x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== Reference3Ideal.lean ====
abbrev S8192x1024 : Shape := ⟨2, ![8192, 1024]⟩
abbrev S2x8x1024 : Shape := ⟨3, ![2, 8, 1024]⟩
abbrev S1x1024 : Shape := ⟨2, ![1, 1024]⟩
abbrev S4x704x1024 : Shape := ⟨3, ![4, 704, 1024]⟩
abbrev S2x1x1024 : Shape := ⟨3, ![2, 1, 1024]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2816x1024 : Shape := ⟨2, ![2816, 1024]⟩
abbrev S1024x2816 : Shape := ⟨2, ![1024, 2816]⟩
abbrev S2x4096x2816 : Shape := ⟨3, ![2, 4096, 2816]⟩
abbrev S2x1024 : Shape := ⟨2, ![2, 1024]⟩
abbrev S1024 : Shape := ⟨1, ![1024]⟩
abbrev S6x1024 : Shape := ⟨2, ![6, 1024]⟩
abbrev S8x1024 : Shape := ⟨2, ![8, 1024]⟩
abbrev S2x2x1024 : Shape := ⟨3, ![2, 2, 1024]⟩
abbrev S2x3x1024 : Shape := ⟨3, ![2, 3, 1024]⟩
abbrev S8192x4x704 : Shape := ⟨3, ![8192, 4, 704]⟩
abbrev S4x8192x704 : Shape := ⟨3, ![4, 8192, 704]⟩

abbrev nBuf : Space → Nat
  | .hbm => 216
  | .vmem => 0
  | .smem => 0
  | _ => 0

abbrev hbmTy0_0 (i : Nat) : BufTy := match i % 128 with
  | 0 => ⟨S8192x1024, .f32⟩
  | 1 => ⟨S8192x1024, .bf16⟩
  | 2 => ⟨S2x8x1024, .f32⟩
  | 3 => ⟨S1x1024, .f32⟩
  | 4 => ⟨S1x1024, .f32⟩
  | 5 => ⟨S4x704x1024, .bf16⟩
  | 6 => ⟨S4x704x1024, .bf16⟩
  | 7 => ⟨S4x704x1024, .bf16⟩
  | 8 => ⟨S8192x1024, .f32⟩
  | 9 => ⟨S2x1x1024, .f32⟩
  | 10 => ⟨S2x1x1024, .f32⟩
  | 11 => ⟨S2x1x1024, .f32⟩
  | 12 => ⟨S2x1x1024, .f32⟩
  | 13 => ⟨S2x4096x1024, .f32⟩
  | 14 => ⟨S8192x1024, .f32⟩
  | 15 => ⟨S2x4096x1024, .f32⟩
  | 16 => ⟨S_, .f32⟩
  | 17 => ⟨S2x4096x1024, .f32⟩
  | 18 => ⟨S2x4096x1024, .f32⟩
  | 19 => ⟨S_, .f32⟩
  | 20 => ⟨S2x1x1024, .f32⟩
  | 21 => ⟨S2x1x1024, .f32⟩
  | 22 => ⟨S2x4096x1024, .f32⟩
  | 23 => ⟨S2x4096x1024, .f32⟩
  | 24 => ⟨S2x4096x1024, .f32⟩
  | 25 => ⟨S_, .f32⟩
  | 26 => ⟨S2x4096, .f32⟩
  | 27 => ⟨S2x4096x1, .f32⟩
  | 28 => ⟨S_, .f32⟩
  | 29 => ⟨S2x4096x1, .f32⟩
  | 30 => ⟨S2x4096x1, .f32⟩
  | 31 => ⟨S2x4096x1024, .f32⟩
  | 32 => ⟨S2x4096x1024, .f32⟩
  | 33 => ⟨S2x4096x1024, .f32⟩
  | 34 => ⟨S_, .f32⟩
  | 35 => ⟨S2x4096x1024, .f32⟩
  | 36 => ⟨S2x4096x1024, .f32⟩
  | 37 => ⟨S_, .f32⟩
  | 38 => ⟨S2x4096, .f32⟩
  | 39 => ⟨S2x4096x1, .f32⟩
  | 40 => ⟨S_, .f32⟩
  | 41 => ⟨S2x4096x1, .f32⟩
  | 42 => ⟨S2x4096x1, .f32⟩
  | 43 => ⟨S2x4096x1024, .f32⟩
  | 44 => ⟨S2x4096x1024, .f32⟩
  | 45 => ⟨S_, .f32⟩
  | 46 => ⟨S2x4096x1, .f32⟩
  | 47 => ⟨S2x4096x1, .f32⟩
  | 48 => ⟨S2x4096x1, .f32⟩
  | 49 => ⟨S2x4096x1, .f32⟩
  | 50 => ⟨S_, .f32⟩
  | 51 => ⟨S2x4096x1, .f32⟩
  | 52 => ⟨S2x4096x1, .f32⟩
  | 53 => ⟨S2x4096x1024, .f32⟩
  | 54 => ⟨S2x4096x1024, .f32⟩
  | 55 => ⟨S1x1x1024, .f32⟩
  | 56 => ⟨S2x4096x1024, .f32⟩
  | 57 => ⟨S2x4096x1024, .f32⟩
  | 58 => ⟨S1x1x1024, .f32⟩
  | 59 => ⟨S2x4096x1024, .f32⟩
  | 60 => ⟨S2x4096x1024, .f32⟩
  | 61 => ⟨S4x704x1024, .f32⟩
  | 62 => ⟨S2816x1024, .f32⟩
  | 63 => ⟨S1024x2816, .f32⟩
  | 64 => ⟨S4x704x1024, .f32⟩
  | 65 => ⟨S2816x1024, .f32⟩
  | 66 => ⟨S1024x2816, .f32⟩
  | 67 => ⟨S_, .f32⟩
  | 68 => ⟨S2x1x1024, .f32⟩
  | 69 => ⟨S2x1x1024, .f32⟩
  | 70 => ⟨S2x4096x1024, .f32⟩
  | 71 => ⟨S2x4096x1024, .f32⟩
  | 72 => ⟨S2x4096x1024, .f32⟩
  | 73 => ⟨S2x4096x1024, .f32⟩
  | 74 => ⟨S2x4096x2816, .f32⟩
  | 75 => ⟨S2x4096x2816, .f32⟩
  | 76 => ⟨S2x4096x2816, .f32⟩
  | 77 => ⟨S2x4096x2816, .f32⟩
  | 78 => ⟨S_, .f32⟩
  | 79 => ⟨S2x4096x2816, .f32⟩
  | 80 => ⟨S2x4096x2816, .f32⟩
  | 81 => ⟨S_, .f32⟩
  | 82 => ⟨S2x4096x2816, .f32⟩
  | 83 => ⟨S2x4096x2816, .f32⟩
  | 84 => ⟨S_, .f32⟩
  | 85 => ⟨S2x4096x2816, .f32⟩
  | 86 => ⟨S2x4096x2816, .f32⟩
  | 87 => ⟨S2x4096x2816, .f32⟩
  | 88 => ⟨S2x4096x2816, .f32⟩
  | 89 => ⟨S2x4096x2816, .f32⟩
  | 90 => ⟨S4x704x1024, .f32⟩
  | 91 => ⟨S2816x1024, .f32⟩
  | 92 => ⟨S2x4096x1024, .f32⟩
  | 93 => ⟨S_, .f32⟩
  | 94 => ⟨S2x4096x1024, .f32⟩
  | 95 => ⟨S2x4096x1024, .f32⟩
  | 96 => ⟨S_, .f32⟩
  | 97 => ⟨S2x1x1024, .f32⟩
  | 98 => ⟨S2x1x1024, .f32⟩
  | 99 => ⟨S2x4096x1024, .f32⟩
  | 100 => ⟨S2x4096x1024, .f32⟩
  | 101 => ⟨S2x4096x1024, .f32⟩
  | 102 => ⟨S2x4096x1024, .f32⟩
  | 103 => ⟨S2x4096x1024, .f32⟩
  | 104 => ⟨S2x4096x1024, .f32⟩
  | 105 => ⟨S2x4096x1024, .f32⟩
  | 106 => ⟨S_, .f32⟩
  | 107 => ⟨S2x1024, .f32⟩
  | 108 => ⟨S2x1x1024, .f32⟩
  | 109 => ⟨S_, .f32⟩
  | 110 => ⟨S2x4096x1024, .f32⟩
  | 111 => ⟨S2x4096x1024, .f32⟩
  | 112 => ⟨S1024x2816, .f32⟩
  | 113 => ⟨S2816x1024, .f32⟩
  | 114 => ⟨S2x4096x2816, .f32⟩
  | 115 => ⟨S2x4096x2816, .f32⟩
  | 116 => ⟨S2x4096x2816, .f32⟩
  | 117 => ⟨S2x4096x2816, .f32⟩
  | 118 => ⟨S2x4096x2816, .f32⟩
  | 119 => ⟨S2x4096x2816, .f32⟩
  | 120 => ⟨S2x4096x2816, .f32⟩
  | 121 => ⟨S2816x1024, .f32⟩
  | 122 => ⟨S1024x2816, .f32⟩
  | 123 => ⟨S2x4096x1024, .f32⟩
  | 124 => ⟨S2816x1024, .f32⟩
  | 125 => ⟨S1024x2816, .f32⟩
  | 126 => ⟨S2x4096x1024, .f32⟩
  | 127 => ⟨S2x4096x1024, .f32⟩
  | _ => ⟨S8192x1024, .f32⟩

abbrev hbmTy0_1 (i : Nat) : BufTy := match i % 128 with
  | 0 => ⟨S_, .f32⟩
  | 1 => ⟨S2x1024, .f32⟩
  | 2 => ⟨S2x1x1024, .f32⟩
  | 3 => ⟨S2x4096x1024, .f32⟩
  | 4 => ⟨S_, .f32⟩
  | 5 => ⟨S2x1024, .f32⟩
  | 6 => ⟨S2x1x1024, .f32⟩
  | 7 => ⟨S2x4096x1024, .f32⟩
  | 8 => ⟨S2x4096x1024, .f32⟩
  | 9 => ⟨S2x4096x1024, .f32⟩
  | 10 => ⟨S_, .f32⟩
  | 11 => ⟨S1024, .f32⟩
  | 12 => ⟨S1x1x1024, .f32⟩
  | 13 => ⟨S_, .f32⟩
  | 14 => ⟨S1024, .f32⟩
  | 15 => ⟨S1x1024, .f32⟩
  | 16 => ⟨S2x4096x1024, .f32⟩
  | 17 => ⟨S_, .f32⟩
  | 18 => ⟨S1024, .f32⟩
  | 19 => ⟨S1x1x1024, .f32⟩
  | 20 => ⟨S2x4096x1024, .f32⟩
  | 21 => ⟨S2x4096x1024, .f32⟩
  | 22 => ⟨S_, .f32⟩
  | 23 => ⟨S1024, .f32⟩
  | 24 => ⟨S1x1024, .f32⟩
  | 25 => ⟨S2x4096x1024, .f32⟩
  | 26 => ⟨S_, .f32⟩
  | 27 => ⟨S2x4096, .f32⟩
  | 28 => ⟨S2x4096x1, .f32⟩
  | 29 => ⟨S2x4096x1024, .f32⟩
  | 30 => ⟨S2x4096x1024, .f32⟩
  | 31 => ⟨S2x4096x1, .f32⟩
  | 32 => ⟨S2x4096x1024, .f32⟩
  | 33 => ⟨S_, .f32⟩
  | 34 => ⟨S2x4096, .f32⟩
  | 35 => ⟨S2x4096x1, .f32⟩
  | 36 => ⟨S_, .f32⟩
  | 37 => ⟨S2x4096x1, .f32⟩
  | 38 => ⟨S2x4096x1, .f32⟩
  | 39 => ⟨S_, .f32⟩
  | 40 => ⟨S2x4096, .f32⟩
  | 41 => ⟨S2x4096x1024, .f32⟩
  | 42 => ⟨S2x4096x1024, .f32⟩
  | 43 => ⟨S2x4096x1024, .f32⟩
  | 44 => ⟨S_, .f32⟩
  | 45 => ⟨S2x4096, .f32⟩
  | 46 => ⟨S2x4096x1, .f32⟩
  | 47 => ⟨S2x4096x1024, .f32⟩
  | 48 => ⟨S2x4096x1, .f32⟩
  | 49 => ⟨S_, .f32⟩
  | 50 => ⟨S2x4096x1, .f32⟩
  | 51 => ⟨S2x4096x1, .f32⟩
  | 52 => ⟨S_, .f32⟩
  | 53 => ⟨S2x4096, .f32⟩
  | 54 => ⟨S2x4096x1024, .f32⟩
  | 55 => ⟨S2x4096x1024, .f32⟩
  | 56 => ⟨S2x4096x1024, .f32⟩
  | 57 => ⟨S2x4096x1024, .f32⟩
  | 58 => ⟨S2x4096x1024, .f32⟩
  | 59 => ⟨S_, .f32⟩
  | 60 => ⟨S2x1024, .f32⟩
  | 61 => ⟨S2x1x1024, .f32⟩
  | 62 => ⟨S_, .f32⟩
  | 63 => ⟨S2x4096x1024, .f32⟩
  | 64 => ⟨S2x4096x1024, .f32⟩
  | 65 => ⟨S_, .f32⟩
  | 66 => ⟨S6x1024, .f32⟩
  | 67 => ⟨S8x1024, .f32⟩
  | 68 => ⟨S_, .f32⟩
  | 69 => ⟨S2x2x1024, .f32⟩
  | 70 => ⟨S_, .f32⟩
  | 71 => ⟨S2x3x1024, .f32⟩
  | 72 => ⟨S2x8x1024, .f32⟩
  | 73 => ⟨S8192x4x704, .f32⟩
  | 74 => ⟨S4x8192x704, .f32⟩
  | 75 => ⟨S4x8192x704, .bf16⟩
  | 76 => ⟨S8192x4x704, .f32⟩
  | 77 => ⟨S4x8192x704, .f32⟩
  | 78 => ⟨S4x8192x704, .bf16⟩
  | 79 => ⟨S8192x4x704, .f32⟩
  | 80 => ⟨S4x8192x704, .f32⟩
  | 81 => ⟨S4x8192x704, .bf16⟩
  | 82 => ⟨S8192x1024, .f32⟩
  | 83 => ⟨S8192x1024, .bf16⟩
  | 84 => ⟨S8192x1024, .f32⟩
  | 85 => ⟨S8192x1024, .bf16⟩
  | 86 => ⟨S8192x1024, .f32⟩
  | 87 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_v57_2 : Ref sig .tc := ⟨.hbm, 83, rfl⟩
abbrev main_call0_cst_1 : Ref sig .tc := ⟨.hbm, 84, rfl⟩
abbrev main_call0_v6 : Ref sig .tc := ⟨.hbm, 85, rfl⟩
abbrev main_call0_v7 : Ref sig .tc := ⟨.hbm, 86, rfl⟩
abbrev main_v57_1 : Ref sig .tc := ⟨.hbm, 87, rfl⟩
abbrev main_v57_0 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_11 : Ref sig .tc := ⟨.hbm, 106, rfl⟩
abbrev main_v73 : Ref sig .tc := ⟨.hbm, 107, rfl⟩
abbrev main_v74 : Ref sig .tc := ⟨.hbm, 108, rfl⟩
abbrev main_cst_12 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_13 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_14 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_15 : Ref sig .tc := ⟨.hbm, 138, rfl⟩
abbrev main_v98 : Ref sig .tc := ⟨.hbm, 139, rfl⟩
abbrev main_v99 : Ref sig .tc := ⟨.hbm, 140, rfl⟩
abbrev main_cst_16 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_17 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_18 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_19 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_20 : Ref sig .tc := ⟨.hbm, 161, rfl⟩
abbrev main_v116 : Ref sig .tc := ⟨.hbm, 162, rfl⟩
abbrev main_v117 : Ref sig .tc := ⟨.hbm, 163, rfl⟩
abbrev main_cst_21 : Ref sig .tc := ⟨.hbm, 164, rfl⟩
abbrev main_v118 : Ref sig .tc := ⟨.hbm, 165, rfl⟩
abbrev main_v119 : Ref sig .tc := ⟨.hbm, 166, rfl⟩
abbrev main_cst_22 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_23 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_24 : Ref sig .tc := ⟨.hbm, 177, rfl⟩
abbrev main_v128 : Ref sig .tc := ⟨.hbm, 178, rfl⟩
abbrev main_v129 : Ref sig .tc := ⟨.hbm, 179, rfl⟩
abbrev main_cst_25 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_26 : Ref sig .tc := ⟨.hbm, 187, rfl⟩
abbrev main_v136 : Ref sig .tc := ⟨.hbm, 188, rfl⟩
abbrev main_v137 : Ref sig .tc := ⟨.hbm, 189, rfl⟩
abbrev main_cst_27 : Ref sig .tc := ⟨.hbm, 190, rfl⟩
abbrev main_v138 : Ref sig .tc := ⟨.hbm, 191, rfl⟩
abbrev main_v139 : Ref sig .tc := ⟨.hbm, 192, rfl⟩
abbrev main_cst_28 : Ref sig .tc := ⟨.hbm, 193, rfl⟩
abbrev main_v140 : Ref sig .tc := ⟨.hbm, 194, rfl⟩
abbrev main_v141 : Ref sig .tc := ⟨.hbm, 195, rfl⟩
abbrev main_cst_29 : Ref sig .tc := ⟨.hbm, 196, rfl⟩
abbrev main_v142 : Ref sig .tc := ⟨.hbm, 197, rfl⟩
abbrev main_cst_30 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩

abbrev nD : Nat := 1
abbrev τ : Topo := Topo.v7x

variable {F : FTy → Type} [FloatOps F]
-- ==== Kernel4.lean ====
abbrev S4x8192x704 : Shape := ⟨3, ![4, 8192, 704]⟩
abbrev S4x704x1024 : Shape := ⟨3, ![4, 704, 1024]⟩
abbrev S8192x1024 : Shape := ⟨2, ![8192, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S8192x1024, .bf16⟩
  | .hbm, ⟨3, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .f32⟩
  | .local _ .vmem, ⟨5, _⟩ => ⟨S1x704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4x8192x704 : Shape := ⟨3, ![4, 8192, 704]⟩
abbrev S4x704x1024 : Shape := ⟨3, ![4, 704, 1024]⟩
abbrev S8192x1024 : Shape := ⟨2, ![8192, 1024]⟩
abbrev S8192x4x704 : Shape := ⟨3, ![8192, 4, 704]⟩
abbrev S8192x2816 : Shape := ⟨2, ![8192, 2816]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S8192x1024, .bf16⟩
  | .hbm, ⟨3, _⟩ => ⟨S4x8192x704, .f32⟩
  | .hbm, ⟨4, _⟩ => ⟨S8192x4x704, .f32⟩
  | .hbm, ⟨5, _⟩ => ⟨S8192x2816, .f32⟩
  | .hbm, ⟨6, _⟩ => ⟨S4x704x1024, .f32⟩
  | .hbm, ⟨7, _⟩ => ⟨S2816x1024, .f32⟩
  | .hbm, ⟨8, _⟩ => ⟨S8192x1024, .f32⟩
  | .hbm, ⟨9, _⟩ => ⟨S8192x1024, .f32⟩
  | .hbm, ⟨10, _⟩ => ⟨S1024x2816, .f32⟩
  | .hbm, ⟨11, _⟩ => ⟨S2816x1024, .f32⟩
  | .hbm, ⟨12, _⟩ => ⟨S8192x2816, .f32⟩
  | .hbm, ⟨13, _⟩ => ⟨S4x704x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S8192x1024 : Shape := ⟨2, ![8192, 1024]⟩
abbrev S2x8x1024 : Shape := ⟨3, ![2, 8, 1024]⟩
abbrev S4x704x1024 : Shape := ⟨3, ![4, 704, 1024]⟩
abbrev S4x8192x704 : Shape := ⟨3, ![4, 8192, 704]⟩
abbrev S2x1x1024 : Shape := ⟨3, ![2, 1, 1024]⟩
abbrev S2x1024 : Shape := ⟨2, ![2, 1024]⟩
abbrev S2x4096x1024 : Shape := ⟨3, ![2, 4096, 1024]⟩
abbrev S_ : Shape := ⟨0, ![]⟩
abbrev S1x2048x704 : Shape := ⟨3, ![1, 2048, 704]⟩
abbrev S2048x1024 : Shape := ⟨2, ![2048, 1024]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 19
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2x8x1024, .f32⟩
  | .hbm, ⟨2, _⟩ => ⟨S4x704x1024, .bf16⟩
  | .hbm, ⟨3, _⟩ => ⟨S4x8192x704, .bf16⟩
  | .hbm, ⟨4, _⟩ => ⟨S2x1x1024, .f32⟩
  | .hbm, ⟨5, _⟩ => ⟨S2x1024, .f32⟩
  | .hbm, ⟨6, _⟩ => ⟨S2x4096x1024, .f32⟩
  | .hbm, ⟨7, _⟩ => ⟨S8192x1024, .f32⟩
  | .hbm, ⟨8, _⟩ => ⟨S2x1x1024, .f32⟩
  | .hbm, ⟨9, _⟩ => ⟨S2x1024, .f32⟩
  | .hbm, ⟨10, _⟩ => ⟨S2x4096x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .f32⟩
  | .local _ .vmem, ⟨5, _⟩ => ⟨S1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_4 : BitVec 32 := 0#32
  let v8 : BitVec 1 := Scalar.cmpi .ne v7 c0_i32_4
  v8

def k0_cond2 (i : grid0.Coords) : BitVec 1 :=
  let arg1 : BitVec 32 := BitVec.ofNat 32 (i 1).val
  let c0_i32_5 : BitVec 32 := 0#32
  let v9 : BitVec 1 := Scalar.cmpi .sgt arg1 c0_i32_5
  let v10 : BitVec 32 := Scalar.extui v9
  let c0_i32_6 : BitVec 32 := 0#32
  let v11 : BitVec 1 := Scalar.cmpi .ne v10 c0_i32_6
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S2x8x1024 : Shape := ⟨3, ![2, 8, 1024]⟩
abbrev S4x704x1024 : Shape := ⟨3, ![4, 704, 1024]⟩
abbrev S4x8192x704 : Shape := ⟨3, ![4, 8192, 704]⟩
abbrev S8192x4x704 : Shape := ⟨3, ![8192, 4, 704]⟩
abbrev S8192x2816 : Shape := ⟨2, ![8192, 2816]⟩
abbrev S2x4096x1024 : Shape := ⟨3, ![2, 4096, 1024]⟩
abbrev S2x1x1024 : Shape := ⟨3, ![2, 1, 1024]⟩
abbrev S2816x1024 : Shape := ⟨2, ![2816, 1024]⟩
abbrev S1024x2816 : Shape := ⟨2, ![1024, 2816]⟩
abbrev S_ : Shape := ⟨0, ![]⟩
abbrev S2x1024 : Shape := ⟨2, ![2, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x8x1024, .f32⟩
  | .hbm, ⟨2, _⟩ => ⟨S4x704x1024, .bf16⟩
  | .hbm, ⟨3, _⟩ => ⟨S4x8192x704, .bf16⟩
  | .hbm, ⟨4, _⟩ => ⟨S4x8192x704, .f32⟩
  | .hbm, ⟨5, _⟩ => ⟨S8192x4x704, .f32⟩
  | .hbm, ⟨6, _⟩ => ⟨S8192x2816, .f32⟩
  | .hbm, ⟨7, _⟩ => ⟨S2x4096x1024, .f32⟩
  | .hbm, ⟨8, _⟩ => ⟨S2x1x1024, .f32⟩
  | .hbm, ⟨9, _⟩ => ⟨S2x1x1024, .f32⟩
  | .hbm, ⟨10, _⟩ => ⟨S4x704x1024, .f32⟩
  | .hbm, ⟨11, _⟩ => ⟨S2816x1024, .f32⟩
  | .hbm, ⟨12, _⟩ => ⟨S1024x2816, .f32⟩
  | .hbm, ⟨13, _⟩ => ⟨S_, .f32⟩
  | .hbm, ⟨14, _⟩ => ⟨S2x1x1024, .f32⟩
  | .hbm, ⟨15, _⟩ => ⟨S2x1x1024, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S8192x1024, .f32⟩
  | .hbm, ⟨21, _⟩ => ⟨S8192x2816, .f32⟩
  | .hbm, ⟨22, _⟩ => ⟨S2816x1024, .f32⟩
  | .hbm, ⟨23, _⟩ => ⟨S1024x2816, .f32⟩
  | .hbm, ⟨24, _⟩ => ⟨S8192x1024, .f32⟩
  | .hbm, ⟨25, _⟩ => ⟨S2x4096x1024, .f32⟩
  | .hbm, ⟨26, _⟩ => ⟨S_, .f32⟩
  | .hbm, ⟨27, _⟩ => ⟨S2x1024, .f32⟩
  | .hbm, ⟨28, _⟩ => ⟨S2x1x1024, .f32⟩
  | .hbm, ⟨29, _⟩ => ⟨S2x4096x1024, .f32⟩
  | .hbm, ⟨30, _⟩ => ⟨S_, .f32⟩
  | .hbm, ⟨31, _⟩ => ⟨S2x1024, .f32⟩
  | .hbm, ⟨32, _⟩ => ⟨S2x1x1024, .f32⟩
  | .hbm, ⟨33, _⟩ => ⟨S2x4096x1024, .f32⟩
  | .hbm, ⟨34, _⟩ => ⟨S2x4096x1024, .f32⟩
  | .hbm, ⟨35, _⟩ => ⟨S2816x1024, .f32⟩
  | .hbm, ⟨36, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel6.lean ====
abbrev S8192x1024 : Shape := ⟨2, ![8192, 1024]⟩
abbrev S2x8x1024 : Shape := ⟨3, ![2, 8, 1024]⟩
abbrev S1024x5760 : Shape := ⟨2, ![1024, 5760]⟩
abbrev S8192x5760 : Shape := ⟨2, ![8192, 5760]⟩
abbrev S2x1x1024 : Shape := ⟨3, ![2, 1, 1024]⟩
abbrev S2x1024 : Shape := ⟨2, ![2, 1024]⟩
abbrev S2x4096x1024 : Shape := ⟨3, ![2, 4096, 1024]⟩
abbrev S_ : Shape := ⟨0, ![]⟩
abbrev S2048x1024 : Shape := ⟨2, ![2048, 1024]⟩
abbrev S2048x1920 : Shape := ⟨2, ![2048, 1920]⟩
abbrev S1024x1920 : Shape := ⟨2, ![1024, 1920]⟩

abbrev nBuf : Space → Nat
  | .hbm => 19
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2x8x1024, .f32⟩
  | .hbm, ⟨2, _⟩ => ⟨S1024x5760, .bf16⟩
  | .hbm, ⟨3, _⟩ => ⟨S8192x5760, .bf16⟩
  | .hbm, ⟨4, _⟩ => ⟨S2x1x1024, .f32⟩
  | .hbm, ⟨5, _⟩ => ⟨S2x1024, .f32⟩
  | .hbm, ⟨6, _⟩ => ⟨S2x4096x1024, .f32⟩
  | .hbm, ⟨7, _⟩ => ⟨S8192x1024, .f32⟩
  | .hbm, ⟨8, _⟩ => ⟨S2x1x1024, .f32⟩
  | .hbm, ⟨9, _⟩ => ⟨S2x1024, .f32⟩
  | .hbm, ⟨10, _⟩ => ⟨S2x4096x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S1024x5760, .f32⟩
  | .local _ .vmem, ⟨0, _⟩ => ⟨S2048x1024, .bf16⟩
  | .local _ .vmem, ⟨1, _⟩ => ⟨S2048x1024, .bf16⟩
  | .local _ .vmem, ⟨2, _⟩ => ⟨S2048x1920, .bf16⟩
  | .local _ .vmem, ⟨3, _⟩ => ⟨S2048x1920, .bf16⟩
  | .local _ .vmem, ⟨4, _⟩ => ⟨S1024x1920, .f32⟩
  | .local _ .vmem, ⟨5, _⟩ => ⟨S1024x1920, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8192x1024 : Shape := ⟨2, ![8192, 1024]⟩
abbrev S2x8x1024 : Shape := ⟨3, ![2, 8, 1024]⟩
abbrev S1024x5760 : Shape := ⟨2, ![1024, 5760]⟩
abbrev S8192x5760 : Shape := ⟨2, ![8192, 5760]⟩
abbrev S2x4096x1024 : Shape := ⟨3, ![2, 4096, 1024]⟩
abbrev S2x1x1024 : Shape := ⟨3, ![2, 1, 1024]⟩
abbrev S_ : Shape := ⟨0, ![]⟩
abbrev S5760x1024 : Shape := ⟨2, ![5760, 1024]⟩
abbrev S2x1024 : Shape := ⟨2, ![2, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x8x1024, .f32⟩
  | .hbm, ⟨2, _⟩ => ⟨S1024x5760, .bf16⟩
  | .hbm, ⟨3, _⟩ => ⟨S8192x5760, .bf16⟩
  | .hbm, ⟨4, _⟩ => ⟨S2x4096x1024, .f32⟩
  | .hbm, ⟨5, _⟩ => ⟨S2x1x1024, .f32⟩
  | .hbm, ⟨6, _⟩ => ⟨S2x1x1024, .f32⟩
  | .hbm, ⟨7, _⟩ => ⟨S1024x5760, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S8192x1024, .f32⟩
  | .hbm, ⟨16, _⟩ => ⟨S8192x5760, .f32⟩
  | .hbm, ⟨17, _⟩ => ⟨S8192x5760, .f32⟩
  | .hbm, ⟨18, _⟩ => ⟨S5760x1024, .f32⟩
  | .hbm, ⟨19, _⟩ => ⟨S1024x5760, .f32⟩
  | .hbm, ⟨20, _⟩ => ⟨S8192x1024, .f32⟩
  | .hbm, ⟨21, _⟩ => ⟨S2x4096x1024, .f32⟩
  | .hbm, ⟨22, _⟩ => ⟨S_, .f32⟩
  | .hbm, ⟨23, _⟩ => ⟨S2x1024, .f32⟩
  | .hbm, ⟨24, _⟩ => ⟨S2x1x1024, .f32⟩
  | .hbm, ⟨25, _⟩ => ⟨S2x4096x1024, .f32⟩
  | .hbm, ⟨26, _⟩ => ⟨S_, .f32⟩
  | .hbm, ⟨27, _⟩ => ⟨S2x1024, .f32⟩
  | .hbm, ⟨28, _⟩ => ⟨S2x1x1024, .f32⟩
  | .hbm, ⟨29, _⟩ => ⟨S2x4096x1024, .f32⟩
  | .hbm, ⟨30, _⟩ => ⟨S2x4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel7.lean ====
abbrev S8192x5760 : Shape := ⟨2, ![8192, 5760]⟩
abbrev S1024x5760 : Shape := ⟨2, ![1024, 5760]⟩
abbrev S8192x1024 : Shape := ⟨2, ![8192, 1024]⟩
abbrev S2x8x1024 : Shape := ⟨3, ![2, 8, 1024]⟩
abbrev S1024x1920 : Shape := ⟨2, ![1024, 1920]⟩
abbrev S1024x1024 : Shape := ⟨2, ![1024, 1024]⟩
abbrev S1x8x1024 : Shape := ⟨3, ![1, 8, 1024]⟩
abbrev S1x1x1024 : Shape := ⟨3, ![1, 1, 1024]⟩
abbrev S1x1024 : Shape := ⟨2, ![1, 1024]⟩
abbrev S1024 : Shape := ⟨1, ![1024]⟩
abbrev S6x1024 : Shape := ⟨2, ![6, 1024]⟩
abbrev S8x1024 : Shape := ⟨2, ![8, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x5760, .bf16⟩
  | .hbm, ⟨1, _⟩ => ⟨S1024x5760, .bf16⟩
  | .hbm, ⟨2, _⟩ => ⟨S8192x1024, .f32⟩
  | .hbm, ⟨3, _⟩ => ⟨S8192x1024, .bf16⟩
  | .hbm, ⟨4, _⟩ => ⟨S2x8x1024, .f32⟩
  | .hbm, ⟨5, _⟩ => ⟨S8192x1024, .f32⟩
  | .hbm, ⟨6, _⟩ => ⟨S2x8x1024, .f32⟩
  | .local _ .vmem, ⟨0, _⟩ => ⟨S1024x1920, .bf16⟩
  | .local _ .vmem, ⟨1, _⟩ => ⟨S1024x1920, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x8x1024, .f32⟩
  | .local _ .vmem, ⟨9, _⟩ => ⟨S1x8x1024, .f32⟩
  | .local _ .vmem, ⟨10, _⟩ => ⟨S1024x1024, .f32⟩
  | .local _ .vmem, ⟨11, _⟩ => ⟨S1024x1024, .f32⟩
  | .local _ .vmem, ⟨12, _⟩ => ⟨S1x8x1024, .f32⟩
  | .local _ .vmem, ⟨13, _⟩ => ⟨S1x8x1024, .f32⟩
  | .local _ .vmem, ⟨14, _⟩ => ⟨S1024x1024, .f32⟩
  | _, _ => ⟨S8192x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c4_i32 : BitVec 32 := 4#32
  let c0_i32_23 : BitVec 32 := 0#32
  let v33 : BitVec 1 := Scalar.cmpi .eq c4_i32 c0_i32_23
  let c1_i32 : BitVec 32 := 1#32
  let v34 : BitVec 32 := Scalar.select v33 c1_i32 c4_i32
  let v35 : BitVec 32 := Scalar.remsi arg0 v34
  let c0_i32_25 : BitVec 32 := 0#32
  let v37 : BitVec 1 := Scalar.cmpi .slt v35 c0_i32_25
  let c0_i32_26 : BitVec 32 := 0#32
  let v38 : BitVec 1 := Scalar.cmpi .slt v34 c0_i32_26
  let v39 : BitVec 1 := Scalar.xori v37 v38
  let c0_i32_24 : BitVec 32 := 0#32
  let v36 : BitVec 1 := Scalar.cmpi .ne v35 c0_i32_24
  let v40 : BitVec 1 := Scalar.andi v39 v36
  let v41 : BitVec 32 := Scalar.addi v35 v34
  let v42 : BitVec 32 := Scalar.select v40 v41 v35
  let c0_i32_27 : BitVec 32 := 0#32
  let v43 : BitVec 1 := Scalar.cmpi .eq v42 c0_i32_27
  let v44 : BitVec 32 := Scalar.extui v43
  let c0_i32_28 : BitVec 32 := 0#32
  let v45 : BitVec 1 := Scalar.cmpi .ne v44 c0_i32_28
  v45

def k0_cond4 (i : grid0.Coords) : BitVec 1 :=
  let arg0 : BitVec 32 := BitVec.ofNat 32 (i 0).val
  let c4_i32_29 : BitVec 32 := 4#32
  let c0_i32_30 : BitVec 32 := 0#32
  let v46 : BitVec 1 := Scalar.cmpi .eq c4_i32_29 c0_i32_30
  let c1_i32_31 : BitVec 32 := 1#32
  let v47 : BitVec 32 := Scalar.select v46 c1_i32_31 c4_i32_29
  let v48 : BitVec 32 := Scalar.remsi arg0 v47
  let c0_i32_33 : BitVec 32 := 0#32
  let v50 : BitVec 1 := Scalar.cmpi .slt v48 c0_i32_33
  let c0_i32_34 : BitVec 32 := 0#32
  let v51 : BitVec 1 := Scalar.cmpi .slt v47 c0_i32_34
  let v52 : BitVec 1 := Scalar.xori v50 v51
  let c0_i32_32 : BitVec 32 := 0#32
  let v49 : BitVec 1 := Scalar.cmpi .ne v48 c0_i32_32
  let v53 : BitVec 1 := Scalar.andi v52 v49
  let v54 : BitVec 32 := Scalar.addi v48 v47
  let v55 : BitVec 32 := Scalar.select v53 v54 v48
  let c0_i32_35 : BitVec 32 := 0#32
  let v56 : BitVec 1 := Scalar.cmpi .ne v55 c0_i32_35
  let v57 : BitVec 32 := Scalar.extui v56
  let c0_i32_36 : BitVec 32 := 0#32
  let v58 : BitVec 1 := Scalar.cmpi .ne v57 c0_i32_36
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S8192x5760 : Shape := ⟨2, ![8192, 5760]⟩
abbrev S1024x5760 : Shape := ⟨2, ![1024, 5760]⟩
abbrev S8192x1024 : Shape := ⟨2, ![8192, 1024]⟩
abbrev S2x8x1024 : Shape := ⟨3, ![2, 8, 1024]⟩
abbrev S2x4096x1024 : Shape := ⟨3, ![2, 4096, 1024]⟩
abbrev S2x1x1024 : Shape := ⟨3, ![2, 1, 1024]⟩
abbrev S_ : Shape := ⟨0, ![]⟩
abbrev S5760x1024 : Shape := ⟨2, ![5760, 1024]⟩
abbrev S2x1024 : Shape := ⟨2, ![2, 1024]⟩
abbrev S2x6x1024 : Shape := ⟨3, ![2, 6, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x5760, .bf16⟩
  | .hbm, ⟨1, _⟩ => ⟨S1024x5760, .bf16⟩
  | .hbm, ⟨2, _⟩ => ⟨S8192x1024, .f32⟩
  | .hbm, ⟨3, _⟩ => ⟨S8192x1024, .bf16⟩
  | .hbm, ⟨4, _⟩ => ⟨S2x8x1024, .f32⟩
  | .hbm, ⟨5, _⟩ => ⟨S2x4096x1024, .f32⟩
  | .hbm, ⟨6, _⟩ => ⟨S2x1x1024, .f32⟩
  | .hbm, ⟨7, _⟩ => ⟨S2x1x1024, .f32⟩
  | .hbm, ⟨8, _⟩ => ⟨S1024x5760, .f32⟩
  | .hbm, ⟨9, _⟩ => ⟨S_, .f32⟩
  | .hbm, ⟨10, _⟩ => ⟨S2x1x1024, .f32⟩
  | .hbm, ⟨11, _⟩ => ⟨S2x1x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S2x4096x1024, .f32⟩
  | .hbm, ⟨16, _⟩ => ⟨S8192x1024, .f32⟩
  | .hbm, ⟨17, _⟩ => ⟨S8192x5760, .f32⟩
  | .hbm, ⟨18, _⟩ => ⟨S8192x5760, .f32⟩
  | .hbm, ⟨19, _⟩ => ⟨S5760x1024, .f32⟩
  | .hbm, ⟨20, _⟩ => ⟨S1024x5760, .f32⟩
  | .hbm, ⟨21, _⟩ => ⟨S8192x1024, .f32⟩
  | .hbm, ⟨22, _⟩ => ⟨S2x4096x1024, .f32⟩
  | .hbm, ⟨23, _⟩ => ⟨S_, .f32⟩
  | .hbm, ⟨24, _⟩ => ⟨S2x1024, .f32⟩
  | .hbm, ⟨25, _⟩ => ⟨S2x1x1024, .f32⟩
  | .hbm, ⟨26, _⟩ => ⟨S2x4096x1024, .f32⟩
  | .hbm, ⟨27, _⟩ => ⟨S_, .f32⟩
  | .hbm, ⟨28, _⟩ => ⟨S2x1024, .f32⟩
  | .hbm, ⟨29, _⟩ => ⟨S2x1x1024, .f32⟩
  | .hbm, ⟨30, _⟩ => ⟨S2x4096x1024, .f32⟩
  | .hbm, ⟨31, _⟩ => ⟨S2x4096x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S2x6x1024, .f32⟩
  | .hbm, ⟨37, _⟩ => ⟨S2x8x1024, .f32⟩
  | _, _ => ⟨S8192x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S8192x1024 : Shape := ⟨2, ![8192, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x512 : Shape := ⟨2, ![8192, 512]⟩
abbrev S512x1024 : Shape := ⟨2, ![512, 1024]⟩
abbrev S8192x1024 : Shape := ⟨2, ![8192, 1024]⟩
abbrev S4x512x256 : Shape := ⟨3, ![4, 512, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .hbm, ⟨3, _⟩ => ⟨S4x512x256, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .f32⟩
  | .local _ .vmem, ⟨5, _⟩ => ⟨S1x512x256, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S8192x512, .f32⟩
  | .hbm, ⟨10, _⟩ => ⟨S512x4x256, .f32⟩
  | .hbm, ⟨11, _⟩ => ⟨S4x512x256, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S8192x5760 : Shape := ⟨2, ![8192, 5760]⟩
abbrev S8192x512 : Shape := ⟨2, ![8192, 512]⟩
abbrev S32x4x128x128 : Shape := ⟨4, ![32, 4, 128, 128]⟩
abbrev S2x512 : Shape := ⟨2, ![2, 512]⟩
abbrev S1x512 : Shape := ⟨2, ![1, 512]⟩
abbrev S8x512 : Shape := ⟨2, ![8, 512]⟩
abbrev S256x2048 : Shape := ⟨2, ![256, 2048]⟩
abbrev S256x512 : Shape := ⟨2, ![256, 512]⟩
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩
abbrev S1x1x128x128 : Shape := ⟨4, ![1, 1, 128, 128]⟩
abbrev S256x128 : Shape := ⟨2, ![256, 128]⟩
abbrev S1x128 : Shape := ⟨2, ![1, 128]⟩
abbrev S256x256 : Shape := ⟨2, ![256, 256]⟩
abbrev S32x8x128 : Shape := ⟨3, ![32, 8, 128]⟩
abbrev S32x128 : Shape := ⟨2, ![32, 128]⟩
abbrev S32x1x128 : Shape := ⟨3, ![32, 1, 128]⟩
abbrev S16x16x128 : Shape := ⟨3, ![16, 16, 128]⟩
abbrev S16x128 : Shape := ⟨2, ![16, 128]⟩
abbrev S16x1x128 : Shape := ⟨3, ![16, 1, 128]⟩
abbrev S8x32x128 : Shape := ⟨3, ![8, 32, 128]⟩
abbrev S8x128 : Shape := ⟨2, ![8, 128]⟩
abbrev S8x1x128 : Shape := ⟨3, ![8, 1, 128]⟩
abbrev S4x64x128 : Shape := ⟨3, ![4, 64, 128]⟩
abbrev S4x128 : Shape := ⟨2, ![4, 128]⟩
abbrev S4x1x128 : Shape := ⟨3, ![4, 1, 128]⟩
abbrev S2x128x128 : Shape := ⟨3, ![2, 128, 128]⟩
abbrev S2x128 : Shape := ⟨2, ![2, 128]⟩
abbrev S2x1x128 : Shape := ⟨3, ![2, 1, 128]⟩
abbrev S1x256x128 : Shape := ⟨3, ![1, 256, 128]⟩
abbrev S1x1x128 : Shape := ⟨3, ![1, 1, 128]⟩
abbrev S128 : Shape := ⟨1, ![128]⟩
abbrev S256 : Shape := ⟨1, ![256]⟩
abbrev S256x1 : Shape := ⟨2, ![256, 1]⟩
abbrev S6x512 : Shape := ⟨2, ![6, 512]⟩

abbrev nBuf : Space → Nat
  | .hbm => 7
  | .vmem => 12
  | .smem => 0
  | _ => 0

abbrev bufTy : (tb : Table) → Fin (tcTables nBuf tb) → BufTy
  | .hbm, ⟨0, _⟩ => ⟨S8192x5760, .bf16⟩
  | .hbm, ⟨1, _⟩ => ⟨S8192x512, .f32⟩
  | .hbm, ⟨2, _⟩ => ⟨S32x4x128x128, .f32⟩
  | .hbm, ⟨3, _⟩ => ⟨S2x512, .f32⟩
  | .hbm, ⟨4, _⟩ => ⟨S1x512, .f32⟩
  | .hbm, ⟨5, _⟩ => ⟨S8192x5760, .bf16⟩
  | .hbm, ⟨6, _⟩ => ⟨S8x512, .f32⟩
  | .local _ .vmem, ⟨0, _⟩ => ⟨S256x2048, .bf16⟩
  | .local _ .vmem, ⟨1, _⟩ => ⟨S256x2048, .bf16⟩
  | .local _ .vmem, ⟨2, _⟩ => ⟨S256x512, .f32⟩
  | .local _ .vmem, ⟨3, _⟩ => ⟨S256x512, .f32⟩
  | .local _ .vmem, ⟨4, _⟩ => ⟨S1x4x128x128, .f32⟩
  | .local _ .vmem, ⟨5, _⟩ => ⟨S1x4x128x128, .f32⟩
  | .local _ .vmem, ⟨6, _⟩ => ⟨S2x512, .f32⟩
  | .local _ .vmem, ⟨7, _⟩ => ⟨S1x512, .f32⟩
  | .local _ .vmem, ⟨8, _⟩ => ⟨S256x2048, .bf16⟩
  | .local _ .vmem, ⟨9, _⟩ => ⟨S256x2048, .bf16⟩
  | .local _ .vmem, ⟨10, _⟩ => ⟨S8x512, .f32⟩
  | .local _ .vmem, ⟨11, _⟩ => ⟨S4x128x128, .f32⟩
  | _, _ => ⟨S8192x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg1 : BitVec 32 := BitVec.ofNat 32 (i 1).val
  let c0_i32_973 : BitVec 32 := 0#32
  let v3170 : BitVec 1 := Scalar.cmpi .eq arg1 c0_i32_973
  let arg2 : BitVec 32 := BitVec.ofNat 32 (i 2).val
  let c0_i32_974 : BitVec 32 := 0#32
  let v3171 : BitVec 1 := Scalar.cmpi .eq arg2 c0_i32_974
  let v3172 : BitVec 1 := Scalar.andi v3170 v3171
  let v3173 : BitVec 32 := Scalar.extui v3172
  let c0_i32_975 : BitVec 32 := 0#32
  let v3174 : BitVec 1 := Scalar.cmpi .ne v3173 c0_i32_975
  v3174

def k0_cond3 (i : grid0.Coords) : BitVec 1 :=
  let arg1 : BitVec 32 := BitVec.ofNat 32 (i 1).val
  let c0_i32_973 : BitVec 32 := 0#32
  let v3170 : BitVec 1 := Scalar.cmpi .eq arg1 c0_i32_973
  let arg2 : BitVec 32 := BitVec.ofNat 32 (i 2).val
  let c0_i32_974 : BitVec 32 := 0#32
  let v3171 : BitVec 1 := Scalar.cmpi .eq arg2 c0_i32_974
  let v3172 : BitVec 1 := Scalar.andi v3170 v3171
  let v_true : BitVec 1 := 1#1
  let v3175 : BitVec 1 := Scalar.xori v3172 v_true
  let v3176 : BitVec 32 := Scalar.extui v3175
  let c0_i32_976 : BitVec 32 := 0#32
  let v3177 : BitVec 1 := Scalar.cmpi .ne v3176 c0_i32_976
  v3177

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c1_i32 : BitVec 32 := 1#32
  let v3 : BitVec 32 := Scalar.addi c1_i32 arg0
  let c0_i32 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c0_i32 : BitVec 32 := 0#32
  ![v2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c15_i32 : BitVec 32 := 15#32
  let v3 : BitVec 32 := Scalar.subi c15_i32 arg2
  let v4 : BitVec 32 := Scalar.addi v2 v3
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c1_i32 : BitVec 32 := 1#32
  let v3 : BitVec 32 := Scalar.addi c1_i32 arg0
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== Kernel11.lean ====
abbrev S8192x1024 : Shape := ⟨2, ![8192, 1024]⟩
abbrev S2x8x1024 : Shape := ⟨3, ![2, 8, 1024]⟩
abbrev S1024x5760 : Shape := ⟨2, ![1024, 5760]⟩
abbrev S8192x5760 : Shape := ⟨2, ![8192, 5760]⟩
abbrev S2048x1024 : Shape := ⟨2, ![2048, 1024]⟩
abbrev S1x8x1024 : Shape := ⟨3, ![1, 8, 1024]⟩
abbrev S1024x1152 : Shape := ⟨2, ![1024, 1152]⟩
abbrev S2048x1152 : Shape := ⟨2, ![2048, 1152]⟩
abbrev S1x1x1024 : Shape := ⟨3, ![1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S2x8x1024, .f32⟩
  | .hbm, ⟨2, _⟩ => ⟨S1024x5760, .bf16⟩
  | .hbm, ⟨3, _⟩ => ⟨S8192x5760, .bf16⟩
  | .hbm, ⟨4, _⟩ => ⟨S8192x1024, .bf16⟩
  | .local _ .vmem, ⟨0, _⟩ => ⟨S2048x1024, .f32⟩
  | .local _ .vmem, ⟨1, _⟩ => ⟨S2048x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x1152, .bf16⟩
  | .local _ .vmem, ⟨5, _⟩ => ⟨S1024x1152, .bf16⟩
  | .local _ .vmem, ⟨6, _⟩ => ⟨S2048x1152, .bf16⟩
  | .local _ .vmem, ⟨7, _⟩ => ⟨S2048x1152, .bf16⟩
  | .local _ .vmem, ⟨8, _⟩ => ⟨S2048x1024, .bf16⟩
  | .local _ .vmem, ⟨9, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference11Ideal.lean ====
abbrev S8192x1024 : Shape := ⟨2, ![8192, 1024]⟩
abbrev S2x8x1024 : Shape := ⟨3, ![2, 8, 1024]⟩
abbrev S1024x5760 : Shape := ⟨2, ![1024, 5760]⟩
abbrev S2x4096x1024 : Shape := ⟨3, ![2, 4096, 1024]⟩
abbrev S2x1x1024 : Shape := ⟨3, ![2, 1, 1024]⟩
abbrev S_ : Shape := ⟨0, ![]⟩
abbrev S2x4096x5760 : Shape := ⟨3, ![2, 4096, 5760]⟩
abbrev S8192x5760 : Shape := ⟨2, ![8192, 5760]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x8x1024, .f32⟩
  | .hbm, ⟨2, _⟩ => ⟨S1024x5760, .bf16⟩
  | .hbm, ⟨3, _⟩ => ⟨S2x4096x1024, .f32⟩
  | .hbm, ⟨4, _⟩ => ⟨S2x1x1024, .f32⟩
  | .hbm, ⟨5, _⟩ => ⟨S_, .f32⟩
  | .hbm, ⟨6, _⟩ => ⟨S2x1x1024, .f32⟩
  | .hbm, ⟨7, _⟩ => ⟨S2x1x1024, .f32⟩
  | .hbm, ⟨8, _⟩ => ⟨S2x4096x1024, .f32⟩
  | .hbm, ⟨9, _⟩ => ⟨S2x4096x1024, .f32⟩
  | .hbm, ⟨10, _⟩ => ⟨S2x1x1024, .f32⟩
  | .hbm, ⟨11, _⟩ => ⟨S2x4096x1024, .f32⟩
  | .hbm, ⟨12, _⟩ => ⟨S2x4096x1024, .f32⟩
  | .hbm, ⟨13, _⟩ => ⟨S1024x5760, .f32⟩
  | .hbm, ⟨14, _⟩ => ⟨S2x4096x5760, .f32⟩
  | .hbm, ⟨15, _⟩ => ⟨S8192x5760, .f32⟩
  | .hbm, ⟨16, _⟩ => ⟨S8192x5760, .bf16⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel12.lean ====
abbrev S8192x512 : Shape := ⟨2, ![8192, 512]⟩
abbrev S8192x5760 : Shape := ⟨2, ![8192, 5760]⟩
abbrev S8192x1024 : Shape := ⟨2, ![8192, 1024]⟩
abbrev S2x8x1024 : Shape := ⟨3, ![2, 8, 1024]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S512x2048 : Shape := ⟨2, ![512, 2048]⟩
abbrev S1x8x1024 : Shape := ⟨3, ![1, 8, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 13
  | .vmem => 21
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x5760, .bf16⟩
  | .hbm, ⟨3, _⟩ => ⟨S8192x1024, .f32⟩
  | .hbm, ⟨4, _⟩ => ⟨S2x8x1024, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S8192x1024, .bf16⟩
  | .hbm, ⟨11, _⟩ => ⟨S8192x1024, .bf16⟩
  | .hbm, ⟨12, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1x8x1024, .f32⟩
  | .local _ .vmem, ⟨9, _⟩ => ⟨S1x8x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference12Ideal.lean ====
abbrev S8192x512 : Shape := ⟨2, ![8192, 512]⟩
abbrev S8192x5760 : Shape := ⟨2, ![8192, 5760]⟩
abbrev S8192x1024 : Shape := ⟨2, ![8192, 1024]⟩
abbrev S2x8x1024 : Shape := ⟨3, ![2, 8, 1024]⟩
abbrev S512x1024 : Shape := ⟨2, ![512, 1024]⟩
abbrev S1024x1024 : Shape := ⟨2, ![1024, 1024]⟩
abbrev S1x1024 : Shape := ⟨2, ![1, 1024]⟩
abbrev S8192x2048 : Shape := ⟨2, ![8192, 2048]⟩
abbrev S2x4096x2048 : Shape := ⟨3, ![2, 4096, 2048]⟩
abbrev S_ : Shape := ⟨0, ![]⟩
abbrev S2x4096x1024 : Shape := ⟨3, ![2, 4096, 1024]⟩
abbrev S2x4096x512 : Shape := ⟨3, ![2, 4096, 512]⟩
abbrev S2x1x1024 : Shape := ⟨3, ![2, 1, 1024]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x5760, .bf16⟩
  | .hbm, ⟨3, _⟩ => ⟨S8192x1024, .f32⟩
  | .hbm, ⟨4, _⟩ => ⟨S2x8x1024, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S8192x2048, .bf16⟩
  | .hbm, ⟨11, _⟩ => ⟨S8192x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S_, .f32⟩
  | .hbm, ⟨16, _⟩ => ⟨S2x4096x2048, .f32⟩
  | .hbm, ⟨17, _⟩ => ⟨S2x4096x2048, .f32⟩
  | .hbm, ⟨18, _⟩ => ⟨S_, .f32⟩
  | .hbm, ⟨19, _⟩ => ⟨S2x4096x2048, .f32⟩
  | .hbm, ⟨20, _⟩ => ⟨S2x4096x2048, .f32⟩
  | .hbm, ⟨21, _⟩ => ⟨S2x4096x1024, .f32⟩
  | .hbm, ⟨22, _⟩ => ⟨S2x4096x1024, .f32⟩
  | .hbm, ⟨23, _⟩ => ⟨S8192x512, .f32⟩
  | .hbm, ⟨24, _⟩ => ⟨S2x4096x512, .f32⟩
  | .hbm, ⟨25, _⟩ => ⟨S512x1024, .f32⟩
  | .hbm, ⟨26, _⟩ => ⟨S2x4096x1024, .f32⟩
  | .hbm, ⟨27, _⟩ => ⟨S2x4096x1024, .f32⟩
  | .hbm, ⟨28, _⟩ => ⟨S8192x512, .f32⟩
  | .hbm, ⟨29, _⟩ => ⟨S2x4096x512, .f32⟩
  | .hbm, ⟨30, _⟩ => ⟨S512x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S1024x1024, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S2x4096x1024, .f32⟩
  | .hbm, ⟨39, _⟩ => ⟨S2x4096x1024, .f32⟩
  | .hbm, ⟨40, _⟩ => ⟨S2x1x1024, .f32⟩
  | .hbm, ⟨41, _⟩ => ⟨S_, .f32⟩
  | .hbm, ⟨42, _⟩ => ⟨S2x1x1024, .f32⟩
  | .hbm, ⟨43, _⟩ => ⟨S2x1x1024, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S_, .f32⟩
  | .hbm, ⟨48, _⟩ => ⟨S2x4096, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S2x4096x1024, .f32⟩
  | .hbm, ⟨54, _⟩ => ⟨S2x4096x1024, .f32⟩
  | .hbm, ⟨55, _⟩ => ⟨S2x4096x1024, .f32⟩
  | .hbm, ⟨56, _⟩ => ⟨S_, .f32⟩
  | .hbm, ⟨57, _⟩ => ⟨S2x4096, .f32⟩
  | .hbm, ⟨58, _⟩ => ⟨S2x4096x1, .f32⟩
  | .hbm, ⟨59, _⟩ => ⟨S_, .f32⟩
  | .hbm, ⟨60, _⟩ => ⟨S2x4096x1, .f32⟩
  | .hbm, ⟨61, _⟩ => ⟨S2x4096x1, .f32⟩
  | .hbm, ⟨62, _⟩ => ⟨S2x4096x1024, .f32⟩
  | .hbm, ⟨63, _⟩ => ⟨S2x4096x1024, .f32⟩
  | .hbm, ⟨64, _⟩ => ⟨S_, .f32⟩
  | .hbm, ⟨65, _⟩ => ⟨S2x4096x1, .f32⟩
  | .hbm, ⟨66, _⟩ => ⟨S2x4096x1, .f32⟩
  | .hbm, ⟨67, _⟩ => ⟨S2x4096x1, .f32⟩
  | .hbm, ⟨68, _⟩ => ⟨S2x4096x1024, .f32⟩
  | .hbm, ⟨69, _⟩ => ⟨S2x4096x1024, .f32⟩
  | .hbm, ⟨70, _⟩ => ⟨S1x1x1024, .f32⟩
  | .hbm, ⟨71, _⟩ => ⟨S2x4096x1024, .f32⟩
  | .hbm, ⟨72, _⟩ => ⟨S2x4096x1024, .f32⟩
  | .hbm, ⟨73, _⟩ => ⟨S1x1x1024, .f32⟩
  | .hbm, ⟨74, _⟩ => ⟨S2x4096x1024, .f32⟩
  | .hbm, ⟨75, _⟩ => ⟨S2x4096x1024, .f32⟩
  | .hbm, ⟨76, _⟩ => ⟨S8192x1024, .f32⟩
  | .hbm, ⟨77, _⟩ => ⟨S8192x1024, .bf16⟩
  | .hbm, ⟨78, _⟩ => ⟨S8192x1024, .f32⟩
  | .hbm, ⟨79, _⟩ => ⟨S8192x1024, .bf16⟩
  | .hbm, ⟨80, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Kernel13.lean ====
abbrev S8192x1024 : Shape := ⟨2, ![8192, 1024]⟩
abbrev S2x8x1024 : Shape := ⟨3, ![2, 8, 1024]⟩
abbrev S4x704x1024 : Shape := ⟨3, ![4, 704, 1024]⟩
abbrev S1x1024 : Shape := ⟨2, ![1, 1024]⟩
abbrev S4x8192x704 : Shape := ⟨3, ![4, 8192, 704]⟩
abbrev S8x1024 : Shape := ⟨2, ![8, 1024]⟩
abbrev S512x1024 : Shape := ⟨2, ![512, 1024]⟩
abbrev S1x8x1024 : Shape := ⟨3, ![1, 8, 1024]⟩
abbrev S1x704x1024 : Shape := ⟨3, ![1, 704, 1024]⟩
abbrev S1x512x704 : Shape := ⟨3, ![1, 512, 704]⟩
abbrev S1x1x1024 : Shape := ⟨3, ![1, 1, 1024]⟩
abbrev S704x1024 : Shape := ⟨2, ![704, 1024]⟩
abbrev S512x704 : Shape := ⟨2, ![512, 704]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩
abbrev S5x1024 : Shape := ⟨2, ![5, 1024]⟩
abbrev S2x1024 : Shape := ⟨2, ![2, 1024]⟩

abbrev nBuf : Space → Nat
  | .hbm => 14
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S2x8x1024, .f32⟩
  | .hbm, ⟨2, _⟩ => ⟨S4x704x1024, .bf16⟩
  | .hbm, ⟨3, _⟩ => ⟨S4x704x1024, .bf16⟩
  | .hbm, ⟨4, _⟩ => ⟨S4x704x1024, .bf16⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S4x8192x704, .bf16⟩
  | .hbm, ⟨9, _⟩ => ⟨S4x8192x704, .bf16⟩
  | .hbm, ⟨10, _⟩ => ⟨S8192x1024, .bf16⟩
  | .hbm, ⟨11, _⟩ => ⟨S8192x1024, .f32⟩
  | .hbm, ⟨12, _⟩ => ⟨S8x1024, .f32⟩
  | .hbm, ⟨13, _⟩ => ⟨S2x8x1024, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S8x1024, .f32⟩
  | .local _ .vmem, ⟨23, _⟩ => ⟨S1x8x1024, .f32⟩
  | .local _ .vmem, ⟨24, _⟩ => ⟨S1x8x1024, .f32⟩
  | .local _ .vmem, ⟨25, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v46 : BitVec 1 := Scalar.cmpi .eq arg1 c3_i32
  let v47 : BitVec 32 := Scalar.extui v46
  let c0_i32_34 : BitVec 32 := 0#32
  let v48 : BitVec 1 := Scalar.cmpi .ne v47 c0_i32_34
  v48

def k0_cond3 (i : grid0.Coords) : BitVec 1 :=
  let arg0 : BitVec 32 := BitVec.ofNat 32 (i 0).val
  let c0_i32_75 : BitVec 32 := 0#32
  let v135 : BitVec 1 := Scalar.cmpi .eq arg0 c0_i32_75
  let v136 : BitVec 32 := Scalar.extui v135
  let c0_i32_76 : BitVec 32 := 0#32
  let v137 : BitVec 1 := Scalar.cmpi .ne v136 c0_i32_76
  v137

def k0_cond4 (i : grid0.Coords) : BitVec 1 :=
  let arg0 : BitVec 32 := BitVec.ofNat 32 (i 0).val
  let c0_i32_77 : BitVec 32 := 0#32
  let v138 : BitVec 1 := Scalar.cmpi .sgt arg0 c0_i32_77
  let v139 : BitVec 32 := Scalar.extui v138
  let c0_i32_78 : BitVec 32 := 0#32
  let v140 : BitVec 1 := Scalar.cmpi .ne v139 c0_i32_78
  v140

def k0_cond5 (i : grid0.Coords) : BitVec 1 :=
  let arg0 : BitVec 32 := BitVec.ofNat 32 (i 0).val
  let c8_i32 : BitVec 32 := 8#32
  let c0_i32_79 : BitVec 32 := 0#32
  let v141 : BitVec 1 := Scalar.cmpi .eq c8_i32 c0_i32_79
  let c1_i32 : BitVec 32 := 1#32
  let v142 : BitVec 32 := Scalar.select v141 c1_i32 c8_i32
  let v143 : BitVec 32 := Scalar.remsi arg0 v142
  let c0_i32_81 : BitVec 32 := 0#32
  let v145 : BitVec 1 := Scalar.cmpi .slt v143 c0_i32_81
  let c0_i32_82 : BitVec 32 := 0#32
  let v146 : BitVec 1 := Scalar.cmpi .slt v142 c0_i32_82
  let v147 : BitVec 1 := Scalar.xori v145 v146
  let c0_i32_80 : BitVec 32 := 0#32
  let v144 : BitVec 1 := Scalar.cmpi .ne v143 c0_i32_80
  let v148 : BitVec 1 := Scalar.andi v147 v144
  let v149 : BitVec 32 := Scalar.addi v143 v142
  let v150 : BitVec 32 := Scalar.select v148 v149 v143
  let c0_i32_83 : BitVec 32 := 0#32
  let v151 : BitVec 1 := Scalar.cmpi .eq v150 c0_i32_83
  let v152 : BitVec 32 := Scalar.extui v151
  let c0_i32_84 : BitVec 32 := 0#32
  let v153 : BitVec 1 := Scalar.cmpi .ne v152 c0_i32_84
  v153

def k0_cond6 (i : grid0.Coords) : BitVec 1 :=
  let arg0 : BitVec 32 := BitVec.ofNat 32 (i 0).val
  let c8_i32_85 : BitVec 32 := 8#32
  let c0_i32_86 : BitVec 32 := 0#32
  let v154 : BitVec 1 := Scalar.cmpi .eq c8_i32_85 c0_i32_86
  let c1_i32_87 : BitVec 32 := 1#32
  let v155 : BitVec 32 := Scalar.select v154 c1_i32_87 c8_i32_85
  let v156 : BitVec 32 := Scalar.remsi arg0 v155
  let c0_i32_89 : BitVec 32 := 0#32
  let v158 : BitVec 1 := Scalar.cmpi .slt v156 c0_i32_89
  let c0_i32_90 : BitVec 32 := 0#32
  let v159 : BitVec 1 := Scalar.cmpi .slt v155 c0_i32_90
  let v160 : BitVec 1 := Scalar.xori v158 v159
  let c0_i32_88 : BitVec 32 := 0#32
  let v157 : BitVec 1 := Scalar.cmpi .ne v156 c0_i32_88
  let v161 : BitVec 1 := Scalar.andi v160 v157
  let v162 : BitVec 32 := Scalar.addi v156 v155
  let v163 : BitVec 32 := Scalar.select v161 v162 v156
  let c0_i32_91 : BitVec 32 := 0#32
  let v164 : BitVec 1 := Scalar.cmpi .ne v163 c0_i32_91
  let v165 : BitVec 32 := Scalar.extui v164
  let c0_i32_92 : BitVec 32 := 0#32
  let v166 : BitVec 1 := Scalar.cmpi .ne v165 c0_i32_92
  v166

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference13Ideal.lean ====
abbrev S8192x1024 : Shape := ⟨2, ![8192, 1024]⟩
abbrev S2x8x1024 : Shape := ⟨3, ![2, 8, 1024]⟩
abbrev S4x704x1024 : Shape := ⟨3, ![4, 704, 1024]⟩
abbrev S1x1024 : Shape := ⟨2, ![1, 1024]⟩
abbrev S2x1x1024 : Shape := ⟨3, ![2, 1, 1024]⟩
abbrev S2x4096x1024 : Shape := ⟨3, ![2, 4096, 1024]⟩
abbrev S_ : Shape := ⟨0, ![]⟩
abbrev S2816x1024 : Shape := ⟨2, ![2816, 1024]⟩
abbrev S1024x2816 : Shape := ⟨2, ![1024, 2816]⟩
abbrev S2x4096x2816 : Shape := ⟨3, ![2, 4096, 2816]⟩
abbrev S2x4096 : Shape := ⟨2, ![2, 4096]⟩
abbrev S2x4096x1 : Shape := ⟨3, ![2, 4096, 1]⟩
abbrev S1x1x1024 : Shape := ⟨3, ![1, 1, 1024]⟩
abbrev S1024 : Shape := ⟨1, ![1024]⟩
abbrev S2x1024 : Shape := ⟨2, ![2, 1024]⟩
abbrev S5x1024 : Shape := ⟨2, ![5, 1024]⟩
abbrev S8x1024 : Shape := ⟨2, ![8, 1024]⟩
abbrev S2x5x1024 : Shape := ⟨3, ![2, 5, 1024]⟩
abbrev S2x2x1024 : Shape := ⟨3, ![2, 2, 1024]⟩
abbrev S8192x4x704 : Shape := ⟨3, ![8192, 4, 704]⟩
abbrev S4x8192x704 : Shape := ⟨3, ![4, 8192, 704]⟩

abbrev nBuf : Space → Nat
  | .hbm => 193
  | .vmem => 0
  | .smem => 0
  | _ => 0

abbrev hbmTy0_0 (i : Nat) : BufTy := match i % 128 with
  | 0 => ⟨S8192x1024, .f32⟩
  | 1 => ⟨S2x8x1024, .f32⟩
  | 2 => ⟨S4x704x1024, .bf16⟩
  | 3 => ⟨S4x704x1024, .bf16⟩
  | 4 => ⟨S4x704x1024, .bf16⟩
  | 5 => ⟨S8192x1024, .f32⟩
  | 6 => ⟨S1x1024, .f32⟩
  | 7 => ⟨S1x1024, .f32⟩
  | 8 => ⟨S2x1x1024, .f32⟩
  | 9 => ⟨S2x1x1024, .f32⟩
  | 10 => ⟨S2x1x1024, .f32⟩
  | 11 => ⟨S2x4096x1024, .f32⟩
  | 12 => ⟨S_, .f32⟩
  | 13 => ⟨S2x1x1024, .f32⟩
  | 14 => ⟨S2x1x1024, .f32⟩
  | 15 => ⟨S2x4096x1024, .f32⟩
  | 16 => ⟨S2x4096x1024, .f32⟩
  | 17 => ⟨S2x4096x1024, .f32⟩
  | 18 => ⟨S2x4096x1024, .f32⟩
  | 19 => ⟨S4x704x1024, .f32⟩
  | 20 => ⟨S2816x1024, .f32⟩
  | 21 => ⟨S1024x2816, .f32⟩
  | 22 => ⟨S2x4096x2816, .f32⟩
  | 23 => ⟨S4x704x1024, .f32⟩
  | 24 => ⟨S2816x1024, .f32⟩
  | 25 => ⟨S1024x2816, .f32⟩
  | 26 => ⟨S2x4096x2816, .f32⟩
  | 27 => ⟨S2x4096x2816, .f32⟩
  | 28 => ⟨S2x4096x2816, .f32⟩
  | 29 => ⟨S_, .f32⟩
  | 30 => ⟨S2x4096x2816, .f32⟩
  | 31 => ⟨S2x4096x2816, .f32⟩
  | 32 => ⟨S_, .f32⟩
  | 33 => ⟨S2x4096x2816, .f32⟩
  | 34 => ⟨S2x4096x2816, .f32⟩
  | 35 => ⟨S2x4096x2816, .f32⟩
  | 36 => ⟨S2x4096x2816, .f32⟩
  | 37 => ⟨S4x704x1024, .f32⟩
  | 38 => ⟨S2816x1024, .f32⟩
  | 39 => ⟨S2x4096x1024, .f32⟩
  | 40 => ⟨S2x4096x1024, .f32⟩
  | 41 => ⟨S_, .f32⟩
  | 42 => ⟨S2x4096x1024, .f32⟩
  | 43 => ⟨S2x4096x1024, .f32⟩
  | 44 => ⟨S_, .f32⟩
  | 45 => ⟨S2x1x1024, .f32⟩
  | 46 => ⟨S2x1x1024, .f32⟩
  | 47 => ⟨S2x4096x1024, .f32⟩
  | 48 => ⟨S2x4096x1024, .f32⟩
  | 49 => ⟨S2x4096x1024, .f32⟩
  | 50 => ⟨S2x4096x1024, .f32⟩
  | 51 => ⟨S_, .f32⟩
  | 52 => ⟨S2x4096, .f32⟩
  | 53 => ⟨S2x4096x1, .f32⟩
  | 54 => ⟨S_, .f32⟩
  | 55 => ⟨S2x4096x1, .f32⟩
  | 56 => ⟨S2x4096x1, .f32⟩
  | 57 => ⟨S2x4096x1024, .f32⟩
  | 58 => ⟨S2x4096x1024, .f32⟩
  | 59 => ⟨S2x4096x1024, .f32⟩
  | 60 => ⟨S_, .f32⟩
  | 61 => ⟨S2x4096x1024, .f32⟩
  | 62 => ⟨S2x4096x1024, .f32⟩
  | 63 => ⟨S_, .f32⟩
  | 64 => ⟨S2x4096, .f32⟩
  | 65 => ⟨S2x4096x1, .f32⟩
  | 66 => ⟨S_, .f32⟩
  | 67 => ⟨S2x4096x1, .f32⟩
  | 68 => ⟨S2x4096x1, .f32⟩
  | 69 => ⟨S2x4096x1024, .f32⟩
  | 70 => ⟨S2x4096x1024, .f32⟩
  | 71 => ⟨S_, .f32⟩
  | 72 => ⟨S2x4096x1, .f32⟩
  | 73 => ⟨S2x4096x1, .f32⟩
  | 74 => ⟨S2x4096x1, .f32⟩
  | 75 => ⟨S2x4096x1, .f32⟩
  | 76 => ⟨S_, .f32⟩
  | 77 => ⟨S2x4096x1, .f32⟩
  | 78 => ⟨S2x4096x1, .f32⟩
  | 79 => ⟨S2x4096x1024, .f32⟩
  | 80 => ⟨S2x4096x1024, .f32⟩
  | 81 => ⟨S1x1x1024, .f32⟩
  | 82 => ⟨S2x4096x1024, .f32⟩
  | 83 => ⟨S2x4096x1024, .f32⟩
  | 84 => ⟨S1x1x1024, .f32⟩
  | 85 => ⟨S2x4096x1024, .f32⟩
  | 86 => ⟨S2x4096x1024, .f32⟩
  | 87 => ⟨S2x4096x1024, .f32⟩
  | 88 => ⟨S2x4096x1024, .f32⟩
  | 89 => ⟨S_, .f32⟩
  | 90 => ⟨S2x4096x1024, .f32⟩
  | 91 => ⟨S2x4096x1024, .f32⟩
  | 92 => ⟨S_, .f32⟩
  | 93 => ⟨S2x4096, .f32⟩
  | 94 => ⟨S_, .f32⟩
  | 95 => ⟨S2x4096, .f32⟩
  | 96 => ⟨S2x4096, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S2x4096, .f32⟩
  | 105 => ⟨S_, .f32⟩
  | 106 => ⟨S2x4096, .f32⟩
  | 107 => ⟨S2x4096, .f32⟩
  | 108 => ⟨S2x4096x1024, .f32⟩
  | 109 => ⟨S2x4096x1024, .f32⟩
  | 110 => ⟨S_, .f32⟩
  | 111 => ⟨S1024, .f32⟩
  | 112 => ⟨S1x1x1024, .f32⟩
  | 113 => ⟨S_, .f32⟩
  | 114 => ⟨S1024, .f32⟩
  | 115 => ⟨S1x1024, .f32⟩
  | 116 => ⟨S2x4096x1024, .f32⟩
  | 117 => ⟨S_, .f32⟩
  | 118 => ⟨S1024, .f32⟩
  | 119 => ⟨S1x1x1024, .f32⟩
  | 120 => ⟨S2x4096x1024, .f32⟩
  | 121 => ⟨S2x4096x1024, .f32⟩
  | 122 => ⟨S_, .f32⟩
  | 123 => ⟨S1024, .f32⟩
  | 124 => ⟨S1x1024, .f32⟩
  | 125 => ⟨S2x4096x1024, .f32⟩
  | 126 => ⟨S_, .f32⟩
  | 127 => ⟨S2x4096, .f32⟩
  | _ => ⟨S8192x1024, .f32⟩

abbrev hbmTy0_1 (i : Nat) : BufTy := match i % 128 with
  | 0 => ⟨S2x4096x1, .f32⟩
  | 1 => ⟨S2x4096x1024, .f32⟩
  | 2 => ⟨S2x4096x1024, .f32⟩
  | 3 => ⟨S2x4096x1, .f32⟩
  | 4 => ⟨S2x4096x1024, .f32⟩
  | 5 => ⟨S_, .f32⟩
  | 6 => ⟨S2x4096, .f32⟩
  | 7 => ⟨S2x4096x1, .f32⟩
  | 8 => ⟨S_, .f32⟩
  | 9 => ⟨S2x4096x1, .f32⟩
  | 10 => ⟨S2x4096x1, .f32⟩
  | 11 => ⟨S_, .f32⟩
  | 12 => ⟨S2x4096, .f32⟩
  | 13 => ⟨S2x4096x1024, .f32⟩
  | 14 => ⟨S2x4096x1024, .f32⟩
  | 15 => ⟨S2x4096x1024, .f32⟩
  | 16 => ⟨S_, .f32⟩
  | 17 => ⟨S2x4096, .f32⟩
  | 18 => ⟨S2x4096x1, .f32⟩
  | 19 => ⟨S2x4096x1024, .f32⟩
  | 20 => ⟨S2x4096x1, .f32⟩
  | 21 => ⟨S_, .f32⟩
  | 22 => ⟨S2x4096x1, .f32⟩
  | 23 => ⟨S2x4096x1, .f32⟩
  | 24 => ⟨S_, .f32⟩
  | 25 => ⟨S2x4096, .f32⟩
  | 26 => ⟨S2x4096x1024, .f32⟩
  | 27 => ⟨S2x4096x1024, .f32⟩
  | 28 => ⟨S_, .f32⟩
  | 29 => ⟨S2x1x1024, .f32⟩
  | 30 => ⟨S2x1x1024, .f32⟩
  | 31 => ⟨S2x4096x1024, .f32⟩
  | 32 => ⟨S2x4096x1024, .f32⟩
  | 33 => ⟨S2x4096x1024, .f32⟩
  | 34 => ⟨S2x4096x1024, .f32⟩
  | 35 => ⟨S2x4096x1024, .f32⟩
  | 36 => ⟨S_, .f32⟩
  | 37 => ⟨S2x1024, .f32⟩
  | 38 => ⟨S2x1x1024, .f32⟩
  | 39 => ⟨S1x1024, .i32⟩
  | 40 => ⟨S_, .i32⟩
  | 41 => ⟨S1x1024, .i32⟩
  | 42 => ⟨S1x1024, .i1⟩
  | 43 => ⟨S_, .f32⟩
  | 44 => ⟨S_, .f32⟩
  | 45 => ⟨S1x1024, .f32⟩
  | 46 => ⟨S1x1024, .f32⟩
  | 47 => ⟨S1x1024, .f32⟩
  | 48 => ⟨S_, .f32⟩
  | 49 => ⟨S5x1024, .f32⟩
  | 50 => ⟨S8x1024, .f32⟩
  | 51 => ⟨S_, .f32⟩
  | 52 => ⟨S2x5x1024, .f32⟩
  | 53 => ⟨S_, .f32⟩
  | 54 => ⟨S2x2x1024, .f32⟩
  | 55 => ⟨S2x8x1024, .f32⟩
  | 56 => ⟨S8192x4x704, .f32⟩
  | 57 => ⟨S4x8192x704, .f32⟩
  | 58 => ⟨S4x8192x704, .bf16⟩
  | 59 => ⟨S8192x4x704, .f32⟩
  | 60 => ⟨S4x8192x704, .f32⟩
  | 61 => ⟨S4x8192x704, .bf16⟩
  | 62 => ⟨S8192x1024, .f32⟩
  | 63 => ⟨S8192x1024, .bf16⟩
  | 64 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_v64 : Ref sig .tc := ⟨.hbm, 91, rfl⟩
abbrev main_cst_10 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_v67 : Ref sig .tc := ⟨.hbm, 96, rfl⟩
abbrev main_cst_12 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_cst_14 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_cst_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_17 : Ref sig .tc := ⟨.hbm, 110, rfl⟩
abbrev main_v76 : Ref sig .tc := ⟨.hbm, 111, rfl⟩
abbrev main_v77 : Ref sig .tc := ⟨.hbm, 112, rfl⟩
abbrev main_cst_18 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_19 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_20 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_21 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_22 : Ref sig .tc := ⟨.hbm, 133, rfl⟩
abbrev main_v94 : Ref sig .tc := ⟨.hbm, 134, rfl⟩
abbrev main_v95 : Ref sig .tc := ⟨.hbm, 135, rfl⟩
abbrev main_cst_23 : Ref sig .tc := ⟨.hbm, 136, rfl⟩
abbrev main_v96 : Ref sig .tc := ⟨.hbm, 137, rfl⟩
abbrev main_v97 : Ref sig .tc := ⟨.hbm, 138, rfl⟩
abbrev main_cst_24 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_25 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_26 : Ref sig .tc := ⟨.hbm, 149, rfl⟩
abbrev main_v106 : Ref sig .tc := ⟨.hbm, 150, rfl⟩
abbrev main_v107 : Ref sig .tc := ⟨.hbm, 151, rfl⟩
abbrev main_cst_27 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_28 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_29 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_c : Ref sig .tc := ⟨.hbm, 168, rfl⟩
abbrev main_v121 : Ref sig .tc := ⟨.hbm, 169, rfl⟩
abbrev main_v122 : Ref sig .tc := ⟨.hbm, 170, rfl⟩
abbrev main_cst_30 : Ref sig .tc := ⟨.hbm, 171, rfl⟩
abbrev main_call1_v0 : Ref sig .tc := ⟨.hbm, 172, rfl⟩
abbrev main_call1_v1 : Ref sig .tc := ⟨.hbm, 173, rfl⟩
abbrev main_call1_v2 : Ref sig .tc := ⟨.hbm, 174, rfl⟩
abbrev main_v123 : Ref sig .tc := ⟨.hbm, 175, rfl⟩
abbrev main_cst_31 : Ref sig .tc := ⟨.hbm, 176, rfl⟩
abbrev main_v124 : Ref sig .tc := ⟨.hbm, 177, rfl⟩
abbrev main_v125 : Ref sig .tc := ⟨.hbm, 178, rfl⟩
abbrev main_cst_32 : Ref sig .tc := ⟨.hbm, 179, rfl⟩
abbrev main_v126 : Ref sig .tc := ⟨.hbm, 180, rfl⟩
abbrev main_cst_33 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩

abbrev nD : Nat := 1
abbrev τ : Topo := Topo.v7x

variable {F : FTy → Type} [FloatOps F]
-- ==== Kernel14.lean ====
abbrev S1 : Shape := ⟨1, ![1]⟩
abbrev S1024x1410 : Shape := ⟨2, ![1024, 1410]⟩
abbrev S512x1410 : Shape := ⟨2, ![512, 1410]⟩
abbrev S128x1410 : Shape := ⟨2, ![128, 1410]⟩

abbrev nBuf : Space → Nat
  | .hbm => 9
  | .vmem => 18
  | .smem => 1
  | _ => 0

abbrev bufTy : (tb : Table) → Fin (tcTables nBuf tb) → BufTy
  | .hbm, ⟨0, _⟩ => ⟨S1024x1410, .f32⟩
  | .hbm, ⟨1, _⟩ => ⟨S512x1410, .f32⟩
  | .hbm, ⟨2, _⟩ => ⟨S512x1410, .f32⟩
  | .hbm, ⟨3, _⟩ => ⟨S1024x1410, .f32⟩
  | .hbm, ⟨4, _⟩ => ⟨S1024x1410, .f32⟩
  | .hbm, ⟨5, _⟩ => ⟨S1024x1410, .f32⟩
  | .hbm, ⟨6, _⟩ => ⟨S1024x1410, .f32⟩
  | .hbm, ⟨7, _⟩ => ⟨S1024x1410, .f32⟩
  | .hbm, ⟨8, _⟩ => ⟨S1024x1410, .f32⟩
  | .local _ .vmem, ⟨0, _⟩ => ⟨S128x1410, .f32⟩
  | .local _ .vmem, ⟨1, _⟩ => ⟨S128x1410, .f32⟩
  | .local _ .vmem, ⟨2, _⟩ => ⟨S128x1410, .f32⟩
  | .local _ .vmem, ⟨3, _⟩ => ⟨S128x1410, .f32⟩
  | .local _ .vmem, ⟨4, _⟩ => ⟨S128x1410, .f32⟩
  | .local _ .vmem, ⟨5, _⟩ => ⟨S128x1410, .f32⟩
  | .local _ .vmem, ⟨6, _⟩ => ⟨S128x1410, .f32⟩
  | .local _ .vmem, ⟨7, _⟩ => ⟨S128x1410, .f32⟩
  | .local _ .vmem, ⟨8, _⟩ => ⟨S128x1410, .f32⟩
  | .local _ .vmem, ⟨9, _⟩ => ⟨S128x1410, .f32⟩
  | .local _ .vmem, ⟨10, _⟩ => ⟨S128x1410, .f32⟩
  | .local _ .vmem, ⟨11, _⟩ => ⟨S128x1410, .f32⟩
  | .local _ .vmem, ⟨12, _⟩ => ⟨S128x1410, .f32⟩
  | .local _ .vmem, ⟨13, _⟩ => ⟨S128x1410, .f32⟩
  | .local _ .vmem, ⟨14, _⟩ => ⟨S128x1410, .f32⟩
  | .local _ .vmem, ⟨15, _⟩ => ⟨S128x1410, .f32⟩
  | .local _ .vmem, ⟨16, _⟩ => ⟨S128x1410, .f32⟩
  | .local _ .vmem, ⟨17, _⟩ => ⟨S128x1410, .f32⟩
  | .local _ .smem, ⟨0, _⟩ => ⟨S1, .i32⟩
  | _, _ => ⟨S1024x1410, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1410 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1410 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1410 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1410 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1410 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1410 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1410 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1410 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1410 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel14Ideal.lean ====
abbrev S1 : Shape := ⟨1, ![1]⟩
abbrev S1024x1410 : Shape := ⟨2, ![1024, 1410]⟩
abbrev S512x1410 : Shape := ⟨2, ![512, 1410]⟩
abbrev S128x1410 : Shape := ⟨2, ![128, 1410]⟩

abbrev nBuf : Space → Nat
  | .hbm => 9
  | .vmem => 18
  | .smem => 1
  | _ => 0

abbrev bufTy : (tb : Table) → Fin (tcTables nBuf tb) → BufTy
  | .hbm, ⟨0, _⟩ => ⟨S1024x1410, .f32⟩
  | .hbm, ⟨1, _⟩ => ⟨S512x1410, .f32⟩
  | .hbm, ⟨2, _⟩ => ⟨S512x1410, .f32⟩
  | .hbm, ⟨3, _⟩ => ⟨S1024x1410, .f32⟩
  | .hbm, ⟨4, _⟩ => ⟨S1024x1410, .f32⟩
  | .hbm, ⟨5, _⟩ => ⟨S1024x1410, .f32⟩
  | .hbm, ⟨6, _⟩ => ⟨S1024x1410, .f32⟩
  | .hbm, ⟨7, _⟩ => ⟨S1024x1410, .f32⟩
  | .hbm, ⟨8, _⟩ => ⟨S1024x1410, .f32⟩
  | .local _ .vmem, ⟨0, _⟩ => ⟨S128x1410, .f32⟩
  | .local _ .vmem, ⟨1, _⟩ => ⟨S128x1410, .f32⟩
  | .local _ .vmem, ⟨2, _⟩ => ⟨S128x1410, .f32⟩
  | .local _ .vmem, ⟨3, _⟩ => ⟨S128x1410, .f32⟩
  | .local _ .vmem, ⟨4, _⟩ => ⟨S128x1410, .f32⟩
  | .local _ .vmem, ⟨5, _⟩ => ⟨S128x1410, .f32⟩
  | .local _ .vmem, ⟨6, _⟩ => ⟨S128x1410, .f32⟩
  | .local _ .vmem, ⟨7, _⟩ => ⟨S128x1410, .f32⟩
  | .local _ .vmem, ⟨8, _⟩ => ⟨S128x1410, .f32⟩
  | .local _ .vmem, ⟨9, _⟩ => ⟨S128x1410, .f32⟩
  | .local _ .vmem, ⟨10, _⟩ => ⟨S128x1410, .f32⟩
  | .local _ .vmem, ⟨11, _⟩ => ⟨S128x1410, .f32⟩
  | .local _ .vmem, ⟨12, _⟩ => ⟨S128x1410, .f32⟩
  | .local _ .vmem, ⟨13, _⟩ => ⟨S128x1410, .f32⟩
  | .local _ .vmem, ⟨14, _⟩ => ⟨S128x1410, .f32⟩
  | .local _ .vmem, ⟨15, _⟩ => ⟨S128x1410, .f32⟩
  | .local _ .vmem, ⟨16, _⟩ => ⟨S128x1410, .f32⟩
  | .local _ .vmem, ⟨17, _⟩ => ⟨S128x1410, .f32⟩
  | .local _ .smem, ⟨0, _⟩ => ⟨S1, .i32⟩
  | _, _ => ⟨S1024x1410, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1410 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1410 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1410 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1410 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1410 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1410 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1410 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1410 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1410 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S1 : Shape := ⟨1, ![1]⟩
abbrev S1024x1410 : Shape := ⟨2, ![1024, 1410]⟩
abbrev S512x1410 : Shape := ⟨2, ![512, 1410]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x1410, .f32⟩
  | .hbm, ⟨2, _⟩ => ⟨S512x1410, .f32⟩
  | .hbm, ⟨3, _⟩ => ⟨S512x1410, .f32⟩
  | .hbm, ⟨4, _⟩ => ⟨S1024x1410, .f32⟩
  | .hbm, ⟨5, _⟩ => ⟨S1024x1410, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1410, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1410, .f32⟩
  | .hbm, ⟨14, _⟩ => ⟨S1024x1410, .f32⟩
  | .hbm, ⟨15, _⟩ => ⟨S_, .f32⟩
  | .hbm, ⟨16, _⟩ => ⟨S1024x1410, .f32⟩
  | .hbm, ⟨17, _⟩ => ⟨S1024x1410, .f32⟩
  | .hbm, ⟨18, _⟩ => ⟨S_, .f32⟩
  | .hbm, ⟨19, _⟩ => ⟨S1024x1410, .f32⟩
  | .hbm, ⟨20, _⟩ => ⟨S1024x1410, .f32⟩
  | .hbm, ⟨21, _⟩ => ⟨S1024x1410, .f32⟩
  | .hbm, ⟨22, _⟩ => ⟨S_, .f32⟩
  | .hbm, ⟨23, _⟩ => ⟨S1024x1410, .f32⟩
  | .hbm, ⟨24, _⟩ => ⟨S1024x1410, .f32⟩
  | .hbm, ⟨25, _⟩ => ⟨S1024x1410, .f32⟩
  | .hbm, ⟨26, _⟩ => ⟨S_, .f32⟩
  | .hbm, ⟨27, _⟩ => ⟨S1024x1410, .f32⟩
  | .hbm, ⟨28, _⟩ => ⟨S1024x1410, .f32⟩
  | .hbm, ⟨29, _⟩ => ⟨S1024x1410, .f32⟩
  | .hbm, ⟨30, _⟩ => ⟨S_, .f32⟩
  | .hbm, ⟨31, _⟩ => ⟨S1024x1410, .f32⟩
  | .hbm, ⟨32, _⟩ => ⟨S1024x1410, .f32⟩
  | .hbm, ⟨33, _⟩ => ⟨S_, .f32⟩
  | .hbm, ⟨34, _⟩ => ⟨S1024x1410, .f32⟩
  | .hbm, ⟨35, _⟩ => ⟨S1024x1410, .f32⟩
  | .hbm, ⟨36, _⟩ => ⟨S1024x1410, .f32⟩
  | .hbm, ⟨37, _⟩ => ⟨S_, .f32⟩
  | .hbm, ⟨38, _⟩ => ⟨S1024x1410, .f32⟩
  | .hbm, ⟨39, _⟩ => ⟨S1024x1410, .f32⟩
  | .hbm, ⟨40, _⟩ => ⟨S1024x1410, .f32⟩
  | .hbm, ⟨41, _⟩ => ⟨S_, .f32⟩
  | .hbm, ⟨42, _⟩ => ⟨S1024x1410, .f32⟩
  | .hbm, ⟨43, _⟩ => ⟨S1024x1410, .f32⟩
  | .hbm, ⟨44, _⟩ => ⟨S1024x1410, .f32⟩
  | .hbm, ⟨45, _⟩ => ⟨S_, .f32⟩
  | .hbm, ⟨46, _⟩ => ⟨S1024x1410, .f32⟩
  | .hbm, ⟨47, _⟩ => ⟨S1024x1410, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel15.lean ====
abbrev S1 : Shape := ⟨1, ![1]⟩
abbrev S512x256 : Shape := ⟨2, ![512, 256]⟩
abbrev S256x256 : Shape := ⟨2, ![256, 256]⟩
abbrev S128x256 : Shape := ⟨2, ![128, 256]⟩

abbrev nBuf : Space → Nat
  | .hbm => 9
  | .vmem => 18
  | .smem => 1
  | _ => 0

abbrev bufTy : (tb : Table) → Fin (tcTables nBuf tb) → BufTy
  | .hbm, ⟨0, _⟩ => ⟨S512x256, .f32⟩
  | .hbm, ⟨1, _⟩ => ⟨S256x256, .f32⟩
  | .hbm, ⟨2, _⟩ => ⟨S256x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .smem, ⟨0, _⟩ => ⟨S1, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel15Ideal.lean ====
abbrev S1 : Shape := ⟨1, ![1]⟩
abbrev S512x256 : Shape := ⟨2, ![512, 256]⟩
abbrev S256x256 : Shape := ⟨2, ![256, 256]⟩
abbrev S128x256 : Shape := ⟨2, ![128, 256]⟩

abbrev nBuf : Space → Nat
  | .hbm => 9
  | .vmem => 18
  | .smem => 1
  | _ => 0

abbrev bufTy : (tb : Table) → Fin (tcTables nBuf tb) → BufTy
  | .hbm, ⟨0, _⟩ => ⟨S512x256, .f32⟩
  | .hbm, ⟨1, _⟩ => ⟨S256x256, .f32⟩
  | .hbm, ⟨2, _⟩ => ⟨S256x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .smem, ⟨0, _⟩ => ⟨S1, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S1 : Shape := ⟨1, ![1]⟩
abbrev S512x256 : Shape := ⟨2, ![512, 256]⟩
abbrev S256x256 : Shape := ⟨2, ![256, 256]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x256, .f32⟩
  | .hbm, ⟨2, _⟩ => ⟨S256x256, .f32⟩
  | .hbm, ⟨3, _⟩ => ⟨S256x256, .f32⟩
  | .hbm, ⟨4, _⟩ => ⟨S512x256, .f32⟩
  | .hbm, ⟨5, _⟩ => ⟨S512x256, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x256, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | .hbm, ⟨40, _⟩ => ⟨S512x256, .f32⟩
  | .hbm, ⟨41, _⟩ => ⟨S_, .f32⟩
  | .hbm, ⟨42, _⟩ => ⟨S512x256, .f32⟩
  | .hbm, ⟨43, _⟩ => ⟨S512x256, .f32⟩
  | .hbm, ⟨44, _⟩ => ⟨S512x256, .f32⟩
  | .hbm, ⟨45, _⟩ => ⟨S_, .f32⟩
  | .hbm, ⟨46, _⟩ => ⟨S512x256, .f32⟩
  | .hbm, ⟨47, _⟩ => ⟨S512x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel16.lean ====
abbrev S1 : Shape := ⟨1, ![1]⟩
abbrev S256x1024 : Shape := ⟨2, ![256, 1024]⟩
abbrev S128x1024 : Shape := ⟨2, ![128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel16Ideal.lean ====
abbrev S1 : Shape := ⟨1, ![1]⟩
abbrev S256x1024 : Shape := ⟨2, ![256, 1024]⟩
abbrev S128x1024 : Shape := ⟨2, ![128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S1 : Shape := ⟨1, ![1]⟩
abbrev S256x1024 : Shape := ⟨2, ![256, 1024]⟩
abbrev S128x1024 : Shape := ⟨2, ![128, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S256x1024, .f32⟩
  | .hbm, ⟨2, _⟩ => ⟨S128x1024, .f32⟩
  | .hbm, ⟨3, _⟩ => ⟨S128x1024, .f32⟩
  | .hbm, ⟨4, _⟩ => ⟨S256x1024, .f32⟩
  | .hbm, ⟨5, _⟩ => ⟨S256x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel17.lean ====
abbrev S1 : Shape := ⟨1, ![1]⟩
abbrev S704x1024 : Shape := ⟨2, ![704, 1024]⟩
abbrev S352x1024 : Shape := ⟨2, ![352, 1024]⟩
abbrev S88x1024 : Shape := ⟨2, ![88, 1024]⟩

abbrev nBuf : Space → Nat
  | .hbm => 9
  | .vmem => 18
  | .smem => 1
  | _ => 0

abbrev bufTy : (tb : Table) → Fin (tcTables nBuf tb) → BufTy
  | .hbm, ⟨0, _⟩ => ⟨S704x1024, .f32⟩
  | .hbm, ⟨1, _⟩ => ⟨S352x1024, .f32⟩
  | .hbm, ⟨2, _⟩ => ⟨S352x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S88x1024, .f32⟩
  | .local _ .vmem, ⟨1, _⟩ => ⟨S88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | .local _ .vmem, ⟨14, _⟩ => ⟨S88x1024, .f32⟩
  | .local _ .vmem, ⟨15, _⟩ => ⟨S88x1024, .f32⟩
  | .local _ .vmem, ⟨16, _⟩ => ⟨S88x1024, .f32⟩
  | .local _ .vmem, ⟨17, _⟩ => ⟨S88x1024, .f32⟩
  | .local _ .smem, ⟨0, _⟩ => ⟨S1, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S88x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S1 : Shape := ⟨1, ![1]⟩
abbrev S704x1024 : Shape := ⟨2, ![704, 1024]⟩
abbrev S352x1024 : Shape := ⟨2, ![352, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S704x1024, .f32⟩
  | .hbm, ⟨2, _⟩ => ⟨S352x1024, .f32⟩
  | .hbm, ⟨3, _⟩ => ⟨S352x1024, .f32⟩
  | .hbm, ⟨4, _⟩ => ⟨S704x1024, .f32⟩
  | .hbm, ⟨5, _⟩ => ⟨S704x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S352x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S352x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | .hbm, ⟨40, _⟩ => ⟨S704x1024, .f32⟩
  | .hbm, ⟨41, _⟩ => ⟨S_, .f32⟩
  | .hbm, ⟨42, _⟩ => ⟨S704x1024, .f32⟩
  | .hbm, ⟨43, _⟩ => ⟨S704x1024, .f32⟩
  | .hbm, ⟨44, _⟩ => ⟨S704x1024, .f32⟩
  | .hbm, ⟨45, _⟩ => ⟨S_, .f32⟩
  | .hbm, ⟨46, _⟩ => ⟨S704x1024, .f32⟩
  | .hbm, ⟨47, _⟩ => ⟨S704x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel18.lean ====
abbrev S1024x1536 : Shape := ⟨2, ![1024, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S16x1024 : Shape := ⟨2, ![16, 1024]⟩
abbrev S16x1536 : Shape := ⟨2, ![16, 1536]⟩
abbrev S1024x1536 : Shape := ⟨2, ![1024, 1536]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .local _ .vmem, ⟨0, _⟩ => ⟨S16x1024, .f32⟩
  | .local _ .vmem, ⟨1, _⟩ => ⟨S16x1536, .f32⟩
  | .local _ .vmem, ⟨2, _⟩ => ⟨S1024x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference19Ideal.lean ====
abbrev S16x1024 : Shape := ⟨2, ![16, 1024]⟩
abbrev S16x1536 : Shape := ⟨2, ![16, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S1024x1536, .f32⟩
  | .hbm, ⟨13, _⟩ => ⟨S16x1536, .f32⟩
  | .hbm, ⟨14, _⟩ => ⟨S1536x1024, .f32⟩
  | .hbm, ⟨15, _⟩ => ⟨S1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.AttentionFrames.lean ====
/- The frames of the attention's backward call. The call reads the order of its block pairs from two tables of integers;
   the precondition `causal` says what they hold, and the generated run is stated for those words. -/
module

public import proofs.«01_k».proof.Defs
public import proofs.«01_k».proof.Proof.Gen.Kernel2.Flash
public import proofs.«01_k».proof.Proof.Gen.Kernel2Ideal.Flash
public import proofs.«01_k».proof.Proof.Gen.Pre_causal

@[expose] public section

noncomputable section

open Idealize.ShloMosaic Idealize.ShloMosaic.TcCoe Idealize.SL.Sem

namespace Cert.Proof.Attention

theorem ofBool_eq_one (p : Bool) : (BitVec.ofBool p = 1#1) ↔ p = true := by cases p <;> decide

section Tables
open Cert.Pre_causal

variable {F : FTy → Type} [FloatOps F]
variable (x0 x1 : IVec S36 32) (x2 x3 : FVec F S8192x5632 .bf16) (x4 : FVec F S4x8192x128 .f32)
    (x5 : FVec F S2x4x8x4096 .f32) (x6 : FVec F S8192x512 .bf16) (x7 : FVec F S8192x512 .f32)

/-- Where the precondition holds, the first table is the list of query blocks, key blocks in order. -/
theorem queries (x : S36.Idx) (h : (fn x0 x1 x2 x3 x4 x5 x6 x7).1 x = 1#1) :
    x0 x = Cert.Kernel2.Gen.pinT_0 0 x := by
  simp only [fn, fn_part1, fn_part2, cmpi, IntOp.cmpi, ofBool_eq_one, beq_iff_eq] at h
  refine h.trans ?_
  clear h
  revert x
  decide +kernel

/-- and the second the list of key blocks. -/
theorem keys (x : S36.Idx) (h : (fn x0 x1 x2 x3 x4 x5 x6 x7).2 x = 1#1) :
    x1 x = Cert.Kernel2.Gen.pinT_1 0 x := by
  simp only [fn, fn_part1, fn_part2, cmpi, IntOp.cmpi, ofBool_eq_one, beq_iff_eq] at h
  refine h.trans ?_
  clear h
  revert x
  decide +kernel

end Tables

theorem pinned (m : (ℓ : Loc Cert.Kernel2.nD Cert.Kernel2.τ Cert.Kernel2.sig) → Buf (Elt Bits) ℓ)
    (h : Cert.Pre_Kernel2 m) : Cert.Kernel2.Gen.Pinned 0 m :=
  ⟨fun c => funext fun x => queries _ _ _ _ _ _ _ _ x (congrFun (h c).1 x),
    fun c => funext fun x => keys _ _ _ _ _ _ _ _ x (congrFun (h c).2 x)⟩

theorem pinned_ideal (m : (ℓ : Loc Cert.Kernel2Ideal.nD Cert.Kernel2Ideal.τ Cert.Kernel2Ideal.sig) → Buf (Elt Ideal) ℓ)
    (h : Cert.Pre_Kernel2Ideal m) : Cert.Kernel2Ideal.Gen.Pinned 0 m :=
  ⟨fun c => funext fun x => queries _ _ _ _ _ _ _ _ x (congrFun (h c).1 x),
    fun c => funext fun x => keys _ _ _ _ _ _ _ _ x (congrFun (h c).2 x)⟩

/-- The call and its idealization run and leave the memory they were given. -/
theorem frame_kernel : Cert.quiescent_Kernel2 := fun m ρ h => Cert.Kernel2.Gen.frame 0 m ρ (pinned m h)
theorem frame_ideal : Cert.quiescent_Kernel2Ideal := fun m ρ h => Cert.Kernel2Ideal.Gen.frame 0 m ρ (pinned_ideal m h)

end Cert.Proof.Attention

end
-- ==== Proof.MergeValue.lean ====
/-
  The gradient of the gated merge: what each block of the kernel's five results holds, element by element, is what the
  reference's composed term holds at the array index the block is placed at.
-/
module

public import proofs.«01_k».proof.Defs
public import proofs.«01_k».proof.Proof.Gen.KernelIdeal.Value
public import proofs.«01_k».proof.Proof.Gen.ReferenceIdeal.Read
public import Idealize.ShloMosaic.Lib.Pipeline.ValueKit
public import Idealize.ShloMosaic.Lib.Pointwise

@[expose] public section

noncomputable section

namespace Cert.KernelIdeal.Merge

open Idealize.ShloMosaic Idealize.ShloMosaic.TcCoe Idealize.SL.Sem
open Cert.KernelIdeal Cert.KernelIdeal.Gen Cert.KernelIdeal.Value
open Idealize.ShloMosaic.Pipeline (Dat)
open Cert.ReferenceIdeal.Read

variable (m : (ℓ : Loc nD τ sig) → Buf (Elt Ideal) ℓ)

/-- Every window's block index at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

theorem one_word : (FloatOps.ofBits .f32 0x3F800000#32 : Ideal .f32) = 1 := by
  show Ideal.ofBits .f32 0x3F800000#32 = 1
  simp

/-- The gates' block at a grid point: rows `512 t …` of the array, its first 2048 columns. -/
theorem gates (c : Dev nD) (t : Fin cfg0.N) (j : S512x2048.Idx) (i : S8192x5760.Idx) (h0 : (i 0).val = t.val * 512 + (j 0).val)
    (h1 : (i 1).val = (j 1).val) : X0_3 m c t j = m ((c : Thread nD τ).loc main_arg3) i := by
  unfold X0_3 Pipeline.Window.fill
  rw [dif_pos (moved0_3 t j)]
  blk_simp [iblk, V, idx t]
  congr 1
  blk_ext [idx t]

/-- The reference's sigmoid, spelt out, is the logistic function. -/
theorem logistic_ref (x : EReal) :
    Ideal.div (val_main_cst_0 (F := Ideal) ix0) (val_main_cst (F := Ideal) ix0 + Ideal.exp (-x)) = Ideal.logistic x := by
  rw [val_main_cst_apply, val_main_cst_0_apply, one_word]
  rfl

/-- The gradient of the first branch's product. -/
theorem final9 (c : Dev nD) :
    (dats m 0 c).arrAt 9 cfg0.N = val_main_v43 (F := Ideal) (m ((c : Thread nD τ).loc main_arg0)) (m ((c : Thread nD τ).loc main_arg3))
      (m ((c : Thread nD τ).loc main_arg6)) := by
  refine (dats m 0 c).arrAt_eq_of_covers 9 _ (by decide +kernel) fun t hf y => ?_
  blk_simp
  rw [after0_9]
  unfold outsAt0
  frame_out
  pointwise [k0_pay7, k0_pay6, k0_pay4, val_main_v43, val_main_v30, val_main_v18, val_main_v14, val_main_v13, val_main_v12, val_main_v11, val_main_v10, val_main_v9, val_main_v7, val_main_v6, val_main_v27, val_main_v24, val_main_v8]
  rw [mul_comm, logistic_ref]
  refine congrArg₂ (· * ·) (congrArg Ideal.logistic (gates m c t _ _ ?_ ?_)) ?_
  · blk_simp [idx t]
  · blk_simp [idx t]
  · blk_point [iblk, V, idx t]

/-- The gradient of the second branch's product. -/
theorem final10 (c : Dev nD) :
    (dats m 0 c).arrAt 10 cfg0.N = val_main_v44 (F := Ideal) (m ((c : Thread nD τ).loc main_arg0)) (m ((c : Thread nD τ).loc main_arg3))
      (m ((c : Thread nD τ).loc main_arg6)) := by
  refine (dats m 0 c).arrAt_eq_of_covers 10 _ (by decide +kernel) fun t hf y => ?_
  blk_simp
  rw [after0_10]
  unfold outsAt0
  frame_out
  pointwise [k0_pay8, k0_pay6, k0_pay5, val_main_v44, val_main_v28, val_main_v19, val_main_v14, val_main_v13, val_main_v12, val_main_v11, val_main_v10, val_main_v9, val_main_v7, val_main_v6, val_main_v27, val_main_v24, val_main_v8]
  rw [mul_comm, logistic_ref]
  refine congrArg₂ (· * ·) (congrArg Ideal.logistic (gates m c t _ _ ?_ ?_)) ?_
  · blk_simp [idx t]
  · blk_simp [idx t]
  · blk_point [iblk, V, idx t]

/-- The gradient of the first branch. -/
theorem final11 (c : Dev nD) :
    (dats m 0 c).arrAt 11 cfg0.N = val_main_v39 (F := Ideal) (m ((c : Thread nD τ).loc main_arg0)) (m ((c : Thread nD τ).loc main_arg3))
      (m ((c : Thread nD τ).loc main_arg4)) (m ((c : Thread nD τ).loc main_arg6)) := by
  refine (dats m 0 c).arrAt_eq_of_covers 11 _ (by decide +kernel) fun t hf y => ?_
  blk_simp
  rw [after0_11]
  unfold outsAt0
  frame_out
  pointwise [k0_pay2, k0_pay7, k0_pay6, k0_pay4, val_main_v39, val_main_v2, val_main_v30, val_main_v18, val_main_v14, val_main_v13, val_main_v12, val_main_v11, val_main_v10, val_main_v9, val_main_v7, val_main_v6, val_main_v27, val_main_v24, val_main_v8]
  refine Fin.sum_fin_congr fun k => ?_
  rw [logistic_ref]
  refine congrArg₂ (· * ·) ?_ ?_
  · rw [mul_comm]
    refine congrArg₂ (· * ·) (congrArg Ideal.logistic (gates m c t _ _ ?_ ?_)) ?_
    · blk_simp [idx t]
    · blk_simp [idx t]
    · blk_point [iblk, V, idx t]
  · blk_point [iblk, V, idx t]

/-- The gradient of the second branch. -/
theorem final12 (c : Dev nD) :
    (dats m 0 c).arrAt 12 cfg0.N = val_main_v36 (F := Ideal) (m ((c : Thread nD τ).loc main_arg0)) (m ((c : Thread nD τ).loc main_arg3))
      (m ((c : Thread nD τ).loc main_arg5)) (m ((c : Thread nD τ).loc main_arg6)) := by
  refine (dats m 0 c).arrAt_eq_of_covers 12 _ (by decide +kernel) fun t hf y => ?_
  blk_simp
  rw [after0_12]
  unfold outsAt0
  frame_out
  pointwise [k0_pay3, k0_pay8, k0_pay6, k0_pay5, val_main_v36, val_main_v3, val_main_v28, val_main_v19, val_main_v14, val_main_v13, val_main_v12, val_main_v11, val_main_v10, val_main_v9, val_main_v7, val_main_v6, val_main_v27, val_main_v24, val_main_v8]
  refine Fin.sum_fin_congr fun k => ?_
  rw [logistic_ref]
  refine congrArg₂ (· * ·) ?_ ?_
  · rw [mul_comm]
    refine congrArg₂ (· * ·) (congrArg Ideal.logistic (gates m c t _ _ ?_ ?_)) ?_
    · blk_simp [idx t]
    · blk_simp [idx t]
    · blk_point [iblk, V, idx t]
  · blk_point [iblk, V, idx t]

/-- The gradient of the gates, at the columns the call writes. -/
theorem after8 (c : Dev nD) (t : Fin cfg0.N) (y : S512x2048.Idx) (r : Fin 8192) (k : Fin 5760)
    (hr : r.val = t.val * 512 + (y 0).val) (hk : k.val = (y 1).val) :
    (dats m 0 c).after 8 t y = val_main_v42 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (ix2 r k) := by
  rw [after0_8]
  unfold outsAt0
  frame_out
  canon_tiles x h
  · pointwise [k0_pay1, k0_pay10, k0_pay6, k0_pay5, val_main_v42, val_main_v41, val_main_v40, val_main_v33, val_main_v32, val_main_v29, val_main_v31, val_main_v5, val_main_v4, val_main_v0, val_main_v1, val_main_v2, val_main_v3, val_main_v17, val_main_v16, val_main_v15, val_main_v14, val_main_v13, val_main_v12, val_main_v11, val_main_v10, val_main_v9, val_main_v7, val_main_v6, val_main_v27, val_main_v24, val_main_v8]
    rw [dif_pos (by omega), dif_neg (by omega), logistic_ref, val_main_cst_1_apply, one_word, ← mul_assoc]
    rw [gates m c t (ix2 (x 0) ⟨1024 + (x 1).val, by omega⟩) (ix2 r k) (by show r.val = _; rw [hr, h0]; rfl) (by show k.val = _; rw [hk, h1]; rfl)]
    refine congrArg (· * _) (congrArg (· * _) (congrArg₂ (· * ·) ?_ ?_))
    · blk_point [iblk, V, idx t]
    · blk_point [iblk, V, idx t]
  · pointwise [k0_pay9, k0_pay6, k0_pay4, val_main_v42, val_main_v41, val_main_v40, val_main_v33, val_main_v32, val_main_v29, val_main_v31, val_main_v5, val_main_v4, val_main_v0, val_main_v1, val_main_v2, val_main_v3, val_main_v17, val_main_v16, val_main_v15, val_main_v14, val_main_v13, val_main_v12, val_main_v11, val_main_v10, val_main_v9, val_main_v7, val_main_v6, val_main_v27, val_main_v24, val_main_v8]
    rw [dif_pos (by omega), dif_pos (by omega), logistic_ref, val_main_cst_1_apply, one_word, ← mul_assoc]
    rw [gates m c t (ix2 (x 0) ⟨(x 1).val, by omega⟩) (ix2 r k) (by show r.val = _; rw [hr, h0]; rfl) (by show k.val = _; rw [hk, h1]; rfl)]
    refine congrArg (· * _) (congrArg (· * _) (congrArg₂ (· * ·) ?_ ?_))
    · blk_point [iblk, V, idx t]
    · blk_point [iblk, V, idx t]

/-- Every block of the array of gate gradients is whole. -/
theorem whole8 : ∀ (t : Fin cfg0.N) (a : Fin 2), (![512, 2048] : Fin 2 → Nat) a ≤ win0_8.xsize (grid0.coords t) a :=
  (by decide +kernel : ∀ (t : Fin grid0.N) (a : Fin 2), _)

/-- The array of gate gradients at a column the call writes. -/
theorem final8 (c : Dev nD) (i : S8192x5760.Idx) (hi : (i 1).val < 2048) :
    (dats m 0 c).arrAt 8 cfg0.N i = val_main_v42 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) i := by
  have h0 : (i 0).val < 8192 := (i 0).isLt
  have hN : cfg0.N = 16 := N_0
  let t : Fin cfg0.N := ⟨(i 0).val / 512, by omega⟩
  have ht : t.val = (i 0).val / 512 := rfl
  let y : S512x2048.Idx := ix2 ⟨(i 0).val % 512, Nat.mod_lt _ (by omega)⟩ ⟨(i 1).val, hi⟩
  have hy0 : (y 0).val = (i 0).val % 512 := rfl
  have hy1 : (y 1).val = (i 1).val := rfl
  let z : ((cfg0.win 8).xblock (cfg0.grid.coords t)).Idx :=
    fun a => ⟨(y a).val, lt_of_lt_of_le (y a).isLt (whole8 t a)⟩
  have hz0 : (z 0 : Nat) = (i 0).val % 512 := rfl
  have hz1 : (z 1 : Nat) = (i 1).val := rfl
  have key := (dats m 0 c).arrAt_emb_eq_flushed 8 disjoint8 t (flush0_8 t) z
  have he : ((cfg0.win 8).blk t).view.emb z = i := by
    blk_ext [idx t]
  rw [he] at key
  rw [key]
  have hk := after8 m c t y (i 0) (i 1) (by omega) (by omega)
  rw [show (ix2 (i 0) (i 1) : S8192x5760.Idx) = i from by blk_ext] at hk
  exact hk

end Cert.KernelIdeal.Merge

end
-- ==== Proof.MergeClaims.lean ====
/- The claims about the backward pass of the gated merge, assembled from the runs of the two programs. -/
module

public import proofs.«01_k».proof.Defs
public import proofs.«01_k».proof.Proof.MergeValue
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.On_gate_columns
public import Idealize.ShloMosaic.Lib.Claim
public import Idealize.ShloMosaic.Lib.Quiescent

@[expose] public section

noncomputable section

open Idealize.ShloMosaic Idealize.ShloMosaic.TcCoe Idealize.SL.Sem

namespace Cert.On_gate_columns

variable {F : FTy → Type} [FloatOps F] [Facts]

/-- The mask on the array of gate gradients is set on the first 2048 columns only. -/
theorem gates_lt (x0 : FVec F S8192x1024 .bf16) (x1 x2 : FVec F S8192x512 .bf16) (x3 : FVec F S8192x5760 .bf16)
    (x4 x5 : FVec F S512x1024 .bf16) (x6 : FVec F S1024x1024 .bf16) (x7 : FVec F S8x128 .f32) (i : S8192x5760.Idx)
    (h : (fn x0 x1 x2 x3 x4 x5 x6 x7).1 i = 1#1) : (i 1 : Nat) < 2048 := by
  have h1 : (i 1 : Nat) < 5760 := (i 1).isLt
  have e : IntOp.cmpi .slt (BitVec.ofNat 32 (i 1 : Nat)) 2048#32 = 1#1 := h
  generalize (i 1 : Nat) = n at *
  by_contra hn
  have hv : (BitVec.ofNat 32 n).toInt = n := by
    rw [BitVec.toInt_eq_toNat_of_lt (by rw [BitVec.toNat_ofNat]; omega), BitVec.toNat_ofNat]; omega
  have e2 : BitVec.slt (BitVec.ofNat 32 n) 2048#32 = true := by
    by_contra hc
    have hf : BitVec.slt (BitVec.ofNat 32 n) 2048#32 = false := by simpa using hc
    change BitVec.ofBool (BitVec.slt (BitVec.ofNat 32 n) 2048#32) = 1#1 at e
    rw [hf] at e
    exact absurd e (by decide)
  rw [BitVec.slt, hv, decide_eq_true_eq, show (2048#32 : BitVec 32).toInt = 2048 from by decide] at e2
  omega

end Cert.On_gate_columns

namespace Cert.Proof.Merge

/-- The kernel and its idealization run and leave the memory they were given. -/
theorem frame_kernel : Cert.quiescent_Kernel := fun m ρ _ => Cert.Kernel.Gen.frame m ρ
theorem frame_ideal : Cert.quiescent_KernelIdeal := fun m ρ _ => Cert.KernelIdeal.Gen.frame m ρ

/-- The reference declares no semaphore; its run leaves its arguments as they were. -/
theorem frame_reference : Cert.quiescent_ReferenceIdeal := fun m ρ _ =>
  (θ_run Cert.ReferenceIdeal.defs _ _).mono (fun r h => ⟨fun c => (h c).2.2.2.2.2,
      sem_eq_zero_of_no_sems (by decide) r.2⟩)
    (Cert.ReferenceIdeal.Value.run (F := Ideal) m ρ)

/-- Every result of the call is the reference's: the gradients of the two branch outputs and of the two branch products
    at every index, the gradient of the gates on the gates' columns. -/
theorem algebraic : Cert.algebraic_KernelIdeal_ReferenceIdeal_on_gate_columns := by
  intro m ρ m' ρ' _ hagree
  refine ⟨fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N, ?_, ?_⟩
  · refine (θ_run Cert.KernelIdeal.defs _ _).mono (fun r h c => ?_) (Cert.KernelIdeal.Value.run_blocks (F := Ideal) m ρ)
    obtain ⟨r0, r1, r2, r3, r4, rest⟩ := h c
    exact ⟨fun i _ => congrFun r0 i, fun i _ => congrFun r1 i, fun i _ => congrFun r2 i, fun i _ => congrFun r3 i,
      fun i _ => congrFun r4 i, rest⟩
  · refine (θ_run Cert.ReferenceIdeal.defs _ _).mono (fun r h c => ?_) (Cert.ReferenceIdeal.Value.run (F := Ideal) m' ρ')
    obtain ⟨e0, e1, e2, e3, e4, e5, e6, e7⟩ := hagree c
    obtain ⟨r0, r1, r2, r3, r4, rest⟩ := h c
    replace r0 := r0.trans (Cert.ReferenceIdeal.Read.val_main_v42_eq _ _ _ _ _ _ _)
    rw [e0, e1, e2, e3, e4, e5, e6] at r0
    replace r1 := r1.trans (Cert.ReferenceIdeal.Read.val_main_v43_eq _ _ _)
    rw [e0, e3, e6] at r1
    replace r2 := r2.trans (Cert.ReferenceIdeal.Read.val_main_v44_eq _ _ _)
    rw [e0, e3, e6] at r2
    replace r3 := r3.trans (Cert.ReferenceIdeal.Read.val_main_v39_eq _ _ _ _)
    rw [e0, e3, e4, e6] at r3
    replace r4 := r4.trans (Cert.ReferenceIdeal.Read.val_main_v36_eq _ _ _ _)
    rw [e0, e3, e5, e6] at r4
    exact ⟨fun i hi => (congrFun r0 i).trans
        (Cert.KernelIdeal.Merge.final8 m c i (Cert.On_gate_columns.gates_lt _ _ _ _ _ _ _ _ i hi)).symm,
      fun i _ => congrFun (r1.trans (Cert.KernelIdeal.Merge.final9 m c).symm) i,
      fun i _ => congrFun (r2.trans (Cert.KernelIdeal.Merge.final10 m c).symm) i,
      fun i _ => congrFun (r3.trans (Cert.KernelIdeal.Merge.final11 m c).symm) i,
      fun i _ => congrFun (r4.trans (Cert.KernelIdeal.Merge.final12 m c).symm) i, rest⟩

end Cert.Proof.Merge

end
-- ==== Proof.FfnReal.lean ====
/-
  The backward pass of the feed-forward network over the real numbers: the values its two programs compute where every
  argument is finite, and the small facts that carry an extended real's arithmetic to them.
-/
module

public import Idealize.ShloMosaic.Lib.Pipeline.ValueKit
public import Idealize.ShloMosaic.Lib.Pointwise
public import Mathlib.Analysis.SpecialFunctions.Exp

@[expose] public section

noncomputable section

namespace Cert.Ffn

open Idealize.ShloMosaic

/-- The arguments, real: tokens, branch output, modulation rows, norm weight and bias, the three weights, the gradient. -/
structure Args where
  x : Fin 8192 → Fin 1024 → ℝ
  u : Fin 8192 → Fin 1024 → ℝ
  md : Fin 2 → Fin 8 → Fin 1024 → ℝ
  w : Fin 1024 → ℝ
  bi : Fin 1024 → ℝ
  wg : Fin 4 → Fin 704 → Fin 1024 → ℝ
  wu : Fin 4 → Fin 704 → Fin 1024 → ℝ
  wd : Fin 4 → Fin 704 → Fin 1024 → ℝ
  dz : Fin 8192 → Fin 1024 → ℝ

/-- The sequence a row belongs to. -/
def bat (r : Fin 8192) : Fin 2 := ⟨r.val / 4096, by omega⟩

/-- Row `t` of sequence `b` among all rows. -/
def row (b : Fin 2) (t : Fin 4096) : Fin 8192 := ⟨b.val * 4096 + t.val, by omega⟩

/-- The residual scale and the norm's guard, as their words read. -/
def al : ℝ := 9975792 / 8388608
def ep : ℝ := 10995116 / 1099511627776

theorem ep_pos : 0 < ep := by norm_num [ep]

namespace Args
variable (P : Args)

def g (r : Fin 8192) (d : Fin 1024) : ℝ := 1 + P.md (bat r) 2 d
def z (r : Fin 8192) (d : Fin 1024) : ℝ := al * P.x r d + P.g r d * P.u r d
def mu (r : Fin 8192) : ℝ := (∑ d, P.z r d) / 1024
def zc (r : Fin 8192) (d : Fin 1024) : ℝ := P.z r d - P.mu r
def va (r : Fin 8192) : ℝ := (∑ d, P.zc r d * P.zc r d) / 1024
def rs (r : Fin 8192) : ℝ := (√(P.va r + ep))⁻¹
def xh (r : Fin 8192) (d : Fin 1024) : ℝ := P.zc r d * P.rs r
def x1 (r : Fin 8192) (d : Fin 1024) : ℝ := P.xh r d * P.w d + P.bi d
def s4 (r : Fin 8192) (d : Fin 1024) : ℝ := 1 + P.md (bat r) 4 d
def h (r : Fin 8192) (d : Fin 1024) : ℝ := P.x1 r d * P.s4 r d + P.md (bat r) 3 d
def a (r : Fin 8192) (j : Fin 4) (q : Fin 704) : ℝ := ∑ d, P.h r d * P.wg j q d
def b (r : Fin 8192) (j : Fin 4) (q : Fin 704) : ℝ := ∑ d, P.h r d * P.wu j q d
def sg (r : Fin 8192) (j : Fin 4) (q : Fin 704) : ℝ := (1 + Real.exp (-P.a r j q))⁻¹
def hm (r : Fin 8192) (j : Fin 4) (q : Fin 704) : ℝ := P.a r j q * P.sg r j q * P.b r j q
def df (r : Fin 8192) (d : Fin 1024) : ℝ := (1 + P.md (bat r) 5 d) * P.dz r d
def dhm (r : Fin 8192) (j : Fin 4) (q : Fin 704) : ℝ := ∑ d, P.df r d * P.wd j q d
def da (r : Fin 8192) (j : Fin 4) (q : Fin 704) : ℝ :=
  P.dhm r j q * P.b r j q * (P.sg r j q * (1 + P.a r j q * (1 - P.sg r j q)))
def db (r : Fin 8192) (j : Fin 4) (q : Fin 704) : ℝ := P.dhm r j q * (P.a r j q * P.sg r j q)
/-- One slab's part of the gradient that comes back through the two input products. -/
def dhj (r : Fin 8192) (d : Fin 1024) (j : Fin 4) : ℝ :=
  (∑ q, P.da r j q * P.wg j q d) + ∑ q, P.db r j q * P.wu j q d
def dh (r : Fin 8192) (d : Fin 1024) : ℝ := ∑ j, P.dhj r d j
def dx1 (r : Fin 8192) (d : Fin 1024) : ℝ := al * P.dz r d + P.dh r d * P.s4 r d
def dxh (r : Fin 8192) (d : Fin 1024) : ℝ := P.dx1 r d * P.w d
def dz1 (r : Fin 8192) (d : Fin 1024) : ℝ :=
  P.rs r * (P.dxh r d - (∑ k, P.dxh r k) / 1024 - P.xh r d * ((∑ k, P.dxh r k * P.xh r k) / 1024))

/-- The two gathered results: the norm's weight and bias gradients, and each sequence's modulation gradients. -/
def sums (k : Fin 8) (d : Fin 1024) : ℝ :=
  if k.val = 0 then ∑ b, ∑ t, P.dx1 (row b t) d * P.xh (row b t) d else if k.val = 1 then ∑ b, ∑ t, P.dx1 (row b t) d else 0
def dmod (b : Fin 2) (k : Fin 8) (d : Fin 1024) : ℝ :=
  if k.val = 2 then ∑ t, P.dz1 (row b t) d * P.u (row b t) d else if k.val = 3 then ∑ t, P.dh (row b t) d
  else if k.val = 4 then ∑ t, P.dh (row b t) d * P.x1 (row b t) d else 0

theorem va_nonneg (r : Fin 8192) : 0 ≤ P.va r :=
  div_nonneg (Finset.sum_nonneg fun d _ => mul_self_nonneg _) (by norm_num)

theorem va_ep_pos (r : Fin 8192) : 0 < P.va r + ep := add_pos_of_nonneg_of_pos (P.va_nonneg r) ep_pos

/-- The centred rows sum to zero. -/
theorem sum_zc (r : Fin 8192) : ∑ d, P.zc r d = 0 := by
  simp only [zc, Finset.sum_sub_distrib, Finset.sum_const, Finset.card_univ, Fintype.card_fin, mu]
  ring

end Args

/-! ## Extended reals that are real -/

theorem coe_sum {n : Nat} (f : Fin n → ℝ) : (∑ k, (f k : EReal)) = ((∑ k, f k : ℝ) : EReal) := by
  induction n with
  | zero => simp
  | succ n ih => rw [Fin.sum_univ_succ, Fin.sum_univ_succ, ih, EReal.coe_add]

theorem div_1024 (r : ℝ) : Ideal.div (r : EReal) (Ideal.ofBits .f32 0x44800000#32) = ((r / 1024 : ℝ) : EReal) := by
  have h : Ideal.ofBits .f32 0x44800000#32 = ((1024 : ℝ) : EReal) := by
    simp [Ideal.ofBits, Ideal.ieee, -EReal.coe_mul]; norm_num
  rw [h, Ideal.div_coe (by norm_num), ← EReal.coe_mul]
  congr 1; ring

theorem al_word : Ideal.ofBits .f32 0x3F9837F0#32 = (al : EReal) := by
  simp [Ideal.ofBits, Ideal.ieee, -EReal.coe_mul, al]; norm_num

theorem ep_word : Ideal.ofBits .f32 0x3727C5AC#32 = (ep : EReal) := by
  simp [Ideal.ofBits, Ideal.ieee, -EReal.coe_mul, ep]; norm_num

theorem one_word : Ideal.ofBits .f32 0x3F800000#32 = ((1 : ℝ) : EReal) := by
  simp

theorem zero_word : Ideal.ofBits .f32 0x00000000#32 = ((0 : ℝ) : EReal) := by
  simp

theorem two_word : Ideal.ofBits .f32 0x40000000#32 = ((2 : ℝ) : EReal) := by
  simp [Ideal.ofBits, Ideal.ieee, -EReal.coe_mul]; norm_num

theorem half_word : Ideal.ofBits .f32 0xBF000000#32 = ((-(1 / 2) : ℝ) : EReal) := by
  simp [Ideal.ofBits, Ideal.ieee, -EReal.coe_mul]; norm_num

theorem rsqrt_pos {r : ℝ} (h : 0 < r) : Ideal.rsqrt (r : EReal) = (((√r)⁻¹ : ℝ) : EReal) := by
  rw [Ideal.rsqrt_coe, if_neg (not_lt.mpr h.le), if_neg h.ne']

theorem div_pos_coe {r : ℝ} (x : ℝ) (h : 0 < r) : Ideal.div (x : EReal) (r : EReal) = ((x / r : ℝ) : EReal) := by
  rw [Ideal.div_coe h.ne', ← EReal.coe_mul]
  congr 1; ring

end Cert.Ffn

end
-- ==== Proof.FfnHost.lean ====
/-
  The arrays the feed-forward network's backward pass is launched on, at finite arguments: the first norm's output and the
  two input products, computed before it, and each grid point's blocks of all eleven arrays, as real numbers.
-/
module

public import proofs.«01_k».proof.Defs
public import proofs.«01_k».proof.Proof.FfnReal
public import proofs.«01_k».proof.Proof.Gen.Kernel3Ideal.Value

@[expose] public section

noncomputable section

namespace Cert.Kernel3Ideal.Ffn

open Idealize.ShloMosaic Idealize.ShloMosaic.TcCoe Idealize.SL.Sem
open Cert.Kernel3Ideal Cert.Kernel3Ideal.Gen Cert.Ffn

/-- The argument arrays hold the real numbers `P` on device `c`. -/
structure Holds (m : (ℓ : Loc nD τ sig) → Buf (Elt Ideal) ℓ) (c : Dev nD) (P : Args) : Prop where
  x : ∀ r d, m ((c : Thread nD τ).loc main_arg0) (ix2 r d) = (P.x r d : EReal)
  u : ∀ r d, m ((c : Thread nD τ).loc main_arg1) (ix2 r d) = (P.u r d : EReal)
  md : ∀ b k d, m ((c : Thread nD τ).loc main_arg2) (ix3 b k d) = (P.md b k d : EReal)
  w : ∀ d, m ((c : Thread nD τ).loc main_arg3) (ix2 0 d) = (P.w d : EReal)
  bi : ∀ d, m ((c : Thread nD τ).loc main_arg4) (ix2 0 d) = (P.bi d : EReal)
  wg : ∀ j q d, m ((c : Thread nD τ).loc main_arg5) (ix3 j q d) = (P.wg j q d : EReal)
  wu : ∀ j q d, m ((c : Thread nD τ).loc main_arg6) (ix3 j q d) = (P.wu j q d : EReal)
  wd : ∀ j q d, m ((c : Thread nD τ).loc main_arg7) (ix3 j q d) = (P.wd j q d : EReal)
  dz : ∀ r d, m ((c : Thread nD τ).loc main_arg8) (ix2 r d) = (P.dz r d : EReal)

variable {m : (ℓ : Loc nD τ sig) → Buf (Elt Ideal) ℓ} {c : Dev nD} {P : Args} (H : Holds m c P)
include H

/-- The first norm's opened output is the real one. -/
theorem x1_open (r : Fin 8192) (h : r.val / 4096 < 2) (d : Fin 1024) (X : Fin 1024 → EReal)
    (hX : ∀ k, X k = Ideal.ofBits FTy.f32 1066940400#32 * m (c, Proc.tc.devRef main_arg0) (ix2 r k)
      + (1 + m (c, Proc.tc.devRef main_arg2) (ix3 ⟨r.val / 4096, h⟩ 2 k)) * m (c, Proc.tc.devRef main_arg1) (ix2 r k)) :
    (X d - Ideal.div (∑ k, X k) (Ideal.ofBits FTy.f32 1149239296#32))
        * Ideal.rsqrt (Ideal.div (∑ k, (X k - Ideal.div (∑ k, X k) (Ideal.ofBits FTy.f32 1149239296#32))
            * (X k - Ideal.div (∑ k, X k) (Ideal.ofBits FTy.f32 1149239296#32))) (Ideal.ofBits FTy.f32 1149239296#32)
          + Ideal.ofBits FTy.f32 925353388#32)
        * m (c, Proc.tc.devRef main_arg3) (ix2 0 d) + m (c, Proc.tc.devRef main_arg4) (ix2 0 d) = (P.x1 r d : EReal) := by
  have e0 : ∀ r d, m (c, Proc.tc.devRef main_arg0) (ix2 r d) = (P.x r d : EReal) := H.x
  have e1 : ∀ r d, m (c, Proc.tc.devRef main_arg1) (ix2 r d) = (P.u r d : EReal) := H.u
  have e2 : ∀ b k d, m (c, Proc.tc.devRef main_arg2) (ix3 b k d) = (P.md b k d : EReal) := H.md
  have e3 : ∀ d, m (c, Proc.tc.devRef main_arg3) (ix2 0 d) = (P.w d : EReal) := H.w
  have e4 : ∀ d, m (c, Proc.tc.devRef main_arg4) (ix2 0 d) = (P.bi d : EReal) := H.bi
  have hz : ∀ k, X k = (P.z r k : EReal) := by
    intro k
    rw [hX]
    simp only [e0, e1, e2, al_word, ep_word, div_1024, ← EReal.coe_one, ← EReal.coe_mul, ← EReal.coe_add, ← EReal.coe_sub, coe_sum]
    rfl
  have hmu : (∑ k, P.z r k) / 1024 = P.mu r := rfl
  have hzc : ∀ k, P.z r k - P.mu r = P.zc r k := fun _ => rfl
  have hva : (∑ k, P.zc r k * P.zc r k) / 1024 = P.va r := rfl
  simp only [hz, e3, e4, div_1024, ← EReal.coe_mul, ← EReal.coe_sub, coe_sum, hmu, hzc, hva, ep_word, ← EReal.coe_add,
    rsqrt_pos (P.va_ep_pos r)]
  rfl

theorem x1_entry (r : Fin 8192) (d : Fin 1024) : (V m c main_v35 : S8192x1024.Idx → EReal) (ix2 r d) = (P.x1 r d : EReal) := by
  entry_read
  pointwise
  exact x1_open H r _ d _ fun _ => rfl

theorem a_entry (r : Fin 8192) (j : Fin 4) (q : Fin 704) :
    (V m c main_v45 : S4x8192x704.Idx → EReal) (ix3 j r q) = (P.a r j q : EReal) := by
  have e2 : ∀ b k d, m (c, Proc.tc.devRef main_arg2) (ix3 b k d) = (P.md b k d : EReal) := H.md
  have e5 : ∀ j q d, m (c, Proc.tc.devRef main_arg5) (ix3 j q d) = (P.wg j q d : EReal) := H.wg
  entry_read
  pointwise
  have hs : ∑ d, (P.wg j q d : EReal) * (P.h r d : EReal) = (P.a r j q : EReal) := by
    simp only [← EReal.coe_mul, coe_sum, Args.a]; congr 1; exact Finset.sum_congr rfl fun d _ => mul_comm _ _
  show @Eq EReal _ _
  refine Eq.trans (Finset.sum_congr rfl fun d _ => ?_) hs
  refine congrArg₂ (· * ·) (e5 j q d) ?_
  refine (congrArg₂ (· + ·) (congrArg₂ (· * ·) (x1_open H r _ d _ fun _ => rfl) rfl) rfl).trans ?_
  simp only [e2, ← EReal.coe_one, ← EReal.coe_mul, ← EReal.coe_add]
  rfl

theorem b_entry (r : Fin 8192) (j : Fin 4) (q : Fin 704) :
    (V m c main_v48 : S4x8192x704.Idx → EReal) (ix3 j r q) = (P.b r j q : EReal) := by
  have e2 : ∀ b k d, m (c, Proc.tc.devRef main_arg2) (ix3 b k d) = (P.md b k d : EReal) := H.md
  have e5 : ∀ j q d, m (c, Proc.tc.devRef main_arg6) (ix3 j q d) = (P.wu j q d : EReal) := H.wu
  entry_read
  pointwise
  have hs : ∑ d, (P.wu j q d : EReal) * (P.h r d : EReal) = (P.b r j q : EReal) := by
    simp only [← EReal.coe_mul, coe_sum, Args.b]; congr 1; exact Finset.sum_congr rfl fun d _ => mul_comm _ _
  show @Eq EReal _ _
  refine Eq.trans (Finset.sum_congr rfl fun d _ => ?_) hs
  refine congrArg₂ (· * ·) (e5 j q d) ?_
  refine (congrArg₂ (· + ·) (congrArg₂ (· * ·) (x1_open H r _ d _ fun _ => rfl) rfl) rfl).trans ?_
  simp only [e2, ← EReal.coe_one, ← EReal.coe_mul, ← EReal.coe_add]
  rfl

end Cert.Kernel3Ideal.Ffn

end
-- ==== Proof.FfnPoint.lean ====
/-
  What one grid point of the feed-forward network's backward pass leaves in its windows and in its accumulator.
-/
module

public import proofs.«01_k».proof.Defs
public import proofs.«01_k».proof.Proof.Gen.Kernel3Ideal.Value
public import Idealize.ShloMosaic.Lib.Pipeline.ValueKit
public import Idealize.ShloMosaic.Lib.Pointwise
public import Idealize.ShloMosaic.Lib.Pipeline.ReadBack

@[expose] public section

noncomputable section

namespace Cert.Kernel3Ideal.Ffn

open Idealize.ShloMosaic Idealize.ShloMosaic.TcCoe Idealize.SL.Sem
open Cert.Kernel3Ideal Cert.Kernel3Ideal.Gen Cert.Kernel3Ideal.Value
open Idealize.ShloMosaic.Pipeline (Dat)

variable (m : (ℓ : Loc nD τ sig) → Buf (Elt Ideal) ℓ) (c : Dev nD) (t : Fin cfg0.N)

/-- Row `k` of the point's modulation block; the gradient of the network's output, of its hidden layer; the accumulator after
    the point's step over `A`; the gradient of the first norm's output; the norm's centred rows and mean squares; its backward pass. -/
abbrev mr2 := View.ld (iblk m c 9 t) (Rect.unit ![0, 2, 0] ![1, 1, 1024] inb_S1x8x1024_S1x1x1024_0_2_0)
abbrev mr4 := View.ld (iblk m c 9 t) (Rect.unit ![0, 4, 0] ![1, 1, 1024] inb_S1x8x1024_S1x1x1024_0_4_0)
abbrev mr5 := View.ld (iblk m c 9 t) (Rect.unit ![0, 5, 0] ![1, 1, 1024] inb_S1x8x1024_S1x1x1024_0_5_0)
def dfT : FVec Ideal S512x1024 .bf16 := k0_pay23 (mr5 m c t) (iblk m c 0 t)
def dhmT : FVec Ideal S512x704 .f32 := k0_pay25 (dfT m c t) (iblk m c 5 t)
def accT (A : Vec Ideal S512x1024 .f32) : FVec Ideal S512x1024 .f32 :=
  k0_pay5 (dhmT m c t) (k0_pay26 (iblk m c 1 t)) (k0_pay27 (iblk m c 2 t)) (k0_pay28 (iblk m c 1 t)) (k0_pay29 (iblk m c 1 t)) A
    (iblk m c 3 t) (iblk m c 4 t)
def dx1T (A : Vec Ideal S512x1024 .f32) : FVec Ideal S512x1024 .f32 := k0_pay9 A (iblk m c 0 t) (mr4 m c t)
def zcT : FVec Ideal S512x1024 .f32 := k0_pay10 (iblk m c 8 t) (iblk m c 7 t) (mr2 m c t)
def vaT : FVec Ideal S512x1 .f32 := k0_pay11 (iblk m c 8 t) (iblk m c 7 t) (mr2 m c t)
def dz1T (A : Vec Ideal S512x1024 .f32) : FVec Ideal S512x1024 .f32 := k0_pay14 (dx1T m c t A) (zcT m c t) (vaT m c t) (iblk m c 10 t)
/-- What the accumulator holds after a point. -/
abbrev scr := (outsAt0 m c t.val t.isLt).2.2.2.2.2.2.2.2
/-- What it held before. -/
abbrev scrB (h : 0 < t.val) := (outsAt0 m c (t.val - 1) (by have := t.isLt; omega)).2.2.2.2.2.2.2.2

/-- The block of the gate gradient. -/
theorem da_at : (outsAt0 m c t.val t.isLt).1 = k0_pay3 (dhmT m c t) (k0_pay26 (iblk m c 1 t)) (k0_pay27 (iblk m c 2 t)) (k0_pay28 (iblk m c 1 t)) := by
  by_cases h0 : t.val % 4 = 0
  · rw [outsAt0_A m c t h0 (by omega)]; frame_out; rfl
  by_cases h1 : t.val % 4 = 3
  swap
  · rw [outsAt0_B m c t h0 h1]; frame_out; rfl
  by_cases h2 : t.val < 4
  · rw [outsAt0_C m c t h0 h1 h2 (by omega) (by omega) (by omega)]; frame_out; rfl
  by_cases h4 : (t.val % 32 = 0 ∨ t.val % 32 = 1 ∨ t.val % 32 = 2 ∨ t.val % 32 = 3)
  · rw [outsAt0_E m c t h0 h1 h2 (by omega) h4 (by omega)]; frame_out; rfl
  · rw [outsAt0_D m c t h0 h1 h2 (by omega) h4 h4]; frame_out; rfl

/-- The block of the other factor's gradient. -/
theorem db_at : (outsAt0 m c t.val t.isLt).2.1 = k0_pay4 (dhmT m c t) (k0_pay29 (iblk m c 1 t)) := by
  by_cases h0 : t.val % 4 = 0
  · rw [outsAt0_A m c t h0 (by omega)]; frame_out; rfl
  by_cases h1 : t.val % 4 = 3
  swap
  · rw [outsAt0_B m c t h0 h1]; frame_out; rfl
  by_cases h2 : t.val < 4
  · rw [outsAt0_C m c t h0 h1 h2 (by omega) (by omega) (by omega)]; frame_out; rfl
  by_cases h4 : (t.val % 32 = 0 ∨ t.val % 32 = 1 ∨ t.val % 32 = 2 ∨ t.val % 32 = 3)
  · rw [outsAt0_E m c t h0 h1 h2 (by omega) h4 (by omega)]; frame_out; rfl
  · rw [outsAt0_D m c t h0 h1 h2 (by omega) h4 h4]; frame_out; rfl

/-- The block of the hidden layer. -/
theorem hm_at : (outsAt0 m c t.val t.isLt).2.2.1 = k0_pay30 (F := Ideal) (iblk m c 1 t) (iblk m c 2 t) := by
  by_cases h0 : t.val % 4 = 0
  · rw [outsAt0_A m c t h0 (by omega)]; frame_out
  by_cases h1 : t.val % 4 = 3
  swap
  · rw [outsAt0_B m c t h0 h1]; frame_out
  by_cases h2 : t.val < 4
  · rw [outsAt0_C m c t h0 h1 h2 (by omega) (by omega) (by omega)]; frame_out
  by_cases h4 : (t.val % 32 = 0 ∨ t.val % 32 = 1 ∨ t.val % 32 = 2 ∨ t.val % 32 = 3)
  · rw [outsAt0_E m c t h0 h1 h2 (by omega) h4 (by omega)]; frame_out
  · rw [outsAt0_D m c t h0 h1 h2 (by omega) h4 h4]; frame_out

/-- The block of the gradient of the network's output. -/
theorem df_at : (outsAt0 m c t.val t.isLt).2.2.2.1 = dfT m c t := by
  by_cases h0 : t.val % 4 = 0
  · rw [outsAt0_A m c t h0 (by omega)]; frame_out; rfl
  by_cases h1 : t.val % 4 = 3
  swap
  · rw [outsAt0_B m c t h0 h1]; frame_out; rfl
  by_cases h2 : t.val < 4
  · rw [outsAt0_C m c t h0 h1 h2 (by omega) (by omega) (by omega)]; frame_out; rfl
  by_cases h4 : (t.val % 32 = 0 ∨ t.val % 32 = 1 ∨ t.val % 32 = 2 ∨ t.val % 32 = 3)
  · rw [outsAt0_E m c t h0 h1 h2 (by omega) h4 (by omega)]; frame_out; rfl
  · rw [outsAt0_D m c t h0 h1 h2 (by omega) h4 h4]; frame_out; rfl

/-- A row block's first point starts the accumulator from zero. -/
theorem scr_first (h0 : t.val % 4 = 0) : scr m c t = accT m c t (k0_pay24 (F := Ideal)) := by
  unfold scr
  rw [outsAt0_A m c t h0 (by omega)]; frame_out; rfl

/-- Every later point adds to what the point before left. -/
theorem scr_next (h0 : ¬t.val % 4 = 0) : scr m c t = accT m c t (scrB m c t (by omega)) := by
  unfold scr scrB
  by_cases h1 : t.val % 4 = 3
  swap
  · rw [outsAt0_B m c t h0 h1]; frame_out; rw [read_unread_whole]; rfl
  by_cases h2 : t.val < 4
  · rw [outsAt0_C m c t h0 h1 h2 (by omega) (by omega) (by omega)]; frame_out; rw [read_unread_whole]; rfl
  by_cases h4 : (t.val % 32 = 0 ∨ t.val % 32 = 1 ∨ t.val % 32 = 2 ∨ t.val % 32 = 3)
  · rw [outsAt0_E m c t h0 h1 h2 (by omega) h4 (by omega)]; frame_out; rw [read_unread_whole]; rfl
  · rw [outsAt0_D m c t h0 h1 h2 (by omega) h4 h4]; frame_out; rw [read_unread_whole]; rfl

/-- At a row block's last point: the gradient of the branch output. -/
theorem du_at (h1 : t.val % 4 = 3) : (outsAt0 m c t.val t.isLt).2.2.2.2.1 = k0_pay15 (dx1T m c t (scr m c t)) (zcT m c t) (vaT m c t) (iblk m c 10 t) (mr2 m c t) := by
  have h0 : ¬t.val % 4 = 0 := by omega
  by_cases h2 : t.val < 4
  · rw [scr_next m c t h0]; unfold scrB; rw [outsAt0_C m c t h0 h1 h2 (by omega) (by omega) (by omega)]; frame_out; rw [read_unread_whole]; rfl
  by_cases h4 : (t.val % 32 = 0 ∨ t.val % 32 = 1 ∨ t.val % 32 = 2 ∨ t.val % 32 = 3)
  · rw [scr_next m c t h0]; unfold scrB; rw [outsAt0_E m c t h0 h1 h2 (by omega) h4 (by omega)]; frame_out; rw [read_unread_whole]; rfl
  · rw [scr_next m c t h0]; unfold scrB; rw [outsAt0_D m c t h0 h1 h2 (by omega) h4 h4]; frame_out; rw [read_unread_whole]; rfl

/-- At a row block's last point: the gradient of the tokens. -/
theorem dx_at (h1 : t.val % 4 = 3) : (outsAt0 m c t.val t.isLt).2.2.2.2.2.1 = k0_pay16 (dx1T m c t (scr m c t)) (zcT m c t) (vaT m c t) (iblk m c 10 t) := by
  have h0 : ¬t.val % 4 = 0 := by omega
  by_cases h2 : t.val < 4
  · rw [scr_next m c t h0]; unfold scrB; rw [outsAt0_C m c t h0 h1 h2 (by omega) (by omega) (by omega)]; frame_out; rw [read_unread_whole]; rfl
  by_cases h4 : (t.val % 32 = 0 ∨ t.val % 32 = 1 ∨ t.val % 32 = 2 ∨ t.val % 32 = 3)
  · rw [scr_next m c t h0]; unfold scrB; rw [outsAt0_E m c t h0 h1 h2 (by omega) h4 (by omega)]; frame_out; rw [read_unread_whole]; rfl
  · rw [scr_next m c t h0]; unfold scrB; rw [outsAt0_D m c t h0 h1 h2 (by omega) h4 h4]; frame_out; rw [read_unread_whole]; rfl

/-- The running sums: set at the first row block's last point, added to at the later ones' last points, carried otherwise. -/
theorem st_first (h1 : t.val % 4 = 3) (h2 : t.val < 4) : (outsAt0 m c t.val t.isLt).2.2.2.2.2.2.1 = k0_pay19 (k0_pay17 (dx1T m c t (scr m c t)) (zcT m c t) (vaT m c t)) (k0_pay18 (dx1T m c t (scr m c t))) := by
  have h0 : ¬t.val % 4 = 0 := by omega
  rw [scr_next m c t h0]; unfold scrB; rw [outsAt0_C m c t h0 h1 h2 (by omega) (by omega) (by omega)]; frame_out; rw [read_unread_whole]; rfl

theorem st_next (h1 : t.val % 4 = 3) (h2 : ¬t.val < 4) : (outsAt0 m c t.val t.isLt).2.2.2.2.2.2.1 = k0_pay21 (k0_pay17 (dx1T m c t (scr m c t)) (zcT m c t) (vaT m c t)) (k0_pay18 (dx1T m c t (scr m c t))) (outsAt0 m c (t.val - 1) (by have := t.isLt; omega)).2.2.2.2.2.2.1 := by
  have h0 : ¬t.val % 4 = 0 := by omega
  by_cases h4 : (t.val % 32 = 0 ∨ t.val % 32 = 1 ∨ t.val % 32 = 2 ∨ t.val % 32 = 3)
  · rw [scr_next m c t h0]; unfold scrB; rw [outsAt0_E m c t h0 h1 h2 (by omega) h4 (by omega)]; frame_out; rw [read_unread_whole]; rfl
  · rw [scr_next m c t h0]; unfold scrB; rw [outsAt0_D m c t h0 h1 h2 (by omega) h4 h4]; frame_out; rw [read_unread_whole]; rfl

theorem st_keep (h1 : ¬t.val % 4 = 3) (hp : 0 < t.val) : (outsAt0 m c t.val t.isLt).2.2.2.2.2.2.1 = (outsAt0 m c (t.val - 1) (by have := t.isLt; omega)).2.2.2.2.2.2.1 := by
  by_cases h0 : t.val % 4 = 0
  · rw [outsAt0_A m c t h0 h1]; frame_out; unfold out0_A_17; rfl
  · rw [outsAt0_B m c t h0 h1]; frame_out; unfold out0_B_17; rfl

/-- The modulation sums, the same within a sequence. -/
theorem dm_first (h1 : t.val % 4 = 3) (h4 : (t.val % 32 = 0 ∨ t.val % 32 = 1 ∨ t.val % 32 = 2 ∨ t.val % 32 = 3)) : (outsAt0 m c t.val t.isLt).2.2.2.2.2.2.2.1 = k0_pay22 (scr m c t) (k0_pay7 (iblk m c 6 t)) (k0_pay8 (iblk m c 8 t)) (dz1T m c t (scr m c t)) := by
  have h0 : ¬t.val % 4 = 0 := by omega
  by_cases h2 : t.val < 4
  · rw [scr_next m c t h0]; unfold scrB; rw [outsAt0_C m c t h0 h1 h2 (by omega) (by omega) (by omega)]; frame_out; rw [read_unread_whole]; rfl
  · rw [scr_next m c t h0]; unfold scrB; rw [outsAt0_E m c t h0 h1 h2 (by omega) h4 (by omega)]; frame_out; rw [read_unread_whole]; rfl

theorem dm_next (h1 : t.val % 4 = 3) (h4 : ¬(t.val % 32 = 0 ∨ t.val % 32 = 1 ∨ t.val % 32 = 2 ∨ t.val % 32 = 3)) : (outsAt0 m c t.val t.isLt).2.2.2.2.2.2.2.1 = k0_pay6 (k0_pay20 (scr m c t) (k0_pay7 (iblk m c 6 t)) (k0_pay8 (iblk m c 8 t)) (dz1T m c t (scr m c t))) (outsAt0 m c (t.val - 1) (by have := t.isLt; omega)).2.2.2.2.2.2.2.1 := by
  have h0 : ¬t.val % 4 = 0 := by omega
  have h2 : ¬t.val < 4 := by omega
  rw [scr_next m c t h0]; unfold scrB; rw [outsAt0_D m c t h0 h1 h2 (by omega) h4 h4]; frame_out; rw [read_unread_whole]; rfl

theorem dm_keep (h1 : ¬t.val % 4 = 3) (hp : 0 < t.val) : (outsAt0 m c t.val t.isLt).2.2.2.2.2.2.2.1 = (outsAt0 m c (t.val - 1) (by have := t.isLt; omega)).2.2.2.2.2.2.2.1 := by
  by_cases h0 : t.val % 4 = 0
  · rw [outsAt0_A m c t h0 h1]; frame_out; unfold out0_A_18; rfl
  · rw [outsAt0_B m c t h0 h1]; frame_out; unfold out0_B_18; rfl

end Cert.Kernel3Ideal.Ffn

end
-- ==== Proof.FfnBlock.lean ====
/-
  Each grid point's blocks of the feed-forward network's backward pass, and what the point computes from them, as real
  numbers.
-/
module

public import proofs.«01_k».proof.Proof.FfnHost
public import proofs.«01_k».proof.Proof.FfnPoint
public import proofs.«01_k».proof.Proof.FfnReal
public import Idealize.ShloMosaic.Lib.Pipeline.ValueKit
public import Idealize.ShloMosaic.Lib.Pointwise

@[expose] public section

noncomputable section

namespace Cert.Kernel3Ideal.Ffn

open Idealize.ShloMosaic Idealize.ShloMosaic.TcCoe Idealize.SL.Sem
open Cert.Kernel3Ideal Cert.Kernel3Ideal.Gen Cert.Ffn

/-- The windows' blocks at a point. -/
theorem idx : ∀ t : Fin cfg0.N, win0_0.index t = ![t.val / 4, 0] ∧ win0_1.index t = ![t.val % 4, t.val / 4, 0]
    ∧ win0_2.index t = ![t.val % 4, t.val / 4, 0] ∧ win0_3.index t = ![t.val % 4, 0, 0] ∧ win0_4.index t = ![t.val % 4, 0, 0]
    ∧ win0_5.index t = ![t.val % 4, 0, 0] ∧ win0_6.index t = ![t.val / 4, 0] ∧ win0_7.index t = ![t.val / 4, 0]
    ∧ win0_8.index t = ![t.val / 4, 0] ∧ win0_9.index t = ![t.val / 32, 0, 0] ∧ win0_10.index t = ![0, 0] :=
  (by decide +kernel : ∀ t : Fin grid0.N, _)

theorem lt64 (t : Fin cfg0.N) : t.val < 64 := t.isLt

/-- A block's row among all rows, and the point's slab and sequence. -/
def rw_ (t : Fin cfg0.N) (p : Fin 512) : Fin 8192 := ⟨t.val / 4 * 512 + p.val, by have := lt64 t; omega⟩
def sl (t : Fin cfg0.N) : Fin 4 := ⟨t.val % 4, by omega⟩
def sq (t : Fin cfg0.N) : Fin 2 := ⟨t.val / 32, by have := lt64 t; omega⟩

theorem bat_rw (t : Fin cfg0.N) (p : Fin 512) : bat (rw_ t p) = sq t := by
  apply Fin.ext; simp only [bat, rw_, sq]; have := lt64 t; omega

variable {m : (ℓ : Loc nD τ sig) → Buf (Elt Ideal) ℓ} {c : Dev nD} {P : Args} (H : Holds m c P) (t : Fin cfg0.N)
include H

theorem blk0 (p : Fin 512) (d : Fin 1024) : iblk m c 0 t (ix2 p d) = (P.dz (rw_ t p) d : EReal) := by
  rw [← H.dz]
  blk_point [iblk, idx t] <;> rfl

theorem blk1 (p : Fin 512) (q : Fin 704) : iblk m c 1 t (ix3 0 p q) = (P.a (rw_ t p) (sl t) q : EReal) := by
  rw [← a_entry H]
  blk_point [iblk, idx t] <;> rfl

theorem blk2 (p : Fin 512) (q : Fin 704) : iblk m c 2 t (ix3 0 p q) = (P.b (rw_ t p) (sl t) q : EReal) := by
  rw [← b_entry H]
  blk_point [iblk, idx t] <;> rfl

theorem blk3 (q : Fin 704) (d : Fin 1024) : iblk m c 3 t (ix3 0 q d) = (P.wg (sl t) q d : EReal) := by
  rw [← H.wg]
  blk_point [iblk, idx t] <;> rfl

theorem blk4 (q : Fin 704) (d : Fin 1024) : iblk m c 4 t (ix3 0 q d) = (P.wu (sl t) q d : EReal) := by
  rw [← H.wu]
  blk_point [iblk, idx t] <;> rfl

theorem blk5 (q : Fin 704) (d : Fin 1024) : iblk m c 5 t (ix3 0 q d) = (P.wd (sl t) q d : EReal) := by
  rw [← H.wd]
  blk_point [iblk, idx t] <;> rfl

theorem blk6 (p : Fin 512) (d : Fin 1024) : iblk m c 6 t (ix2 p d) = (P.x1 (rw_ t p) d : EReal) := by
  rw [← x1_entry H]
  blk_point [iblk, idx t] <;> rfl

theorem blk7 (p : Fin 512) (d : Fin 1024) : iblk m c 7 t (ix2 p d) = (P.x (rw_ t p) d : EReal) := by
  rw [← H.x]
  blk_point [iblk, idx t] <;> rfl

theorem blk8 (p : Fin 512) (d : Fin 1024) : iblk m c 8 t (ix2 p d) = (P.u (rw_ t p) d : EReal) := by
  rw [← H.u]
  blk_point [iblk, idx t] <;> rfl

theorem blk9 (k : Fin 8) (d : Fin 1024) : iblk m c 9 t (ix3 0 k d) = (P.md (sq t) k d : EReal) := by
  rw [← H.md]
  blk_point [iblk, idx t] <;> rfl

theorem blk10 (d : Fin 1024) : iblk m c 10 t (ix2 0 d) = (P.w d : EReal) := by
  rw [← H.w]
  blk_point [iblk, idx t]

theorem row2 (d : Fin 1024) : mr2 m c t (ix3 0 0 d) = (P.md (sq t) 2 d : EReal) := by
  rw [← blk9 H t 2 d]
  refine congrArg (iblk m c 9 t) (funext fun a => ?_)
  fin_cases a <;> apply Fin.ext <;> simp [LoadRect.idx_apply, Rect.unit, ix3]

theorem row4 (d : Fin 1024) : mr4 m c t (ix3 0 0 d) = (P.md (sq t) 4 d : EReal) := by
  rw [← blk9 H t 4 d]
  refine congrArg (iblk m c 9 t) (funext fun a => ?_)
  fin_cases a <;> apply Fin.ext <;> simp [LoadRect.idx_apply, Rect.unit, ix3]

theorem row5 (d : Fin 1024) : mr5 m c t (ix3 0 0 d) = (P.md (sq t) 5 d : EReal) := by
  rw [← blk9 H t 5 d]
  refine congrArg (iblk m c 9 t) (funext fun a => ?_)
  fin_cases a <;> apply Fin.ext <;> simp [LoadRect.idx_apply, Rect.unit, ix3]

theorem v_df (p : Fin 512) (d : Fin 1024) : dfT m c t (ix2 p d) = ((P.df (rw_ t p) d : ℝ) : EReal) := by
  pointwise [dfT, k0_pay23]
  simp only [row5 H t, blk0 H t, al_word, ep_word, one_word, zero_word, div_1024, ← EReal.coe_one, ← EReal.coe_zero, ← EReal.coe_neg, ← EReal.coe_mul, ← EReal.coe_add, ← EReal.coe_sub, coe_sum]
  simp only [Args.df, bat_rw]

theorem v_dhm (p : Fin 512) (q : Fin 704) : dhmT m c t (ix2 p q) = ((P.dhm (rw_ t p) (sl t) q : ℝ) : EReal) := by
  pointwise [dhmT, k0_pay25]
  simp only [v_df H t, blk5 H t, al_word, ep_word, one_word, zero_word, div_1024, ← EReal.coe_one, ← EReal.coe_zero, ← EReal.coe_neg, ← EReal.coe_mul, ← EReal.coe_add, ← EReal.coe_sub, coe_sum]
  simp only [Args.dhm, zero_add, add_zero]

theorem v_a (p : Fin 512) (q : Fin 704) : k0_pay26 (F := Ideal) (iblk m c 1 t) (ix2 p q) = ((P.a (rw_ t p) (sl t) q : ℝ) : EReal) := by
  pointwise [k0_pay26]
  simp only [blk1 H t, al_word, ep_word, one_word, zero_word, div_1024, ← EReal.coe_one, ← EReal.coe_zero, ← EReal.coe_neg, ← EReal.coe_mul, ← EReal.coe_add, ← EReal.coe_sub, coe_sum]
  try rfl

theorem v_b (p : Fin 512) (q : Fin 704) : k0_pay27 (F := Ideal) (iblk m c 2 t) (ix2 p q) = ((P.b (rw_ t p) (sl t) q : ℝ) : EReal) := by
  pointwise [k0_pay27]
  simp only [blk2 H t, al_word, ep_word, one_word, zero_word, div_1024, ← EReal.coe_one, ← EReal.coe_zero, ← EReal.coe_neg, ← EReal.coe_mul, ← EReal.coe_add, ← EReal.coe_sub, coe_sum]
  try rfl

theorem v_sg (p : Fin 512) (q : Fin 704) : k0_pay28 (F := Ideal) (iblk m c 1 t) (ix2 p q) = ((P.sg (rw_ t p) (sl t) q : ℝ) : EReal) := by
  pointwise [k0_pay28]
  simp only [v_a H t, Ideal.logistic_coe, al_word, ep_word, one_word, zero_word, div_1024, ← EReal.coe_one, ← EReal.coe_zero, ← EReal.coe_neg, ← EReal.coe_mul, ← EReal.coe_add, ← EReal.coe_sub, coe_sum]
  rfl

theorem v_asg (p : Fin 512) (q : Fin 704) : k0_pay29 (F := Ideal) (iblk m c 1 t) (ix2 p q) = ((P.a (rw_ t p) (sl t) q * P.sg (rw_ t p) (sl t) q : ℝ) : EReal) := by
  pointwise [k0_pay29]
  simp only [v_a H t, v_sg H t, al_word, ep_word, one_word, zero_word, div_1024, ← EReal.coe_one, ← EReal.coe_zero, ← EReal.coe_neg, ← EReal.coe_mul, ← EReal.coe_add, ← EReal.coe_sub, coe_sum]
  try rfl

theorem v_da (p : Fin 512) (q : Fin 704) : k0_pay1 (dhmT m c t) (k0_pay26 (iblk m c 1 t)) (k0_pay27 (iblk m c 2 t)) (k0_pay28 (iblk m c 1 t)) (ix2 p q) = ((P.da (rw_ t p) (sl t) q : ℝ) : EReal) := by
  pointwise [k0_pay1]
  simp only [v_dhm H t, v_a H t, v_b H t, v_sg H t, al_word, ep_word, one_word, zero_word, div_1024, ← EReal.coe_one, ← EReal.coe_zero, ← EReal.coe_neg, ← EReal.coe_mul, ← EReal.coe_add, ← EReal.coe_sub, coe_sum]
  rfl

theorem v_db (p : Fin 512) (q : Fin 704) : k0_pay2 (dhmT m c t) (k0_pay29 (iblk m c 1 t)) (ix2 p q) = ((P.db (rw_ t p) (sl t) q : ℝ) : EReal) := by
  pointwise [k0_pay2]
  simp only [v_dhm H t, v_asg H t, al_word, ep_word, one_word, zero_word, div_1024, ← EReal.coe_one, ← EReal.coe_zero, ← EReal.coe_neg, ← EReal.coe_mul, ← EReal.coe_add, ← EReal.coe_sub, coe_sum]
  rfl

theorem o_da (p : Fin 512) (q : Fin 704) : (outsAt0 m c t.val t.isLt).1 (ix3 0 p q) = ((P.da (rw_ t p) (sl t) q : ℝ) : EReal) := by
  rw [da_at m c t]
  pointwise [k0_pay3]
  simp only [v_da H t, al_word, ep_word, one_word, zero_word, div_1024, ← EReal.coe_one, ← EReal.coe_zero, ← EReal.coe_neg, ← EReal.coe_mul, ← EReal.coe_add, ← EReal.coe_sub, coe_sum]
  try rfl

theorem o_db (p : Fin 512) (q : Fin 704) : (outsAt0 m c t.val t.isLt).2.1 (ix3 0 p q) = ((P.db (rw_ t p) (sl t) q : ℝ) : EReal) := by
  rw [db_at m c t]
  pointwise [k0_pay4]
  simp only [v_db H t, al_word, ep_word, one_word, zero_word, div_1024, ← EReal.coe_one, ← EReal.coe_zero, ← EReal.coe_neg, ← EReal.coe_mul, ← EReal.coe_add, ← EReal.coe_sub, coe_sum]
  try rfl

theorem o_hm (p : Fin 512) (q : Fin 704) : (outsAt0 m c t.val t.isLt).2.2.1 (ix3 0 p q) = ((P.hm (rw_ t p) (sl t) q : ℝ) : EReal) := by
  rw [hm_at m c t]
  pointwise [k0_pay30]
  simp only [v_asg H t, v_b H t, al_word, ep_word, one_word, zero_word, div_1024, ← EReal.coe_one, ← EReal.coe_zero, ← EReal.coe_neg, ← EReal.coe_mul, ← EReal.coe_add, ← EReal.coe_sub, coe_sum]
  rfl

theorem o_df (p : Fin 512) (d : Fin 1024) : (outsAt0 m c t.val t.isLt).2.2.2.1 (ix2 p d) = (P.df (rw_ t p) d : EReal) := by
  rw [df_at m c t]
  exact v_df H t p d

theorem v_acc (p : Fin 512) (d : Fin 1024) (A : Vec Ideal S512x1024 .f32) (s : ℝ) (hA : A (ix2 p d) = (s : EReal)) : accT m c t A (ix2 p d) = ((s + P.dhj (rw_ t p) d (sl t) : ℝ) : EReal) := by
  pointwise [accT, k0_pay5]
  simp only [hA, v_da H t, v_db H t, blk3 H t, blk4 H t, al_word, ep_word, one_word, zero_word, div_1024, ← EReal.coe_one, ← EReal.coe_zero, ← EReal.coe_neg, ← EReal.coe_mul, ← EReal.coe_add, ← EReal.coe_sub, coe_sum]
  simp only [Args.dhj, zero_add, add_zero]

theorem v_dx1 (A : Vec Ideal S512x1024 .f32) (hA : ∀ p d, A (ix2 p d) = (P.dh (rw_ t p) d : EReal)) (p : Fin 512) (d : Fin 1024) : dx1T m c t A (ix2 p d) = ((P.dx1 (rw_ t p) d : ℝ) : EReal) := by
  pointwise [dx1T, k0_pay9]
  simp only [hA, blk0 H t, row4 H t, al_word, ep_word, one_word, zero_word, div_1024, ← EReal.coe_one, ← EReal.coe_zero, ← EReal.coe_neg, ← EReal.coe_mul, ← EReal.coe_add, ← EReal.coe_sub, coe_sum]
  simp only [Args.dx1, Args.s4, bat_rw]

theorem v_zc (p : Fin 512) (d : Fin 1024) : zcT m c t (ix2 p d) = ((P.zc (rw_ t p) d : ℝ) : EReal) := by
  pointwise [zcT, k0_pay10, k0_pay8]
  simp only [blk7 H t, blk8 H t, row2 H t, al_word, ep_word, one_word, zero_word, div_1024, ← EReal.coe_one, ← EReal.coe_zero, ← EReal.coe_neg, ← EReal.coe_mul, ← EReal.coe_add, ← EReal.coe_sub, coe_sum]
  simp only [Args.zc, Args.mu, Args.z, Args.g, bat_rw]

theorem v_va (p : Fin 512) : vaT m c t (ix2 p 0) = ((P.va (rw_ t p) : ℝ) : EReal) := by
  have e : vaT m c t = k0_pay11 (iblk m c 8 t) (iblk m c 7 t) (mr2 m c t) := rfl
  have e' : k0_pay10 (F := Ideal) (iblk m c 8 t) (iblk m c 7 t) (mr2 m c t) = zcT m c t := rfl
  rw [e]
  unfold k0_pay11
  rw [e']
  pointwise [k0_pay11]
  simp only [v_zc H t, al_word, ep_word, one_word, zero_word, div_1024, ← EReal.coe_one, ← EReal.coe_zero, ← EReal.coe_neg, ← EReal.coe_mul, ← EReal.coe_add, ← EReal.coe_sub, coe_sum]
  rfl

theorem v_rs (p : Fin 512) : k0_pay12 (vaT m c t) (ix2 p 0) = ((P.rs (rw_ t p) : ℝ) : EReal) := by
  pointwise [k0_pay12]
  simp only [v_va H t, rsqrt_pos (P.va_ep_pos _), al_word, ep_word, one_word, zero_word, div_1024, ← EReal.coe_one, ← EReal.coe_zero, ← EReal.coe_neg, ← EReal.coe_mul, ← EReal.coe_add, ← EReal.coe_sub, coe_sum]
  rfl

theorem v_xh (p : Fin 512) (d : Fin 1024) : k0_pay13 (zcT m c t) (vaT m c t) (ix2 p d) = ((P.xh (rw_ t p) d : ℝ) : EReal) := by
  pointwise [k0_pay13]
  simp only [v_zc H t, v_rs H t, al_word, ep_word, one_word, zero_word, div_1024, ← EReal.coe_one, ← EReal.coe_zero, ← EReal.coe_neg, ← EReal.coe_mul, ← EReal.coe_add, ← EReal.coe_sub, coe_sum]
  rfl

theorem v_dz1 (A : Vec Ideal S512x1024 .f32) (hA : ∀ p d, A (ix2 p d) = (P.dh (rw_ t p) d : EReal)) (p : Fin 512) (d : Fin 1024) : dz1T m c t A (ix2 p d) = ((P.dz1 (rw_ t p) d : ℝ) : EReal) := by
  pointwise [dz1T, k0_pay14]
  simp only [v_dx1 H t A hA, v_xh H t, v_rs H t, blk10 H t, al_word, ep_word, one_word, zero_word, div_1024, ← EReal.coe_one, ← EReal.coe_zero, ← EReal.coe_neg, ← EReal.coe_mul, ← EReal.coe_add, ← EReal.coe_sub, coe_sum]
  rfl

theorem v_du (A : Vec Ideal S512x1024 .f32) (hA : ∀ p d, A (ix2 p d) = (P.dh (rw_ t p) d : EReal)) (p : Fin 512) (d : Fin 1024) : k0_pay15 (dx1T m c t A) (zcT m c t) (vaT m c t) (iblk m c 10 t) (mr2 m c t) (ix2 p d) = ((P.g (rw_ t p) d * P.dz1 (rw_ t p) d : ℝ) : EReal) := by
  have e : k0_pay14 (F := Ideal) (dx1T m c t A) (zcT m c t) (vaT m c t) (iblk m c 10 t) = dz1T m c t A := rfl
  pointwise [k0_pay15]
  simp only [e, v_dz1 H t A hA, row2 H t, al_word, ep_word, one_word, zero_word, div_1024, ← EReal.coe_one, ← EReal.coe_zero, ← EReal.coe_neg, ← EReal.coe_mul, ← EReal.coe_add, ← EReal.coe_sub, coe_sum]
  simp only [Args.g, bat_rw]

theorem v_dx (A : Vec Ideal S512x1024 .f32) (hA : ∀ p d, A (ix2 p d) = (P.dh (rw_ t p) d : EReal)) (p : Fin 512) (d : Fin 1024) : k0_pay16 (dx1T m c t A) (zcT m c t) (vaT m c t) (iblk m c 10 t) (ix2 p d) = ((al * P.dz1 (rw_ t p) d : ℝ) : EReal) := by
  have e : k0_pay14 (F := Ideal) (dx1T m c t A) (zcT m c t) (vaT m c t) (iblk m c 10 t) = dz1T m c t A := rfl
  pointwise [k0_pay16]
  simp only [e, v_dz1 H t A hA, al_word, ep_word, one_word, zero_word, div_1024, ← EReal.coe_one, ← EReal.coe_zero, ← EReal.coe_neg, ← EReal.coe_mul, ← EReal.coe_add, ← EReal.coe_sub, coe_sum]
  try rfl

theorem v_sw (A : Vec Ideal S512x1024 .f32) (hA : ∀ p d, A (ix2 p d) = (P.dh (rw_ t p) d : EReal)) (d : Fin 1024) : k0_pay17 (dx1T m c t A) (zcT m c t) (vaT m c t) (ix2 0 d) = ((∑ p, P.dx1 (rw_ t p) d * P.xh (rw_ t p) d : ℝ) : EReal) := by
  pointwise [k0_pay17]
  simp only [v_dx1 H t A hA, v_xh H t, al_word, ep_word, one_word, zero_word, div_1024, ← EReal.coe_one, ← EReal.coe_zero, ← EReal.coe_neg, ← EReal.coe_mul, ← EReal.coe_add, ← EReal.coe_sub, coe_sum]
  try rfl

theorem v_sb (A : Vec Ideal S512x1024 .f32) (hA : ∀ p d, A (ix2 p d) = (P.dh (rw_ t p) d : EReal)) (d : Fin 1024) : k0_pay18 (dx1T m c t A) (ix1 d) = ((∑ p, P.dx1 (rw_ t p) d : ℝ) : EReal) := by
  pointwise [k0_pay18]
  simp only [v_dx1 H t A hA, al_word, ep_word, one_word, zero_word, div_1024, ← EReal.coe_one, ← EReal.coe_zero, ← EReal.coe_neg, ← EReal.coe_mul, ← EReal.coe_add, ← EReal.coe_sub, coe_sum]
  try rfl

theorem v_st (A : Vec Ideal S512x1024 .f32) (hA : ∀ p d, A (ix2 p d) = (P.dh (rw_ t p) d : EReal)) (k : Fin 8) (d : Fin 1024) : k0_pay19 (k0_pay17 (dx1T m c t A) (zcT m c t) (vaT m c t)) (k0_pay18 (dx1T m c t A)) (ix2 k d) = ((if k.val = 0 then ∑ p, P.dx1 (rw_ t p) d * P.xh (rw_ t p) d else if k.val = 1 then ∑ p, P.dx1 (rw_ t p) d else 0 : ℝ) : EReal) := by
  pointwise [k0_pay19]
  simp only [v_sw H t A hA, v_sb H t A hA, al_word, ep_word, one_word, zero_word, div_1024, ← EReal.coe_one, ← EReal.coe_zero, ← EReal.coe_neg, ← EReal.coe_mul, ← EReal.coe_add, ← EReal.coe_sub, coe_sum]
  fin_cases k <;> simp
  exact v_sw H t A hA d

theorem v_dm (A : Vec Ideal S512x1024 .f32) (hA : ∀ p d, A (ix2 p d) = (P.dh (rw_ t p) d : EReal)) (k : Fin 8) (d : Fin 1024) : k0_pay20 A (k0_pay7 (iblk m c 6 t)) (k0_pay8 (iblk m c 8 t)) (dz1T m c t A) (ix2 k d) = ((if k.val = 2 then ∑ p, P.dz1 (rw_ t p) d * P.u (rw_ t p) d else if k.val = 3 then ∑ p, P.dh (rw_ t p) d else if k.val = 4 then ∑ p, P.dh (rw_ t p) d * P.x1 (rw_ t p) d else 0 : ℝ) : EReal) := by
  pointwise [k0_pay20, k0_pay7, k0_pay8]
  simp only [hA, v_dz1 H t A hA, blk6 H t, blk8 H t, al_word, ep_word, one_word, zero_word, div_1024, ← EReal.coe_one, ← EReal.coe_zero, ← EReal.coe_neg, ← EReal.coe_mul, ← EReal.coe_add, ← EReal.coe_sub, coe_sum]
  fin_cases k <;> simp

end Cert.Kernel3Ideal.Ffn

end
-- ==== Proof.FfnAcc.lean ====
/-
  What the feed-forward network's backward pass carries between grid points, as real numbers: the accumulator of the gradient
  that comes back through the input products (a sum over the slabs), and the two gathered blocks (sums over the row blocks).
-/
module

public import proofs.«01_k».proof.Proof.FfnBlock

@[expose] public section

noncomputable section

namespace Cert.Kernel3Ideal.Ffn

open Idealize.ShloMosaic Idealize.ShloMosaic.TcCoe Idealize.SL.Sem
open Cert.Kernel3Ideal Cert.Kernel3Ideal.Gen Cert.Ffn

/-- Row `p` of row block `i`. -/
def rb (i : ℕ) (p : Fin 512) : Fin 8192 := ⟨(i * 512 + p.val) % 8192, Nat.mod_lt _ (by norm_num)⟩

theorem rw_rb (t : Fin cfg0.N) (p : Fin 512) : rw_ t p = rb (t.val / 4) p := by
  apply Fin.ext; simp only [rw_, rb]; have := lt64 t; omega

/-- The sum of the first `n` slabs. -/
def slabs (f : Fin 4 → ℝ) (n : ℕ) : ℝ := ∑ i ∈ Finset.range n, if h : i < 4 then f ⟨i, h⟩ else 0

theorem slabs_succ (f : Fin 4 → ℝ) (n : ℕ) (h : n < 4) : slabs f (n + 1) = slabs f n + f ⟨n, h⟩ := by
  rw [slabs, Finset.sum_range_succ, dif_pos h]; rfl

theorem slabs_all (f : Fin 4 → ℝ) : slabs f 4 = ∑ j, f j := by
  rw [slabs, Finset.sum_range]
  exact Finset.sum_congr rfl fun j _ => dif_pos j.isLt

/-- A row block's part of each gathered block. -/
def stv (P : Args) (i : ℕ) (k : Fin 8) (d : Fin 1024) : ℝ :=
  if k.val = 0 then ∑ p, P.dx1 (rb i p) d * P.xh (rb i p) d else if k.val = 1 then ∑ p, P.dx1 (rb i p) d else 0

def dmv (P : Args) (i : ℕ) (k : Fin 8) (d : Fin 1024) : ℝ :=
  if k.val = 2 then ∑ p, P.dz1 (rb i p) d * P.u (rb i p) d else if k.val = 3 then ∑ p, P.dh (rb i p) d
  else if k.val = 4 then ∑ p, P.dh (rb i p) d * P.x1 (rb i p) d else 0

/-- The row blocks of a sequence are its rows. -/
theorem rows_seq (f : Fin 8192 → ℝ) (b : Fin 2) : ∑ i ∈ Finset.range 8, ∑ p, f (rb (b.val * 8 + i) p) = ∑ t, f (row b t) := by
  rw [Finset.sum_range, ← Fintype.sum_prod_type', ← (finProdFinEquiv (m := 8) (n := 512)).sum_comp]
  refine Finset.sum_congr rfl fun x _ => congrArg f ?_
  obtain ⟨i, p⟩ := x
  apply Fin.ext
  simp only [rb, row, finProdFinEquiv_apply_val]
  omega

theorem rows_all (f : Fin 8192 → ℝ) : ∑ i ∈ Finset.range 16, ∑ p, f (rb i p) = ∑ b, ∑ t, f (row b t) := by
  rw [show (16 : ℕ) = 8 + 8 from rfl, Finset.sum_range_add, Fin.sum_univ_two, ← rows_seq, ← rows_seq]
  simp

theorem sum_stv (P : Args) (k : Fin 8) (d : Fin 1024) : ∑ i ∈ Finset.range 16, stv P i k d = P.sums k d := by
  rw [Args.sums, ← rows_all (fun r => P.dx1 r d * P.xh r d), ← rows_all (fun r => P.dx1 r d)]
  simp only [stv]
  split_ifs <;> simp

theorem sum_dmv (P : Args) (b : Fin 2) (k : Fin 8) (d : Fin 1024) :
    ∑ i ∈ Finset.range 8, dmv P (b.val * 8 + i) k d = P.dmod b k d := by
  rw [Args.dmod, ← rows_seq (fun r => P.dz1 r d * P.u r d), ← rows_seq (fun r => P.dh r d),
    ← rows_seq (fun r => P.dh r d * P.x1 r d)]
  simp only [dmv]
  split_ifs <;> simp

variable {m : (ℓ : Loc nD τ sig) → Buf (Elt Ideal) ℓ} {c : Dev nD} {P : Args} (H : Holds m c P)
include H

/-- The accumulator after a point holds the sum of its row block's slabs so far. -/
theorem scr_val (n : ℕ) (hn : n < 64) (p : Fin 512) (d : Fin 1024) :
    scr m c ⟨n, hn⟩ (ix2 p d) = ((slabs (P.dhj (rb (n / 4) p) d) (n % 4 + 1) : ℝ) : EReal) := by
  induction n with
  | zero =>
    rw [scr_first m c ⟨0, hn⟩ rfl, v_acc H ⟨0, hn⟩ p d _ 0 (by pointwise [k0_pay24]; simp), rw_rb, slabs_succ _ _ (by norm_num)]
    simp [slabs, sl]
  | succ n ih =>
    by_cases h0 : (n + 1) % 4 = 0
    · rw [scr_first m c ⟨n + 1, hn⟩ h0, v_acc H ⟨n + 1, hn⟩ p d _ 0 (by pointwise [k0_pay24]; simp), rw_rb,
        slabs_succ _ _ (by omega)]
      simp [slabs, sl, h0]
    · rw [scr_next m c ⟨n + 1, hn⟩ h0]
      refine (v_acc H ⟨n + 1, hn⟩ p d _ _ (ih (by omega))).trans ?_
      rw [rw_rb, slabs_succ _ ((n + 1) % 4) (by omega)]
      have e1 : (n + 1) / 4 = n / 4 := by omega
      have e2 : n % 4 + 1 = (n + 1) % 4 := by omega
      simp only [e1, e2, sl]

/-- At a row block's last point the accumulator holds the whole gradient. -/
theorem scr_last (t : Fin cfg0.N) (h1 : t.val % 4 = 3) (p : Fin 512) (d : Fin 1024) :
    scr m c t (ix2 p d) = (P.dh (rw_ t p) d : EReal) := by
  rw [show t = ⟨t.val, lt64 t⟩ from rfl, scr_val H t.val (lt64 t) p d, h1, slabs_all, rw_rb]
  rfl

theorem o_du (t : Fin cfg0.N) (h1 : t.val % 4 = 3) (p : Fin 512) (d : Fin 1024) :
    (outsAt0 m c t.val t.isLt).2.2.2.2.1 (ix2 p d) = ((P.g (rw_ t p) d * P.dz1 (rw_ t p) d : ℝ) : EReal) := by
  rw [du_at m c t h1]
  exact v_du H t _ (scr_last H t h1) p d

theorem o_dx (t : Fin cfg0.N) (h1 : t.val % 4 = 3) (p : Fin 512) (d : Fin 1024) :
    (outsAt0 m c t.val t.isLt).2.2.2.2.2.1 (ix2 p d) = ((al * P.dz1 (rw_ t p) d : ℝ) : EReal) := by
  rw [dx_at m c t h1]
  exact v_dx H t _ (scr_last H t h1) p d

theorem st_part (t : Fin cfg0.N) (h1 : t.val % 4 = 3) (k : Fin 8) (d : Fin 1024) :
    k0_pay19 (k0_pay17 (dx1T m c t (scr m c t)) (zcT m c t) (vaT m c t)) (k0_pay18 (dx1T m c t (scr m c t))) (ix2 k d)
      = (stv P (t.val / 4) k d : EReal) := by
  rw [v_st H t _ (scr_last H t h1) k d]
  simp only [rw_rb]; rfl

theorem dm_part (t : Fin cfg0.N) (h1 : t.val % 4 = 3) (k : Fin 8) (d : Fin 1024) :
    k0_pay20 (scr m c t) (k0_pay7 (iblk m c 6 t)) (k0_pay8 (iblk m c 8 t)) (dz1T m c t (scr m c t)) (ix2 k d)
      = (dmv P (t.val / 4) k d : EReal) := by
  rw [v_dm H t _ (scr_last H t h1) k d]
  simp only [rw_rb]; rfl

/-- The norm's gathered block after a point holds the sum of the row blocks finished so far. -/
theorem o_st (n : ℕ) (hn : n < 64) (h3 : 3 ≤ n) (k : Fin 8) (d : Fin 1024) :
    (outsAt0 m c n hn).2.2.2.2.2.2.1 (ix2 k d) = ((∑ i ∈ Finset.range ((n + 1) / 4), stv P i k d : ℝ) : EReal) := by
  induction n with
  | zero => omega
  | succ n ih =>
    by_cases h1 : (n + 1) % 4 = 3
    · by_cases h2 : n + 1 < 4
      · rw [st_first m c ⟨n + 1, hn⟩ h1 h2, st_part H ⟨n + 1, hn⟩ h1]
        have : n = 2 := by omega
        subst this
        simp
      · rw [st_next m c ⟨n + 1, hn⟩ h1 h2]
        pointwise [k0_pay21]
        rw [st_part H ⟨n + 1, hn⟩ h1]
        have e : (n + 1 + 1) / 4 = (n + 1) / 4 + 1 := by omega
        rw [e, Finset.sum_range_succ, EReal.coe_add]
        exact congrArg (· + _) (ih (by omega) (by omega))
    · rw [st_keep m c ⟨n + 1, hn⟩ h1 (by simp)]
      have e : (n + 1 + 1) / 4 = (n + 1) / 4 := by omega
      rw [e]
      exact ih (by omega) (by omega)

/-- A sequence's gathered block after a point holds the sum of its row blocks finished so far. -/
theorem o_dm (n : ℕ) (hn : n < 64) (h3 : 3 ≤ n % 32) (k : Fin 8) (d : Fin 1024) :
    (outsAt0 m c n hn).2.2.2.2.2.2.2.1 (ix3 0 k d)
      = ((∑ i ∈ Finset.range ((n % 32 + 1) / 4), dmv P (n / 32 * 8 + i) k d : ℝ) : EReal) := by
  induction n with
  | zero => omega
  | succ n ih =>
    by_cases h1 : (n + 1) % 4 = 3
    · by_cases h4 : ((n + 1) % 32 = 0 ∨ (n + 1) % 32 = 1 ∨ (n + 1) % 32 = 2 ∨ (n + 1) % 32 = 3)
      · rw [dm_first m c ⟨n + 1, hn⟩ h1 h4]
        pointwise [k0_pay22]
        rw [dm_part H ⟨n + 1, hn⟩ h1]
        have e : (n + 1) % 32 = 3 := by omega
        have e' : (n + 1) / 4 = (n + 1) / 32 * 8 := by omega
        simp [e, e']
      · rw [dm_next m c ⟨n + 1, hn⟩ h1 h4]
        pointwise [k0_pay6]
        rw [dm_part H ⟨n + 1, hn⟩ h1]
        have e : ((n + 1) % 32 + 1) / 4 = (n % 32 + 1) / 4 + 1 := by omega
        have e' : (n + 1) / 32 = n / 32 := by omega
        have e'' : (n + 1) / 4 = n / 32 * 8 + (n % 32 + 1) / 4 := by omega
        rw [e, e', Finset.sum_range_succ, EReal.coe_add]
        simp only [e'']
        exact congrArg (· + _) (ih (by omega) (by omega))
    · rw [dm_keep m c ⟨n + 1, hn⟩ h1 (by simp)]
      have e : ((n + 1) % 32 + 1) / 4 = (n % 32 + 1) / 4 := by omega
      have e' : (n + 1) / 32 = n / 32 := by omega
      rw [e, e']
      exact ih (by omega) (by omega)

end Cert.Kernel3Ideal.Ffn

end
-- ==== Proof.FfnRef.lean ====
/-
  The reference of the feed-forward network's backward pass at finite arguments: what each of its intermediate arrays
  holds, element by element, as a real number.
-/
module

public import proofs.«01_k».proof.Defs
public import proofs.«01_k».proof.Proof.FfnReal
public import proofs.«01_k».proof.Proof.Gen.Reference3Ideal.Read

@[expose] public section

noncomputable section

namespace Cert.Ffn.Ref

open Idealize.ShloMosaic Idealize.ShloMosaic.TcCoe
open Cert.Reference3Ideal Cert.Reference3Ideal.Read Cert.Ffn

/-- The argument arrays hold the real numbers `P`. -/
structure Holds (P : Args) (x0 : (⟨S8192x1024, .f32⟩ : BufTy).Contents (Elt Ideal)) (x1 : (⟨S8192x1024, .bf16⟩ : BufTy).Contents (Elt Ideal))
    (x2 : (⟨S2x8x1024, .f32⟩ : BufTy).Contents (Elt Ideal)) (x3 x4 : (⟨S1x1024, .f32⟩ : BufTy).Contents (Elt Ideal))
    (x5 x6 x7 : (⟨S4x704x1024, .bf16⟩ : BufTy).Contents (Elt Ideal)) (x8 : (⟨S8192x1024, .f32⟩ : BufTy).Contents (Elt Ideal)) : Prop where
  x : ∀ r d, x0 (ix2 r d) = (P.x r d : EReal)
  u : ∀ r d, x1 (ix2 r d) = (P.u r d : EReal)
  md : ∀ b k d, x2 (ix3 b k d) = (P.md b k d : EReal)
  w : ∀ d, x3 (ix2 0 d) = (P.w d : EReal)
  bi : ∀ d, x4 (ix2 0 d) = (P.bi d : EReal)
  wg : ∀ j q d, x5 (ix3 j q d) = (P.wg j q d : EReal)
  wu : ∀ j q d, x6 (ix3 j q d) = (P.wu j q d : EReal)
  wd : ∀ j q d, x7 (ix3 j q d) = (P.wd j q d : EReal)
  dz : ∀ r d, x8 (ix2 r d) = (P.dz r d : EReal)

/-- A feature as its slab and its place there. -/
def slab (f : Fin 2816) : Fin 4 := ⟨f.val / 704, by omega⟩
def lane (f : Fin 2816) : Fin 704 := ⟨f.val % 704, by omega⟩

theorem bat_row (b : Fin 2) (t : Fin 4096) : bat (row b t) = b := by
  apply Fin.ext; simp only [bat, row]; omega

theorem row_eq (b : Fin 2) (t : Fin 4096) (h : b.val * 4096 + t.val < 8192) : (⟨b.val * 4096 + t.val, h⟩ : Fin 8192) = row b t := rfl

theorem row_div (r : Fin 8192) (h0 : r.val / 4096 < 2) (h1 : r.val % 4096 < 4096) : row ⟨r.val / 4096, h0⟩ ⟨r.val % 4096, h1⟩ = r := by
  apply Fin.ext; simp only [row]; omega

theorem slab_pair (j : Fin 4) (q : Fin 704) (h : j.val * 704 + q.val < 2816) : slab ⟨j.val * 704 + q.val, h⟩ = j := by
  apply Fin.ext; simp only [slab]; omega

theorem lane_pair (j : Fin 4) (q : Fin 704) (h : j.val * 704 + q.val < 2816) : lane ⟨j.val * 704 + q.val, h⟩ = q := by
  apply Fin.ext; simp only [lane]; omega

theorem slab_eq (f : Fin 2816) (h : f.val / 704 < 4) : (⟨f.val / 704, h⟩ : Fin 4) = slab f := rfl

theorem lane_eq (f : Fin 2816) (h : f.val % 704 < 704) : (⟨f.val % 704, h⟩ : Fin 704) = lane f := rfl

/-- A sum over the features is the sum over the slabs of the sums over a slab's places. -/
theorem sum_feat (F : Fin 4 → Fin 704 → ℝ) : ∑ f : Fin 2816, F (slab f) (lane f) = ∑ j, ∑ q, F j q := by
  rw [← Fintype.sum_prod_type', ← (finProdFinEquiv (m := 4) (n := 704)).sum_comp]
  refine Finset.sum_congr rfl fun p _ => ?_
  obtain ⟨j, q⟩ := p
  have h1 : slab (finProdFinEquiv (j, q)) = j := by apply Fin.ext; show _ / 704 = _; simp only [finProdFinEquiv_apply_val]; omega
  have h2 : lane (finProdFinEquiv (j, q)) = q := by apply Fin.ext; show _ % 704 = _; simp only [finProdFinEquiv_apply_val]; omega
  rw [h1, h2]

theorem rs_div (P : Args) (r : Fin 8192) : P.rs r / (P.va r + ep) = P.rs r * P.rs r * P.rs r := by
  have h := P.va_ep_pos r
  have e : P.rs r * P.rs r = (P.va r + ep)⁻¹ := by
    rw [Args.rs, ← mul_inv, Real.mul_self_sqrt h.le]
  rw [mul_assoc, e, div_eq_mul_inv]

/-- The norm's backward pass as the reference takes it is the kernel's one formula. -/
theorem dz1_alg (P : Args) (r : Fin 8192) (d : Fin 1024) :
    P.dxh r d * P.rs r + (∑ k, P.zc r k * P.dxh r k) * (-(1 / 2) * (P.rs r / (P.va r + ep))) / 1024 * (2 * P.zc r d)
      + ((∑ k, -(P.dxh r k * P.rs r))
        + ∑ k, -((∑ k, P.zc r k * P.dxh r k) * (-(1 / 2) * (P.rs r / (P.va r + ep))) / 1024 * (2 * P.zc r k))) / 1024
      = P.dz1 r d := by
  rw [rs_div]
  have e0 : ∑ k, -((∑ k, P.zc r k * P.dxh r k) * (-(1 / 2) * (P.rs r * P.rs r * P.rs r)) / 1024 * (2 * P.zc r k)) = 0 := by
    rw [Finset.sum_neg_distrib, ← Finset.mul_sum, ← Finset.mul_sum, P.sum_zc]; ring
  have e1 : ∑ k, -(P.dxh r k * P.rs r) = -((∑ k, P.dxh r k) * P.rs r) := by
    rw [Finset.sum_neg_distrib, Finset.sum_mul]
  have e2 : ∑ k, P.dxh r k * P.xh r k = (∑ k, P.zc r k * P.dxh r k) * P.rs r := by
    rw [Finset.sum_mul]
    exact Finset.sum_congr rfl fun k _ => by rw [Args.xh]; ring
  rw [e0, e1, Args.dz1, e2, Args.xh]
  ring

variable {P : Args} {x0 : (⟨S8192x1024, .f32⟩ : BufTy).Contents (Elt Ideal)} {x1 : (⟨S8192x1024, .bf16⟩ : BufTy).Contents (Elt Ideal)}
    {x2 : (⟨S2x8x1024, .f32⟩ : BufTy).Contents (Elt Ideal)} {x3 x4 : (⟨S1x1024, .f32⟩ : BufTy).Contents (Elt Ideal)}
    {x5 x6 x7 : (⟨S4x704x1024, .bf16⟩ : BufTy).Contents (Elt Ideal)} {x8 : (⟨S8192x1024, .f32⟩ : BufTy).Contents (Elt Ideal)}
    (H : Holds P x0 x1 x2 x3 x4 x5 x6 x7 x8)
include H

theorem r_z (b : Fin 2) (t : Fin 4096) (d : Fin 1024) :
    val_main_v13 (F := Ideal) x0 x1 x2 (ix3 b t d) = ((P.z (row b t) d : ℝ) : EReal) := by
  pointwise [val_main_v13, val_main_v12, val_main_v11, val_main_v10, val_main_v9, val_main_v8, val_main_v7, val_main_v6, val_main_v5, val_main_v4, val_main_v0, val_main_cst, val_main_cst_0]
  simp only [row_eq, slab_eq, lane_eq, H.x, H.u, H.md, al_word, ep_word, one_word, zero_word, two_word, half_word, div_1024, ← EReal.coe_one, ← EReal.coe_zero, ← EReal.coe_neg, ← EReal.coe_mul, ← EReal.coe_add, ← EReal.coe_sub, coe_sum]
  simp only [Args.z, Args.g, bat_row]

theorem r_mu (b : Fin 2) (t : Fin 4096) :
    val_main_v17 (F := Ideal) x0 x1 x2 (ix3 b t 0) = ((P.mu (row b t) : ℝ) : EReal) := by
  pointwise [val_main_v17, val_main_v16, val_main_v15, val_main_v14, val_main_cst_1, val_main_cst_2]
  simp only [row_eq, slab_eq, lane_eq, r_z H, al_word, ep_word, one_word, zero_word, two_word, half_word, div_1024, ← EReal.coe_one, ← EReal.coe_zero, ← EReal.coe_neg, ← EReal.coe_mul, ← EReal.coe_add, ← EReal.coe_sub, coe_sum]
  rfl

theorem r_zc (b : Fin 2) (t : Fin 4096) (d : Fin 1024) :
    val_main_v28 (F := Ideal) x0 x1 x2 (ix3 b t d) = ((P.zc (row b t) d : ℝ) : EReal) := by
  pointwise [val_main_v28, val_main_v27]
  simp only [row_eq, slab_eq, lane_eq, r_z H, r_mu H, al_word, ep_word, one_word, zero_word, two_word, half_word, div_1024, ← EReal.coe_one, ← EReal.coe_zero, ← EReal.coe_neg, ← EReal.coe_mul, ← EReal.coe_add, ← EReal.coe_sub, coe_sum]
  rfl

theorem r_zc' (b : Fin 2) (t : Fin 4096) (d : Fin 1024) :
    val_main_v19 (F := Ideal) x0 x1 x2 (ix3 b t d) = ((P.zc (row b t) d : ℝ) : EReal) := by
  pointwise [val_main_v19, val_main_v18]
  simp only [row_eq, slab_eq, lane_eq, r_z H, r_mu H, al_word, ep_word, one_word, zero_word, two_word, half_word, div_1024, ← EReal.coe_one, ← EReal.coe_zero, ← EReal.coe_neg, ← EReal.coe_mul, ← EReal.coe_add, ← EReal.coe_sub, coe_sum]
  rfl

theorem r_va (b : Fin 2) (t : Fin 4096) :
    val_main_v26 (F := Ideal) x0 x1 x2 (ix3 b t 0) = ((P.va (row b t) : ℝ) : EReal) := by
  pointwise [val_main_v26, val_main_v25, val_main_v24, val_main_v23, val_main_v20, val_main_cst_4, val_main_cst_5]
  simp only [row_eq, slab_eq, lane_eq, r_zc' H, al_word, ep_word, one_word, zero_word, two_word, half_word, div_1024, ← EReal.coe_one, ← EReal.coe_zero, ← EReal.coe_neg, ← EReal.coe_mul, ← EReal.coe_add, ← EReal.coe_sub, coe_sum]
  rfl

theorem r_rs (b : Fin 2) (t : Fin 4096) :
    val_main_v31 (F := Ideal) x0 x1 x2 (ix3 b t 0) = ((P.rs (row b t) : ℝ) : EReal) := by
  pointwise [val_main_v31, val_main_v30, val_main_v29, val_main_cst_6]
  simp only [row_eq, slab_eq, lane_eq, r_va H, al_word, ep_word, one_word, zero_word, two_word, half_word, div_1024, ← EReal.coe_one, ← EReal.coe_zero, ← EReal.coe_neg, ← EReal.coe_mul, ← EReal.coe_add, ← EReal.coe_sub, coe_sum]
  exact rsqrt_pos (P.va_ep_pos _)

theorem r_xh (b : Fin 2) (t : Fin 4096) (d : Fin 1024) :
    val_main_v36 (F := Ideal) x0 x1 x2 (ix3 b t d) = ((P.xh (row b t) d : ℝ) : EReal) := by
  pointwise [val_main_v36, val_main_v35]
  simp only [row_eq, slab_eq, lane_eq, r_zc H, r_rs H, al_word, ep_word, one_word, zero_word, two_word, half_word, div_1024, ← EReal.coe_one, ← EReal.coe_zero, ← EReal.coe_neg, ← EReal.coe_mul, ← EReal.coe_add, ← EReal.coe_sub, coe_sum]
  rfl

theorem r_x1 (b : Fin 2) (t : Fin 4096) (d : Fin 1024) :
    val_main_v42 (F := Ideal) x0 x1 x2 x3 x4 (ix3 b t d) = ((P.x1 (row b t) d : ℝ) : EReal) := by
  pointwise [val_main_v42, val_main_v41, val_main_v40, val_main_v39, val_main_v38, val_main_v37]
  simp only [row_eq, slab_eq, lane_eq, r_xh H, H.w, H.bi, al_word, ep_word, one_word, zero_word, two_word, half_word, div_1024, ← EReal.coe_one, ← EReal.coe_zero, ← EReal.coe_neg, ← EReal.coe_mul, ← EReal.coe_add, ← EReal.coe_sub, coe_sum]
  rfl

theorem r_h (b : Fin 2) (t : Fin 4096) (d : Fin 1024) :
    val_main_v54 (F := Ideal) x0 x1 x2 x3 x4 (ix3 b t d) = ((P.h (row b t) d : ℝ) : EReal) := by
  pointwise [val_main_v54, val_main_v53, val_main_v52, val_main_v51, val_main_v50, val_main_v49, val_main_v2, val_main_v1, val_main_cst_8]
  simp only [row_eq, slab_eq, lane_eq, r_x1 H, H.md, al_word, ep_word, one_word, zero_word, two_word, half_word, div_1024, ← EReal.coe_one, ← EReal.coe_zero, ← EReal.coe_neg, ← EReal.coe_mul, ← EReal.coe_add, ← EReal.coe_sub, coe_sum]
  simp only [Args.h, Args.s4, bat_row]

theorem r_wg (d : Fin 1024) (f : Fin 2816) :
    val_main_v45 (F := Ideal) x5 (ix2 d f) = ((P.wg (slab f) (lane f) d : ℝ) : EReal) := by
  pointwise [val_main_v45, val_main_v44, val_main_v43]
  simp only [row_eq, slab_eq, lane_eq, H.wg, al_word, ep_word, one_word, zero_word, two_word, half_word, div_1024, ← EReal.coe_one, ← EReal.coe_zero, ← EReal.coe_neg, ← EReal.coe_mul, ← EReal.coe_add, ← EReal.coe_sub, coe_sum]

theorem r_wu (d : Fin 1024) (f : Fin 2816) :
    val_main_v48 (F := Ideal) x6 (ix2 d f) = ((P.wu (slab f) (lane f) d : ℝ) : EReal) := by
  pointwise [val_main_v48, val_main_v47, val_main_v46]
  simp only [row_eq, slab_eq, lane_eq, H.wu, al_word, ep_word, one_word, zero_word, two_word, half_word, div_1024, ← EReal.coe_one, ← EReal.coe_zero, ← EReal.coe_neg, ← EReal.coe_mul, ← EReal.coe_add, ← EReal.coe_sub, coe_sum]

theorem r_wd (d : Fin 1024) (f : Fin 2816) :
    val_main_v60 (F := Ideal) x7 (ix2 f d) = ((P.wd (slab f) (lane f) d : ℝ) : EReal) := by
  pointwise [val_main_v60, val_main_v59]
  simp only [row_eq, slab_eq, lane_eq, H.wd, al_word, ep_word, one_word, zero_word, two_word, half_word, div_1024, ← EReal.coe_one, ← EReal.coe_zero, ← EReal.coe_neg, ← EReal.coe_mul, ← EReal.coe_add, ← EReal.coe_sub, coe_sum]

theorem r_a (b : Fin 2) (t : Fin 4096) (f : Fin 2816) :
    val_main_v55 (F := Ideal) x0 x1 x2 x3 x4 x5 (ix3 b t f) = ((P.a (row b t) (slab f) (lane f) : ℝ) : EReal) := by
  pointwise [val_main_v55]
  simp only [row_eq, slab_eq, lane_eq, r_h H, r_wg H, al_word, ep_word, one_word, zero_word, two_word, half_word, div_1024, ← EReal.coe_one, ← EReal.coe_zero, ← EReal.coe_neg, ← EReal.coe_mul, ← EReal.coe_add, ← EReal.coe_sub, coe_sum]
  rfl

theorem r_b (b : Fin 2) (t : Fin 4096) (f : Fin 2816) :
    val_main_v56 (F := Ideal) x0 x1 x2 x3 x4 x6 (ix3 b t f) = ((P.b (row b t) (slab f) (lane f) : ℝ) : EReal) := by
  pointwise [val_main_v56]
  simp only [row_eq, slab_eq, lane_eq, r_h H, r_wu H, al_word, ep_word, one_word, zero_word, two_word, half_word, div_1024, ← EReal.coe_one, ← EReal.coe_zero, ← EReal.coe_neg, ← EReal.coe_mul, ← EReal.coe_add, ← EReal.coe_sub, coe_sum]
  rfl

theorem r_sg (b : Fin 2) (t : Fin 4096) (f : Fin 2816) :
    val_main_v57_2 (F := Ideal) x0 x1 x2 x3 x4 x5 (ix3 b t f) = ((P.sg (row b t) (slab f) (lane f) : ℝ) : EReal) := by
  pointwise [val_main_v57_2, val_main_call0_v4, val_main_call0_v3, val_main_call0_v2, val_main_call0_v1, val_main_call0_v0, val_main_call0_cst, val_main_call0_cst_0]
  rw [r_a H]
  exact Ideal.logistic_coe _

theorem r_sl (b : Fin 2) (t : Fin 4096) (f : Fin 2816) :
    val_main_v57_0 (F := Ideal) x0 x1 x2 x3 x4 x5 (ix3 b t f) = ((P.a (row b t) (slab f) (lane f) * P.sg (row b t) (slab f) (lane f) : ℝ) : EReal) := by
  pointwise [val_main_v57_0]
  simp only [row_eq, slab_eq, lane_eq, r_a H, r_sg H, al_word, ep_word, one_word, zero_word, two_word, half_word, div_1024, ← EReal.coe_one, ← EReal.coe_zero, ← EReal.coe_neg, ← EReal.coe_mul, ← EReal.coe_add, ← EReal.coe_sub, coe_sum]

theorem r_sd (b : Fin 2) (t : Fin 4096) (f : Fin 2816) :
    val_main_v57_1 (F := Ideal) x0 x1 x2 x3 x4 x5 (ix3 b t f) = ((P.sg (row b t) (slab f) (lane f) * (1 - P.sg (row b t) (slab f) (lane f)) : ℝ) : EReal) := by
  pointwise [val_main_v57_1, val_main_call0_v7, val_main_call0_v6, val_main_call0_cst_1]
  simp only [row_eq, slab_eq, lane_eq, r_sg H, al_word, ep_word, one_word, zero_word, two_word, half_word, div_1024, ← EReal.coe_one, ← EReal.coe_zero, ← EReal.coe_neg, ← EReal.coe_mul, ← EReal.coe_add, ← EReal.coe_sub, coe_sum]

theorem r_hm (b : Fin 2) (t : Fin 4096) (f : Fin 2816) :
    val_main_v58 (F := Ideal) x0 x1 x2 x3 x4 x5 x6 (ix3 b t f) = ((P.hm (row b t) (slab f) (lane f) : ℝ) : EReal) := by
  pointwise [val_main_v58]
  simp only [row_eq, slab_eq, lane_eq, r_sl H, r_b H, al_word, ep_word, one_word, zero_word, two_word, half_word, div_1024, ← EReal.coe_one, ← EReal.coe_zero, ← EReal.coe_neg, ← EReal.coe_mul, ← EReal.coe_add, ← EReal.coe_sub, coe_sum]
  rfl

theorem r_df (b : Fin 2) (t : Fin 4096) (d : Fin 1024) :
    val_main_v71 (F := Ideal) x2 x8 (ix3 b t d) = ((P.df (row b t) d : ℝ) : EReal) := by
  pointwise [val_main_v71, val_main_v70, val_main_v69, val_main_v65, val_main_v64, val_main_v3, val_main_cst_10]
  simp only [row_eq, slab_eq, lane_eq, H.md, H.dz, al_word, ep_word, one_word, zero_word, two_word, half_word, div_1024, ← EReal.coe_one, ← EReal.coe_zero, ← EReal.coe_neg, ← EReal.coe_mul, ← EReal.coe_add, ← EReal.coe_sub, coe_sum]
  simp only [Args.df, bat_row]

theorem r_dhm (b : Fin 2) (t : Fin 4096) (f : Fin 2816) :
    val_main_v79 (F := Ideal) x2 x7 x8 (ix3 b t f) = ((P.dhm (row b t) (slab f) (lane f) : ℝ) : EReal) := by
  pointwise [val_main_v79]
  simp only [row_eq, slab_eq, lane_eq, r_df H, r_wd H, al_word, ep_word, one_word, zero_word, two_word, half_word, div_1024, ← EReal.coe_one, ← EReal.coe_zero, ← EReal.coe_neg, ← EReal.coe_mul, ← EReal.coe_add, ← EReal.coe_sub, coe_sum]
  rfl

theorem r_db (b : Fin 2) (t : Fin 4096) (f : Fin 2816) :
    val_main_v80 (F := Ideal) x0 x1 x2 x3 x4 x5 x7 x8 (ix3 b t f) = ((P.db (row b t) (slab f) (lane f) : ℝ) : EReal) := by
  pointwise [val_main_v80]
  simp only [row_eq, slab_eq, lane_eq, r_dhm H, r_sl H, al_word, ep_word, one_word, zero_word, two_word, half_word, div_1024, ← EReal.coe_one, ← EReal.coe_zero, ← EReal.coe_neg, ← EReal.coe_mul, ← EReal.coe_add, ← EReal.coe_sub, coe_sum]
  rw [Args.db, mul_comm]

theorem r_da (b : Fin 2) (t : Fin 4096) (f : Fin 2816) :
    val_main_v82 (F := Ideal) x0 x1 x2 x3 x4 x5 x6 x7 x8 (ix3 b t f) = ((P.da (row b t) (slab f) (lane f) : ℝ) : EReal) := by
  pointwise [val_main_v82, val_main_call1_v2, val_main_call1_v1, val_main_call1_v0, val_main_v81]
  simp only [row_eq, slab_eq, lane_eq, r_dhm H, r_sg H, r_sd H, r_a H, r_b H, al_word, ep_word, one_word, zero_word, two_word, half_word, div_1024, ← EReal.coe_one, ← EReal.coe_zero, ← EReal.coe_neg, ← EReal.coe_mul, ← EReal.coe_add, ← EReal.coe_sub, coe_sum]
  congr 1
  rw [Args.da]
  ring

theorem r_dh (b : Fin 2) (t : Fin 4096) (d : Fin 1024) :
    val_main_v89 (F := Ideal) x0 x1 x2 x3 x4 x5 x6 x7 x8 (ix3 b t d) = ((P.dh (row b t) d : ℝ) : EReal) := by
  pointwise [val_main_v89, val_main_v88, val_main_v85]
  simp only [row_eq, slab_eq, lane_eq, r_da H, r_db H, r_wg H, r_wu H, al_word, ep_word, one_word, zero_word, two_word, half_word, div_1024, ← EReal.coe_one, ← EReal.coe_zero, ← EReal.coe_neg, ← EReal.coe_mul, ← EReal.coe_add, ← EReal.coe_sub, coe_sum]
  congr 1
  rw [sum_feat fun j q => P.db (row b t) j q * P.wu j q d, sum_feat fun j q => P.da (row b t) j q * P.wg j q d, add_comm, ← Finset.sum_add_distrib]
  rfl

theorem r_dx1 (b : Fin 2) (t : Fin 4096) (d : Fin 1024) :
    val_main_v97 (F := Ideal) x0 x1 x2 x3 x4 x5 x6 x7 x8 (ix3 b t d) = ((P.dx1 (row b t) d : ℝ) : EReal) := by
  pointwise [val_main_v97, val_main_v96, val_main_v95, val_main_v76, val_main_v75, val_main_v69, val_main_v50, val_main_v49, val_main_v2, val_main_cst_12, val_main_cst_8]
  simp only [row_eq, slab_eq, lane_eq, r_dh H, H.dz, H.md, al_word, ep_word, one_word, zero_word, two_word, half_word, div_1024, ← EReal.coe_one, ← EReal.coe_zero, ← EReal.coe_neg, ← EReal.coe_mul, ← EReal.coe_add, ← EReal.coe_sub, coe_sum]
  simp only [Args.dx1, Args.s4, bat_row]

theorem r_dxh (b : Fin 2) (t : Fin 4096) (d : Fin 1024) :
    val_main_v106 (F := Ideal) x0 x1 x2 x3 x4 x5 x6 x7 x8 (ix3 b t d) = ((P.dxh (row b t) d : ℝ) : EReal) := by
  pointwise [val_main_v106, val_main_v105, val_main_v37]
  simp only [row_eq, slab_eq, lane_eq, r_dx1 H, H.w, al_word, ep_word, one_word, zero_word, two_word, half_word, div_1024, ← EReal.coe_one, ← EReal.coe_zero, ← EReal.coe_neg, ← EReal.coe_mul, ← EReal.coe_add, ← EReal.coe_sub, coe_sum]
  rfl

theorem r_half (b : Fin 2) (t : Fin 4096) :
    val_main_v34 (F := Ideal) x0 x1 x2 (ix3 b t 0) = ((-(1 / 2) * (P.rs (row b t) / (P.va (row b t) + ep)) : ℝ) : EReal) := by
  pointwise [val_main_v34, val_main_v33, val_main_v32, val_main_v30, val_main_v29, val_main_cst_7, val_main_cst_6]
  simp only [r_rs H, r_va H, ep_word, half_word, ← EReal.coe_add, div_pos_coe _ (P.va_ep_pos _), ← EReal.coe_mul]

theorem r_two (b : Fin 2) (t : Fin 4096) (d : Fin 1024) :
    val_main_v22 (F := Ideal) x0 x1 x2 (ix3 b t d) = ((2 * P.zc (row b t) d : ℝ) : EReal) := by
  pointwise [val_main_v22, val_main_v21, val_main_cst_3]
  simp only [row_eq, slab_eq, lane_eq, r_zc' H, two_word, al_word, ep_word, one_word, zero_word, two_word, half_word, div_1024, ← EReal.coe_one, ← EReal.coe_zero, ← EReal.coe_neg, ← EReal.coe_mul, ← EReal.coe_add, ← EReal.coe_sub, coe_sum]

theorem r_dzv (b : Fin 2) (t : Fin 4096) :
    val_main_v119 (F := Ideal) x0 x1 x2 x3 x4 x5 x6 x7 x8 (ix3 b t 0) = (((∑ k, P.zc (row b t) k * P.dxh (row b t) k) * (-(1 / 2) * (P.rs (row b t) / (P.va (row b t) + ep))) / 1024 : ℝ) : EReal) := by
  pointwise [val_main_v119, val_main_v118, val_main_v114, val_main_v111, val_main_v110, val_main_v109, val_main_cst_19, val_main_cst_21]
  simp only [row_eq, slab_eq, lane_eq, r_zc H, r_dxh H, r_half H, al_word, ep_word, one_word, zero_word, two_word, half_word, div_1024, ← EReal.coe_one, ← EReal.coe_zero, ← EReal.coe_neg, ← EReal.coe_mul, ← EReal.coe_add, ← EReal.coe_sub, coe_sum]

theorem r_dzd (b : Fin 2) (t : Fin 4096) (d : Fin 1024) :
    val_main_v122 (F := Ideal) x0 x1 x2 x3 x4 x5 x6 x7 x8 (ix3 b t d) = (((∑ k, P.zc (row b t) k * P.dxh (row b t) k) * (-(1 / 2) * (P.rs (row b t) / (P.va (row b t) + ep))) / 1024 * (2 * P.zc (row b t) d) : ℝ) : EReal) := by
  pointwise [val_main_v122, val_main_v121, val_main_v120, val_main_cst_22]
  simp only [row_eq, slab_eq, lane_eq, Fin.sum_univ_one, r_dzv H, r_two H, al_word, ep_word, one_word, zero_word, two_word, half_word, div_1024, ← EReal.coe_one, ← EReal.coe_zero, ← EReal.coe_neg, ← EReal.coe_mul, ← EReal.coe_add, ← EReal.coe_sub, coe_sum]

theorem r_dxr (b : Fin 2) (t : Fin 4096) (d : Fin 1024) :
    val_main_v113 (F := Ideal) x0 x1 x2 x3 x4 x5 x6 x7 x8 (ix3 b t d) = ((P.dxh (row b t) d * P.rs (row b t) : ℝ) : EReal) := by
  pointwise [val_main_v113, val_main_v112]
  simp only [row_eq, slab_eq, lane_eq, r_dxh H, r_rs H, al_word, ep_word, one_word, zero_word, two_word, half_word, div_1024, ← EReal.coe_one, ← EReal.coe_zero, ← EReal.coe_neg, ← EReal.coe_mul, ← EReal.coe_add, ← EReal.coe_sub, coe_sum]

theorem r_dz1 (b : Fin 2) (t : Fin 4096) (d : Fin 1024) :
    val_main_v132 (F := Ideal) x0 x1 x2 x3 x4 x5 x6 x7 x8 (ix3 b t d) = ((P.dz1 (row b t) d : ℝ) : EReal) := by
  pointwise [val_main_v132, val_main_v131, val_main_v130, val_main_v129, val_main_v128, val_main_v127, val_main_v126, val_main_v125, val_main_v124, val_main_v123, val_main_v117, val_main_v116, val_main_v115, val_main_cst_20, val_main_cst_23, val_main_cst_24, val_main_cst_25]
  simp only [row_eq, slab_eq, lane_eq, Fin.sum_univ_one, r_dxr H, r_dzd H, al_word, ep_word, one_word, zero_word, two_word, half_word, div_1024, ← EReal.coe_one, ← EReal.coe_zero, ← EReal.coe_neg, ← EReal.coe_mul, ← EReal.coe_add, ← EReal.coe_sub, coe_sum]
  exact congrArg _ (dz1_alg P _ d)

theorem r_du (b : Fin 2) (t : Fin 4096) (d : Fin 1024) :
    val_main_v134 (F := Ideal) x0 x1 x2 x3 x4 x5 x6 x7 x8 (ix3 b t d) = ((P.g (row b t) d * P.dz1 (row b t) d : ℝ) : EReal) := by
  pointwise [val_main_v134, val_main_v133, val_main_v10, val_main_v9, val_main_v0, val_main_cst_0]
  simp only [row_eq, slab_eq, lane_eq, r_dz1 H, H.md, al_word, ep_word, one_word, zero_word, two_word, half_word, div_1024, ← EReal.coe_one, ← EReal.coe_zero, ← EReal.coe_neg, ← EReal.coe_mul, ← EReal.coe_add, ← EReal.coe_sub, coe_sum]
  simp only [Args.g, bat_row]

theorem r_dx (b : Fin 2) (t : Fin 4096) (d : Fin 1024) :
    val_main_v139 (F := Ideal) x0 x1 x2 x3 x4 x5 x6 x7 x8 (ix3 b t d) = ((al * P.dz1 (row b t) d : ℝ) : EReal) := by
  pointwise [val_main_v139, val_main_v138, val_main_cst_27]
  simp only [row_eq, slab_eq, lane_eq, r_dz1 H, al_word, ep_word, one_word, zero_word, two_word, half_word, div_1024, ← EReal.coe_one, ← EReal.coe_zero, ← EReal.coe_neg, ← EReal.coe_mul, ← EReal.coe_add, ← EReal.coe_sub, coe_sum]

theorem r_dg1 (b : Fin 2) (d : Fin 1024) :
    val_main_v137 (F := Ideal) x0 x1 x2 x3 x4 x5 x6 x7 x8 (ix3 b 0 d) = ((∑ t, P.dz1 (row b t) d * P.u (row b t) d : ℝ) : EReal) := by
  pointwise [val_main_v137, val_main_v136, val_main_v135, val_main_v6, val_main_v5, val_main_cst_26]
  simp only [row_eq, slab_eq, lane_eq, r_dz1 H, H.u, al_word, ep_word, one_word, zero_word, two_word, half_word, div_1024, ← EReal.coe_one, ← EReal.coe_zero, ← EReal.coe_neg, ← EReal.coe_mul, ← EReal.coe_add, ← EReal.coe_sub, coe_sum]

theorem r_dsh (b : Fin 2) (d : Fin 1024) :
    val_main_v91 (F := Ideal) x0 x1 x2 x3 x4 x5 x6 x7 x8 (ix3 b 0 d) = ((∑ t, P.dh (row b t) d : ℝ) : EReal) := by
  pointwise [val_main_v91, val_main_v90, val_main_cst_13]
  simp only [row_eq, slab_eq, lane_eq, r_dh H, al_word, ep_word, one_word, zero_word, two_word, half_word, div_1024, ← EReal.coe_one, ← EReal.coe_zero, ← EReal.coe_neg, ← EReal.coe_mul, ← EReal.coe_add, ← EReal.coe_sub, coe_sum]

theorem r_dsc (b : Fin 2) (d : Fin 1024) :
    val_main_v94 (F := Ideal) x0 x1 x2 x3 x4 x5 x6 x7 x8 (ix3 b 0 d) = ((∑ t, P.dh (row b t) d * P.x1 (row b t) d : ℝ) : EReal) := by
  pointwise [val_main_v94, val_main_v93, val_main_v92, val_main_cst_14]
  simp only [row_eq, slab_eq, lane_eq, r_dh H, r_x1 H, al_word, ep_word, one_word, zero_word, two_word, half_word, div_1024, ← EReal.coe_one, ← EReal.coe_zero, ← EReal.coe_neg, ← EReal.coe_mul, ← EReal.coe_add, ← EReal.coe_sub, coe_sum]
  congr 1
  exact Finset.sum_congr rfl fun t _ => mul_comm _ _

omit H in
/-- A sum over the first two axes of a rank-three array. -/
theorem outer_sums {n0 n1 n2 : Nat} (h : (⟨3, ![n0, n1, n2]⟩ : Shape).ReducesTo [0, 1] ⟨1, ![n2]⟩)
    (v : (⟨3, ![n0, n1, n2]⟩ : Shape).Idx → EReal) (init : EReal) (d : Fin n2) :
    Ideal.hostReduceAdd h v init (ix1 d) = init + ∑ k0 : Fin n0, ∑ k1 : Fin n1, v (ix3 k0 k1 d) := by
  refine congrArg (init + ·) ?_
  refine (Finset.sum_filter_eq_sum_of_fiber _ (fun k : Fin n0 × Fin n1 => ix3 k.1 k.2 d)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

open Idealize.ShloMosaic.ValueIdx (hostReduceAdd_apply)

theorem r_s98 (d : Fin 1024) : val_main_v98 (F := Ideal) x0 x1 x2 x3 x4 x5 x6 x7 x8 (ix1 d) = ((∑ b, ∑ t, P.dx1 (row b t) d : ℝ) : EReal) := by
  unfold val_main_v98
  rw [hostReduceAdd_apply, outer_sums]
  pointwise [val_main_cst_15]
  simp only [Fin.sum_univ_one, r_dx1 H, al_word, ep_word, one_word, zero_word, two_word, half_word, div_1024, ← EReal.coe_one, ← EReal.coe_zero, ← EReal.coe_neg, ← EReal.coe_mul, ← EReal.coe_add, ← EReal.coe_sub, coe_sum]

theorem r_s100 (d : Fin 1024) : val_main_v100 (F := Ideal) x0 x1 x2 x3 x4 x5 x6 x7 x8 (ix1 d) = ((∑ b, ∑ t, P.dx1 (row b t) d : ℝ) : EReal) := by
  unfold val_main_v100
  rw [hostReduceAdd_apply, outer_sums]
  pointwise [val_main_cst_16, val_main_v99]
  simp only [Fin.sum_univ_one, r_s98 H, al_word, ep_word, one_word, zero_word, two_word, half_word, div_1024, ← EReal.coe_one, ← EReal.coe_zero, ← EReal.coe_neg, ← EReal.coe_mul, ← EReal.coe_add, ← EReal.coe_sub, coe_sum]

theorem r_dbi (d : Fin 1024) :
    val_main_v101 (F := Ideal) x0 x1 x2 x3 x4 x5 x6 x7 x8 (ix2 0 d) = ((∑ b, ∑ t, P.dx1 (row b t) d : ℝ) : EReal) := by
  pointwise [val_main_v101]
  simp only [row_eq, slab_eq, lane_eq, r_s100 H, al_word, ep_word, one_word, zero_word, two_word, half_word, div_1024, ← EReal.coe_one, ← EReal.coe_zero, ← EReal.coe_neg, ← EReal.coe_mul, ← EReal.coe_add, ← EReal.coe_sub, coe_sum]

theorem r_s103 (d : Fin 1024) : val_main_v103 (F := Ideal) x0 x1 x2 x3 x4 x5 x6 x7 x8 (ix1 d) = ((∑ b, ∑ t, P.dx1 (row b t) d * P.xh (row b t) d : ℝ) : EReal) := by
  unfold val_main_v103
  rw [hostReduceAdd_apply, outer_sums]
  pointwise [val_main_cst_17, val_main_v102]
  simp only [Fin.sum_univ_one, r_dx1 H, r_xh H, mul_comm, al_word, ep_word, one_word, zero_word, two_word, half_word, div_1024, ← EReal.coe_one, ← EReal.coe_zero, ← EReal.coe_neg, ← EReal.coe_mul, ← EReal.coe_add, ← EReal.coe_sub, coe_sum]

theorem r_s107 (d : Fin 1024) : val_main_v107 (F := Ideal) x0 x1 x2 x3 x4 x5 x6 x7 x8 (ix1 d) = ((∑ b, ∑ t, P.dx1 (row b t) d * P.xh (row b t) d : ℝ) : EReal) := by
  unfold val_main_v107
  rw [hostReduceAdd_apply, outer_sums]
  pointwise [val_main_cst_18, val_main_v104]
  simp only [Fin.sum_univ_one, r_s103 H, al_word, ep_word, one_word, zero_word, two_word, half_word, div_1024, ← EReal.coe_one, ← EReal.coe_zero, ← EReal.coe_neg, ← EReal.coe_mul, ← EReal.coe_add, ← EReal.coe_sub, coe_sum]

theorem r_dw (d : Fin 1024) :
    val_main_v108 (F := Ideal) x0 x1 x2 x3 x4 x5 x6 x7 x8 (ix2 0 d) = ((∑ b, ∑ t, P.dx1 (row b t) d * P.xh (row b t) d : ℝ) : EReal) := by
  pointwise [val_main_v108]
  simp only [row_eq, slab_eq, lane_eq, r_s107 H, al_word, ep_word, one_word, zero_word, two_word, half_word, div_1024, ← EReal.coe_one, ← EReal.coe_zero, ← EReal.coe_neg, ← EReal.coe_mul, ← EReal.coe_add, ← EReal.coe_sub, coe_sum]

theorem r_out_da (j : Fin 4) (r : Fin 8192) (q : Fin 704) :
    val_main_v147 (F := Ideal) x0 x1 x2 x3 x4 x5 x6 x7 x8 (ix3 j r q) = ((P.da r j q : ℝ) : EReal) := by
  pointwise [val_main_v147, val_main_v146, val_main_v145]
  simp only [row_eq, slab_eq, lane_eq, r_da H, row_div, slab_pair, lane_pair, al_word, ep_word, one_word, zero_word, two_word, half_word, div_1024, ← EReal.coe_one, ← EReal.coe_zero, ← EReal.coe_neg, ← EReal.coe_mul, ← EReal.coe_add, ← EReal.coe_sub, coe_sum]

theorem r_out_db (j : Fin 4) (r : Fin 8192) (q : Fin 704) :
    val_main_v150 (F := Ideal) x0 x1 x2 x3 x4 x5 x7 x8 (ix3 j r q) = ((P.db r j q : ℝ) : EReal) := by
  pointwise [val_main_v150, val_main_v149, val_main_v148]
  simp only [row_eq, slab_eq, lane_eq, r_db H, row_div, slab_pair, lane_pair, al_word, ep_word, one_word, zero_word, two_word, half_word, div_1024, ← EReal.coe_one, ← EReal.coe_zero, ← EReal.coe_neg, ← EReal.coe_mul, ← EReal.coe_add, ← EReal.coe_sub, coe_sum]

theorem r_out_hm (j : Fin 4) (r : Fin 8192) (q : Fin 704) :
    val_main_v153 (F := Ideal) x0 x1 x2 x3 x4 x5 x6 (ix3 j r q) = ((P.hm r j q : ℝ) : EReal) := by
  pointwise [val_main_v153, val_main_v152, val_main_v151]
  simp only [row_eq, slab_eq, lane_eq, r_hm H, row_div, slab_pair, lane_pair, al_word, ep_word, one_word, zero_word, two_word, half_word, div_1024, ← EReal.coe_one, ← EReal.coe_zero, ← EReal.coe_neg, ← EReal.coe_mul, ← EReal.coe_add, ← EReal.coe_sub, coe_sum]

theorem r_out_df (r : Fin 8192) (d : Fin 1024) :
    val_main_v155 (F := Ideal) x2 x8 (ix2 r d) = ((P.df r d : ℝ) : EReal) := by
  pointwise [val_main_v155, val_main_v154]
  simp only [row_eq, slab_eq, lane_eq, r_df H, row_div, al_word, ep_word, one_word, zero_word, two_word, half_word, div_1024, ← EReal.coe_one, ← EReal.coe_zero, ← EReal.coe_neg, ← EReal.coe_mul, ← EReal.coe_add, ← EReal.coe_sub, coe_sum]

theorem r_out_du (r : Fin 8192) (d : Fin 1024) :
    val_main_v157 (F := Ideal) x0 x1 x2 x3 x4 x5 x6 x7 x8 (ix2 r d) = ((P.g r d * P.dz1 r d : ℝ) : EReal) := by
  pointwise [val_main_v157, val_main_v156]
  simp only [row_eq, slab_eq, lane_eq, r_du H, row_div, al_word, ep_word, one_word, zero_word, two_word, half_word, div_1024, ← EReal.coe_one, ← EReal.coe_zero, ← EReal.coe_neg, ← EReal.coe_mul, ← EReal.coe_add, ← EReal.coe_sub, coe_sum]

theorem r_out_dx (r : Fin 8192) (d : Fin 1024) :
    val_main_v159 (F := Ideal) x0 x1 x2 x3 x4 x5 x6 x7 x8 (ix2 r d) = ((al * P.dz1 r d : ℝ) : EReal) := by
  pointwise [val_main_v159, val_main_v158]
  simp only [row_eq, slab_eq, lane_eq, r_dx H, row_div, al_word, ep_word, one_word, zero_word, two_word, half_word, div_1024, ← EReal.coe_one, ← EReal.coe_zero, ← EReal.coe_neg, ← EReal.coe_mul, ← EReal.coe_add, ← EReal.coe_sub, coe_sum]

theorem r_out_sums (k : Fin 8) (d : Fin 1024) :
    val_main_v141 (F := Ideal) x0 x1 x2 x3 x4 x5 x6 x7 x8 (ix2 k d) = ((P.sums k d : ℝ) : EReal) := by
  pointwise [val_main_v141, val_main_v140, val_main_cst_28]
  simp only [row_eq, slab_eq, lane_eq, r_dw H, r_dbi H, al_word, ep_word, one_word, zero_word, two_word, half_word, div_1024, ← EReal.coe_one, ← EReal.coe_zero, ← EReal.coe_neg, ← EReal.coe_mul, ← EReal.coe_add, ← EReal.coe_sub, coe_sum]
  fin_cases k <;> simp [Args.sums, r_dw H, r_dbi H]

theorem r_out_dmod (b : Fin 2) (k : Fin 8) (d : Fin 1024) :
    val_main_v144 (F := Ideal) x0 x1 x2 x3 x4 x5 x6 x7 x8 (ix3 b k d) = ((P.dmod b k d : ℝ) : EReal) := by
  pointwise [val_main_v144, val_main_v143, val_main_v142, val_main_cst_29, val_main_cst_30]
  simp only [row_eq, slab_eq, lane_eq, r_dg1 H, r_dsh H, r_dsc H, al_word, ep_word, one_word, zero_word, two_word, half_word, div_1024, ← EReal.coe_one, ← EReal.coe_zero, ← EReal.coe_neg, ← EReal.coe_mul, ← EReal.coe_add, ← EReal.coe_sub, coe_sum]
  fin_cases k <;> simp [Args.dmod, r_dg1 H, r_dsh H, r_dsc H]

theorem arr_da : val_main_v147 (F := Ideal) x0 x1 x2 x3 x4 x5 x6 x7 x8 = fun i : S4x8192x704.Idx => ((P.da (i 1) (i 0) (i 2) : ℝ) : EReal) :=
  funext fun i => (congrArg _ (ValueIdx.eq_ix3 i)).trans (r_out_da H (i 0) (i 1) (i 2))

theorem arr_db : val_main_v150 (F := Ideal) x0 x1 x2 x3 x4 x5 x7 x8 = fun i : S4x8192x704.Idx => ((P.db (i 1) (i 0) (i 2) : ℝ) : EReal) :=
  funext fun i => (congrArg _ (ValueIdx.eq_ix3 i)).trans (r_out_db H (i 0) (i 1) (i 2))

theorem arr_hm : val_main_v153 (F := Ideal) x0 x1 x2 x3 x4 x5 x6 = fun i : S4x8192x704.Idx => ((P.hm (i 1) (i 0) (i 2) : ℝ) : EReal) :=
  funext fun i => (congrArg _ (ValueIdx.eq_ix3 i)).trans (r_out_hm H (i 0) (i 1) (i 2))

theorem arr_df : val_main_v155 (F := Ideal) x2 x8 = fun i : S8192x1024.Idx => ((P.df (i 0) (i 1) : ℝ) : EReal) :=
  funext fun i => (congrArg _ (ValueIdx.eq_ix2 i)).trans (r_out_df H (i 0) (i 1))

theorem arr_du : val_main_v157 (F := Ideal) x0 x1 x2 x3 x4 x5 x6 x7 x8 = fun i : S8192x1024.Idx => ((P.g (i 0) (i 1) * P.dz1 (i 0) (i 1) : ℝ) : EReal) :=
  funext fun i => (congrArg _ (ValueIdx.eq_ix2 i)).trans (r_out_du H (i 0) (i 1))

theorem arr_dx : val_main_v159 (F := Ideal) x0 x1 x2 x3 x4 x5 x6 x7 x8 = fun i : S8192x1024.Idx => ((al * P.dz1 (i 0) (i 1) : ℝ) : EReal) :=
  funext fun i => (congrArg _ (ValueIdx.eq_ix2 i)).trans (r_out_dx H (i 0) (i 1))

theorem arr_sums : val_main_v141 (F := Ideal) x0 x1 x2 x3 x4 x5 x6 x7 x8 = fun i : S8x1024.Idx => ((P.sums (i 0) (i 1) : ℝ) : EReal) :=
  funext fun i => (congrArg _ (ValueIdx.eq_ix2 i)).trans (r_out_sums H (i 0) (i 1))

theorem arr_dmod : val_main_v144 (F := Ideal) x0 x1 x2 x3 x4 x5 x6 x7 x8 = fun i : S2x8x1024.Idx => ((P.dmod (i 0) (i 1) (i 2) : ℝ) : EReal) :=
  funext fun i => (congrArg _ (ValueIdx.eq_ix3 i)).trans (r_out_dmod H (i 0) (i 1) (i 2))

end Cert.Ffn.Ref

end
-- ==== Proof.FfnValue.lean ====
/-
  The feed-forward network's backward pass: each of its eight results is the reference's, at finite arguments.
-/
module

public import proofs.«01_k».proof.Proof.FfnAcc
public import proofs.«01_k».proof.Proof.FfnRef

@[expose] public section

noncomputable section

namespace Cert.Kernel3Ideal.Ffn

open Idealize.ShloMosaic Idealize.ShloMosaic.TcCoe Idealize.SL.Sem
open Cert.Kernel3Ideal Cert.Kernel3Ideal.Gen Cert.Kernel3Ideal.Value Cert.Ffn

/-- The written windows' blocks at a point. -/
theorem oidx : ∀ t : Fin cfg0.N, win0_11.index t = ![t.val % 4, t.val / 4, 0] ∧ win0_12.index t = ![t.val % 4, t.val / 4, 0]
    ∧ win0_13.index t = ![t.val % 4, t.val / 4, 0] ∧ win0_14.index t = ![t.val / 4, 0] ∧ win0_15.index t = ![t.val / 4, 0]
    ∧ win0_16.index t = ![t.val / 4, 0] ∧ win0_17.index t = ![0, 0] ∧ win0_18.index t = ![t.val / 32, 0, 0] :=
  (by decide +kernel : ∀ t : Fin grid0.N, _)

theorem one3 {n1 n2 : ℕ} (y : (⟨3, ![1, n1, n2]⟩ : Shape).Idx) : ∃ p q, y = ix3 0 p q := by
  refine ⟨y 1, y 2, (ValueIdx.eq_ix3 y).trans ?_⟩
  congr 1
  exact Subsingleton.elim (α := Fin 1) _ _

theorem two2 {n0 n1 : ℕ} (y : (⟨2, ![n0, n1]⟩ : Shape).Idx) : ∃ p q, y = ix2 p q := ⟨y 0, y 1, ValueIdx.eq_ix2 y⟩

theorem flush15 : ∀ t : Fin cfg0.N, (cfg0.win 15).flush t = true → t.val % 4 = 3 := by decide +kernel
theorem flush16 : ∀ t : Fin cfg0.N, (cfg0.win 16).flush t = true → t.val % 4 = 3 := by decide +kernel
theorem flush17 : ∀ t : Fin cfg0.N, (cfg0.win 17).flush t = true → t.val = 63 := by decide +kernel
theorem flush18 : ∀ t : Fin cfg0.N, (cfg0.win 18).flush t = true → t.val % 32 = 31 := by decide +kernel

theorem emb11 (t : Fin cfg0.N) (p : Fin 512) (q : Fin 704) :
    (win0_11.blk t).view.emb (ix3 0 p q : S1x512x704.Idx) = (ix3 (sl t) (rw_ t p) q : S4x8192x704.Idx) := by
  funext a
  apply Fin.ext
  fin_cases a <;> blk_simp [oidx t] <;> rfl

theorem emb12 (t : Fin cfg0.N) (p : Fin 512) (q : Fin 704) :
    (win0_12.blk t).view.emb (ix3 0 p q : S1x512x704.Idx) = (ix3 (sl t) (rw_ t p) q : S4x8192x704.Idx) := by
  funext a
  apply Fin.ext
  fin_cases a <;> blk_simp [oidx t] <;> rfl

theorem emb13 (t : Fin cfg0.N) (p : Fin 512) (q : Fin 704) :
    (win0_13.blk t).view.emb (ix3 0 p q : S1x512x704.Idx) = (ix3 (sl t) (rw_ t p) q : S4x8192x704.Idx) := by
  funext a
  apply Fin.ext
  fin_cases a <;> blk_simp [oidx t] <;> rfl

theorem emb14 (t : Fin cfg0.N) (p : Fin 512) (d : Fin 1024) :
    (win0_14.blk t).view.emb (ix2 p d : S512x1024.Idx) = (ix2 (rw_ t p) d : S8192x1024.Idx) := by
  funext a
  apply Fin.ext
  fin_cases a <;> blk_simp [oidx t] <;> rfl

theorem emb15 (t : Fin cfg0.N) (p : Fin 512) (d : Fin 1024) :
    (win0_15.blk t).view.emb (ix2 p d : S512x1024.Idx) = (ix2 (rw_ t p) d : S8192x1024.Idx) := by
  funext a
  apply Fin.ext
  fin_cases a <;> blk_simp [oidx t] <;> rfl

theorem emb16 (t : Fin cfg0.N) (p : Fin 512) (d : Fin 1024) :
    (win0_16.blk t).view.emb (ix2 p d : S512x1024.Idx) = (ix2 (rw_ t p) d : S8192x1024.Idx) := by
  funext a
  apply Fin.ext
  fin_cases a <;> blk_simp [oidx t] <;> rfl

theorem emb17 (t : Fin cfg0.N) (k : Fin 8) (d : Fin 1024) :
    (win0_17.blk t).view.emb (ix2 k d : S8x1024.Idx) = (ix2 k d : S8x1024.Idx) := by
  funext a
  apply Fin.ext
  fin_cases a <;> blk_simp [oidx t] <;> rfl

theorem emb18 (t : Fin cfg0.N) (k : Fin 8) (d : Fin 1024) :
    (win0_18.blk t).view.emb (ix3 0 k d : S1x8x1024.Idx) = (ix3 (sq t) k d : S2x8x1024.Idx) := by
  funext a
  apply Fin.ext
  fin_cases a <;> blk_simp [oidx t] <;> rfl

variable {m : (ℓ : Loc nD τ sig) → Buf (Elt Ideal) ℓ} {c : Dev nD} {P : Args} (H : Holds m c P)
include H

theorem final_da : (dats m 0 c).arrAt 11 cfg0.N = fun i : S4x8192x704.Idx => ((P.da (i 1) (i 0) (i 2) : ℝ) : EReal) := by
  refine (dats m 0 c).arrAt_eq_of_covers 11 _ (by decide +kernel) fun t hf y => ?_
  blk_simp
  rw [after0_11]
  obtain ⟨p, q, rfl⟩ := one3 (n1 := 512) (n2 := 704) y
  have e := emb11 t p q
  refine (o_da H t p q).trans ?_
  rw [e]
  rfl

theorem final_db : (dats m 0 c).arrAt 12 cfg0.N = fun i : S4x8192x704.Idx => ((P.db (i 1) (i 0) (i 2) : ℝ) : EReal) := by
  refine (dats m 0 c).arrAt_eq_of_covers 12 _ (by decide +kernel) fun t hf y => ?_
  blk_simp
  rw [after0_12]
  obtain ⟨p, q, rfl⟩ := one3 (n1 := 512) (n2 := 704) y
  have e := emb12 t p q
  refine (o_db H t p q).trans ?_
  rw [e]
  rfl

theorem final_hm : (dats m 0 c).arrAt 13 cfg0.N = fun i : S4x8192x704.Idx => ((P.hm (i 1) (i 0) (i 2) : ℝ) : EReal) := by
  refine (dats m 0 c).arrAt_eq_of_covers 13 _ (by decide +kernel) fun t hf y => ?_
  blk_simp
  rw [after0_13]
  obtain ⟨p, q, rfl⟩ := one3 (n1 := 512) (n2 := 704) y
  have e := emb13 t p q
  refine (o_hm H t p q).trans ?_
  rw [e]
  rfl

theorem final_df : (dats m 0 c).arrAt 14 cfg0.N = fun i : S8192x1024.Idx => ((P.df (i 0) (i 1) : ℝ) : EReal) := by
  refine (dats m 0 c).arrAt_eq_of_covers 14 _ (by decide +kernel) fun t hf y => ?_
  blk_simp
  rw [after0_14]
  obtain ⟨p, q, rfl⟩ := two2 (n0 := 512) (n1 := 1024) y
  have e := emb14 t p q
  refine (o_df H t p q).trans ?_
  rw [e]
  rfl

theorem final_du : (dats m 0 c).arrAt 15 cfg0.N = fun i : S8192x1024.Idx => ((P.g (i 0) (i 1) * P.dz1 (i 0) (i 1) : ℝ) : EReal) := by
  refine (dats m 0 c).arrAt_eq_of_covers 15 _ (by decide +kernel) fun t hf y => ?_
  blk_simp
  rw [after0_15]
  obtain ⟨p, q, rfl⟩ := two2 (n0 := 512) (n1 := 1024) y
  have e := emb15 t p q
  refine (o_du H t (flush15 t hf) p q).trans ?_
  rw [e]
  rfl

theorem final_dx : (dats m 0 c).arrAt 16 cfg0.N = fun i : S8192x1024.Idx => ((al * P.dz1 (i 0) (i 1) : ℝ) : EReal) := by
  refine (dats m 0 c).arrAt_eq_of_covers 16 _ (by decide +kernel) fun t hf y => ?_
  blk_simp
  rw [after0_16]
  obtain ⟨p, q, rfl⟩ := two2 (n0 := 512) (n1 := 1024) y
  have e := emb16 t p q
  refine (o_dx H t (flush16 t hf) p q).trans ?_
  rw [e]
  rfl

theorem final_st : (dats m 0 c).arrAt 17 cfg0.N = fun i : S8x1024.Idx => ((P.sums (i 0) (i 1) : ℝ) : EReal) := by
  refine (dats m 0 c).arrAt_eq_of_covers 17 _ (by decide +kernel) fun t hf y => ?_
  blk_simp
  rw [after0_17]
  obtain ⟨p, q, rfl⟩ := two2 (n0 := 8) (n1 := 1024) y
  have e := emb17 t p q
  have ht := flush17 t hf
  refine (o_st H t.val (lt64 t) (by omega) p q).trans ?_
  rw [e, show (t.val + 1) / 4 = 16 by omega, sum_stv]
  rfl

theorem final_dm : (dats m 0 c).arrAt 18 cfg0.N = fun i : S2x8x1024.Idx => ((P.dmod (i 0) (i 1) (i 2) : ℝ) : EReal) := by
  refine (dats m 0 c).arrAt_eq_of_covers 18 _ (by decide +kernel) fun t hf y => ?_
  blk_simp
  rw [after0_18]
  obtain ⟨p, q, rfl⟩ := one3 (n1 := 8) (n2 := 1024) y
  have e := emb18 t p q
  have ht := flush18 t hf
  refine (o_dm H t.val (lt64 t) (by omega) p q).trans ?_
  rw [e, show (t.val % 32 + 1) / 4 = 8 by omega]
  exact congrArg _ (sum_dmv P (sq t) p q)

end Cert.Kernel3Ideal.Ffn

end
-- ==== Proof.FfnClaims.lean ====
/- The claims about the backward pass of the feed-forward network, assembled from the runs of the two programs. -/
module

public import proofs.«01_k».proof.Defs
public import proofs.«01_k».proof.Proof.FfnValue
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite
public import Idealize.ShloMosaic.Lib.Claim
public import Idealize.ShloMosaic.Lib.Quiescent

@[expose] public section

noncomputable section

open Idealize.ShloMosaic Idealize.ShloMosaic.TcCoe Idealize.SL.Sem

namespace Cert.Proof.Ffn

open Cert.Ffn

/-- A value whose magnitude lies below infinity is a real number. -/
theorem real_of_lt (x : EReal) (h : Ideal.cmp .olt (max x (-x)) (Ideal.ofBits .f32 0x7F800000#32) = 1#1) : x = (x.toReal : EReal) := by
  have hi : Ideal.ofBits .f32 0x7F800000#32 = ⊤ := by simp [Ideal.ofBits, Ideal.ieee]
  rw [hi] at h
  induction x with
  | bot => simp [Ideal.cmp] at h
  | top => simp [Ideal.cmp] at h
  | coe r => rfl

/-- The real numbers the argument arrays hold. -/
def args (m : (ℓ : Loc Cert.Kernel3Ideal.nD Cert.Kernel3Ideal.τ Cert.Kernel3Ideal.sig) → Buf (Elt Ideal) ℓ) (c : Dev Cert.Kernel3Ideal.nD) : Args where
  x := fun r d => ((m ((c.tc : Thread Cert.Kernel3Ideal.nD Cert.Kernel3Ideal.τ).loc Cert.Kernel3Ideal.main_arg0) : Cert.Kernel3Ideal.S8192x1024.Idx → EReal) (ix2 r d)).toReal
  u := fun r d => ((m ((c.tc : Thread Cert.Kernel3Ideal.nD Cert.Kernel3Ideal.τ).loc Cert.Kernel3Ideal.main_arg1) : Cert.Kernel3Ideal.S8192x1024.Idx → EReal) (ix2 r d)).toReal
  md := fun b k d => ((m ((c.tc : Thread Cert.Kernel3Ideal.nD Cert.Kernel3Ideal.τ).loc Cert.Kernel3Ideal.main_arg2) : Cert.Kernel3Ideal.S2x8x1024.Idx → EReal) (ix3 b k d)).toReal
  w := fun d => ((m ((c.tc : Thread Cert.Kernel3Ideal.nD Cert.Kernel3Ideal.τ).loc Cert.Kernel3Ideal.main_arg3) : Cert.Kernel3Ideal.S1x1024.Idx → EReal) (ix2 0 d)).toReal
  bi := fun d => ((m ((c.tc : Thread Cert.Kernel3Ideal.nD Cert.Kernel3Ideal.τ).loc Cert.Kernel3Ideal.main_arg4) : Cert.Kernel3Ideal.S1x1024.Idx → EReal) (ix2 0 d)).toReal
  wg := fun j q d => ((m ((c.tc : Thread Cert.Kernel3Ideal.nD Cert.Kernel3Ideal.τ).loc Cert.Kernel3Ideal.main_arg5) : Cert.Kernel3Ideal.S4x704x1024.Idx → EReal) (ix3 j q d)).toReal
  wu := fun j q d => ((m ((c.tc : Thread Cert.Kernel3Ideal.nD Cert.Kernel3Ideal.τ).loc Cert.Kernel3Ideal.main_arg6) : Cert.Kernel3Ideal.S4x704x1024.Idx → EReal) (ix3 j q d)).toReal
  wd := fun j q d => ((m ((c.tc : Thread Cert.Kernel3Ideal.nD Cert.Kernel3Ideal.τ).loc Cert.Kernel3Ideal.main_arg7) : Cert.Kernel3Ideal.S4x704x1024.Idx → EReal) (ix3 j q d)).toReal
  dz := fun r d => ((m ((c.tc : Thread Cert.Kernel3Ideal.nD Cert.Kernel3Ideal.τ).loc Cert.Kernel3Ideal.main_arg8) : Cert.Kernel3Ideal.S8192x1024.Idx → EReal) (ix2 r d)).toReal

/-- At finite arguments the arrays hold those numbers. -/
theorem holds (m : (ℓ : Loc Cert.Kernel3Ideal.nD Cert.Kernel3Ideal.τ Cert.Kernel3Ideal.sig) → Buf (Elt Ideal) ℓ)
    [Cert.Pre_finite.Facts] (hpre : Cert.Pre_Kernel3Ideal_finite m) (c : Dev Cert.Kernel3Ideal.nD) :
    Cert.Kernel3Ideal.Ffn.Holds m c (args m c) := by
  obtain ⟨h0, h1, h2, h3, h4, h5, h6, h7, h8⟩ := hpre c
  exact {
    x := fun r d => real_of_lt _ (congrFun h0 (ix2 r d))
    u := fun r d => real_of_lt _ (congrFun h1 (ix2 r d))
    md := fun b k d => real_of_lt _ (congrFun h2 (ix3 b k d))
    w := fun d => real_of_lt _ (congrFun h3 (ix2 0 d))
    bi := fun d => real_of_lt _ (congrFun h4 (ix2 0 d))
    wg := fun j q d => real_of_lt _ (congrFun h5 (ix3 j q d))
    wu := fun j q d => real_of_lt _ (congrFun h6 (ix3 j q d))
    wd := fun j q d => real_of_lt _ (congrFun h7 (ix3 j q d))
    dz := fun r d => real_of_lt _ (congrFun h8 (ix2 r d))
  }

/-- The reference's arrays, equal to the kernel's, hold them too. -/
theorem holds_ref (m : (ℓ : Loc Cert.Kernel3Ideal.nD Cert.Kernel3Ideal.τ Cert.Kernel3Ideal.sig) → Buf (Elt Ideal) ℓ)
    (c : Dev Cert.Kernel3Ideal.nD) {P : Args} (H : Cert.Kernel3Ideal.Ffn.Holds m c P) :
    Cert.Ffn.Ref.Holds P (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6))
      (m ((c.tc : Thread Cert.Kernel3Ideal.nD Cert.Kernel3Ideal.τ).loc Cert.Kernel3Ideal.main_arg7))
      (m ((c.tc : Thread Cert.Kernel3Ideal.nD Cert.Kernel3Ideal.τ).loc Cert.Kernel3Ideal.main_arg8)) where
  x := H.x
  u := H.u
  md := H.md
  w := H.w
  bi := H.bi
  wg := H.wg
  wu := H.wu
  wd := H.wd
  dz := H.dz

/-- The kernel and its idealization run and leave the memory they were given. -/
theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_ideal_finite [Cert.Pre_finite.Facts] : Cert.quiescent_Kernel3Ideal_pre_finite := fun m ρ _ => Cert.Kernel3Ideal.Gen.frame m ρ

/-- The reference declares no semaphore; its run leaves its arguments as they were. -/
theorem frame_reference : Cert.quiescent_Reference3Ideal := fun m ρ _ =>
  (θ_run Cert.Reference3Ideal.defs _ _).mono (fun r h => ⟨fun c => (h c).2.2.2.2.2.2.2.2,
      sem_eq_zero_of_no_sems (by decide) r.2⟩)
    (Cert.Reference3Ideal.Value.run (F := Ideal) m ρ)
theorem frame_reference_finite [Cert.Pre_finite.Facts] : Cert.quiescent_Reference3Ideal_pre_finite := fun m ρ _ =>
  frame_reference m ρ trivial

set_option maxHeartbeats 2000000 in
/-- At finite arguments every result of the call is the reference's. -/
theorem algebraic [Cert.Pre_finite.Facts] : Cert.algebraic_Kernel3Ideal_Reference3Ideal_pre_finite := by
  intro m ρ m' ρ' hpre hagree
  refine ⟨fun c => (Cert.Kernel3Ideal.Gen.dats m 0 c).arrAt 11 Cert.Kernel3Ideal.cfg0.N,
    fun c => (Cert.Kernel3Ideal.Gen.dats m 0 c).arrAt 12 Cert.Kernel3Ideal.cfg0.N,
    fun c => (Cert.Kernel3Ideal.Gen.dats m 0 c).arrAt 13 Cert.Kernel3Ideal.cfg0.N,
    fun c => (Cert.Kernel3Ideal.Gen.dats m 0 c).arrAt 14 Cert.Kernel3Ideal.cfg0.N,
    fun c => (Cert.Kernel3Ideal.Gen.dats m 0 c).arrAt 15 Cert.Kernel3Ideal.cfg0.N,
    fun c => (Cert.Kernel3Ideal.Gen.dats m 0 c).arrAt 16 Cert.Kernel3Ideal.cfg0.N,
    fun c => (Cert.Kernel3Ideal.Gen.dats m 0 c).arrAt 17 Cert.Kernel3Ideal.cfg0.N,
    fun c => (Cert.Kernel3Ideal.Gen.dats m 0 c).arrAt 18 Cert.Kernel3Ideal.cfg0.N, ?_, ?_⟩
  · refine (θ_run Cert.Kernel3Ideal.defs _ _).mono (fun r h c => ?_) (Cert.Kernel3Ideal.Value.run_blocks (F := Ideal) m ρ)
    exact h c
  · refine (θ_run Cert.Reference3Ideal.defs _ _).mono (fun r h c => ?_) (Cert.Reference3Ideal.Value.run (F := Ideal) m' ρ')
    have H := holds m hpre c
    have HR := holds_ref m c H
    obtain ⟨e0, e1, e2, e3, e4, e5, e6, e7, e8⟩ := hagree c
    rw [← e0, ← e1, ← e2, ← e3, ← e4, ← e5, ← e6, ← e7, ← e8] at HR
    obtain ⟨r0, r1, r2, r3, r4, r5, r6, r7, rest⟩ := h c
    replace r0 := (r0.trans (Cert.Reference3Ideal.Read.val_main_v147_eq _)).trans (Cert.Ffn.Ref.arr_da HR)
    replace r1 := (r1.trans (Cert.Reference3Ideal.Read.val_main_v150_eq _)).trans (Cert.Ffn.Ref.arr_db HR)
    replace r2 := (r2.trans (Cert.Reference3Ideal.Read.val_main_v153_eq _)).trans (Cert.Ffn.Ref.arr_hm HR)
    replace r3 := (r3.trans (Cert.Reference3Ideal.Read.val_main_v155_eq _)).trans (Cert.Ffn.Ref.arr_df HR)
    replace r4 := (r4.trans (Cert.Reference3Ideal.Read.val_main_v157_eq _)).trans (Cert.Ffn.Ref.arr_du HR)
    replace r5 := (r5.trans (Cert.Reference3Ideal.Read.val_main_v159_eq _)).trans (Cert.Ffn.Ref.arr_dx HR)
    replace r6 := (r6.trans (Cert.Reference3Ideal.Read.val_main_v141_eq _)).trans (Cert.Ffn.Ref.arr_sums HR)
    replace r7 := (r7.trans (Cert.Reference3Ideal.Read.val_main_v144_eq _)).trans (Cert.Ffn.Ref.arr_dmod HR)
    have s0 := Cert.Kernel3Ideal.Ffn.final_da H
    have s1 := Cert.Kernel3Ideal.Ffn.final_db H
    have s2 := Cert.Kernel3Ideal.Ffn.final_hm H
    have s3 := Cert.Kernel3Ideal.Ffn.final_df H
    have s4 := Cert.Kernel3Ideal.Ffn.final_du H
    have s5 := Cert.Kernel3Ideal.Ffn.final_dx H
    have s6 := Cert.Kernel3Ideal.Ffn.final_st H
    have s7 := Cert.Kernel3Ideal.Ffn.final_dm H
    have t0 := r0.trans s0.symm
    have t1 := r1.trans s1.symm
    have t2 := r2.trans s2.symm
    have t3 := r3.trans s3.symm
    have t4 := r4.trans s4.symm
    have t5 := r5.trans s5.symm
    have t6 := r6.trans s6.symm
    have t7 := r7.trans s7.symm
    exact ⟨t0, t1, t2, t3, t4, t5, t6, t7, rest⟩

end Cert.Proof.Ffn

end
-- ==== Proof.RowTiles.lean ====
/- A sum over all the rows of an array, taken tile by tile. -/
module

public import Idealize.ShloMosaic.Lib.Pointwise

@[expose] public section

namespace Cert.Tiles

/-- Row `p` of the `k`-th tile of 2048 rows. -/
def tile (k : ℕ) (p : Fin 2048) : Fin 8192 := ⟨(k * 2048 + p.val) % 8192, Nat.mod_lt _ (by norm_num)⟩

theorem tile_val (n : ℕ) (p : Fin 2048) : (tile (n % 4) p).val = n % 4 * 2048 + p.val := by
  simp only [tile]; omega

/-- The four tiles' sums are the sum over all rows; the values may be infinite. -/
theorem sum_tiles (f : Fin 8192 → EReal) : ∑ k ∈ Finset.range 4, ∑ p, f (tile k p) = ∑ r, f r := by
  rw [Finset.sum_range, ← Fintype.sum_prod_type', ← (finProdFinEquiv (m := 4) (n := 2048)).sum_comp]
  refine Finset.sum_congr rfl fun x _ => congrArg f ?_
  obtain ⟨i, p⟩ := x
  apply Fin.ext
  simp only [tile, finProdFinEquiv_apply_val]
  omega

/-- A modulated activation: the activation times one plus its sequence's scale, plus its sequence's shift. -/
noncomputable def act (x : Fin 8192 → Fin 1024 → EReal) (shift scale : Fin 2 → Fin 1024 → EReal) (r : Fin 8192) (k : Fin 1024) : EReal :=
  x r k * (1 + scale ⟨r.val / 4096, by omega⟩ k) + shift ⟨r.val / 4096, by omega⟩ k

end Cert.Tiles
-- ==== Proof.DownWeight.lean ====
/-
  The gradient of the FFN's down weights: each block of the call is the sum over all tokens of the hidden product times the
  gradient of the FFN's output, and so is the reference's array.
-/
module

public import proofs.«01_k».proof.Defs
public import proofs.«01_k».proof.Proof.RowTiles
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

@[expose] public section

noncomputable section

namespace Cert.Kernel4Ideal.Weight

open Idealize.ShloMosaic Idealize.ShloMosaic.TcCoe Idealize.SL.Sem
open Cert.Kernel4Ideal Cert.Kernel4Ideal.Gen Cert.Tiles

variable (m : (ℓ : Loc nD τ sig) → Buf (Elt Ideal) ℓ) (c : Dev nD)

/-- The windows' blocks at a grid point. -/
theorem idx : ∀ t : Fin cfg0.N, win0_0.index t = ![t.val / 4, t.val % 4, 0] ∧ win0_1.index t = ![t.val % 4, 0]
    ∧ win0_2.index t = ![t.val / 4, 0, 0] :=
  (by decide +kernel : ∀ t : Fin grid0.N, _)

theorem points (t : Fin cfg0.N) : t.val < 16 := t.isLt

/-- The slab a point works on. -/
def sl (t : Fin cfg0.N) : Fin 4 := ⟨t.val / 4, by have := points t; omega⟩

theorem first (t : Fin cfg0.N) (h : t.val % 4 = 0) : outsAt0 m c t.val t.isLt = k0_pay1 (F := Ideal) (iblk m c 0 t) (iblk m c 1 t) := by
  rw [outsAt0_A m c t h (by omega)]; frame_out

theorem next (t : Fin cfg0.N) (h : ¬t.val % 4 = 0) : outsAt0 m c t.val t.isLt
    = k0_pay2 (F := Ideal) (iblk m c 0 t) (iblk m c 1 t) (outsAt0 m c (t.val - 1) (by have := t.isLt; omega)) := by
  rw [outsAt0_B m c t h (by omega)]; frame_out

/-- The hidden product and the gradient of the FFN's output. -/
def hid : S4x8192x704.Idx → EReal := m (c, Proc.tc.devRef main_arg0)
def out : S8192x1024.Idx → EReal := m (c, Proc.tc.devRef main_arg2)

/-- One token's term of an entry of their product. -/
def term (s : Fin 4) (q : Fin 704) (d : Fin 1024) (r : Fin 8192) : EReal := hid m c (ix3 s r q) * out m c (ix2 r d)

theorem part (t : Fin cfg0.N) (q : Fin 704) (d : Fin 1024) :
    k0_pay1 (F := Ideal) (iblk m c 0 t) (iblk m c 1 t) (ix3 0 q d) = ∑ p, term m c (sl t) q d (tile (t.val % 4) p) := by
  pointwise [k0_pay1]
  refine Finset.sum_congr rfl fun p _ => congrArg₂ (· * ·) ?_ ?_
  · unfold hid; blk_point [iblk, idx t, V] <;> first | rfl | exact (tile_val _ _).symm
  · unfold out; blk_point [iblk, idx t, V] <;> first | rfl | exact (tile_val _ _).symm

/-- After a point the block holds the sum of its tiles so far. -/
theorem sums (n : ℕ) (hn : n < 16) (q : Fin 704) (d : Fin 1024) : outsAt0 m c n hn (ix3 0 q d)
    = ∑ k ∈ Finset.range (n % 4 + 1), ∑ p, term m c (sl ⟨n, hn⟩) q d (tile k p) := by
  induction n with
  | zero => rw [first m c ⟨0, hn⟩ rfl, part]; simp
  | succ n ih =>
    by_cases h : (n + 1) % 4 = 0
    · rw [first m c ⟨n + 1, hn⟩ h, part]
      simp [h]
    · rw [next m c ⟨n + 1, hn⟩ h]
      pointwise [k0_pay2]
      rw [part]
      have e : (n + 1) % 4 = n % 4 + 1 := by omega
      have e' : sl ⟨n + 1, hn⟩ = sl ⟨n, Nat.lt_of_succ_lt hn⟩ := Fin.ext (by show (n + 1) / 4 = n / 4; omega)
      simp only [e, e']
      rw [Finset.sum_range_succ]
      exact congrArg (· + _) (ih (by omega))

theorem flush : ∀ t : Fin cfg0.N, (cfg0.win 2).flush t = true → t.val % 4 = 3 := by decide +kernel

theorem emb (t : Fin cfg0.N) (q : Fin 704) (d : Fin 1024) :
    (win0_2.blk t).view.emb (ix3 0 q d : S1x704x1024.Idx) = (ix3 (sl t) q d : S4x704x1024.Idx) := by
  funext a
  apply Fin.ext
  fin_cases a <;> blk_simp [idx t] <;> rfl

theorem one3 {n1 n2 : ℕ} (y : (⟨3, ![1, n1, n2]⟩ : Shape).Idx) : ∃ p q, y = ix3 0 p q := by
  refine ⟨y 1, y 2, (ValueIdx.eq_ix3 y).trans ?_⟩
  congr 1
  exact Subsingleton.elim (α := Fin 1) _ _

theorem final : (dats m 0 c).arrAt 2 cfg0.N = fun i : S4x704x1024.Idx => ∑ r, term m c (i 0) (i 1) (i 2) r := by
  refine (dats m 0 c).arrAt_eq_of_covers 2 _ (by decide +kernel) fun t hf y => ?_
  blk_simp
  rw [Gen.after0_2]
  obtain ⟨q, d, rfl⟩ := one3 y
  have e := emb t q d
  refine (sums m c t.val t.isLt q d).trans ?_
  rw [e, flush t hf, sum_tiles]
  rfl

end Cert.Kernel4Ideal.Weight

namespace Cert.Reference4Ideal.Weight

open Idealize.ShloMosaic Cert.Reference4Ideal Cert.Reference4Ideal.Read

/-- The reference's array, entry by entry. -/
theorem value (x0 : (⟨S4x8192x704, .bf16⟩ : BufTy).Contents (Elt Ideal)) (x2 : (⟨S8192x1024, .bf16⟩ : BufTy).Contents (Elt Ideal)) :
    val_main_v10 (F := Ideal) x0 x2
      = fun i : S4x704x1024.Idx => ∑ r : Fin 8192, (x0 (ix3 (i 0) r (i 1)) : EReal) * (x2 (ix2 r (i 2)) : EReal) := by
  funext i
  obtain ⟨s, q, d, rfl⟩ : ∃ s q d, i = ix3 s q d := ⟨i 0, i 1, i 2, ValueIdx.eq_ix3 i⟩
  pointwise [val_main_v10, val_main_v8, val_main_v7, val_main_v6, val_main_v2, val_main_v1, val_main_v0]
  refine Finset.sum_congr rfl fun r _ => ?_
  rw [mul_comm]

end Cert.Reference4Ideal.Weight

end
-- ==== Proof.GateWeight.lean ====
/-
  The gradient of an input product's weights in the feed-forward network: each block of the call is the sum over all tokens of
  a chunk of the product's gradient times the modulated activations, and so is the reference's array.
-/
module

public import proofs.«01_k».proof.Defs
public import proofs.«01_k».proof.Proof.RowTiles
public import proofs.«01_k».proof.Proof.Gen.Kernel5Ideal.Value
public import proofs.«01_k».proof.Proof.Gen.Reference5Ideal.Read
public import Idealize.ShloMosaic.Lib.Pipeline.ValueKit
public import Idealize.ShloMosaic.Lib.Pointwise

@[expose] public section

noncomputable section

namespace Cert.Kernel5Ideal.Weight

open Idealize.ShloMosaic Idealize.ShloMosaic.TcCoe Idealize.SL.Sem
open Cert.Kernel5Ideal Cert.Kernel5Ideal.Gen Cert.Tiles

variable (m : (ℓ : Loc nD τ sig) → Buf (Elt Ideal) ℓ) (c : Dev nD)

/-- The windows' blocks at a grid point. -/
theorem idx : ∀ t : Fin cfg0.N, win0_0.index t = ![t.val / 4, t.val % 4, 0] ∧ win0_1.index t = ![t.val % 4, 0]
    ∧ win0_2.index t = ![t.val / 4, 0, 0] :=
  (by decide +kernel : ∀ t : Fin grid0.N, _)

theorem points (t : Fin cfg0.N) : t.val < 16 := t.isLt

/-- The part of the result a point works on. -/
def sl (t : Fin cfg0.N) : Fin 4 := ⟨t.val / 4, by have := points t; omega⟩

theorem first (t : Fin cfg0.N) (h : t.val % 4 = 0) : outsAt0 m c t.val t.isLt = k0_pay1 (F := Ideal) (iblk m c 0 t) (iblk m c 1 t) := by
  rw [outsAt0_A m c t h (by have := points t; omega)]; frame_out

theorem next (t : Fin cfg0.N) (h : ¬t.val % 4 = 0) : outsAt0 m c t.val t.isLt
    = k0_pay2 (F := Ideal) (iblk m c 0 t) (iblk m c 1 t) (outsAt0 m c (t.val - 1) (by have := t.isLt; omega)) := by
  rw [outsAt0_B m c t h (by have := points t; omega)]; frame_out

/-- The gradient of the input product, in four chunks; the modulated activations. -/
def lhs : S4x8192x704.Idx → EReal := m (c, Proc.tc.devRef main_arg3)
def rhs : S8192x1024.Idx → EReal := V m c main_v12

/-- One token's term of an entry of their product. -/
def term (s : Fin 4) (q : Fin 704) (d : Fin 1024) (r : Fin 8192) : EReal := lhs m c (ix3 s r q) * rhs m c (ix2 r d)

theorem part (t : Fin cfg0.N) (q : Fin 704) (d : Fin 1024) :
    k0_pay1 (F := Ideal) (iblk m c 0 t) (iblk m c 1 t) (ix3 0 q d) = ∑ p, term m c (sl t) q d (tile (t.val % 4) p) := by
  have ht := points t
  pointwise [k0_pay1]
  refine Finset.sum_congr rfl fun p _ => congrArg₂ (· * ·) ?_ ?_
  · unfold lhs; blk_point [iblk, idx t, V] <;> first | rfl | exact (tile_val _ _).symm | (simp only [tile]; omega)
  · unfold rhs; blk_point [iblk, idx t, V] <;> first | rfl | exact (tile_val _ _).symm | (simp only [tile]; omega)

/-- After a point the block holds the sum of its tiles so far. -/
theorem sums (n : ℕ) (hn : n < 16) (q : Fin 704) (d : Fin 1024) : outsAt0 m c n hn (ix3 0 q d)
    = ∑ k ∈ Finset.range (n % 4 + 1), ∑ p, term m c (sl ⟨n, hn⟩) q d (tile k p) := by
  induction n with
  | zero => rw [first m c ⟨0, hn⟩ rfl, part]; simp
  | succ n ih =>
    by_cases h : (n + 1) % 4 = 0
    · rw [first m c ⟨n + 1, hn⟩ h, part]
      simp [h]
    · rw [next m c ⟨n + 1, hn⟩ h]
      pointwise [k0_pay2]
      rw [part]
      have e : (n + 1) % 4 = n % 4 + 1 := by omega
      have e' : sl ⟨n + 1, hn⟩ = sl ⟨n, Nat.lt_of_succ_lt hn⟩ := Fin.ext (by show (n + 1) / 4 = n / 4; omega)
      simp only [e, e']
      rw [Finset.sum_range_succ]
      exact congrArg (· + _) (ih (by omega))

theorem flush : ∀ t : Fin cfg0.N, (cfg0.win 2).flush t = true → t.val % 4 = 3 := by decide +kernel

theorem emb (t : Fin cfg0.N) (q : Fin 704) (d : Fin 1024) :
    (win0_2.blk t).view.emb (ix3 0 q d : S1x704x1024.Idx) = (ix3 (sl t) q d : S4x704x1024.Idx) := by
  have ht := points t
  funext a
  apply Fin.ext
  fin_cases a <;> blk_simp [idx t] <;> first | rfl | (show t.val / 4 * 1024 + d.val = d.val; omega)

theorem one3 {n1 n2 : ℕ} (y : (⟨3, ![1, n1, n2]⟩ : Shape).Idx) : ∃ p q, y = ix3 0 p q := by
  refine ⟨y 1, y 2, (ValueIdx.eq_ix3 y).trans ?_⟩
  congr 1
  exact Subsingleton.elim (α := Fin 1) _ _

/-- The call's result: the sum over all tokens. -/
theorem final : (dats m 0 c).arrAt 2 cfg0.N = fun i : S4x704x1024.Idx => ∑ r, term m c (i 0) (i 1) (i 2) r := by
  refine (dats m 0 c).arrAt_eq_of_covers 2 _ (by decide +kernel) fun t hf y => ?_
  blk_simp
  rw [Gen.after0_2]
  obtain ⟨q, d, rfl⟩ := one3 y
  have e := emb t q d
  refine (sums m c t.val t.isLt q d).trans ?_
  rw [e, flush t hf, sum_tiles]
  rfl

/-- The modulated activations the call is launched on, from the arguments. -/
theorem rhs_entry (r : Fin 8192) (k : Fin 1024) : rhs m c (ix2 r k)
    = act (fun r k => m (c, Proc.tc.devRef main_arg0) (ix2 r k)) (fun b k => m (c, Proc.tc.devRef main_arg1) (ix3 b 3 k)) (fun b k => m (c, Proc.tc.devRef main_arg1) (ix3 b 4 k)) r k := by
  unfold rhs
  entry_read
  pointwise
  rfl

end Cert.Kernel5Ideal.Weight

namespace Cert.Reference5Ideal.Weight

open Idealize.ShloMosaic Cert.Reference5Ideal Cert.Reference5Ideal.Read

/-- The reference's array, entry by entry. -/
theorem value (x0 : (⟨S8192x1024, .f32⟩ : BufTy).Contents (Elt Ideal)) (x1 : (⟨S2x8x1024, .f32⟩ : BufTy).Contents (Elt Ideal)) (x3 : (⟨S4x8192x704, .bf16⟩ : BufTy).Contents (Elt Ideal)) :
    val_main_v29 (F := Ideal) x0 x1 x3
      = fun i : S4x704x1024.Idx => ∑ r : Fin 8192, (x3 (ix3 (i 0) r (i 1)) : EReal) * Cert.Tiles.act (fun r k => x0 (ix2 r k)) (fun b k => x1 (ix3 b 3 k)) (fun b k => x1 (ix3 b 4 k)) r (i 2) := by
  funext i
  obtain ⟨s, q, d, rfl⟩ : ∃ s q d, i = ix3 s q d := ⟨i 0, i 1, i 2, ValueIdx.eq_ix3 i⟩
  pointwise [val_main_v29, val_main_v28, val_main_v18, val_main_v17, val_main_v15, val_main_v14, val_main_v13, val_main_v12, val_main_v11, val_main_v10, val_main_v9, val_main_v5, val_main_v4, val_main_v3, val_main_v2, val_main_v1, val_main_v0, val_main_cst]
  refine Finset.sum_congr rfl fun r _ => ?_
  rfl

end Cert.Reference5Ideal.Weight

end
-- ==== Proof.InWeight.lean ====
/-
  The gradient of the input projection's weights: each block of the call is the sum over all tokens of the modulated
  activations times a third of the columns of the projections' gradient, and so is the reference's array.
-/
module

public import proofs.«01_k».proof.Defs
public import proofs.«01_k».proof.Proof.RowTiles
public import proofs.«01_k».proof.Proof.Gen.Kernel6Ideal.Value
public import proofs.«01_k».proof.Proof.Gen.Reference6Ideal.Read
public import Idealize.ShloMosaic.Lib.Pipeline.ValueKit
public import Idealize.ShloMosaic.Lib.Pointwise

@[expose] public section

noncomputable section

namespace Cert.Kernel6Ideal.Weight

open Idealize.ShloMosaic Idealize.ShloMosaic.TcCoe Idealize.SL.Sem
open Cert.Kernel6Ideal Cert.Kernel6Ideal.Gen Cert.Tiles

variable (m : (ℓ : Loc nD τ sig) → Buf (Elt Ideal) ℓ) (c : Dev nD)

/-- The windows' blocks at a grid point. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

theorem points (t : Fin cfg0.N) : t.val < 12 := t.isLt

/-- The part of the result a point works on. -/
def sl (t : Fin cfg0.N) : Fin 3 := ⟨t.val / 4, by have := points t; omega⟩

theorem first (t : Fin cfg0.N) (h : t.val % 4 = 0) : outsAt0 m c t.val t.isLt = k0_pay1 (F := Ideal) (iblk m c 0 t) (iblk m c 1 t) := by
  rw [outsAt0_A m c t h (by have := points t; omega)]; frame_out

theorem next (t : Fin cfg0.N) (h : ¬t.val % 4 = 0) : outsAt0 m c t.val t.isLt
    = k0_pay2 (F := Ideal) (iblk m c 0 t) (iblk m c 1 t) (outsAt0 m c (t.val - 1) (by have := t.isLt; omega)) := by
  rw [outsAt0_B m c t h (by have := points t; omega)]; frame_out

/-- The modulated activations; the gradient of the projections. -/
def lhs : S8192x1024.Idx → EReal := V m c main_v12
def rhs : S8192x5760.Idx → EReal := m (c, Proc.tc.devRef main_arg3)

/-- Column `d` of the `s`-th third. -/
def col (s : Fin 3) (d : Fin 1920) : Fin 5760 := ⟨s.val * 1920 + d.val, by omega⟩

/-- One token's term of an entry of their product. -/
def term (s : Fin 3) (q : Fin 1024) (d : Fin 1920) (r : Fin 8192) : EReal := lhs m c (ix2 r q) * rhs m c (ix2 r (col s d))

theorem part (t : Fin cfg0.N) (q : Fin 1024) (d : Fin 1920) :
    k0_pay1 (F := Ideal) (iblk m c 0 t) (iblk m c 1 t) (ix2 q d) = ∑ p, term m c (sl t) q d (tile (t.val % 4) p) := by
  have ht := points t
  pointwise [k0_pay1]
  refine Finset.sum_congr rfl fun p _ => congrArg₂ (· * ·) ?_ ?_
  · unfold lhs; blk_point [iblk, idx t, V] <;> first | rfl | exact (tile_val _ _).symm | (simp only [tile]; omega)
  · unfold rhs; blk_point [iblk, idx t, V] <;> first | rfl | exact (tile_val _ _).symm | (simp only [tile]; omega)

/-- After a point the block holds the sum of its tiles so far. -/
theorem sums (n : ℕ) (hn : n < 12) (q : Fin 1024) (d : Fin 1920) : outsAt0 m c n hn (ix2 q d)
    = ∑ k ∈ Finset.range (n % 4 + 1), ∑ p, term m c (sl ⟨n, hn⟩) q d (tile k p) := by
  induction n with
  | zero => rw [first m c ⟨0, hn⟩ rfl, part]; simp
  | succ n ih =>
    by_cases h : (n + 1) % 4 = 0
    · rw [first m c ⟨n + 1, hn⟩ h, part]
      simp [h]
    · rw [next m c ⟨n + 1, hn⟩ h]
      pointwise [k0_pay2]
      rw [part]
      have e : (n + 1) % 4 = n % 4 + 1 := by omega
      have e' : sl ⟨n + 1, hn⟩ = sl ⟨n, Nat.lt_of_succ_lt hn⟩ := Fin.ext (by show (n + 1) / 4 = n / 4; omega)
      simp only [e, e']
      rw [Finset.sum_range_succ]
      exact congrArg (· + _) (ih (by omega))

theorem flush : ∀ t : Fin cfg0.N, (cfg0.win 2).flush t = true → t.val % 4 = 3 := by decide +kernel

theorem emb (t : Fin cfg0.N) (q : Fin 1024) (d : Fin 1920) :
    (win0_2.blk t).view.emb (ix2 q d : S1024x1920.Idx) = (ix2 q (col (sl t) d) : S1024x5760.Idx) := by
  have ht := points t
  funext a
  apply Fin.ext
  fin_cases a <;> blk_simp [idx t] <;> first | rfl | (show t.val / 4 * 1920 + d.val = d.val; omega)

theorem two2 {n0 n1 : ℕ} (y : (⟨2, ![n0, n1]⟩ : Shape).Idx) : ∃ p q, y = ix2 p q := ⟨y 0, y 1, ValueIdx.eq_ix2 y⟩

/-- The call's result: the sum over all tokens. -/
theorem final : (dats m 0 c).arrAt 2 cfg0.N = fun i : S1024x5760.Idx => ∑ r, lhs m c (ix2 r (i 0)) * rhs m c (ix2 r (i 1)) := by
  refine (dats m 0 c).arrAt_eq_of_covers 2 _ (by decide +kernel) fun t hf y => ?_
  blk_simp
  rw [Gen.after0_2]
  obtain ⟨q, d, rfl⟩ := two2 y
  have e := emb t q d
  refine (sums m c t.val t.isLt q d).trans ?_
  rw [e, flush t hf, sum_tiles]
  rfl

/-- The modulated activations the call is launched on, from the arguments. -/
theorem lhs_entry (r : Fin 8192) (k : Fin 1024) : lhs m c (ix2 r k)
    = act (fun r k => m (c, Proc.tc.devRef main_arg0) (ix2 r k)) (fun b k => m (c, Proc.tc.devRef main_arg1) (ix3 b 0 k)) (fun b k => m (c, Proc.tc.devRef main_arg1) (ix3 b 1 k)) r k := by
  unfold lhs
  entry_read
  pointwise
  rfl

end Cert.Kernel6Ideal.Weight

namespace Cert.Reference6Ideal.Weight

open Idealize.ShloMosaic Cert.Reference6Ideal Cert.Reference6Ideal.Read

/-- The reference's array, entry by entry. -/
theorem value (x0 : (⟨S8192x1024, .f32⟩ : BufTy).Contents (Elt Ideal)) (x1 : (⟨S2x8x1024, .f32⟩ : BufTy).Contents (Elt Ideal)) (x3 : (⟨S8192x5760, .bf16⟩ : BufTy).Contents (Elt Ideal)) :
    val_main_v14 (F := Ideal) x0 x1 x3
      = fun i : S1024x5760.Idx => ∑ r : Fin 8192, Cert.Tiles.act (fun r k => x0 (ix2 r k)) (fun b k => x1 (ix3 b 0 k)) (fun b k => x1 (ix3 b 1 k)) r (i 0) * (x3 (ix2 r (i 1)) : EReal) := by
  funext i
  obtain ⟨q, d, rfl⟩ : ∃ q d, i = ix2 q d := ⟨i 0, i 1, ValueIdx.eq_ix2 i⟩
  pointwise [val_main_v0, val_main_v1, val_main_v2, val_main_v3, val_main_v4, val_main_v5, val_main_v6, val_main_v7, val_main_v8, val_main_v9, val_main_v10, val_main_v11, val_main_v12, val_main_v13, val_main_v14, val_main_cst]
  refine Finset.sum_congr rfl fun r _ => ?_
  exact mul_comm _ _

end Cert.Reference6Ideal.Weight

end
-- ==== Proof.OutWeight.lean ====
/-
  The gradient of the output projection's weights: the call's result is the sum over all tokens of the merged branches times the
  gradient of the projection's output, and so is the reference's array.
-/
module

public import proofs.«01_k».proof.Defs
public import proofs.«01_k».proof.Proof.RowTiles
public import proofs.«01_k».proof.Proof.Gen.Kernel8Ideal.Value
public import proofs.«01_k».proof.Proof.Gen.Reference8Ideal.Read
public import Idealize.ShloMosaic.Lib.Pipeline.ValueKit
public import Idealize.ShloMosaic.Lib.Pointwise

@[expose] public section

noncomputable section

namespace Cert.Kernel8Ideal.Weight

open Idealize.ShloMosaic Idealize.ShloMosaic.TcCoe Idealize.SL.Sem
open Cert.Kernel8Ideal Cert.Kernel8Ideal.Gen Cert.Tiles

variable (m : (ℓ : Loc nD τ sig) → Buf (Elt Ideal) ℓ) (c : Dev nD)

/-- The windows' blocks at a grid point. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

theorem points (t : Fin cfg0.N) : t.val < 4 := t.isLt

/-- The part of the result a point works on. -/
def sl (t : Fin cfg0.N) : Fin 1 := ⟨t.val / 4, by have := points t; omega⟩

theorem first (t : Fin cfg0.N) (h : t.val % 4 = 0) : outsAt0 m c t.val t.isLt = k0_pay1 (F := Ideal) (iblk m c 0 t) (iblk m c 1 t) := by
  rw [outsAt0_A m c t h (by have := points t; omega)]; frame_out

theorem next (t : Fin cfg0.N) (h : ¬t.val % 4 = 0) : outsAt0 m c t.val t.isLt
    = k0_pay2 (F := Ideal) (iblk m c 0 t) (iblk m c 1 t) (outsAt0 m c (t.val - 1) (by have := t.isLt; omega)) := by
  rw [outsAt0_B m c t h (by have := points t; omega)]; frame_out

/-- The merged branches; the gradient of the projection's output. -/
def lhs : S8192x1024.Idx → EReal := m (c, Proc.tc.devRef main_arg0)
def rhs : S8192x1024.Idx → EReal := m (c, Proc.tc.devRef main_arg2)

/-- One token's term of an entry of their product. -/
def term (s : Fin 1) (q : Fin 1024) (d : Fin 1024) (r : Fin 8192) : EReal := lhs m c (ix2 r q) * rhs m c (ix2 r d)

theorem part (t : Fin cfg0.N) (q : Fin 1024) (d : Fin 1024) :
    k0_pay1 (F := Ideal) (iblk m c 0 t) (iblk m c 1 t) (ix2 q d) = ∑ p, term m c (sl t) q d (tile (t.val % 4) p) := by
  have ht := points t
  pointwise [k0_pay1]
  refine Finset.sum_congr rfl fun p _ => congrArg₂ (· * ·) ?_ ?_
  · unfold lhs; blk_point [iblk, idx t, V] <;> first | rfl | exact (tile_val _ _).symm | (simp only [tile]; omega)
  · unfold rhs; blk_point [iblk, idx t, V] <;> first | rfl | exact (tile_val _ _).symm | (simp only [tile]; omega)

/-- After a point the block holds the sum of its tiles so far. -/
theorem sums (n : ℕ) (hn : n < 4) (q : Fin 1024) (d : Fin 1024) : outsAt0 m c n hn (ix2 q d)
    = ∑ k ∈ Finset.range (n % 4 + 1), ∑ p, term m c (sl ⟨n, hn⟩) q d (tile k p) := by
  induction n with
  | zero => rw [first m c ⟨0, hn⟩ rfl, part]; simp
  | succ n ih =>
    by_cases h : (n + 1) % 4 = 0
    · rw [first m c ⟨n + 1, hn⟩ h, part]
      simp [h]
    · rw [next m c ⟨n + 1, hn⟩ h]
      pointwise [k0_pay2]
      rw [part]
      have e : (n + 1) % 4 = n % 4 + 1 := by omega
      have e' : sl ⟨n + 1, hn⟩ = sl ⟨n, Nat.lt_of_succ_lt hn⟩ := Fin.ext (by show (n + 1) / 4 = n / 4; omega)
      simp only [e, e']
      rw [Finset.sum_range_succ]
      exact congrArg (· + _) (ih (by omega))

theorem flush : ∀ t : Fin cfg0.N, (cfg0.win 2).flush t = true → t.val % 4 = 3 := by decide +kernel

theorem emb (t : Fin cfg0.N) (q : Fin 1024) (d : Fin 1024) :
    (win0_2.blk t).view.emb (ix2 q d : S1024x1024.Idx) = (ix2 q d : S1024x1024.Idx) := by
  have ht := points t
  funext a
  apply Fin.ext
  fin_cases a <;> blk_simp [idx t] <;> first | rfl | (show t.val / 4 * 1024 + d.val = d.val; omega)

theorem two2 {n0 n1 : ℕ} (y : (⟨2, ![n0, n1]⟩ : Shape).Idx) : ∃ p q, y = ix2 p q := ⟨y 0, y 1, ValueIdx.eq_ix2 y⟩

/-- The call's result: the sum over all tokens. -/
theorem final : (dats m 0 c).arrAt 2 cfg0.N = fun i : S1024x1024.Idx => ∑ r, term m c 0 (i 0) (i 1) r := by
  refine (dats m 0 c).arrAt_eq_of_covers 2 _ (by decide +kernel) fun t hf y => ?_
  blk_simp
  rw [Gen.after0_2]
  obtain ⟨q, d, rfl⟩ := two2 y
  have e := emb t q d
  refine (sums m c t.val t.isLt q d).trans ?_
  rw [e, flush t hf, sum_tiles]
  rfl

end Cert.Kernel8Ideal.Weight

namespace Cert.Reference8Ideal.Weight

open Idealize.ShloMosaic Cert.Reference8Ideal Cert.Reference8Ideal.Read

/-- The reference's array, entry by entry. -/
theorem value (x0 : (⟨S8192x1024, .bf16⟩ : BufTy).Contents (Elt Ideal)) (x2 : (⟨S8192x1024, .bf16⟩ : BufTy).Contents (Elt Ideal)) :
    val_main_v5 (F := Ideal) x0 x2
      = fun i : S1024x1024.Idx => ∑ r : Fin 8192, (x0 (ix2 r (i 0)) : EReal) * (x2 (ix2 r (i 1)) : EReal) := by
  funext i
  obtain ⟨q, d, rfl⟩ : ∃ q d, i = ix2 q d := ⟨i 0, i 1, ValueIdx.eq_ix2 i⟩
  pointwise [val_main_v0, val_main_v1, val_main_v2, val_main_v3, val_main_v4, val_main_v5]
  refine Finset.sum_congr rfl fun r _ => ?_
  exact mul_comm _ _

end Cert.Reference8Ideal.Weight

end
-- ==== Proof.BranchWeight.lean ====
/-
  The gradient of a branch's weights: each block of the call is the sum over all tokens of the branch's output times a quarter of
  the columns of the gradient of its product, and so is the reference's array.
-/
module

public import proofs.«01_k».proof.Defs
public import proofs.«01_k».proof.Proof.RowTiles
public import proofs.«01_k».proof.Proof.Gen.Kernel9Ideal.Value
public import proofs.«01_k».proof.Proof.Gen.Reference9Ideal.Read
public import Idealize.ShloMosaic.Lib.Pipeline.ValueKit
public import Idealize.ShloMosaic.Lib.Pointwise

@[expose] public section

noncomputable section

namespace Cert.Kernel9Ideal.Weight

open Idealize.ShloMosaic Idealize.ShloMosaic.TcCoe Idealize.SL.Sem
open Cert.Kernel9Ideal Cert.Kernel9Ideal.Gen Cert.Tiles

variable (m : (ℓ : Loc nD τ sig) → Buf (Elt Ideal) ℓ) (c : Dev nD)

/-- The windows' blocks at a grid point. -/
theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

theorem points (t : Fin cfg0.N) : t.val < 16 := t.isLt

/-- The part of the result a point works on. -/
def sl (t : Fin cfg0.N) : Fin 4 := ⟨t.val / 4, by have := points t; omega⟩

theorem first (t : Fin cfg0.N) (h : t.val % 4 = 0) : outsAt0 m c t.val t.isLt = k0_pay1 (F := Ideal) (iblk m c 0 t) (iblk m c 1 t) := by
  rw [outsAt0_A m c t h (by have := points t; omega)]; frame_out

theorem next (t : Fin cfg0.N) (h : ¬t.val % 4 = 0) : outsAt0 m c t.val t.isLt
    = k0_pay2 (F := Ideal) (iblk m c 0 t) (iblk m c 1 t) (outsAt0 m c (t.val - 1) (by have := t.isLt; omega)) := by
  rw [outsAt0_B m c t h (by have := points t; omega)]; frame_out

/-- The branch's output; the gradient of its product. -/
def lhs : S8192x512.Idx → EReal := m (c, Proc.tc.devRef main_arg0)
def rhs : S8192x1024.Idx → EReal := m (c, Proc.tc.devRef main_arg2)

/-- Column `d` of the `s`-th quarter. -/
def col (s : Fin 4) (d : Fin 256) : Fin 1024 := ⟨s.val * 256 + d.val, by omega⟩

/-- One token's term of an entry of their product. -/
def term (s : Fin 4) (q : Fin 512) (d : Fin 256) (r : Fin 8192) : EReal := lhs m c (ix2 r q) * rhs m c (ix2 r (col s d))

theorem part (t : Fin cfg0.N) (q : Fin 512) (d : Fin 256) :
    k0_pay1 (F := Ideal) (iblk m c 0 t) (iblk m c 1 t) (ix3 0 q d) = ∑ p, term m c (sl t) q d (tile (t.val % 4) p) := by
  have ht := points t
  pointwise [k0_pay1]
  refine Finset.sum_congr rfl fun p _ => congrArg₂ (· * ·) ?_ ?_
  · unfold lhs; blk_point [iblk, idx t, V] <;> first | rfl | exact (tile_val _ _).symm | (simp only [tile]; omega)
  · unfold rhs; blk_point [iblk, idx t, V] <;> first | rfl | exact (tile_val _ _).symm | (simp only [tile]; omega)

/-- After a point the block holds the sum of its tiles so far. -/
theorem sums (n : ℕ) (hn : n < 16) (q : Fin 512) (d : Fin 256) : outsAt0 m c n hn (ix3 0 q d)
    = ∑ k ∈ Finset.range (n % 4 + 1), ∑ p, term m c (sl ⟨n, hn⟩) q d (tile k p) := by
  induction n with
  | zero => rw [first m c ⟨0, hn⟩ rfl, part]; simp
  | succ n ih =>
    by_cases h : (n + 1) % 4 = 0
    · rw [first m c ⟨n + 1, hn⟩ h, part]
      simp [h]
    · rw [next m c ⟨n + 1, hn⟩ h]
      pointwise [k0_pay2]
      rw [part]
      have e : (n + 1) % 4 = n % 4 + 1 := by omega
      have e' : sl ⟨n + 1, hn⟩ = sl ⟨n, Nat.lt_of_succ_lt hn⟩ := Fin.ext (by show (n + 1) / 4 = n / 4; omega)
      simp only [e, e']
      rw [Finset.sum_range_succ]
      exact congrArg (· + _) (ih (by omega))

theorem flush : ∀ t : Fin cfg0.N, (cfg0.win 2).flush t = true → t.val % 4 = 3 := by decide +kernel

theorem emb (t : Fin cfg0.N) (q : Fin 512) (d : Fin 256) :
    (win0_2.blk t).view.emb (ix3 0 q d : S1x512x256.Idx) = (ix3 (sl t) q d : S4x512x256.Idx) := by
  have ht := points t
  funext a
  apply Fin.ext
  fin_cases a <;> blk_simp [idx t] <;> first | rfl | (show t.val / 4 * 256 + d.val = d.val; omega)

theorem one3 {n1 n2 : ℕ} (y : (⟨3, ![1, n1, n2]⟩ : Shape).Idx) : ∃ p q, y = ix3 0 p q := by
  refine ⟨y 1, y 2, (ValueIdx.eq_ix3 y).trans ?_⟩
  congr 1
  exact Subsingleton.elim (α := Fin 1) _ _

/-- The call's result: the sum over all tokens. -/
theorem final : (dats m 0 c).arrAt 2 cfg0.N = fun i : S4x512x256.Idx => ∑ r, term m c (i 0) (i 1) (i 2) r := by
  refine (dats m 0 c).arrAt_eq_of_covers 2 _ (by decide +kernel) fun t hf y => ?_
  blk_simp
  rw [Gen.after0_2]
  obtain ⟨q, d, rfl⟩ := one3 y
  have e := emb t q d
  refine (sums m c t.val t.isLt q d).trans ?_
  rw [e, flush t hf, sum_tiles]
  rfl

end Cert.Kernel9Ideal.Weight

namespace Cert.Reference9Ideal.Weight

open Idealize.ShloMosaic Cert.Reference9Ideal Cert.Reference9Ideal.Read

/-- The reference's array, entry by entry. -/
theorem value (x0 : (⟨S8192x512, .bf16⟩ : BufTy).Contents (Elt Ideal)) (x2 : (⟨S8192x1024, .bf16⟩ : BufTy).Contents (Elt Ideal)) :
    val_main_v8 (F := Ideal) x0 x2
      = fun i : S4x512x256.Idx => ∑ r : Fin 8192, (x0 (ix2 r (i 1)) : EReal) * (x2 (ix2 r (Cert.Kernel9Ideal.Weight.col (i 0) (i 2))) : EReal) := by
  funext i
  obtain ⟨s, q, d, rfl⟩ : ∃ s q d, i = ix3 s q d := ⟨i 0, i 1, i 2, ValueIdx.eq_ix3 i⟩
  pointwise [val_main_v0, val_main_v1, val_main_v2, val_main_v3, val_main_v4, val_main_v5, val_main_v6, val_main_v7, val_main_v8]
  refine Finset.sum_congr rfl fun r _ => ?_
  exact mul_comm _ _

end Cert.Reference9Ideal.Weight

end
-- ==== Proof.InputGrad.lean ====
/-
  The gradient that comes back through the input projections and the modulation: the tokens' gradient row by row and the two
  gathered rows of each sequence, as sums over all the projections' columns, of the kernel's arrays and of the reference's.
-/
module

public import proofs.«01_k».proof.Defs
public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack
public import Idealize.ShloMosaic.Lib.Pointwise

@[expose] public section

noncomputable section

namespace Cert.InputGrad

open Idealize.ShloMosaic

/-- Row `p` of row block `i`, column `q` of column tile `k`, and row `s` of sequence `b`. -/
def rb (i : ℕ) (p : Fin 1024) : Fin 8192 := ⟨(i * 1024 + p.val) % 8192, Nat.mod_lt _ (by norm_num)⟩
def ct (k : ℕ) (q : Fin 1920) : Fin 5760 := ⟨(k * 1920 + q.val) % 5760, Nat.mod_lt _ (by norm_num)⟩
def row (b : Fin 2) (s : Fin 4096) : Fin 8192 := ⟨b.val * 4096 + s.val, by omega⟩
def seqOf (r : Fin 8192) : Fin 2 := ⟨r.val / 4096, by omega⟩

/-- The column tiles are the columns, and a sequence's row blocks its rows. -/
theorem sum_cols (f : Fin 5760 → EReal) : ∑ k ∈ Finset.range 3, ∑ q, f (ct k q) = ∑ j, f j := by
  rw [Finset.sum_range, ← Fintype.sum_prod_type', ← (finProdFinEquiv (m := 3) (n := 1920)).sum_comp]
  refine Finset.sum_congr rfl fun x _ => congrArg f ?_
  obtain ⟨i, p⟩ := x
  apply Fin.ext
  simp only [ct, finProdFinEquiv_apply_val]
  omega

theorem sum_rows (f : Fin 8192 → EReal) (b : Fin 2) : ∑ i ∈ Finset.range 4, ∑ p, f (rb (b.val * 4 + i) p) = ∑ s, f (row b s) := by
  rw [Finset.sum_range, ← Fintype.sum_prod_type', ← (finProdFinEquiv (m := 4) (n := 1024)).sum_comp]
  refine Finset.sum_congr rfl fun x _ => congrArg f ?_
  obtain ⟨i, p⟩ := x
  apply Fin.ext
  simp only [rb, row, finProdFinEquiv_apply_val]
  omega

/-- The argument arrays: the gradient of the projections, their weights, the tokens, the gradient beside the branch, the modulation. -/
structure Args where
  g : Fin 8192 → Fin 5760 → EReal
  w : Fin 1024 → Fin 5760 → EReal
  x : Fin 8192 → Fin 1024 → EReal
  y : Fin 8192 → Fin 1024 → EReal
  md : Fin 2 → Fin 8 → Fin 1024 → EReal

variable (P : Args)

/-- The gradient of the modulated tokens, and the two results. -/
def Args.dh (r : Fin 8192) (d : Fin 1024) : EReal := ∑ j, P.g r j * P.w d j
def Args.gx (r : Fin 8192) (d : Fin 1024) : EReal := P.y r d + P.dh r d * (1 + P.md (seqOf r) 1 d)
def Args.gm (b : Fin 2) (k : Fin 8) (d : Fin 1024) : EReal :=
  if k.val = 0 then ∑ s, P.dh (row b s) d else if k.val = 1 then ∑ s, P.dh (row b s) d * P.x (row b s) d else 0

/-- A row block's part of the gathered rows. -/
def Args.gmp (i : ℕ) (k : Fin 8) (d : Fin 1024) : EReal :=
  if k.val = 0 then ∑ p, P.dh (rb i p) d else if k.val = 1 then ∑ p, P.dh (rb i p) d * P.x (rb i p) d else 0

theorem sum_gmp (b : Fin 2) (k : Fin 8) (d : Fin 1024) : ∑ i ∈ Finset.range 4, P.gmp (b.val * 4 + i) k d = P.gm b k d := by
  rw [Args.gm, ← sum_rows (fun r => P.dh r d), ← sum_rows (fun r => P.dh r d * P.x r d)]
  simp only [Args.gmp]
  split_ifs <;> simp

end Cert.InputGrad

namespace Cert.Kernel7Ideal.InputGrad

open Idealize.ShloMosaic Idealize.ShloMosaic.TcCoe Idealize.SL.Sem
open Cert.Kernel7Ideal Cert.Kernel7Ideal.Gen Cert.InputGrad

variable (m : (ℓ : Loc nD τ sig) → Buf (Elt Ideal) ℓ) (c : Dev nD)

/-- The kernel's argument arrays. -/
def a0 : S8192x5760.Idx → EReal := m (c, Proc.tc.devRef main_arg0)
def a1 : S1024x5760.Idx → EReal := m (c, Proc.tc.devRef main_arg1)
def a2 : S8192x1024.Idx → EReal := m (c, Proc.tc.devRef main_arg2)
def a3 : S8192x1024.Idx → EReal := m (c, Proc.tc.devRef main_arg3)
def a4 : S2x8x1024.Idx → EReal := m (c, Proc.tc.devRef main_arg4)
def args : Args where
  g := fun r j => a0 m c (ix2 r j)
  w := fun d j => a1 m c (ix2 d j)
  x := fun r d => a2 m c (ix2 r d)
  y := fun r d => a3 m c (ix2 r d)
  md := fun b k d => a4 m c (ix3 b k d)

theorem idx : ∀ t : Fin cfg0.N, win0_0.index t = ![t.val / 3, t.val % 3] ∧ win0_1.index t = ![0, t.val % 3]
    ∧ win0_2.index t = ![t.val / 3, 0] ∧ win0_3.index t = ![t.val / 3, 0] ∧ win0_4.index t = ![t.val / 12, 0, 0]
    ∧ win0_5.index t = ![t.val / 3, 0] ∧ win0_6.index t = ![t.val / 12, 0, 0] :=
  (by decide +kernel : ∀ t : Fin grid0.N, _)

theorem points (t : Fin cfg0.N) : t.val < 24 := t.isLt

/-- The sequence of a point's rows. -/
def sq (t : Fin cfg0.N) : Fin 2 := ⟨t.val / 12, by have := points t; omega⟩

section blocks

variable (t : Fin cfg0.N)

theorem blk0 (p : Fin 1024) (q : Fin 1920) : iblk m c 0 t (ix2 p q) = (args m c).g (rb (t.val / 3) p) (ct (t.val % 3) q) := by
  have ht := points t
  unfold args a0
  blk_point [iblk, idx t, V] <;> simp only [rb, ct] <;> omega

theorem blk1 (d : Fin 1024) (q : Fin 1920) : iblk m c 1 t (ix2 d q) = (args m c).w d (ct (t.val % 3) q) := by
  have ht := points t
  unfold args a1
  blk_point [iblk, idx t, V] <;> first | rfl | (simp only [ct]; omega)

theorem blk2 (p : Fin 1024) (d : Fin 1024) : iblk m c 2 t (ix2 p d) = (args m c).x (rb (t.val / 3) p) d := by
  have ht := points t
  unfold args a2
  blk_point [iblk, idx t, V] <;> first | rfl | (simp only [rb]; omega)

theorem blk3 (p : Fin 1024) (d : Fin 1024) : iblk m c 3 t (ix2 p d) = (args m c).y (rb (t.val / 3) p) d := by
  have ht := points t
  unfold args a3
  blk_point [iblk, idx t, V] <;> first | rfl | (simp only [rb]; omega)

theorem blk4 (k : Fin 8) (d : Fin 1024) : iblk m c 4 t (ix3 0 k d) = (args m c).md (sq t) k d := by
  unfold args a4
  blk_point [iblk, idx t, V] <;> rfl

/-- The scale's row of the point's modulation block. -/
abbrev mr := View.ld (iblk m c 4 t) (Rect.unit ![0, 1, 0] ![1, 1, 1024] inb_S1x8x1024_S1x1x1024_0_1_0)

theorem row1 (d : Fin 1024) : mr m c t (ix3 0 0 d) = (args m c).md (sq t) 1 d := by
  rw [← blk4 m c t 1 d]
  refine congrArg (iblk m c 4 t) (funext fun a => ?_)
  fin_cases a <;> apply Fin.ext <;> simp [LoadRect.idx_apply, Rect.unit, ix3]

/-- What the accumulator holds after a point, and before. -/
abbrev scr := (outsAt0 m c t.val t.isLt).2.2
abbrev scrB (h : 0 < t.val) := (outsAt0 m c (t.val - 1) (by have := t.isLt; omega)).2.2

theorem scr_first (h0 : t.val % 3 = 0) : scr m c t = k0_pay2 (F := Ideal) (k0_pay1 (F := Ideal)) (iblk m c 0 t) (iblk m c 1 t) := by
  unfold scr
  rw [outsAt0_A m c t h0 (by omega)]; frame_out

theorem scr_next (h0 : ¬t.val % 3 = 0) : scr m c t = k0_pay2 (F := Ideal) (scrB m c t (by omega)) (iblk m c 0 t) (iblk m c 1 t) := by
  unfold scr scrB
  by_cases h1 : t.val % 3 = 2
  swap
  · rw [outsAt0_B m c t h0 h1]; frame_out; rw [read_unread_whole]
  by_cases h2 : (t.val % 12 = 0 ∨ t.val % 12 = 1 ∨ t.val % 12 = 2)
  · rw [outsAt0_C m c t h0 h1 h2 (by omega)]; frame_out; rw [read_unread_whole]
  · rw [outsAt0_D m c t h0 h1 h2 h2]; frame_out; rw [read_unread_whole]

theorem gx_at (h1 : t.val % 3 = 2) : (outsAt0 m c t.val t.isLt).1 = k0_pay4 (F := Ideal) (scr m c t) (iblk m c 3 t) (mr m c t) := by
  have h0 : ¬t.val % 3 = 0 := by omega
  rw [scr_next m c t h0]
  unfold scrB
  by_cases h2 : (t.val % 12 = 0 ∨ t.val % 12 = 1 ∨ t.val % 12 = 2)
  · rw [outsAt0_C m c t h0 h1 h2 (by omega)]; frame_out; rw [read_unread_whole]; rfl
  · rw [outsAt0_D m c t h0 h1 h2 h2]; frame_out; rw [read_unread_whole]; rfl

theorem gm_first (h1 : t.val % 3 = 2) (h2 : (t.val % 12 = 0 ∨ t.val % 12 = 1 ∨ t.val % 12 = 2)) :
    (outsAt0 m c t.val t.isLt).2.1 = k0_pay6 (F := Ideal) (scr m c t) (iblk m c 2 t) := by
  have h0 : ¬t.val % 3 = 0 := by omega
  rw [scr_next m c t h0]
  unfold scrB
  rw [outsAt0_C m c t h0 h1 h2 (by omega)]; frame_out; rw [read_unread_whole]

theorem gm_next (h1 : t.val % 3 = 2) (h2 : ¬(t.val % 12 = 0 ∨ t.val % 12 = 1 ∨ t.val % 12 = 2)) :
    (outsAt0 m c t.val t.isLt).2.1 = k0_pay3 (F := Ideal) (k0_pay5 (scr m c t) (iblk m c 2 t))
      (outsAt0 m c (t.val - 1) (by have := t.isLt; omega)).2.1 := by
  have h0 : ¬t.val % 3 = 0 := by omega
  rw [scr_next m c t h0]
  unfold scrB
  rw [outsAt0_D m c t h0 h1 h2 h2]; frame_out; rw [read_unread_whole]

theorem gm_keep (h1 : ¬t.val % 3 = 2) (h : 0 < t.val) :
    (outsAt0 m c t.val t.isLt).2.1 = (outsAt0 m c (t.val - 1) (by have := t.isLt; omega)).2.1 := by
  by_cases h0 : t.val % 3 = 0
  · rw [outsAt0_A m c t h0 h1]; frame_out; rfl
  · rw [outsAt0_B m c t h0 h1]; frame_out; rfl

end blocks

/-- A point adds its column tile. -/
theorem step (t : Fin cfg0.N) (A : Vec Ideal S1024x1024 .f32) (p : Fin 1024) (d : Fin 1024) :
    k0_pay2 (F := Ideal) A (iblk m c 0 t) (iblk m c 1 t) (ix2 p d)
      = A (ix2 p d) + ∑ q, (args m c).g (rb (t.val / 3) p) (ct (t.val % 3) q) * (args m c).w d (ct (t.val % 3) q) := by
  pointwise [k0_pay2]
  simp only [blk0, blk1]

theorem zeros (p : Fin 1024) (d : Fin 1024) : k0_pay1 (F := Ideal) (ix2 p d) = (0 : EReal) := by
  pointwise [k0_pay1]

/-- The accumulator after a point holds the sum of its column tiles so far. -/
theorem scr_val (n : ℕ) (hn : n < 24) (p : Fin 1024) (d : Fin 1024) : scr m c ⟨n, hn⟩ (ix2 p d)
    = ∑ k ∈ Finset.range (n % 3 + 1), ∑ q, (args m c).g (rb (n / 3) p) (ct k q) * (args m c).w d (ct k q) := by
  induction n with
  | zero => rw [scr_first m c ⟨0, hn⟩ rfl, step, zeros]; simp
  | succ n ih =>
    by_cases h0 : (n + 1) % 3 = 0
    · rw [scr_first m c ⟨n + 1, hn⟩ h0, step, zeros]
      simp [h0]
    · rw [scr_next m c ⟨n + 1, hn⟩ h0, step]
      have e1 : (n + 1) / 3 = n / 3 := by omega
      have e2 : (n + 1) % 3 = n % 3 + 1 := by omega
      simp only [e1, e2]
      rw [Finset.sum_range_succ]
      exact congrArg (· + _) (ih (by omega))

/-- At a row block's last point it holds the whole gradient. -/
theorem scr_last (t : Fin cfg0.N) (h1 : t.val % 3 = 2) (p : Fin 1024) (d : Fin 1024) :
    scr m c t (ix2 p d) = (args m c).dh (rb (t.val / 3) p) d := by
  rw [show t = ⟨t.val, points t⟩ from rfl, scr_val m c t.val (points t) p d, h1]
  exact sum_cols fun j => (args m c).g (rb (t.val / 3) p) j * (args m c).w d j

theorem o_gx (t : Fin cfg0.N) (h1 : t.val % 3 = 2) (p : Fin 1024) (d : Fin 1024) :
    (outsAt0 m c t.val t.isLt).1 (ix2 p d) = (args m c).gx (rb (t.val / 3) p) d := by
  have ht := points t
  rw [gx_at m c t h1]
  have e : sq t = seqOf (rb (t.val / 3) p) := by apply Fin.ext; simp only [sq, seqOf, rb]; omega
  pointwise [k0_pay4]
  simp only [scr_last m c t h1, row1, blk3, e]
  rfl

theorem gm_part (t : Fin cfg0.N) (h1 : t.val % 3 = 2) (k : Fin 8) (d : Fin 1024) :
    k0_pay5 (F := Ideal) (scr m c t) (iblk m c 2 t) (ix2 k d) = (args m c).gmp (t.val / 3) k d := by
  pointwise [k0_pay5]
  simp only [scr_last m c t h1, blk2, Args.gmp]
  fin_cases k <;> simp

/-- A sequence's gathered rows after a point hold the sum of its row blocks finished so far. -/
theorem o_gm (n : ℕ) (hn : n < 24) (h2 : 2 ≤ n % 12) (k : Fin 8) (d : Fin 1024) :
    (outsAt0 m c n hn).2.1 (ix3 0 k d) = ∑ i ∈ Finset.range ((n % 12 + 1) / 3), (args m c).gmp (n / 12 * 4 + i) k d := by
  induction n with
  | zero => omega
  | succ n ih =>
    by_cases h1 : (n + 1) % 3 = 2
    · by_cases h4 : ((n + 1) % 12 = 0 ∨ (n + 1) % 12 = 1 ∨ (n + 1) % 12 = 2)
      · rw [gm_first m c ⟨n + 1, hn⟩ h1 h4]
        pointwise [k0_pay6]
        rw [gm_part m c ⟨n + 1, hn⟩ h1]
        have e : (n + 1) % 12 = 2 := by omega
        have e' : (n + 1) / 3 = (n + 1) / 12 * 4 := by omega
        simp [e, e']
      · rw [gm_next m c ⟨n + 1, hn⟩ h1 h4]
        pointwise [k0_pay3]
        rw [gm_part m c ⟨n + 1, hn⟩ h1]
        have e : ((n + 1) % 12 + 1) / 3 = (n % 12 + 1) / 3 + 1 := by omega
        have e' : (n + 1) / 12 = n / 12 := by omega
        have e'' : (n + 1) / 3 = n / 12 * 4 + (n % 12 + 1) / 3 := by omega
        rw [e, e', Finset.sum_range_succ]
        simp only [e'']
        exact congrArg (· + _) (ih (by omega) (by omega))
    · rw [gm_keep m c ⟨n + 1, hn⟩ h1 (by simp)]
      have e : ((n + 1) % 12 + 1) / 3 = (n % 12 + 1) / 3 := by omega
      have e' : (n + 1) / 12 = n / 12 := by omega
      rw [e, e']
      exact ih (by omega) (by omega)

theorem flush5 : ∀ t : Fin cfg0.N, (cfg0.win 5).flush t = true → t.val % 3 = 2 := by decide +kernel
theorem flush6 : ∀ t : Fin cfg0.N, (cfg0.win 6).flush t = true → t.val % 12 = 11 := by decide +kernel

theorem emb5 (t : Fin cfg0.N) (p : Fin 1024) (d : Fin 1024) :
    (win0_5.blk t).view.emb (ix2 p d : S1024x1024.Idx) = (ix2 (rb (t.val / 3) p) d : S8192x1024.Idx) := by
  have ht := points t
  funext a
  apply Fin.ext
  fin_cases a <;> blk_simp [idx t] <;> first | rfl | (show t.val / 3 * 1024 + p.val = (t.val / 3 * 1024 + p.val) % 8192; omega)

theorem emb6 (t : Fin cfg0.N) (k : Fin 8) (d : Fin 1024) :
    (win0_6.blk t).view.emb (ix3 0 k d : S1x8x1024.Idx) = (ix3 (sq t) k d : S2x8x1024.Idx) := by
  funext a
  apply Fin.ext
  fin_cases a <;> blk_simp [idx t] <;> rfl

theorem one3 {n1 n2 : ℕ} (y : (⟨3, ![1, n1, n2]⟩ : Shape).Idx) : ∃ p q, y = ix3 0 p q := by
  refine ⟨y 1, y 2, (ValueIdx.eq_ix3 y).trans ?_⟩
  congr 1
  exact Subsingleton.elim (α := Fin 1) _ _

theorem final_gx : (dats m 0 c).arrAt 5 cfg0.N = fun i : S8192x1024.Idx => (args m c).gx (i 0) (i 1) := by
  refine (dats m 0 c).arrAt_eq_of_covers 5 _ (by decide +kernel) fun t hf y => ?_
  blk_simp
  rw [after0_5]
  obtain ⟨p, q, rfl⟩ : ∃ p q, y = ix2 p q := ⟨y 0, y 1, ValueIdx.eq_ix2 y⟩
  have e := emb5 t p q
  refine (o_gx m c t (flush5 t hf) p q).trans ?_
  rw [e]
  rfl

theorem final_gm : (dats m 0 c).arrAt 6 cfg0.N = fun i : S2x8x1024.Idx => (args m c).gm (i 0) (i 1) (i 2) := by
  refine (dats m 0 c).arrAt_eq_of_covers 6 _ (by decide +kernel) fun t hf y => ?_
  blk_simp
  rw [after0_6]
  obtain ⟨p, q, rfl⟩ := one3 (n1 := 8) (n2 := 1024) y
  have e := emb6 t p q
  have ht := flush6 t hf
  refine (o_gm m c t.val (points t) (by omega) p q).trans ?_
  rw [e, show (t.val % 12 + 1) / 3 = 4 by omega]
  exact sum_gmp (args m c) (sq t) p q

end Cert.Kernel7Ideal.InputGrad

namespace Cert.Reference7Ideal.InputGrad

open Idealize.ShloMosaic Cert.Reference7Ideal Cert.Reference7Ideal.Read Cert.InputGrad

variable (x0 : (⟨S8192x5760, .bf16⟩ : BufTy).Contents (Elt Ideal)) (x1 : (⟨S1024x5760, .bf16⟩ : BufTy).Contents (Elt Ideal))
  (x2 : (⟨S8192x1024, .f32⟩ : BufTy).Contents (Elt Ideal)) (x3 : (⟨S8192x1024, .bf16⟩ : BufTy).Contents (Elt Ideal))
  (x4 : (⟨S2x8x1024, .f32⟩ : BufTy).Contents (Elt Ideal))

/-- The reference's argument arrays. -/
def args : Args where
  g := fun r j => x0 (ix2 r j)
  w := fun d j => x1 (ix2 d j)
  x := fun r d => x2 (ix2 r d)
  y := fun r d => x3 (ix2 r d)
  md := fun b k d => x4 (ix3 b k d)

theorem dh_at (r : Fin 8192) (d : Fin 1024) : val_main_v15 (F := Ideal) x0 x1 (ix2 r d) = (args x0 x1 x2 x3 x4).dh r d := by
  pointwise [val_main_v15, val_main_v12, val_main_v3]
  rfl

/-- The reference's arrays, entry by entry. -/
theorem value_gx : val_main_v26 (F := Ideal) x0 x1 x3 x4 = fun i : S8192x1024.Idx => (args x0 x1 x2 x3 x4).gx (i 0) (i 1) := by
  funext i
  obtain ⟨r, d, rfl⟩ : ∃ r d, i = ix2 r d := ⟨i 0, i 1, ValueIdx.eq_ix2 i⟩
  pointwise [val_main_v26, val_main_v25, val_main_v24, val_main_v23, val_main_v22, val_main_v16, val_main_v15, val_main_v12,
    val_main_v3, val_main_v5, val_main_v4, val_main_v1, val_main_cst]
  rfl

theorem value_gm : val_main_v28 (F := Ideal) x0 x1 x2 = fun i : S2x8x1024.Idx => (args x0 x1 x2 x3 x4).gm (i 0) (i 1) (i 2) := by
  funext i
  obtain ⟨b, k, d, rfl⟩ : ∃ b k d, i = ix3 b k d := ⟨i 0, i 1, i 2, ValueIdx.eq_ix3 i⟩
  pointwise [val_main_v28, val_main_v27, val_main_cst_2, val_main_v21, val_main_v20, val_main_cst_1, val_main_v19, val_main_v0,
    val_main_v18, val_main_v17, val_main_cst_0, val_main_v16, val_main_v15, val_main_v12, val_main_v3]
  fin_cases k <;> simp [Args.gm, Args.dh, args, row]
  exact Finset.sum_congr rfl fun _ _ => mul_comm _ _

end Cert.Reference7Ideal.InputGrad

end
-- ==== Proof.WeightClaims.lean ====
/- The claims about the gradients of the weights and about the gradient that comes back through the input projections,
   assembled from the runs of the programs. -/
module

public import proofs.«01_k».proof.Defs
public import proofs.«01_k».proof.Proof.DownWeight
public import proofs.«01_k».proof.Proof.GateWeight
public import proofs.«01_k».proof.Proof.InWeight
public import proofs.«01_k».proof.Proof.OutWeight
public import proofs.«01_k».proof.Proof.BranchWeight
public import proofs.«01_k».proof.Proof.InputGrad
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Claim
public import Idealize.ShloMosaic.Lib.Quiescent

@[expose] public section

noncomputable section

open Idealize.ShloMosaic Idealize.ShloMosaic.TcCoe Idealize.SL.Sem

namespace Cert.Proof.Down

/-- The kernel, its idealization and the reference run and leave the memory they were given. -/
theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The gradient of the feed-forward network's output weights is the reference's. -/
theorem algebraic : Cert.algebraic_Kernel4Ideal_Reference4Ideal := by
  intro m ρ m' ρ' _ hagree
  refine ⟨fun c => (Cert.Kernel4Ideal.Gen.dats m 0 c).arrAt 2 Cert.Kernel4Ideal.cfg0.N, ?_, ?_⟩
  · exact (θ_run Cert.Kernel4Ideal.defs _ _).mono (fun r h c => h c) (Cert.Kernel4Ideal.Value.run_blocks (F := Ideal) m ρ)
  · refine (θ_run Cert.Reference4Ideal.defs _ _).mono (fun r h c => ?_) (Cert.Reference4Ideal.Value.run (F := Ideal) m' ρ')
    obtain ⟨e0, e1, e2⟩ := hagree c
    obtain ⟨r0, rest⟩ := h c
    replace r0 := r0.trans (Cert.Reference4Ideal.Read.val_main_v10_eq _ _)
    rw [e0, e2] at r0
    exact ⟨(r0.trans (Cert.Reference4Ideal.Weight.value _ _)).trans (Cert.Kernel4Ideal.Weight.final m c).symm, rest⟩

end Cert.Proof.Down

namespace Cert.Proof.Gate

/-- The kernel, its idealization and the reference run and leave the memory they were given. -/
theorem frame_kernel : Cert.quiescent_Kernel5 := fun m ρ _ => Cert.Kernel5.Gen.frame m ρ
theorem frame_ideal : Cert.quiescent_Kernel5Ideal := fun m ρ _ => Cert.Kernel5Ideal.Gen.frame m ρ
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The gradient of the feed-forward network's input weights is the reference's. -/
theorem algebraic : Cert.algebraic_Kernel5Ideal_Reference5Ideal := by
  intro m ρ m' ρ' _ hagree
  refine ⟨fun c => (Cert.Kernel5Ideal.Gen.dats m 0 c).arrAt 2 Cert.Kernel5Ideal.cfg0.N, ?_, ?_⟩
  · exact (θ_run Cert.Kernel5Ideal.defs _ _).mono (fun r h c => h c) (Cert.Kernel5Ideal.Value.run_blocks (F := Ideal) m ρ)
  · refine (θ_run Cert.Reference5Ideal.defs _ _).mono (fun r h c => ?_) (Cert.Reference5Ideal.Value.run (F := Ideal) m' ρ')
    obtain ⟨e0, e1, e2, e3⟩ := hagree c
    obtain ⟨r0, rest⟩ := h c
    replace r0 := r0.trans (Cert.Reference5Ideal.Read.val_main_v29_eq _ _ _)
    rw [e0, e1, e3] at r0
    refine ⟨(r0.trans (Cert.Reference5Ideal.Weight.value _ _ _)).trans (Eq.trans ?_ (Cert.Kernel5Ideal.Weight.final m c).symm), rest⟩
    funext i
    refine Finset.sum_congr rfl fun r _ => ?_
    exact congrArg (fun z : EReal => Cert.Kernel5Ideal.Weight.lhs m c (ix3 (i 0) r (i 1)) * z) (Cert.Kernel5Ideal.Weight.rhs_entry m c r (i 2)).symm

end Cert.Proof.Gate

namespace Cert.Proof.In

/-- The kernel, its idealization and the reference run and leave the memory they were given. -/
theorem frame_kernel : Cert.quiescent_Kernel6 := fun m ρ _ => Cert.Kernel6.Gen.frame m ρ
theorem frame_ideal : Cert.quiescent_Kernel6Ideal := fun m ρ _ => Cert.Kernel6Ideal.Gen.frame m ρ
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The gradient of the input projection's weights is the reference's. -/
theorem algebraic : Cert.algebraic_Kernel6Ideal_Reference6Ideal := by
  intro m ρ m' ρ' _ hagree
  refine ⟨fun c => (Cert.Kernel6Ideal.Gen.dats m 0 c).arrAt 2 Cert.Kernel6Ideal.cfg0.N, ?_, ?_⟩
  · exact (θ_run Cert.Kernel6Ideal.defs _ _).mono (fun r h c => h c) (Cert.Kernel6Ideal.Value.run_blocks (F := Ideal) m ρ)
  · refine (θ_run Cert.Reference6Ideal.defs _ _).mono (fun r h c => ?_) (Cert.Reference6Ideal.Value.run (F := Ideal) m' ρ')
    obtain ⟨e0, e1, e2, e3⟩ := hagree c
    obtain ⟨r0, rest⟩ := h c
    replace r0 := r0.trans (Cert.Reference6Ideal.Read.val_main_v14_eq _ _ _)
    rw [e0, e1, e3] at r0
    refine ⟨(r0.trans (Cert.Reference6Ideal.Weight.value _ _ _)).trans (Eq.trans ?_ (Cert.Kernel6Ideal.Weight.final m c).symm), rest⟩
    funext i
    refine Finset.sum_congr rfl fun r _ => ?_
    exact congrArg (· * _) (Cert.Kernel6Ideal.Weight.lhs_entry m c r (i 0)).symm

end Cert.Proof.In

namespace Cert.Proof.Out

/-- The kernel, its idealization and the reference run and leave the memory they were given. -/
theorem frame_kernel : Cert.quiescent_Kernel8 := fun m ρ _ => Cert.Kernel8.Gen.frame m ρ
theorem frame_ideal : Cert.quiescent_Kernel8Ideal := fun m ρ _ => Cert.Kernel8Ideal.Gen.frame m ρ
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The gradient of the output projection's weights is the reference's. -/
theorem algebraic : Cert.algebraic_Kernel8Ideal_Reference8Ideal := by
  intro m ρ m' ρ' _ hagree
  refine ⟨fun c => (Cert.Kernel8Ideal.Gen.dats m 0 c).arrAt 2 Cert.Kernel8Ideal.cfg0.N, ?_, ?_⟩
  · exact (θ_run Cert.Kernel8Ideal.defs _ _).mono (fun r h c => h c) (Cert.Kernel8Ideal.Value.run_blocks (F := Ideal) m ρ)
  · refine (θ_run Cert.Reference8Ideal.defs _ _).mono (fun r h c => ?_) (Cert.Reference8Ideal.Value.run (F := Ideal) m' ρ')
    obtain ⟨e0, e1, e2⟩ := hagree c
    obtain ⟨r0, rest⟩ := h c
    replace r0 := r0.trans (Cert.Reference8Ideal.Read.val_main_v5_eq _ _)
    rw [e0, e2] at r0
    exact ⟨(r0.trans (Cert.Reference8Ideal.Weight.value _ _)).trans (Cert.Kernel8Ideal.Weight.final m c).symm, rest⟩

end Cert.Proof.Out

namespace Cert.Proof.Branch

/-- The kernel, its idealization and the reference run and leave the memory they were given. -/
theorem frame_kernel : Cert.quiescent_Kernel9 := fun m ρ _ => Cert.Kernel9.Gen.frame m ρ
theorem frame_ideal : Cert.quiescent_Kernel9Ideal := fun m ρ _ => Cert.Kernel9Ideal.Gen.frame m ρ
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The gradient of a branch's weights is the reference's. -/
theorem algebraic : Cert.algebraic_Kernel9Ideal_Reference9Ideal := by
  intro m ρ m' ρ' _ hagree
  refine ⟨fun c => (Cert.Kernel9Ideal.Gen.dats m 0 c).arrAt 2 Cert.Kernel9Ideal.cfg0.N, ?_, ?_⟩
  · exact (θ_run Cert.Kernel9Ideal.defs _ _).mono (fun r h c => h c) (Cert.Kernel9Ideal.Value.run_blocks (F := Ideal) m ρ)
  · refine (θ_run Cert.Reference9Ideal.defs _ _).mono (fun r h c => ?_) (Cert.Reference9Ideal.Value.run (F := Ideal) m' ρ')
    obtain ⟨e0, e1, e2⟩ := hagree c
    obtain ⟨r0, rest⟩ := h c
    replace r0 := r0.trans (Cert.Reference9Ideal.Read.val_main_v8_eq _ _)
    rw [e0, e2] at r0
    exact ⟨(r0.trans (Cert.Reference9Ideal.Weight.value _ _)).trans (Cert.Kernel9Ideal.Weight.final m c).symm, rest⟩

end Cert.Proof.Branch

namespace Cert.Proof.Input

/-- The kernel, its idealization and the reference run and leave the memory they were given. -/
theorem frame_kernel : Cert.quiescent_Kernel7 := fun m ρ _ => Cert.Kernel7.Gen.frame m ρ
theorem frame_ideal : Cert.quiescent_Kernel7Ideal := fun m ρ _ => Cert.Kernel7Ideal.Gen.frame m ρ
theorem frame_reference : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The gradient of the tokens and the gathered rows are the reference's. -/
theorem algebraic : Cert.algebraic_Kernel7Ideal_Reference7Ideal := by
  intro m ρ m' ρ' _ hagree
  refine ⟨fun c => (Cert.Kernel7Ideal.Gen.dats m 0 c).arrAt 5 Cert.Kernel7Ideal.cfg0.N,
    fun c => (Cert.Kernel7Ideal.Gen.dats m 0 c).arrAt 6 Cert.Kernel7Ideal.cfg0.N, ?_, ?_⟩
  · exact (θ_run Cert.Kernel7Ideal.defs _ _).mono (fun r h c => h c) (Cert.Kernel7Ideal.Value.run_blocks (F := Ideal) m ρ)
  · refine (θ_run Cert.Reference7Ideal.defs _ _).mono (fun r h c => ?_) (Cert.Reference7Ideal.Value.run (F := Ideal) m' ρ')
    obtain ⟨e0, e1, e2, e3, e4⟩ := hagree c
    obtain ⟨r0, r1, rest⟩ := h c
    replace r0 := r0.trans (Cert.Reference7Ideal.Read.val_main_v26_eq _ _ _ _)
    replace r1 := r1.trans (Cert.Reference7Ideal.Read.val_main_v28_eq _ _ _)
    rw [e0, e1, e3, e4] at r0
    rw [e0, e1, e2] at r1
    exact ⟨(r0.trans (Cert.Reference7Ideal.InputGrad.value_gx _ _ (m (c, Proc.tc.devRef Cert.Kernel7Ideal.main_arg2)) _ _)).trans (Cert.Kernel7Ideal.InputGrad.final_gx m c).symm,
      (r1.trans (Cert.Reference7Ideal.InputGrad.value_gm _ _ _ (m (c, Proc.tc.devRef Cert.Kernel7Ideal.main_arg3)) (m (c, Proc.tc.devRef Cert.Kernel7Ideal.main_arg4)))).trans (Cert.Kernel7Ideal.InputGrad.final_gm m c).symm, rest⟩

end Cert.Proof.Input

end
-- ==== Proof.RecurrenceFrames.lean ====
/- The backward pass of the gated recurrence: every run ends without a fault and leaves the memory it was given. -/
module

public import proofs.«01_k».proof.Defs
public import proofs.«01_k».proof.Proof.Gen.Kernel10.Frame
public import proofs.«01_k».proof.Proof.Gen.Kernel10Ideal.Frame
public import Idealize.ShloMosaic.Lib.Claim
public import Idealize.ShloMosaic.Lib.Quiescent

@[expose] public section

noncomputable section

open Idealize.ShloMosaic Idealize.ShloMosaic.TcCoe Idealize.SL.Sem

namespace Cert.Proof.Recurrence

/-- The kernel and its idealization run and leave the memory they were given. -/
theorem frame_kernel : Cert.quiescent_Kernel10 := fun m ρ _ => Cert.Kernel10.Gen.frame m ρ
theorem frame_ideal : Cert.quiescent_Kernel10Ideal := fun m ρ _ => Cert.Kernel10Ideal.Gen.frame m ρ

end Cert.Proof.Recurrence

end
-- ==== Proof.Projection.lean ====
/-
  The input projections: the modulated tokens and their products with the packed weights, entry by entry, of the kernel's arrays
  and of the reference's.
-/
module

public import proofs.«01_k».proof.Defs
public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ReadBack
public import Idealize.ShloMosaic.Lib.Pointwise

@[expose] public section

noncomputable section

namespace Cert.Projection

open Idealize.ShloMosaic

/-- Row `p` of row block `i`, column `q` of column tile `k`. -/
def rb (i : ℕ) (p : Fin 2048) : Fin 8192 := ⟨(i * 2048 + p.val) % 8192, Nat.mod_lt _ (by norm_num)⟩
def ct (k : ℕ) (q : Fin 1152) : Fin 5760 := ⟨(k * 1152 + q.val) % 5760, Nat.mod_lt _ (by norm_num)⟩
def seqOf (r : Fin 8192) : Fin 2 := ⟨r.val / 4096, by omega⟩

/-- The argument arrays: the tokens, the modulation, the packed weights. -/
structure Args where
  x : Fin 8192 → Fin 1024 → EReal
  md : Fin 2 → Fin 8 → Fin 1024 → EReal
  w : Fin 1024 → Fin 5760 → EReal

variable (P : Args)

/-- The modulated tokens and the projections. -/
def Args.h (r : Fin 8192) (d : Fin 1024) : EReal := P.x r d * (1 + P.md (seqOf r) 1 d) + P.md (seqOf r) 0 d
def Args.o (r : Fin 8192) (j : Fin 5760) : EReal := ∑ d, P.h r d * P.w d j

end Cert.Projection

namespace Cert.Kernel11Ideal.Projection

open Idealize.ShloMosaic Idealize.ShloMosaic.TcCoe Idealize.SL.Sem
open Cert.Kernel11Ideal Cert.Kernel11Ideal.Gen Cert.Projection

variable (m : (ℓ : Loc nD τ sig) → Buf (Elt Ideal) ℓ) (c : Dev nD)

/-- The kernel's argument arrays. -/
def a0 : S8192x1024.Idx → EReal := m (c, Proc.tc.devRef main_arg0)
def a1 : S2x8x1024.Idx → EReal := m (c, Proc.tc.devRef main_arg1)
def a2 : S1024x5760.Idx → EReal := m (c, Proc.tc.devRef main_arg2)
def args : Args where
  x := fun r d => a0 m c (ix2 r d)
  md := fun b k d => a1 m c (ix3 b k d)
  w := fun d j => a2 m c (ix2 d j)

theorem idx : ∀ t : Fin cfg0.N, win0_0.index t = ![t.val / 5, 0] ∧ win0_1.index t = ![t.val / 10, 0, 0]
    ∧ win0_2.index t = ![0, t.val % 5] ∧ win0_3.index t = ![t.val / 5, t.val % 5] ∧ win0_4.index t = ![t.val / 5, 0] :=
  (by decide +kernel : ∀ t : Fin grid0.N, _)

theorem points (t : Fin cfg0.N) : t.val < 20 := t.isLt

/-- The sequence of a point's rows. -/
def sq (t : Fin cfg0.N) : Fin 2 := ⟨t.val / 10, by have := points t; omega⟩

section blocks

variable (t : Fin cfg0.N)

theorem blk0 (p : Fin 2048) (d : Fin 1024) : iblk m c 0 t (ix2 p d) = (args m c).x (rb (t.val / 5) p) d := by
  have ht := points t
  unfold args a0
  blk_point [iblk, idx t, V] <;> first | rfl | (simp only [rb]; omega)

theorem blk1 (k : Fin 8) (d : Fin 1024) : iblk m c 1 t (ix3 0 k d) = (args m c).md (sq t) k d := by
  unfold args a1
  blk_point [iblk, idx t, V] <;> rfl

theorem blk2 (d : Fin 1024) (q : Fin 1152) : iblk m c 2 t (ix2 d q) = (args m c).w d (ct (t.val % 5) q) := by
  have ht := points t
  unfold args a2
  blk_point [iblk, idx t, V] <;> first | rfl | (simp only [ct]; omega)

/-- The rows of the point's modulation block that shift and scale. -/
abbrev mr0 := View.ld (iblk m c 1 t) (Rect.unit ![0, 0, 0] ![1, 1, 1024] inb_S1x8x1024_S1x1x1024_0_0_0)
abbrev mr1 := View.ld (iblk m c 1 t) (Rect.unit ![0, 1, 0] ![1, 1, 1024] inb_S1x8x1024_S1x1x1024_0_1_0)

theorem row0 (d : Fin 1024) : mr0 m c t (ix3 0 0 d) = (args m c).md (sq t) 0 d := by
  rw [← blk1 m c t 0 d]
  refine congrArg (iblk m c 1 t) (funext fun a => ?_)
  fin_cases a <;> apply Fin.ext <;> simp [LoadRect.idx_apply, Rect.unit, ix3]

theorem row1 (d : Fin 1024) : mr1 m c t (ix3 0 0 d) = (args m c).md (sq t) 1 d := by
  rw [← blk1 m c t 1 d]
  refine congrArg (iblk m c 1 t) (funext fun a => ?_)
  fin_cases a <;> apply Fin.ext <;> simp [LoadRect.idx_apply, Rect.unit, ix3]

theorem h_at : (outsAt0 m c t).2 = k0_pay1 (F := Ideal) (iblk m c 0 t) (mr1 m c t) (mr0 m c t) := by
  unfold outsAt0
  frame_out
  rfl

theorem o_at : (outsAt0 m c t).1 = k0_pay2 (F := Ideal) (k0_pay1 (F := Ideal) (iblk m c 0 t) (mr1 m c t) (mr0 m c t)) (iblk m c 2 t) := by
  unfold outsAt0
  frame_out
  rfl

theorem h_val (p : Fin 2048) (d : Fin 1024) :
    k0_pay1 (F := Ideal) (iblk m c 0 t) (mr1 m c t) (mr0 m c t) (ix2 p d) = (args m c).h (rb (t.val / 5) p) d := by
  have ht := points t
  have e : sq t = seqOf (rb (t.val / 5) p) := by apply Fin.ext; simp only [sq, seqOf, rb]; omega
  pointwise [k0_pay1]
  simp only [blk0, row0, row1, e]
  rfl

theorem o_val (p : Fin 2048) (q : Fin 1152) : (outsAt0 m c t).1 (ix2 p q) = (args m c).o (rb (t.val / 5) p) (ct (t.val % 5) q) := by
  rw [o_at]
  pointwise [k0_pay2]
  simp only [h_val, blk2]
  rfl

end blocks

theorem emb3 (t : Fin cfg0.N) (p : Fin 2048) (q : Fin 1152) :
    (win0_3.blk t).view.emb (ix2 p q : S2048x1152.Idx) = (ix2 (rb (t.val / 5) p) (ct (t.val % 5) q) : S8192x5760.Idx) := by
  have ht := points t
  funext a
  apply Fin.ext
  fin_cases a <;> blk_simp [idx t]
  · show t.val / 5 * 2048 + p.val = (t.val / 5 * 2048 + p.val) % 8192; omega
  · show t.val % 5 * 1152 + q.val = (t.val % 5 * 1152 + q.val) % 5760; omega

theorem emb4 (t : Fin cfg0.N) (p : Fin 2048) (d : Fin 1024) :
    (win0_4.blk t).view.emb (ix2 p d : S2048x1024.Idx) = (ix2 (rb (t.val / 5) p) d : S8192x1024.Idx) := by
  have ht := points t
  funext a
  apply Fin.ext
  fin_cases a <;> blk_simp [idx t] <;> first | rfl | (show t.val / 5 * 2048 + p.val = (t.val / 5 * 2048 + p.val) % 8192; omega)

/-- The kernel's arrays, entry by entry. -/
theorem final_o : (dats m 0 c).arrAt 3 cfg0.N = fun i : S8192x5760.Idx => (args m c).o (i 0) (i 1) := by
  refine (dats m 0 c).arrAt_eq_of_covers 3 _ (by decide +kernel) fun t hf y => ?_
  blk_simp
  rw [after0_3]
  obtain ⟨p, q, rfl⟩ : ∃ p q, y = ix2 p q := ⟨y 0, y 1, ValueIdx.eq_ix2 y⟩
  have e := emb3 t p q
  refine (o_val m c t p q).trans ?_
  rw [e]
  rfl

theorem final_h : (dats m 0 c).arrAt 4 cfg0.N = fun i : S8192x1024.Idx => (args m c).h (i 0) (i 1) := by
  refine (dats m 0 c).arrAt_eq_of_covers 4 _ (by decide +kernel) fun t hf y => ?_
  blk_simp
  rw [after0_4, h_at]
  obtain ⟨p, q, rfl⟩ : ∃ p q, y = ix2 p q := ⟨y 0, y 1, ValueIdx.eq_ix2 y⟩
  have e := emb4 t p q
  refine (h_val m c t p q).trans ?_
  rw [e]
  rfl

end Cert.Kernel11Ideal.Projection

namespace Cert.Reference11Ideal.Projection

open Idealize.ShloMosaic Cert.Reference11Ideal Cert.Reference11Ideal.Read Cert.Projection

variable (x0 : (⟨S8192x1024, .f32⟩ : BufTy).Contents (Elt Ideal)) (x1 : (⟨S2x8x1024, .f32⟩ : BufTy).Contents (Elt Ideal))
  (x2 : (⟨S1024x5760, .bf16⟩ : BufTy).Contents (Elt Ideal))

/-- The reference's argument arrays. -/
def args : Args where
  x := fun r d => x0 (ix2 r d)
  md := fun b k d => x1 (ix3 b k d)
  w := fun d j => x2 (ix2 d j)

/-- The reference's arrays, entry by entry. -/
theorem value_h : val_main_v14 (F := Ideal) x0 x1 = fun i : S8192x1024.Idx => (args x0 x1 x2).h (i 0) (i 1) := by
  funext i
  obtain ⟨r, d, rfl⟩ : ∃ r d, i = ix2 r d := ⟨i 0, i 1, ValueIdx.eq_ix2 i⟩
  pointwise [val_main_v14, val_main_v13, val_main_v8, val_main_v7, val_main_v6, val_main_v5, val_main_v4, val_main_v3, val_main_v2,
    val_main_cst, val_main_v1, val_main_v0]
  rfl

theorem value_o : val_main_v12 (F := Ideal) x0 x1 x2 = fun i : S8192x5760.Idx => (args x0 x1 x2).o (i 0) (i 1) := by
  funext i
  obtain ⟨r, d, rfl⟩ : ∃ r d, i = ix2 r d := ⟨i 0, i 1, ValueIdx.eq_ix2 i⟩
  pointwise [val_main_v12, val_main_v11, val_main_v10, val_main_v9, val_main_v8, val_main_v7, val_main_v6, val_main_v5, val_main_v4,
    val_main_v3, val_main_v2, val_main_cst, val_main_v1, val_main_v0]
  rfl

end Cert.Reference11Ideal.Projection

end
-- ==== Proof.MergeForward.lean ====
/-
  The gated merge, the output projection and the first norm, forward: the merged branches, the projection's output and the normed
  tokens, entry by entry, of the kernel's arrays and of the reference's.
-/
module

public import proofs.«01_k».proof.Defs
public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack
public import Idealize.ShloMosaic.Lib.Pointwise

@[expose] public section

noncomputable section

namespace Cert.MergeForward

open Idealize.ShloMosaic

/-- Row `p` of row block `i`; the sequence of a row; the two gates' columns of an output column. -/
def rb (i : ℕ) (p : Fin 512) : Fin 8192 := ⟨(i * 512 + p.val) % 8192, Nat.mod_lt _ (by norm_num)⟩
def seqOf (r : Fin 8192) : Fin 2 := ⟨r.val / 4096, by omega⟩
def ga (d : Fin 1024) : Fin 5760 := ⟨d.val, by omega⟩
def gb (d : Fin 1024) : Fin 5760 := ⟨1024 + d.val, by omega⟩

/-- The argument arrays: the branches, the projections, the tokens, the modulation, the three weights, the norm's two rows. -/
structure Args where
  ya : Fin 8192 → Fin 512 → EReal
  yb : Fin 8192 → Fin 512 → EReal
  pr : Fin 8192 → Fin 5760 → EReal
  x : Fin 8192 → Fin 1024 → EReal
  md : Fin 2 → Fin 8 → Fin 1024 → EReal
  wa : Fin 512 → Fin 1024 → EReal
  wb : Fin 512 → Fin 1024 → EReal
  wo : Fin 1024 → Fin 1024 → EReal
  lw : Fin 1024 → EReal
  lb : Fin 1024 → EReal

namespace Args

variable (P : Args)

/-- The merged branches, the projection's output, the residual, its mean and centred rows, its mean square, the normed tokens. -/
def mg (r : Fin 8192) (d : Fin 1024) : EReal :=
  Ideal.logistic (P.pr r (ga d)) * (∑ k, P.ya r k * P.wa k d) + Ideal.logistic (P.pr r (gb d)) * (∑ k, P.yb r k * P.wb k d)
def u (r : Fin 8192) (d : Fin 1024) : EReal := ∑ k, P.mg r k * P.wo k d
def z (r : Fin 8192) (d : Fin 1024) : EReal := Ideal.ofBits .f32 0x3F9837F0#32 * P.x r d + (1 + P.md (seqOf r) 2 d) * P.u r d
def mu (r : Fin 8192) : EReal := Ideal.div (∑ k, P.z r k) (Ideal.ofBits .f32 0x44800000#32)
def zc (r : Fin 8192) (d : Fin 1024) : EReal := P.z r d - P.mu r
def va (r : Fin 8192) : EReal := Ideal.div (∑ k, P.zc r k * P.zc r k) (Ideal.ofBits .f32 0x44800000#32)
def x1 (r : Fin 8192) (d : Fin 1024) : EReal :=
  P.zc r d * Ideal.rsqrt (P.va r + Ideal.ofBits .f32 0x3727C5AC#32) * P.lw d + P.lb d

end Args

end Cert.MergeForward

namespace Cert.Kernel12Ideal.MergeForward

open Idealize.ShloMosaic Idealize.ShloMosaic.TcCoe Idealize.SL.Sem
open Cert.Kernel12Ideal Cert.Kernel12Ideal.Gen Cert.MergeForward

variable (m : (ℓ : Loc nD τ sig) → Buf (Elt Ideal) ℓ) (c : Dev nD)

/-- The kernel's argument arrays. -/
def a0 : S8192x512.Idx → EReal := m (c, Proc.tc.devRef main_arg0)
def a1 : S8192x512.Idx → EReal := m (c, Proc.tc.devRef main_arg1)
def a2 : S8192x5760.Idx → EReal := m (c, Proc.tc.devRef main_arg2)
def a3 : S8192x1024.Idx → EReal := m (c, Proc.tc.devRef main_arg3)
def a4 : S2x8x1024.Idx → EReal := m (c, Proc.tc.devRef main_arg4)
def a5 : S512x1024.Idx → EReal := m (c, Proc.tc.devRef main_arg5)
def a6 : S512x1024.Idx → EReal := m (c, Proc.tc.devRef main_arg6)
def a7 : S1024x1024.Idx → EReal := m (c, Proc.tc.devRef main_arg7)
def a8 : S1x1024.Idx → EReal := m (c, Proc.tc.devRef main_arg8)
def a9 : S1x1024.Idx → EReal := m (c, Proc.tc.devRef main_arg9)
def args : Args where
  ya := fun r k => a0 m c (ix2 r k)
  yb := fun r k => a1 m c (ix2 r k)
  pr := fun r j => a2 m c (ix2 r j)
  x := fun r d => a3 m c (ix2 r d)
  md := fun b k d => a4 m c (ix3 b k d)
  wa := fun k d => a5 m c (ix2 k d)
  wb := fun k d => a6 m c (ix2 k d)
  wo := fun k d => a7 m c (ix2 k d)
  lw := fun d => a8 m c (ix2 0 d)
  lb := fun d => a9 m c (ix2 0 d)

theorem idx : ∀ t : Fin cfg0.N, win0_0.index t = ![t.val, 0] ∧ win0_1.index t = ![t.val, 0] ∧ win0_2.index t = ![t.val, 0]
    ∧ win0_3.index t = ![t.val, 0] ∧ win0_4.index t = ![t.val / 8, 0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] :=
  (by decide +kernel : ∀ t : Fin grid0.N, _)

theorem points (t : Fin cfg0.N) : t.val < 16 := t.isLt

/-- The sequence of a point's rows. -/
def sq (t : Fin cfg0.N) : Fin 2 := ⟨t.val / 8, by have := points t; omega⟩

section blocks

variable (t : Fin cfg0.N)

theorem blk0 (p : Fin 512) (k : Fin 512) : iblk m c 0 t (ix2 p k) = (args m c).ya (rb t.val p) k := by
  have ht := points t
  unfold args a0
  blk_point [iblk, idx t, V] <;> first | rfl | (simp only [rb]; omega)

theorem blk1 (p : Fin 512) (k : Fin 512) : iblk m c 1 t (ix2 p k) = (args m c).yb (rb t.val p) k := by
  have ht := points t
  unfold args a1
  blk_point [iblk, idx t, V] <;> first | rfl | (simp only [rb]; omega)

theorem blk3 (p : Fin 512) (d : Fin 1024) : iblk m c 3 t (ix2 p d) = (args m c).x (rb t.val p) d := by
  have ht := points t
  unfold args a3
  blk_point [iblk, idx t, V] <;> first | rfl | (simp only [rb]; omega)

theorem blk4 (k : Fin 8) (d : Fin 1024) : iblk m c 4 t (ix3 0 k d) = (args m c).md (sq t) k d := by
  unfold args a4
  blk_point [iblk, idx t, V] <;> rfl

theorem blk5 (k : Fin 512) (d : Fin 1024) : iblk m c 5 t (ix2 k d) = (args m c).wa k d := by
  unfold args a5
  blk_point [iblk, idx t, V]

theorem blk6 (k : Fin 512) (d : Fin 1024) : iblk m c 6 t (ix2 k d) = (args m c).wb k d := by
  unfold args a6
  blk_point [iblk, idx t, V]

theorem blk7 (k : Fin 1024) (d : Fin 1024) : iblk m c 7 t (ix2 k d) = (args m c).wo k d := by
  unfold args a7
  blk_point [iblk, idx t, V]

theorem blk8 (d : Fin 1024) : iblk m c 8 t (ix2 0 d) = (args m c).lw d := by
  unfold args a8
  blk_point [iblk, idx t, V]

theorem blk9 (d : Fin 1024) : iblk m c 9 t (ix2 0 d) = (args m c).lb d := by
  unfold args a9
  blk_point [iblk, idx t, V]

/-- The gates' block: rows of the point, the first 2048 columns of the projections. -/
theorem gates (j : S512x2048.Idx) (i : S8192x5760.Idx) (h0 : (i 0).val = t.val * 512 + (j 0).val)
    (h1 : (i 1).val = (j 1).val) : X0_2 m c t j = a2 m c i := by
  unfold X0_2 Pipeline.Window.fill a2
  rw [dif_pos (moved0_2 t j)]
  blk_simp [iblk, V, idx t]
  congr 1
  blk_ext [idx t]

/-- The two gates' columns of that block, and the modulation's row that scales the branch. -/
abbrev g0 := View.ld (X0_2 m c t) (Rect.unit ![0, 0] ![512, 1024] inb_S512x2048_S512x1024_0_0)
abbrev g1 := View.ld (X0_2 m c t) (Rect.unit ![0, 1024] ![512, 1024] inb_S512x2048_S512x1024_0_1024)
abbrev mr := View.ld (iblk m c 4 t) (Rect.unit ![0, 2, 0] ![1, 1, 1024] inb_S1x8x1024_S1x1x1024_0_2_0)

theorem g0_val (p : Fin 512) (d : Fin 1024) : g0 m c t (ix2 p d) = (args m c).pr (rb t.val p) (ga d) := by
  have ht := points t
  refine gates m c t _ _ ?_ ?_
  · simp [LoadRect.idx_apply, Rect.unit, ix2, rb]; omega
  · simp [LoadRect.idx_apply, Rect.unit, ix2, ga]

theorem g1_val (p : Fin 512) (d : Fin 1024) : g1 m c t (ix2 p d) = (args m c).pr (rb t.val p) (gb d) := by
  have ht := points t
  refine gates m c t _ _ ?_ ?_
  · simp [LoadRect.idx_apply, Rect.unit, ix2, rb]; omega
  · simp [LoadRect.idx_apply, Rect.unit, ix2, gb]

theorem row2 (d : Fin 1024) : mr m c t (ix3 0 0 d) = (args m c).md (sq t) 2 d := by
  rw [← blk4 m c t 2 d]
  refine congrArg (iblk m c 4 t) (funext fun a => ?_)
  fin_cases a <;> apply Fin.ext <;> simp [LoadRect.idx_apply, Rect.unit, ix3]

/-- The point's three blocks. -/
abbrev mgT := k0_pay2 (F := Ideal) (g0 m c t) (g1 m c t) (iblk m c 0 t) (iblk m c 5 t) (iblk m c 1 t) (iblk m c 6 t)
abbrev uT := k0_pay3 (F := Ideal) (g0 m c t) (g1 m c t) (iblk m c 0 t) (iblk m c 5 t) (iblk m c 1 t) (iblk m c 6 t) (iblk m c 7 t)
abbrev x1T := k0_pay1 (F := Ideal) (uT m c t) (k0_pay5 (F := Ideal) (iblk m c 3 t)) (k0_pay6 (F := Ideal) (mr m c t)) (iblk m c 8 t) (iblk m c 9 t)

theorem mg_at : (outsAt0 m c t).1 = mgT m c t := by
  unfold outsAt0
  frame_out
  rfl

theorem u_at : (outsAt0 m c t).2.1
    = k0_pay4 (F := Ideal) (g0 m c t) (g1 m c t) (iblk m c 0 t) (iblk m c 5 t) (iblk m c 1 t) (iblk m c 6 t) (iblk m c 7 t) := by
  unfold outsAt0
  frame_out
  rfl

theorem x1_at : (outsAt0 m c t).2.2 = x1T m c t := by
  unfold outsAt0
  frame_out
  rfl

theorem mg_val (p : Fin 512) (d : Fin 1024) : mgT m c t (ix2 p d) = (args m c).mg (rb t.val p) d := by
  unfold mgT
  pointwise [k0_pay2]
  simp only [blk0, blk1, blk5, blk6, g0_val, g1_val]
  rfl

theorem u_val (p : Fin 512) (d : Fin 1024) : uT m c t (ix2 p d) = (args m c).u (rb t.val p) d := by
  unfold uT
  pointwise [k0_pay3]
  exact Finset.sum_congr rfl fun k _ => congrArg₂ (· * ·) (mg_val m c t p k) (blk7 m c t k d)

theorem uc_val (p : Fin 512) (d : Fin 1024) : (outsAt0 m c t).2.1 (ix2 p d) = (args m c).u (rb t.val p) d := by
  rw [u_at]
  pointwise [k0_pay4]
  exact u_val m c t p d

theorem z_val (p : Fin 512) (d : Fin 1024) :
    (k0_pay5 (F := Ideal) (iblk m c 3 t) (ix2 p d) + k0_pay6 (F := Ideal) (mr m c t) (ix2 p d) * uT m c t (ix2 p d) : EReal)
      = (args m c).z (rb t.val p) d := by
  have ht := points t
  have e : sq t = seqOf (rb t.val p) := by apply Fin.ext; simp only [sq, seqOf, rb]; omega
  rw [u_val]
  pointwise [k0_pay5, k0_pay6]
  simp only [blk3, row2, e]
  simp [Args.z]

theorem x1_val (p : Fin 512) (d : Fin 1024) : x1T m c t (ix2 p d) = (args m c).x1 (rb t.val p) d := by
  unfold x1T
  have hz := z_val m c t p
  generalize k0_pay5 (F := Ideal) (iblk m c 3 t) = A at hz ⊢
  generalize k0_pay6 (F := Ideal) (mr m c t) = B at hz ⊢
  generalize uT m c t = C at hz ⊢
  pointwise [k0_pay1]
  simp only [hz, blk8, blk9]
  rfl

end blocks

theorem emb10 (t : Fin cfg0.N) (p : Fin 512) (d : Fin 1024) :
    (win0_10.blk t).view.emb (ix2 p d : S512x1024.Idx) = (ix2 (rb t.val p) d : S8192x1024.Idx) := by
  have ht := points t
  funext a
  apply Fin.ext
  fin_cases a <;> blk_simp [idx t] <;> first | rfl | (show t.val * 512 + p.val = (t.val * 512 + p.val) % 8192; omega)

theorem emb11 (t : Fin cfg0.N) (p : Fin 512) (d : Fin 1024) :
    (win0_11.blk t).view.emb (ix2 p d : S512x1024.Idx) = (ix2 (rb t.val p) d : S8192x1024.Idx) := by
  have ht := points t
  funext a
  apply Fin.ext
  fin_cases a <;> blk_simp [idx t] <;> first | rfl | (show t.val * 512 + p.val = (t.val * 512 + p.val) % 8192; omega)

theorem emb12 (t : Fin cfg0.N) (p : Fin 512) (d : Fin 1024) :
    (win0_12.blk t).view.emb (ix2 p d : S512x1024.Idx) = (ix2 (rb t.val p) d : S8192x1024.Idx) := by
  have ht := points t
  funext a
  apply Fin.ext
  fin_cases a <;> blk_simp [idx t] <;> first | rfl | (show t.val * 512 + p.val = (t.val * 512 + p.val) % 8192; omega)

/-- The kernel's arrays, entry by entry. -/
theorem final_mg : (dats m 0 c).arrAt 10 cfg0.N = fun i : S8192x1024.Idx => (args m c).mg (i 0) (i 1) := by
  refine (dats m 0 c).arrAt_eq_of_covers 10 _ (by decide +kernel) fun t hf y => ?_
  blk_simp
  rw [after0_10, mg_at]
  obtain ⟨p, q, rfl⟩ : ∃ p q, y = ix2 p q := ⟨y 0, y 1, ValueIdx.eq_ix2 y⟩
  have e := emb10 t p q
  refine (mg_val m c t p q).trans ?_
  rw [e]
  rfl

theorem final_u : (dats m 0 c).arrAt 11 cfg0.N = fun i : S8192x1024.Idx => (args m c).u (i 0) (i 1) := by
  refine (dats m 0 c).arrAt_eq_of_covers 11 _ (by decide +kernel) fun t hf y => ?_
  blk_simp
  rw [after0_11]
  obtain ⟨p, q, rfl⟩ : ∃ p q, y = ix2 p q := ⟨y 0, y 1, ValueIdx.eq_ix2 y⟩
  have e := emb11 t p q
  refine (uc_val m c t p q).trans ?_
  rw [e]
  rfl

theorem final_x1 : (dats m 0 c).arrAt 12 cfg0.N = fun i : S8192x1024.Idx => (args m c).x1 (i 0) (i 1) := by
  refine (dats m 0 c).arrAt_eq_of_covers 12 _ (by decide +kernel) fun t hf y => ?_
  blk_simp
  rw [after0_12, x1_at]
  obtain ⟨p, q, rfl⟩ : ∃ p q, y = ix2 p q := ⟨y 0, y 1, ValueIdx.eq_ix2 y⟩
  have e := emb12 t p q
  refine (x1_val m c t p q).trans ?_
  rw [e]
  rfl

end Cert.Kernel12Ideal.MergeForward

namespace Cert.Reference12Ideal.MergeForward

open Idealize.ShloMosaic Cert.Reference12Ideal Cert.Reference12Ideal.Read Cert.MergeForward

variable (x0 x1 : (⟨S8192x512, .bf16⟩ : BufTy).Contents (Elt Ideal)) (x2 : (⟨S8192x5760, .bf16⟩ : BufTy).Contents (Elt Ideal))
  (x3 : (⟨S8192x1024, .f32⟩ : BufTy).Contents (Elt Ideal)) (x4 : (⟨S2x8x1024, .f32⟩ : BufTy).Contents (Elt Ideal))
  (x5 x6 : (⟨S512x1024, .bf16⟩ : BufTy).Contents (Elt Ideal)) (x7 : (⟨S1024x1024, .bf16⟩ : BufTy).Contents (Elt Ideal))
  (x8 x9 : (⟨S1x1024, .f32⟩ : BufTy).Contents (Elt Ideal))

/-- The reference's argument arrays. -/
def args : Args where
  ya := fun r k => x0 (ix2 r k)
  yb := fun r k => x1 (ix2 r k)
  pr := fun r j => x2 (ix2 r j)
  x := fun r d => x3 (ix2 r d)
  md := fun b k d => x4 (ix3 b k d)
  wa := fun k d => x5 (ix2 k d)
  wb := fun k d => x6 (ix2 k d)
  wo := fun k d => x7 (ix2 k d)
  lw := fun d => x8 (ix2 0 d)
  lb := fun d => x9 (ix2 0 d)

/-- Row `s` of sequence `b`. -/
def row (b : Fin 2) (s : Fin 4096) : Fin 8192 := ⟨b.val * 4096 + s.val, by omega⟩

theorem seqOf_row (b : Fin 2) (s : Fin 4096) : seqOf (row b s) = b := by
  apply Fin.ext; simp only [seqOf, row]; omega

local notation "A" => args x0 x1 x2 x3 x4 x5 x6 x7 x8 x9

/-- The reference's sigmoid, spelt out, is the logistic function. -/
theorem logistic_ref (x : EReal) :
    Ideal.div (Ideal.ofBits .f32 0x3F800000#32) (Ideal.ofBits .f32 0x3F800000#32 + Ideal.exp (-x)) = Ideal.logistic x := by
  have h : Ideal.ofBits .f32 0x3F800000#32 = 1 := by simp
  rw [h]
  rfl

theorem sig_at (b : Fin 2) (s : Fin 4096) (j : Fin 2048) :
    val_main_v8 (F := Ideal) x2 (ix3 b s j) = Ideal.logistic (x2 (ix2 (row b s) ⟨j.val, by omega⟩)) := by
  rw [← logistic_ref]
  pointwise [val_main_v8, val_main_v7, val_main_cst_0, val_main_v6, val_main_v5, val_main_cst, val_main_v4, val_main_v3, val_main_v2,
    val_main_v1, val_main_v0]
  rfl

theorem mg_at (b : Fin 2) (s : Fin 4096) (d : Fin 1024) :
    val_main_v21 (F := Ideal) x0 x1 x2 x5 x6 (ix3 b s d) = (A).mg (row b s) d := by
  pointwise [val_main_v21, val_main_v20, val_main_v19, val_main_v18, val_main_v17, val_main_v16, val_main_v15, val_main_v14,
    val_main_v13, val_main_v12, val_main_v11, val_main_v10, val_main_v9]
  simp only [sig_at]
  rfl

theorem u_at (b : Fin 2) (s : Fin 4096) (d : Fin 1024) :
    val_main_v23 (F := Ideal) x0 x1 x2 x5 x6 x7 (ix3 b s d) = (A).u (row b s) d := by
  pointwise [val_main_v23, val_main_v22]
  exact Finset.sum_congr rfl fun k _ => congrArg (· * _) (mg_at x0 x1 x2 x3 x4 x5 x6 x7 x8 x9 b s k)

theorem z_at (b : Fin 2) (s : Fin 4096) (d : Fin 1024) :
    val_main_v32 (F := Ideal) x0 x1 x2 x3 x4 x5 x6 x7 (ix3 b s d) = (A).z (row b s) d := by
  pointwise [val_main_v32, val_main_v31, val_main_v30, val_main_v29, val_main_v28, val_main_cst_2, val_main_v27, val_main_v26,
    val_main_v25, val_main_cst_1, val_main_v24]
  rw [u_at x0 x1 x2 x3 x4 x5 x6 x7 x8 x9, Args.z, seqOf_row]
  rfl

theorem zc_at (b : Fin 2) (s : Fin 4096) (d : Fin 1024) :
    val_main_v38 (F := Ideal) x0 x1 x2 x3 x4 x5 x6 x7 (ix3 b s d) = (A).zc (row b s) d := by
  pointwise [val_main_v38, val_main_v37, val_main_v36, val_main_v35, val_main_cst_4, val_main_v34, val_main_v33, val_main_cst_3]
  simp only [z_at x0 x1 x2 x3 x4 x5 x6 x7 x8 x9]
  simp [Args.zc, Args.mu]

theorem zc_at' (b : Fin 2) (s : Fin 4096) (d : Fin 1024) :
    val_main_v45 (F := Ideal) x0 x1 x2 x3 x4 x5 x6 x7 (ix3 b s d) = (A).zc (row b s) d := by
  pointwise [val_main_v45, val_main_v44, val_main_v36, val_main_v35, val_main_cst_4, val_main_v34, val_main_v33, val_main_cst_3]
  simp only [z_at x0 x1 x2 x3 x4 x5 x6 x7 x8 x9]
  simp [Args.zc, Args.mu]

theorem x1_at (b : Fin 2) (s : Fin 4096) (d : Fin 1024) :
    val_main_v56 (F := Ideal) x0 x1 x2 x3 x4 x5 x6 x7 x8 x9 (ix3 b s d) = (A).x1 (row b s) d := by
  pointwise [val_main_v56, val_main_v55, val_main_v54, val_main_v53, val_main_v52, val_main_v51, val_main_v50, val_main_v49,
    val_main_v48, val_main_v47, val_main_v46, val_main_cst_7, val_main_v43, val_main_v42, val_main_cst_6, val_main_v41,
    val_main_v40, val_main_cst_5, val_main_v39]
  simp only [zc_at x0 x1 x2 x3 x4 x5 x6 x7 x8 x9, zc_at' x0 x1 x2 x3 x4 x5 x6 x7 x8 x9]
  simp [Args.x1, Args.va]
  rfl

/-- The reference's arrays, entry by entry. -/
theorem value_mg : val_main_v58 (F := Ideal) x0 x1 x2 x5 x6 = fun i : S8192x1024.Idx => (A).mg (i 0) (i 1) := by
  funext i
  obtain ⟨r, d, rfl⟩ : ∃ r d, i = ix2 r d := ⟨i 0, i 1, ValueIdx.eq_ix2 i⟩
  pointwise [val_main_v58, val_main_v57]
  refine (mg_at x0 x1 x2 x3 x4 x5 x6 x7 x8 x9 _ _ _).trans (congrArg₂ (A).mg (Fin.ext ?_) rfl)
  simp only [row]; omega

theorem value_u : val_main_v60 (F := Ideal) x0 x1 x2 x5 x6 x7 = fun i : S8192x1024.Idx => (A).u (i 0) (i 1) := by
  funext i
  obtain ⟨r, d, rfl⟩ : ∃ r d, i = ix2 r d := ⟨i 0, i 1, ValueIdx.eq_ix2 i⟩
  pointwise [val_main_v60, val_main_v59]
  refine (u_at x0 x1 x2 x3 x4 x5 x6 x7 x8 x9 _ _ _).trans (congrArg₂ (A).u (Fin.ext ?_) rfl)
  simp only [row]; omega

theorem value_x1 : val_main_v61 (F := Ideal) x0 x1 x2 x3 x4 x5 x6 x7 x8 x9 = fun i : S8192x1024.Idx => (A).x1 (i 0) (i 1) := by
  funext i
  obtain ⟨r, d, rfl⟩ : ∃ r d, i = ix2 r d := ⟨i 0, i 1, ValueIdx.eq_ix2 i⟩
  pointwise [val_main_v61]
  refine (x1_at x0 x1 x2 x3 x4 x5 x6 x7 x8 x9 _ _ _).trans (congrArg₂ (A).x1 (Fin.ext ?_) rfl)
  simp only [row]; omega

end Cert.Reference12Ideal.MergeForward

end
-- ==== Proof.ForwardClaims.lean ====
/- The claims about the input projections and about the merge forward, assembled from the runs of the programs. -/
module

public import proofs.«01_k».proof.Defs
public import proofs.«01_k».proof.Proof.Projection
public import proofs.«01_k».proof.Proof.MergeForward
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Claim
public import Idealize.ShloMosaic.Lib.Quiescent

@[expose] public section

noncomputable section

open Idealize.ShloMosaic Idealize.ShloMosaic.TcCoe Idealize.SL.Sem

namespace Cert.Proof.Project

/-- The kernel, its idealization and the reference run and leave the memory they were given. -/
theorem frame_kernel : Cert.quiescent_Kernel11 := fun m ρ _ => Cert.Kernel11.Gen.frame m ρ
theorem frame_ideal : Cert.quiescent_Kernel11Ideal := fun m ρ _ => Cert.Kernel11Ideal.Gen.frame m ρ
theorem frame_reference : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

/-- The projections and the modulated tokens are the reference's. -/
theorem algebraic : Cert.algebraic_Kernel11Ideal_Reference11Ideal := by
  intro m ρ m' ρ' _ hagree
  refine ⟨fun c => (Cert.Kernel11Ideal.Gen.dats m 0 c).arrAt 3 Cert.Kernel11Ideal.cfg0.N,
    fun c => (Cert.Kernel11Ideal.Gen.dats m 0 c).arrAt 4 Cert.Kernel11Ideal.cfg0.N, ?_, ?_⟩
  · exact (θ_run Cert.Kernel11Ideal.defs _ _).mono (fun r h c => h c) (Cert.Kernel11Ideal.Value.run_blocks (F := Ideal) m ρ)
  · refine (θ_run Cert.Reference11Ideal.defs _ _).mono (fun r h c => ?_) (Cert.Reference11Ideal.Value.run (F := Ideal) m' ρ')
    obtain ⟨e0, e1, e2⟩ := hagree c
    obtain ⟨r0, r1, rest⟩ := h c
    replace r0 := r0.trans (Cert.Reference11Ideal.Read.val_main_v12_eq _ _ _)
    rw [e0, e1, e2] at r0
    replace r1 := r1.trans (Cert.Reference11Ideal.Read.val_main_v14_eq _ _)
    rw [e0, e1] at r1
    exact ⟨(r0.trans (Cert.Reference11Ideal.Projection.value_o _ _ _)).trans (Cert.Kernel11Ideal.Projection.final_o m c).symm,
      (r1.trans (Cert.Reference11Ideal.Projection.value_h _ _ (Cert.Kernel11Ideal.Projection.a2 m c))).trans
        (Cert.Kernel11Ideal.Projection.final_h m c).symm, rest⟩

end Cert.Proof.Project

namespace Cert.Proof.MergeForward

/-- The kernel, its idealization and the reference run and leave the memory they were given. -/
theorem frame_kernel : Cert.quiescent_Kernel12 := fun m ρ _ => Cert.Kernel12.Gen.frame m ρ
theorem frame_ideal : Cert.quiescent_Kernel12Ideal := fun m ρ _ => Cert.Kernel12Ideal.Gen.frame m ρ
theorem frame_reference : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

/-- The merged branches, the projection's output and the normed tokens are the reference's. -/
theorem algebraic : Cert.algebraic_Kernel12Ideal_Reference12Ideal := by
  intro m ρ m' ρ' _ hagree
  refine ⟨fun c => (Cert.Kernel12Ideal.Gen.dats m 0 c).arrAt 10 Cert.Kernel12Ideal.cfg0.N,
    fun c => (Cert.Kernel12Ideal.Gen.dats m 0 c).arrAt 11 Cert.Kernel12Ideal.cfg0.N,
    fun c => (Cert.Kernel12Ideal.Gen.dats m 0 c).arrAt 12 Cert.Kernel12Ideal.cfg0.N, ?_, ?_⟩
  · exact (θ_run Cert.Kernel12Ideal.defs _ _).mono (fun r h c => h c) (Cert.Kernel12Ideal.Value.run_blocks (F := Ideal) m ρ)
  · refine (θ_run Cert.Reference12Ideal.defs _ _).mono (fun r h c => ?_) (Cert.Reference12Ideal.Value.run (F := Ideal) m' ρ')
    obtain ⟨e0, e1, e2, e3, e4, e5, e6, e7, e8, e9⟩ := hagree c
    obtain ⟨r0, r1, r2, rest⟩ := h c
    replace r0 := r0.trans (Cert.Reference12Ideal.Read.val_main_v58_eq _ _ _ _ _)
    rw [e0, e1, e2, e5, e6] at r0
    replace r1 := r1.trans (Cert.Reference12Ideal.Read.val_main_v60_eq _ _ _ _ _ _)
    rw [e0, e1, e2, e5, e6, e7] at r1
    replace r2 := r2.trans (Cert.Reference12Ideal.Read.val_main_v61_eq _ _)
    rw [e0, e1, e2, e3, e4, e5, e6, e7, e8, e9] at r2
    exact ⟨(r0.trans (Cert.Reference12Ideal.MergeForward.value_mg _ _ _ (Cert.Kernel12Ideal.MergeForward.a3 m c)
          (Cert.Kernel12Ideal.MergeForward.a4 m c) _ _ (Cert.Kernel12Ideal.MergeForward.a7 m c)
          (Cert.Kernel12Ideal.MergeForward.a8 m c) (Cert.Kernel12Ideal.MergeForward.a9 m c))).trans
          (Cert.Kernel12Ideal.MergeForward.final_mg m c).symm,
      (r1.trans (Cert.Reference12Ideal.MergeForward.value_u _ _ _ (Cert.Kernel12Ideal.MergeForward.a3 m c)
          (Cert.Kernel12Ideal.MergeForward.a4 m c) _ _ _ (Cert.Kernel12Ideal.MergeForward.a8 m c)
          (Cert.Kernel12Ideal.MergeForward.a9 m c))).trans
          (Cert.Kernel12Ideal.MergeForward.final_u m c).symm,
      (r2.trans (Cert.Reference12Ideal.MergeForward.value_x1 _ _ _ _ _ _ _ _ _ _)).trans
        (Cert.Kernel12Ideal.MergeForward.final_x1 m c).symm, rest⟩

end Cert.Proof.MergeForward

end
-- ==== Proof.FeedForwardPoint.lean ====
/-
  What one grid point of the feed-forward network's forward pass leaves in its windows and in its accumulator.
-/
module

public import proofs.«01_k».proof.Defs
public import proofs.«01_k».proof.Proof.Gen.Kernel13Ideal.Value
public import Idealize.ShloMosaic.Lib.Pipeline.ValueKit
public import Idealize.ShloMosaic.Lib.Pointwise
public import Idealize.ShloMosaic.Lib.Pipeline.ReadBack

@[expose] public section

noncomputable section

namespace Cert.Kernel13Ideal.FeedForward

open Idealize.ShloMosaic Idealize.ShloMosaic.TcCoe Idealize.SL.Sem
open Cert.Kernel13Ideal Cert.Kernel13Ideal.Gen Cert.Kernel13Ideal.Value
open Idealize.ShloMosaic.Pipeline (Dat)

variable (m : (ℓ : Loc nD τ sig) → Buf (Elt Ideal) ℓ) (c : Dev nD) (t : Fin cfg0.N)

/-- Row `k` of the point's modulation block; the modulated tokens; the two input products; the accumulator after the point's
    step over `A`; over the whole sum `A`, the norm's scale, the normed rows, the error, its squares, the residual's gradient. -/
abbrev mr3 := View.ld (iblk m c 1 t) (Rect.unit ![0, 3, 0] ![1, 1, 1024] inb_S1x8x1024_S1x1x1024_0_3_0)
abbrev mr4 := View.ld (iblk m c 1 t) (Rect.unit ![0, 4, 0] ![1, 1, 1024] inb_S1x8x1024_S1x1x1024_0_4_0)
abbrev mr5 := View.ld (iblk m c 1 t) (Rect.unit ![0, 5, 0] ![1, 1, 1024] inb_S1x8x1024_S1x1x1024_0_5_0)
def hT : FVec Ideal S512x1024 .bf16 := k0_pay16 (iblk m c 0 t) (mr4 m c t) (mr3 m c t)
def aT : FVec Ideal S512x704 .f32 := k0_pay18 (hT m c t) (iblk m c 2 t)
def bT : FVec Ideal S512x704 .f32 := k0_pay19 (hT m c t) (iblk m c 3 t)
def accT (A : Vec Ideal S512x1024 .f32) : FVec Ideal S512x1024 .f32 := k0_pay3 (aT m c t) (bT m c t) A (iblk m c 4 t)
def zcT (A : Vec Ideal S512x1024 .f32) : FVec Ideal S512x1024 .f32 := k0_pay5 A (iblk m c 0 t) (mr5 m c t)
def rsT (A : Vec Ideal S512x1024 .f32) : FVec Ideal S512x1 .f32 := k0_pay6 A (iblk m c 0 t) (mr5 m c t)
def xhT (A : Vec Ideal S512x1024 .f32) : FVec Ideal S512x1024 .f32 := k0_pay7 A (iblk m c 0 t) (mr5 m c t)
def erT (A : Vec Ideal S512x1024 .f32) : FVec Ideal S512x1024 .f32 :=
  k0_pay8 A (iblk m c 0 t) (mr5 m c t) (iblk m c 6 t) (iblk m c 7 t) (iblk m c 5 t)
def lsT (A : Vec Ideal S512x1024 .f32) : FVec Ideal S512x1 .f32 :=
  k0_pay9 A (iblk m c 0 t) (mr5 m c t) (iblk m c 6 t) (iblk m c 7 t) (iblk m c 5 t)
def dzT (A : Vec Ideal S512x1024 .f32) : FVec Ideal S512x1024 .f32 := k0_pay11 (rsT m c t A) (xhT m c t A) (erT m c t A) (iblk m c 6 t)
def zw : Ideal .f32 := Scalar.ofBits .f32 0x00000000#32
/-- What the accumulator holds after a point. -/
abbrev scr := (outsAt0 m c t.val t.isLt).2.2.2.2.2.2
/-- What it held before. -/
abbrev scrB (h : 0 < t.val) := (outsAt0 m c (t.val - 1) (by have := t.isLt; omega)).2.2.2.2.2.2

/-- The blocks of the two input products and of the modulated tokens. -/
theorem a_at : (outsAt0 m c t.val t.isLt).1 = k0_pay1 (k0_pay20 (hT m c t) (iblk m c 2 t)) := by
  by_cases h0 : t.val % 4 = 0
  · rw [outsAt0_A m c t h0 (by omega)]; frame_out <;> first | rfl | (rw [read_unread_whole]; rfl)
  by_cases h1 : t.val % 4 = 3
  swap
  · rw [outsAt0_B m c t h0 h1]; frame_out <;> first | rfl | (rw [read_unread_whole]; rfl)
  by_cases h2 : t.val < 4
  · rw [outsAt0_C m c t h0 h1 h2 (by omega) (by omega) (by omega)]; frame_out <;> first | rfl | (rw [read_unread_whole]; rfl)
  by_cases h4 : (t.val % 32 = 0 ∨ t.val % 32 = 1 ∨ t.val % 32 = 2 ∨ t.val % 32 = 3)
  · rw [outsAt0_E m c t h0 h1 h2 (by omega) h4 (by omega)]; frame_out <;> first | rfl | (rw [read_unread_whole]; rfl)
  · rw [outsAt0_D m c t h0 h1 h2 (by omega) h4 h4]; frame_out <;> first | rfl | (rw [read_unread_whole]; rfl)

theorem b_at : (outsAt0 m c t.val t.isLt).2.1 = k0_pay2 (bT m c t) := by
  by_cases h0 : t.val % 4 = 0
  · rw [outsAt0_A m c t h0 (by omega)]; frame_out <;> first | rfl | (rw [read_unread_whole]; rfl)
  by_cases h1 : t.val % 4 = 3
  swap
  · rw [outsAt0_B m c t h0 h1]; frame_out <;> first | rfl | (rw [read_unread_whole]; rfl)
  by_cases h2 : t.val < 4
  · rw [outsAt0_C m c t h0 h1 h2 (by omega) (by omega) (by omega)]; frame_out <;> first | rfl | (rw [read_unread_whole]; rfl)
  by_cases h4 : (t.val % 32 = 0 ∨ t.val % 32 = 1 ∨ t.val % 32 = 2 ∨ t.val % 32 = 3)
  · rw [outsAt0_E m c t h0 h1 h2 (by omega) h4 (by omega)]; frame_out <;> first | rfl | (rw [read_unread_whole]; rfl)
  · rw [outsAt0_D m c t h0 h1 h2 (by omega) h4 h4]; frame_out <;> first | rfl | (rw [read_unread_whole]; rfl)

theorem h_at : (outsAt0 m c t.val t.isLt).2.2.1 = hT m c t := by
  by_cases h0 : t.val % 4 = 0
  · rw [outsAt0_A m c t h0 (by omega)]; frame_out <;> first | rfl | (rw [read_unread_whole]; rfl)
  by_cases h1 : t.val % 4 = 3
  swap
  · rw [outsAt0_B m c t h0 h1]; frame_out <;> first | rfl | (rw [read_unread_whole]; rfl)
  by_cases h2 : t.val < 4
  · rw [outsAt0_C m c t h0 h1 h2 (by omega) (by omega) (by omega)]; frame_out <;> first | rfl | (rw [read_unread_whole]; rfl)
  by_cases h4 : (t.val % 32 = 0 ∨ t.val % 32 = 1 ∨ t.val % 32 = 2 ∨ t.val % 32 = 3)
  · rw [outsAt0_E m c t h0 h1 h2 (by omega) h4 (by omega)]; frame_out <;> first | rfl | (rw [read_unread_whole]; rfl)
  · rw [outsAt0_D m c t h0 h1 h2 (by omega) h4 h4]; frame_out <;> first | rfl | (rw [read_unread_whole]; rfl)

/-- A row block's first point starts the accumulator from zero. -/
theorem scr_first (h0 : t.val % 4 = 0) : scr m c t = accT m c t (k0_pay17 (F := Ideal)) := by
  unfold scr
  rw [outsAt0_A m c t h0 (by omega)]; frame_out <;> first | rfl | (rw [read_unread_whole]; rfl)

/-- Every later point adds to what the point before left. -/
theorem scr_next (h0 : ¬t.val % 4 = 0) : scr m c t = accT m c t (scrB m c t (by omega)) := by
  unfold scr scrB
  by_cases h1 : t.val % 4 = 3
  swap
  · rw [outsAt0_B m c t h0 h1]; frame_out; rw [read_unread_whole]; rfl
  by_cases h2 : t.val < 4
  · rw [outsAt0_C m c t h0 h1 h2 (by omega) (by omega) (by omega)]; frame_out; rw [read_unread_whole]; rfl
  by_cases h4 : (t.val % 32 = 0 ∨ t.val % 32 = 1 ∨ t.val % 32 = 2 ∨ t.val % 32 = 3)
  · rw [outsAt0_E m c t h0 h1 h2 (by omega) h4 (by omega)]; frame_out; rw [read_unread_whole]; rfl
  · rw [outsAt0_D m c t h0 h1 h2 (by omega) h4 h4]; frame_out; rw [read_unread_whole]; rfl

/-- At a row block's last point: the gradient of the residual. -/
theorem dz_at (h1 : t.val % 4 = 3) : (outsAt0 m c t.val t.isLt).2.2.2.1 = dzT m c t (scr m c t) := by
  have h0 : ¬t.val % 4 = 0 := by omega
  by_cases h2 : t.val < 4
  · rw [scr_next m c t h0]; unfold scrB; rw [outsAt0_C m c t h0 h1 h2 (by omega) (by omega) (by omega)]; frame_out; rw [read_unread_whole]; rfl
  by_cases h4 : (t.val % 32 = 0 ∨ t.val % 32 = 1 ∨ t.val % 32 = 2 ∨ t.val % 32 = 3)
  · rw [scr_next m c t h0]; unfold scrB; rw [outsAt0_E m c t h0 h1 h2 (by omega) h4 (by omega)]; frame_out; rw [read_unread_whole]; rfl
  · rw [scr_next m c t h0]; unfold scrB; rw [outsAt0_D m c t h0 h1 h2 (by omega) h4 h4]; frame_out; rw [read_unread_whole]; rfl

/-- The running sums: set at the first row block's last point, added to at the later ones' last points, carried otherwise. -/
theorem st_first (h1 : t.val % 4 = 3) (h2 : t.val < 4) :
    (outsAt0 m c t.val t.isLt).2.2.2.2.1 = k0_pay12 (xhT m c t (scr m c t)) (erT m c t (scr m c t)) (lsT m c t (scr m c t)) := by
  have h0 : ¬t.val % 4 = 0 := by omega
  rw [scr_next m c t h0]; unfold scrB; rw [outsAt0_C m c t h0 h1 h2 (by omega) (by omega) (by omega)]; frame_out; rw [read_unread_whole]; rfl

theorem st_next (h1 : t.val % 4 = 3) (h2 : ¬t.val < 4) : (outsAt0 m c t.val t.isLt).2.2.2.2.1
    = k0_pay14 (k0_pay12 (xhT m c t (scr m c t)) (erT m c t (scr m c t)) (lsT m c t (scr m c t)))
      (outsAt0 m c (t.val - 1) (by have := t.isLt; omega)).2.2.2.2.1 := by
  have h0 : ¬t.val % 4 = 0 := by omega
  by_cases h4 : (t.val % 32 = 0 ∨ t.val % 32 = 1 ∨ t.val % 32 = 2 ∨ t.val % 32 = 3)
  · rw [scr_next m c t h0]; unfold scrB; rw [outsAt0_E m c t h0 h1 h2 (by omega) h4 (by omega)]; frame_out; rw [read_unread_whole]; rfl
  · rw [scr_next m c t h0]; unfold scrB; rw [outsAt0_D m c t h0 h1 h2 (by omega) h4 h4]; frame_out; rw [read_unread_whole]; rfl

theorem st_keep (h1 : ¬t.val % 4 = 3) (hp : 0 < t.val) :
    (outsAt0 m c t.val t.isLt).2.2.2.2.1 = (outsAt0 m c (t.val - 1) (by have := t.isLt; omega)).2.2.2.2.1 := by
  by_cases h0 : t.val % 4 = 0
  · rw [outsAt0_A m c t h0 h1]; frame_out; unfold out0_A_12; rfl
  · rw [outsAt0_B m c t h0 h1]; frame_out; unfold out0_B_12; rfl

/-- The modulation sums, the same within a sequence. -/
theorem dm_first (h1 : t.val % 4 = 3) (h4 : (t.val % 32 = 0 ∨ t.val % 32 = 1 ∨ t.val % 32 = 2 ∨ t.val % 32 = 3)) :
    (outsAt0 m c t.val t.isLt).2.2.2.2.2.1 = k0_pay15 (scr m c t) (dzT m c t (scr m c t)) zw := by
  have h0 : ¬t.val % 4 = 0 := by omega
  by_cases h2 : t.val < 4
  · rw [scr_next m c t h0]; unfold scrB; rw [outsAt0_C m c t h0 h1 h2 (by omega) (by omega) (by omega)]; frame_out; rw [read_unread_whole]; rfl
  · rw [scr_next m c t h0]; unfold scrB; rw [outsAt0_E m c t h0 h1 h2 (by omega) h4 (by omega)]; frame_out; rw [read_unread_whole]; rfl

theorem dm_next (h1 : t.val % 4 = 3) (h4 : ¬(t.val % 32 = 0 ∨ t.val % 32 = 1 ∨ t.val % 32 = 2 ∨ t.val % 32 = 3)) :
    (outsAt0 m c t.val t.isLt).2.2.2.2.2.1 = k0_pay4 (k0_pay13 (scr m c t) (dzT m c t (scr m c t)) zw)
      (outsAt0 m c (t.val - 1) (by have := t.isLt; omega)).2.2.2.2.2.1 := by
  have h0 : ¬t.val % 4 = 0 := by omega
  have h2 : ¬t.val < 4 := by omega
  rw [scr_next m c t h0]; unfold scrB; rw [outsAt0_D m c t h0 h1 h2 (by omega) h4 h4]; frame_out; rw [read_unread_whole]; rfl

theorem dm_keep (h1 : ¬t.val % 4 = 3) (hp : 0 < t.val) :
    (outsAt0 m c t.val t.isLt).2.2.2.2.2.1 = (outsAt0 m c (t.val - 1) (by have := t.isLt; omega)).2.2.2.2.2.1 := by
  by_cases h0 : t.val % 4 = 0
  · rw [outsAt0_A m c t h0 h1]; frame_out; unfold out0_A_13; rfl
  · rw [outsAt0_B m c t h0 h1]; frame_out; unfold out0_B_13; rfl

end Cert.Kernel13Ideal.FeedForward

end
-- ==== Proof.FeedForwardReal.lean ====
/-
  The feed-forward network forward, the loss and the gradient that starts the backward pass, over the real numbers: the values
  the two programs compute where every argument is finite.
-/
module

public import proofs.«01_k».proof.Proof.FfnReal

@[expose] public section

noncomputable section

namespace Cert.FeedForward

open Cert.Ffn (al ep bat row ep_pos)

/-- The arguments, real: tokens, modulation rows, the three weights, the target, the norm's weight and bias. -/
structure Args where
  x : Fin 8192 → Fin 1024 → ℝ
  md : Fin 2 → Fin 8 → Fin 1024 → ℝ
  wg : Fin 4 → Fin 704 → Fin 1024 → ℝ
  wu : Fin 4 → Fin 704 → Fin 1024 → ℝ
  wd : Fin 4 → Fin 704 → Fin 1024 → ℝ
  tg : Fin 8192 → Fin 1024 → ℝ
  w : Fin 1024 → ℝ
  bi : Fin 1024 → ℝ

namespace Args
variable (P : Args)

/-- The modulated tokens, the two input products, the hidden layer, the network's output (a slab's part, and whole). -/
def h (r : Fin 8192) (d : Fin 1024) : ℝ := P.x r d * (1 + P.md (bat r) 4 d) + P.md (bat r) 3 d
def a (r : Fin 8192) (j : Fin 4) (q : Fin 704) : ℝ := ∑ d, P.h r d * P.wg j q d
def b (r : Fin 8192) (j : Fin 4) (q : Fin 704) : ℝ := ∑ d, P.h r d * P.wu j q d
def hm (r : Fin 8192) (j : Fin 4) (q : Fin 704) : ℝ := P.a r j q * (1 + Real.exp (-P.a r j q))⁻¹ * P.b r j q
def fj (r : Fin 8192) (d : Fin 1024) (j : Fin 4) : ℝ := ∑ q, P.hm r j q * P.wd j q d
def ff (r : Fin 8192) (d : Fin 1024) : ℝ := ∑ j, P.fj r d j
/-- The residual and its norm; the error, a row's squared error, the loss's gradient, and the gradient of the residual. -/
def z (r : Fin 8192) (d : Fin 1024) : ℝ := al * P.x r d + (1 + P.md (bat r) 5 d) * P.ff r d
def mu (r : Fin 8192) : ℝ := (∑ d, P.z r d) / 1024
def zc (r : Fin 8192) (d : Fin 1024) : ℝ := P.z r d - P.mu r
def va (r : Fin 8192) : ℝ := (∑ d, P.zc r d * P.zc r d) / 1024
def rs (r : Fin 8192) : ℝ := (√(P.va r + ep))⁻¹
def xh (r : Fin 8192) (d : Fin 1024) : ℝ := P.zc r d * P.rs r
def er (r : Fin 8192) (d : Fin 1024) : ℝ := P.xh r d * P.w d + P.bi d - P.tg r d
def ls (r : Fin 8192) : ℝ := ∑ d, P.er r d * P.er r d
def dy (r : Fin 8192) (d : Fin 1024) : ℝ := P.er r d * (1 / 1024)
def dxh (r : Fin 8192) (d : Fin 1024) : ℝ := P.dy r d * P.w d
def dz (r : Fin 8192) (d : Fin 1024) : ℝ :=
  P.rs r * (P.dxh r d - (∑ k, P.dxh r k) / 1024 - P.xh r d * ((∑ k, P.dxh r k * P.xh r k) / 1024))

/-- The two gathered results: the norm's weight and bias gradients with the loss, and each sequence's modulation gradients. -/
def sums (k : Fin 8) (d : Fin 1024) : ℝ :=
  if k.val = 0 then ∑ b, ∑ t, P.dy (row b t) d * P.xh (row b t) d else if k.val = 1 then ∑ b, ∑ t, P.dy (row b t) d
  else if k.val = 2 then (if d.val = 0 then 1 / 2 * (∑ b, ∑ t, P.ls (row b t)) / 1024 else 0) else 0
def dmod (b : Fin 2) (k : Fin 8) (d : Fin 1024) : ℝ := if k.val = 5 then ∑ t, P.dz (row b t) d * P.ff (row b t) d else 0

theorem va_ep_pos (r : Fin 8192) : 0 < P.va r + ep :=
  add_pos_of_nonneg_of_pos (div_nonneg (Finset.sum_nonneg fun d _ => mul_self_nonneg _) (by norm_num)) ep_pos

/-- The centred rows sum to zero. -/
theorem sum_zc (r : Fin 8192) : ∑ d, P.zc r d = 0 := by
  simp only [zc, Finset.sum_sub_distrib, Finset.sum_const, Finset.card_univ, Fintype.card_fin, mu]
  ring

theorem rs_div (r : Fin 8192) : P.rs r / (P.va r + ep) = P.rs r * P.rs r * P.rs r := by
  have h := P.va_ep_pos r
  have e : P.rs r * P.rs r = (P.va r + ep)⁻¹ := by
    rw [Args.rs, ← mul_inv, Real.mul_self_sqrt h.le]
  rw [mul_assoc, e, div_eq_mul_inv]

/-- The norm's backward pass taken rule by rule is the one formula. -/
theorem dz_alg (r : Fin 8192) (d : Fin 1024) :
    P.dxh r d * P.rs r + (∑ k, P.zc r k * P.dxh r k) * (-(1 / 2) * (P.rs r / (P.va r + ep))) / 1024 * (2 * P.zc r d)
      + ((∑ k, -(P.dxh r k * P.rs r))
        + ∑ k, -((∑ k, P.zc r k * P.dxh r k) * (-(1 / 2) * (P.rs r / (P.va r + ep))) / 1024 * (2 * P.zc r k))) / 1024
      = P.dz r d := by
  rw [rs_div]
  have e0 : ∑ k, -((∑ k, P.zc r k * P.dxh r k) * (-(1 / 2) * (P.rs r * P.rs r * P.rs r)) / 1024 * (2 * P.zc r k)) = 0 := by
    rw [Finset.sum_neg_distrib, ← Finset.mul_sum, ← Finset.mul_sum, P.sum_zc]; ring
  have e1 : ∑ k, -(P.dxh r k * P.rs r) = -((∑ k, P.dxh r k) * P.rs r) := by
    rw [Finset.sum_neg_distrib, Finset.sum_mul]
  have e2 : ∑ k, P.dxh r k * P.xh r k = (∑ k, P.zc r k * P.dxh r k) * P.rs r := by
    rw [Finset.sum_mul]
    exact Finset.sum_congr rfl fun k _ => by rw [Args.xh]; ring
  rw [e0, e1, Args.dz, e2, Args.xh]
  ring

end Args

/-- The words of one half and of 1/1024. -/
theorem hf_word : Idealize.ShloMosaic.Ideal.ofBits .f32 0x3F000000#32 = ((1 / 2 : ℝ) : EReal) := by
  simp [Idealize.ShloMosaic.Ideal.ofBits, Idealize.ShloMosaic.Ideal.ieee, -EReal.coe_mul]; norm_num

theorem inv_word : Idealize.ShloMosaic.Ideal.ofBits .f32 0x3A800000#32 = ((1 / 1024 : ℝ) : EReal) := by
  simp [Idealize.ShloMosaic.Ideal.ofBits, Idealize.ShloMosaic.Ideal.ieee, -EReal.coe_mul]; norm_num

open Idealize.ShloMosaic in
/-- A value kept in the first lane alone. -/
theorem lane_first (d : Fin 1024) (x : ℝ) :
    Scalar.select (IntOp.cmpi .eq (BitVec.ofNat 32 d.val) 0#32) (x : EReal) 0 = ((if d = 0 then x else 0 : ℝ) : EReal) := by
  by_cases h : d = 0
  · subst h; simp [Scalar.select, IntOp.cmpi]
  · have hn : ¬ BitVec.ofNat 32 d.val = 0#32 := by
      intro e
      have e1 := congrArg BitVec.toNat e
      rw [BitVec.toNat_ofNat, Nat.mod_eq_of_lt (by omega)] at e1
      exact h (Fin.ext e1)
    have hb : (BitVec.ofNat 32 d.val == 0#32) = false := beq_eq_false_iff_ne.mpr hn
    simp only [Scalar.select, IntOp.cmpi, hb, h, if_false]
    simp

end Cert.FeedForward

end
-- ==== Proof.FeedForwardBlock.lean ====
/-
  Each grid point's blocks of the feed-forward network's forward pass, and what the point computes from them, as real numbers.
-/
module

public import proofs.«01_k».proof.Defs
public import proofs.«01_k».proof.Proof.FeedForwardPoint
public import proofs.«01_k».proof.Proof.FeedForwardReal
public import Idealize.ShloMosaic.Lib.Pipeline.ValueKit
public import Idealize.ShloMosaic.Lib.Pointwise

@[expose] public section

noncomputable section

namespace Cert.Kernel13Ideal.FeedForward

open Idealize.ShloMosaic Idealize.ShloMosaic.TcCoe Idealize.SL.Sem
open Cert.Kernel13Ideal Cert.Kernel13Ideal.Gen Cert.FeedForward
open Cert.Ffn (bat row al ep al_word ep_word one_word zero_word div_1024 coe_sum rsqrt_pos)

/-- The argument arrays hold the real numbers `P` on device `c`. -/
structure Holds (m : (ℓ : Loc nD τ sig) → Buf (Elt Ideal) ℓ) (c : Dev nD) (P : Args) : Prop where
  x : ∀ r d, m ((c : Thread nD τ).loc main_arg0) (ix2 r d) = (P.x r d : EReal)
  md : ∀ b k d, m ((c : Thread nD τ).loc main_arg1) (ix3 b k d) = (P.md b k d : EReal)
  wg : ∀ j q d, m ((c : Thread nD τ).loc main_arg2) (ix3 j q d) = (P.wg j q d : EReal)
  wu : ∀ j q d, m ((c : Thread nD τ).loc main_arg3) (ix3 j q d) = (P.wu j q d : EReal)
  wd : ∀ j q d, m ((c : Thread nD τ).loc main_arg4) (ix3 j q d) = (P.wd j q d : EReal)
  tg : ∀ r d, m ((c : Thread nD τ).loc main_arg5) (ix2 r d) = (P.tg r d : EReal)
  w : ∀ d, m ((c : Thread nD τ).loc main_arg6) (ix2 0 d) = (P.w d : EReal)
  bi : ∀ d, m ((c : Thread nD τ).loc main_arg7) (ix2 0 d) = (P.bi d : EReal)

/-- The windows' blocks at a point. -/
theorem idx : ∀ t : Fin cfg0.N, win0_0.index t = ![t.val / 4, 0] ∧ win0_1.index t = ![t.val / 32, 0, 0]
    ∧ win0_2.index t = ![t.val % 4, 0, 0] ∧ win0_3.index t = ![t.val % 4, 0, 0] ∧ win0_4.index t = ![t.val % 4, 0, 0]
    ∧ win0_5.index t = ![t.val / 4, 0] ∧ win0_6.index t = ![0, 0] ∧ win0_7.index t = ![0, 0] :=
  (by decide +kernel : ∀ t : Fin grid0.N, _)

theorem lt64 (t : Fin cfg0.N) : t.val < 64 := t.isLt

/-- A block's row among all rows, and the point's slab and sequence. -/
def rw_ (t : Fin cfg0.N) (p : Fin 512) : Fin 8192 := ⟨t.val / 4 * 512 + p.val, by have := lt64 t; omega⟩
def sl (t : Fin cfg0.N) : Fin 4 := ⟨t.val % 4, by omega⟩
def sq (t : Fin cfg0.N) : Fin 2 := ⟨t.val / 32, by have := lt64 t; omega⟩

theorem bat_rw (t : Fin cfg0.N) (p : Fin 512) : bat (rw_ t p) = sq t := by
  apply Fin.ext; simp only [bat, rw_, sq]; have := lt64 t; omega

variable {m : (ℓ : Loc nD τ sig) → Buf (Elt Ideal) ℓ} {c : Dev nD} {P : Args} (H : Holds m c P) (t : Fin cfg0.N)
include H

theorem blk0 (p : Fin 512) (d : Fin 1024) : iblk m c 0 t (ix2 p d) = (P.x (rw_ t p) d : EReal) := by
  rw [← H.x]
  blk_point [iblk, idx t] <;> rfl

theorem blk1 (k : Fin 8) (d : Fin 1024) : iblk m c 1 t (ix3 0 k d) = (P.md (sq t) k d : EReal) := by
  rw [← H.md]
  blk_point [iblk, idx t] <;> rfl

theorem blk2 (q : Fin 704) (d : Fin 1024) : iblk m c 2 t (ix3 0 q d) = (P.wg (sl t) q d : EReal) := by
  rw [← H.wg]
  blk_point [iblk, idx t] <;> rfl

theorem blk3 (q : Fin 704) (d : Fin 1024) : iblk m c 3 t (ix3 0 q d) = (P.wu (sl t) q d : EReal) := by
  rw [← H.wu]
  blk_point [iblk, idx t] <;> rfl

theorem blk4 (q : Fin 704) (d : Fin 1024) : iblk m c 4 t (ix3 0 q d) = (P.wd (sl t) q d : EReal) := by
  rw [← H.wd]
  blk_point [iblk, idx t] <;> rfl

theorem blk5 (p : Fin 512) (d : Fin 1024) : iblk m c 5 t (ix2 p d) = (P.tg (rw_ t p) d : EReal) := by
  rw [← H.tg]
  blk_point [iblk, idx t] <;> rfl

theorem blk6 (d : Fin 1024) : iblk m c 6 t (ix2 0 d) = (P.w d : EReal) := by
  rw [← H.w]
  blk_point [iblk, idx t]

theorem blk7 (d : Fin 1024) : iblk m c 7 t (ix2 0 d) = (P.bi d : EReal) := by
  rw [← H.bi]
  blk_point [iblk, idx t]

theorem row3 (d : Fin 1024) : mr3 m c t (ix3 0 0 d) = (P.md (sq t) 3 d : EReal) := by
  rw [← blk1 H t 3 d]
  refine congrArg (iblk m c 1 t) (funext fun a => ?_)
  fin_cases a <;> apply Fin.ext <;> simp [LoadRect.idx_apply, Rect.unit, ix3]

theorem row4 (d : Fin 1024) : mr4 m c t (ix3 0 0 d) = (P.md (sq t) 4 d : EReal) := by
  rw [← blk1 H t 4 d]
  refine congrArg (iblk m c 1 t) (funext fun a => ?_)
  fin_cases a <;> apply Fin.ext <;> simp [LoadRect.idx_apply, Rect.unit, ix3]

theorem row5 (d : Fin 1024) : mr5 m c t (ix3 0 0 d) = (P.md (sq t) 5 d : EReal) := by
  rw [← blk1 H t 5 d]
  refine congrArg (iblk m c 1 t) (funext fun a => ?_)
  fin_cases a <;> apply Fin.ext <;> simp [LoadRect.idx_apply, Rect.unit, ix3]

theorem v_h (p : Fin 512) (d : Fin 1024) : hT m c t (ix2 p d) = ((P.h (rw_ t p) d : ℝ) : EReal) := by
  pointwise [hT, k0_pay16]
  simp only [row3 H t, row4 H t, blk0 H t, al_word, ep_word, one_word, zero_word, hf_word, inv_word, div_1024, ← EReal.coe_one, ← EReal.coe_zero, ← EReal.coe_neg, ← EReal.coe_mul, ← EReal.coe_add, ← EReal.coe_sub, coe_sum]
  simp only [Args.h, bat_rw]

theorem v_a (p : Fin 512) (q : Fin 704) : aT m c t (ix2 p q) = ((P.a (rw_ t p) (sl t) q : ℝ) : EReal) := by
  pointwise [aT, k0_pay18]
  simp only [v_h H t, blk2 H t, al_word, ep_word, one_word, zero_word, hf_word, inv_word, div_1024, ← EReal.coe_one, ← EReal.coe_zero, ← EReal.coe_neg, ← EReal.coe_mul, ← EReal.coe_add, ← EReal.coe_sub, coe_sum]
  simp only [Args.a, zero_add, add_zero]

theorem v_b (p : Fin 512) (q : Fin 704) : bT m c t (ix2 p q) = ((P.b (rw_ t p) (sl t) q : ℝ) : EReal) := by
  pointwise [bT, k0_pay19]
  simp only [v_h H t, blk3 H t, al_word, ep_word, one_word, zero_word, hf_word, inv_word, div_1024, ← EReal.coe_one, ← EReal.coe_zero, ← EReal.coe_neg, ← EReal.coe_mul, ← EReal.coe_add, ← EReal.coe_sub, coe_sum]
  simp only [Args.b, zero_add, add_zero]

theorem o_a (p : Fin 512) (q : Fin 704) : (outsAt0 m c t.val t.isLt).1 (ix3 0 p q) = ((P.a (rw_ t p) (sl t) q : ℝ) : EReal) := by
  rw [a_at m c t]
  have e : k0_pay18 (F := Ideal) (hT m c t) (iblk m c 2 t) = aT m c t := rfl
  pointwise [k0_pay1, k0_pay20]
  simp only [e, v_a H t, al_word, ep_word, one_word, zero_word, hf_word, inv_word, div_1024, ← EReal.coe_one, ← EReal.coe_zero, ← EReal.coe_neg, ← EReal.coe_mul, ← EReal.coe_add, ← EReal.coe_sub, coe_sum]
  try rfl

theorem o_b (p : Fin 512) (q : Fin 704) : (outsAt0 m c t.val t.isLt).2.1 (ix3 0 p q) = ((P.b (rw_ t p) (sl t) q : ℝ) : EReal) := by
  rw [b_at m c t]
  pointwise [k0_pay2]
  simp only [v_b H t, al_word, ep_word, one_word, zero_word, hf_word, inv_word, div_1024, ← EReal.coe_one, ← EReal.coe_zero, ← EReal.coe_neg, ← EReal.coe_mul, ← EReal.coe_add, ← EReal.coe_sub, coe_sum]
  try rfl

theorem o_h (p : Fin 512) (d : Fin 1024) : (outsAt0 m c t.val t.isLt).2.2.1 (ix2 p d) = (P.h (rw_ t p) d : EReal) := by
  rw [h_at m c t]
  exact v_h H t p d

theorem v_acc (p : Fin 512) (d : Fin 1024) (A : Vec Ideal S512x1024 .f32) (s : ℝ) (hA : A (ix2 p d) = (s : EReal)) : accT m c t A (ix2 p d) = ((s + P.fj (rw_ t p) d (sl t) : ℝ) : EReal) := by
  pointwise [accT, k0_pay3]
  simp only [hA, v_a H t, v_b H t, blk4 H t, Ideal.logistic_coe, al_word, ep_word, one_word, zero_word, hf_word, inv_word, div_1024, ← EReal.coe_one, ← EReal.coe_zero, ← EReal.coe_neg, ← EReal.coe_mul, ← EReal.coe_add, ← EReal.coe_sub, coe_sum]
  simp only [Args.fj, Args.hm, zero_add, add_zero]

theorem v_zc (A : Vec Ideal S512x1024 .f32) (hA : ∀ p d, A (ix2 p d) = (P.ff (rw_ t p) d : EReal)) (p : Fin 512) (d : Fin 1024) : zcT m c t A (ix2 p d) = ((P.zc (rw_ t p) d : ℝ) : EReal) := by
  pointwise [zcT, k0_pay5]
  simp only [hA, blk0 H t, row5 H t, al_word, ep_word, one_word, zero_word, hf_word, inv_word, div_1024, ← EReal.coe_one, ← EReal.coe_zero, ← EReal.coe_neg, ← EReal.coe_mul, ← EReal.coe_add, ← EReal.coe_sub, coe_sum]
  simp only [Args.zc, Args.mu, Args.z, bat_rw]

theorem v_rs (A : Vec Ideal S512x1024 .f32) (hA : ∀ p d, A (ix2 p d) = (P.ff (rw_ t p) d : EReal)) (p : Fin 512) : rsT m c t A (ix2 p 0) = ((P.rs (rw_ t p) : ℝ) : EReal) := by
  have e : k0_pay5 (F := Ideal) A (iblk m c 0 t) (mr5 m c t) = zcT m c t A := rfl
  pointwise [rsT, k0_pay6]
  simp only [e, v_zc H t A hA, al_word, ep_word, one_word, zero_word, hf_word, inv_word, div_1024, ← EReal.coe_one, ← EReal.coe_zero, ← EReal.coe_neg, ← EReal.coe_mul, ← EReal.coe_add, ← EReal.coe_sub, coe_sum]
  exact rsqrt_pos (P.va_ep_pos _)

theorem v_xh (A : Vec Ideal S512x1024 .f32) (hA : ∀ p d, A (ix2 p d) = (P.ff (rw_ t p) d : EReal)) (p : Fin 512) (d : Fin 1024) : xhT m c t A (ix2 p d) = ((P.xh (rw_ t p) d : ℝ) : EReal) := by
  have e : k0_pay5 (F := Ideal) A (iblk m c 0 t) (mr5 m c t) = zcT m c t A := rfl
  have e' : k0_pay6 (F := Ideal) A (iblk m c 0 t) (mr5 m c t) = rsT m c t A := rfl
  pointwise [xhT, k0_pay7]
  simp only [e, e', v_zc H t A hA, v_rs H t A hA, al_word, ep_word, one_word, zero_word, hf_word, inv_word, div_1024, ← EReal.coe_one, ← EReal.coe_zero, ← EReal.coe_neg, ← EReal.coe_mul, ← EReal.coe_add, ← EReal.coe_sub, coe_sum]
  rfl

theorem v_er (A : Vec Ideal S512x1024 .f32) (hA : ∀ p d, A (ix2 p d) = (P.ff (rw_ t p) d : EReal)) (p : Fin 512) (d : Fin 1024) : erT m c t A (ix2 p d) = ((P.er (rw_ t p) d : ℝ) : EReal) := by
  have e : k0_pay7 (F := Ideal) A (iblk m c 0 t) (mr5 m c t) = xhT m c t A := rfl
  pointwise [erT, k0_pay8]
  simp only [e, v_xh H t A hA, blk5 H t, blk6 H t, blk7 H t, al_word, ep_word, one_word, zero_word, hf_word, inv_word, div_1024, ← EReal.coe_one, ← EReal.coe_zero, ← EReal.coe_neg, ← EReal.coe_mul, ← EReal.coe_add, ← EReal.coe_sub, coe_sum]
  rfl

theorem v_ls (A : Vec Ideal S512x1024 .f32) (hA : ∀ p d, A (ix2 p d) = (P.ff (rw_ t p) d : EReal)) (p : Fin 512) : lsT m c t A (ix2 p 0) = ((P.ls (rw_ t p) : ℝ) : EReal) := by
  have e : k0_pay8 (F := Ideal) A (iblk m c 0 t) (mr5 m c t) (iblk m c 6 t) (iblk m c 7 t) (iblk m c 5 t) = erT m c t A := rfl
  pointwise [lsT, k0_pay9]
  simp only [e, v_er H t A hA, al_word, ep_word, one_word, zero_word, hf_word, inv_word, div_1024, ← EReal.coe_one, ← EReal.coe_zero, ← EReal.coe_neg, ← EReal.coe_mul, ← EReal.coe_add, ← EReal.coe_sub, coe_sum]
  rfl

theorem v_dy (A : Vec Ideal S512x1024 .f32) (hA : ∀ p d, A (ix2 p d) = (P.ff (rw_ t p) d : EReal)) (p : Fin 512) (d : Fin 1024) : k0_pay10 (erT m c t A) (ix2 p d) = ((P.dy (rw_ t p) d : ℝ) : EReal) := by
  pointwise [k0_pay10]
  simp only [v_er H t A hA, al_word, ep_word, one_word, zero_word, hf_word, inv_word, div_1024, ← EReal.coe_one, ← EReal.coe_zero, ← EReal.coe_neg, ← EReal.coe_mul, ← EReal.coe_add, ← EReal.coe_sub, coe_sum]
  rfl

theorem v_dz (A : Vec Ideal S512x1024 .f32) (hA : ∀ p d, A (ix2 p d) = (P.ff (rw_ t p) d : EReal)) (p : Fin 512) (d : Fin 1024) : dzT m c t A (ix2 p d) = ((P.dz (rw_ t p) d : ℝ) : EReal) := by
  pointwise [dzT, k0_pay11]
  simp only [v_dy H t A hA, v_xh H t A hA, v_rs H t A hA, blk6 H t, al_word, ep_word, one_word, zero_word, hf_word, inv_word, div_1024, ← EReal.coe_one, ← EReal.coe_zero, ← EReal.coe_neg, ← EReal.coe_mul, ← EReal.coe_add, ← EReal.coe_sub, coe_sum]
  rfl

theorem v_st (A : Vec Ideal S512x1024 .f32) (hA : ∀ p d, A (ix2 p d) = (P.ff (rw_ t p) d : EReal)) (k : Fin 8) (d : Fin 1024) : k0_pay12 (xhT m c t A) (erT m c t A) (lsT m c t A) (ix2 k d) = ((if k.val = 0 then ∑ p, P.dy (rw_ t p) d * P.xh (rw_ t p) d else if k.val = 1 then ∑ p, P.dy (rw_ t p) d
    else if k.val = 2 then (if d.val = 0 then 1 / 2 * (∑ p, P.ls (rw_ t p)) / 1024 else 0) else 0 : ℝ) : EReal) := by
  pointwise [k0_pay12]
  simp only [v_dy H t A hA, v_xh H t A hA, v_ls H t A hA, al_word, ep_word, one_word, zero_word, hf_word, inv_word, div_1024, ← EReal.coe_one, ← EReal.coe_zero, ← EReal.coe_neg, ← EReal.coe_mul, ← EReal.coe_add, ← EReal.coe_sub, coe_sum]
  fin_cases k <;> simp
  exact lane_first d _

theorem v_dm (A : Vec Ideal S512x1024 .f32) (hA : ∀ p d, A (ix2 p d) = (P.ff (rw_ t p) d : EReal)) (k : Fin 8) (d : Fin 1024) : k0_pay13 A (dzT m c t A) zw (ix2 k d) = ((if k.val = 5 then ∑ p, P.dz (rw_ t p) d * P.ff (rw_ t p) d else 0 : ℝ) : EReal) := by
  pointwise [k0_pay13, zw]
  simp only [hA, v_dz H t A hA, al_word, ep_word, one_word, zero_word, hf_word, inv_word, div_1024, ← EReal.coe_one, ← EReal.coe_zero, ← EReal.coe_neg, ← EReal.coe_mul, ← EReal.coe_add, ← EReal.coe_sub, coe_sum]
  fin_cases k <;> simp

end Cert.Kernel13Ideal.FeedForward

end
-- ==== Proof.FeedForwardAcc.lean ====
/-
  What the feed-forward network's forward pass carries between grid points, as real numbers: the accumulator of the network's
  output (a sum over the slabs), and the two gathered blocks (sums over the row blocks).
-/
module

public import proofs.«01_k».proof.Proof.FeedForwardBlock
public import proofs.«01_k».proof.Proof.FfnAcc

@[expose] public section

noncomputable section

namespace Cert.Kernel13Ideal.FeedForward

open Idealize.ShloMosaic Idealize.ShloMosaic.TcCoe Idealize.SL.Sem
open Cert.Kernel13Ideal Cert.Kernel13Ideal.Gen Cert.FeedForward
open Cert.Ffn (row al)
open Cert.Kernel3Ideal.Ffn (rb slabs slabs_succ slabs_all rows_seq rows_all)

theorem rw_rb (t : Fin cfg0.N) (p : Fin 512) : rw_ t p = rb (t.val / 4) p := by
  apply Fin.ext; simp only [rw_, rb]; have := lt64 t; omega

/-- A row block's part of each gathered block. -/
def stv (P : Args) (i : ℕ) (k : Fin 8) (d : Fin 1024) : ℝ :=
  if k.val = 0 then ∑ p, P.dy (rb i p) d * P.xh (rb i p) d else if k.val = 1 then ∑ p, P.dy (rb i p) d
  else if k.val = 2 then (if d.val = 0 then 1 / 2 * (∑ p, P.ls (rb i p)) / 1024 else 0) else 0

def dmv (P : Args) (i : ℕ) (k : Fin 8) (d : Fin 1024) : ℝ :=
  if k.val = 5 then ∑ p, P.dz (rb i p) d * P.ff (rb i p) d else 0

theorem sum_stv (P : Args) (k : Fin 8) (d : Fin 1024) : ∑ i ∈ Finset.range 16, stv P i k d = P.sums k d := by
  rw [Args.sums, ← rows_all (fun r => P.dy r d * P.xh r d), ← rows_all (fun r => P.dy r d), ← rows_all P.ls]
  simp only [stv]
  split_ifs <;> simp [Finset.mul_sum, Finset.sum_div]

theorem sum_dmv (P : Args) (b : Fin 2) (k : Fin 8) (d : Fin 1024) :
    ∑ i ∈ Finset.range 8, dmv P (b.val * 8 + i) k d = P.dmod b k d := by
  rw [Args.dmod, ← rows_seq (fun r => P.dz r d * P.ff r d)]
  simp only [dmv]
  split_ifs <;> simp

variable {m : (ℓ : Loc nD τ sig) → Buf (Elt Ideal) ℓ} {c : Dev nD} {P : Args} (H : Holds m c P)
include H

/-- The accumulator after a point holds the sum of its row block's slabs so far. -/
theorem scr_val (n : ℕ) (hn : n < 64) (p : Fin 512) (d : Fin 1024) :
    scr m c ⟨n, hn⟩ (ix2 p d) = ((slabs (P.fj (rb (n / 4) p) d) (n % 4 + 1) : ℝ) : EReal) := by
  induction n with
  | zero =>
    rw [scr_first m c ⟨0, hn⟩ rfl, v_acc H ⟨0, hn⟩ p d _ 0 (by pointwise [k0_pay17]; simp), rw_rb, slabs_succ _ _ (by norm_num)]
    simp [slabs, sl]
  | succ n ih =>
    by_cases h0 : (n + 1) % 4 = 0
    · rw [scr_first m c ⟨n + 1, hn⟩ h0, v_acc H ⟨n + 1, hn⟩ p d _ 0 (by pointwise [k0_pay17]; simp), rw_rb,
        slabs_succ _ _ (by omega)]
      simp [slabs, sl, h0]
    · rw [scr_next m c ⟨n + 1, hn⟩ h0]
      refine (v_acc H ⟨n + 1, hn⟩ p d _ _ (ih (by omega))).trans ?_
      rw [rw_rb, slabs_succ _ ((n + 1) % 4) (by omega)]
      have e1 : (n + 1) / 4 = n / 4 := by omega
      have e2 : n % 4 + 1 = (n + 1) % 4 := by omega
      simp only [e1, e2, sl]

/-- At a row block's last point the accumulator holds the network's output. -/
theorem scr_last (t : Fin cfg0.N) (h1 : t.val % 4 = 3) (p : Fin 512) (d : Fin 1024) :
    scr m c t (ix2 p d) = (P.ff (rw_ t p) d : EReal) := by
  rw [show t = ⟨t.val, lt64 t⟩ from rfl, scr_val H t.val (lt64 t) p d, h1, slabs_all, rw_rb]
  rfl

theorem o_dz (t : Fin cfg0.N) (h1 : t.val % 4 = 3) (p : Fin 512) (d : Fin 1024) :
    (outsAt0 m c t.val t.isLt).2.2.2.1 (ix2 p d) = (P.dz (rw_ t p) d : EReal) := by
  rw [dz_at m c t h1]
  exact v_dz H t _ (scr_last H t h1) p d

theorem st_part (t : Fin cfg0.N) (h1 : t.val % 4 = 3) (k : Fin 8) (d : Fin 1024) :
    k0_pay12 (xhT m c t (scr m c t)) (erT m c t (scr m c t)) (lsT m c t (scr m c t)) (ix2 k d)
      = (stv P (t.val / 4) k d : EReal) := by
  rw [v_st H t _ (scr_last H t h1) k d]
  simp only [rw_rb]; rfl

theorem dm_part (t : Fin cfg0.N) (h1 : t.val % 4 = 3) (k : Fin 8) (d : Fin 1024) :
    k0_pay13 (scr m c t) (dzT m c t (scr m c t)) zw (ix2 k d)
      = (dmv P (t.val / 4) k d : EReal) := by
  rw [v_dm H t _ (scr_last H t h1) k d]
  simp only [rw_rb]; rfl

/-- The norm's gathered block after a point holds the sum of the row blocks finished so far. -/
theorem o_st (n : ℕ) (hn : n < 64) (h3 : 3 ≤ n) (k : Fin 8) (d : Fin 1024) :
    (outsAt0 m c n hn).2.2.2.2.1 (ix2 k d) = ((∑ i ∈ Finset.range ((n + 1) / 4), stv P i k d : ℝ) : EReal) := by
  induction n with
  | zero => omega
  | succ n ih =>
    by_cases h1 : (n + 1) % 4 = 3
    · by_cases h2 : n + 1 < 4
      · rw [st_first m c ⟨n + 1, hn⟩ h1 h2, st_part H ⟨n + 1, hn⟩ h1]
        have : n = 2 := by omega
        subst this
        simp
      · rw [st_next m c ⟨n + 1, hn⟩ h1 h2]
        pointwise [k0_pay14]
        rw [st_part H ⟨n + 1, hn⟩ h1]
        have e : (n + 1 + 1) / 4 = (n + 1) / 4 + 1 := by omega
        rw [e, Finset.sum_range_succ, EReal.coe_add]
        exact congrArg (· + _) (ih (by omega) (by omega))
    · rw [st_keep m c ⟨n + 1, hn⟩ h1 (by simp)]
      have e : (n + 1 + 1) / 4 = (n + 1) / 4 := by omega
      rw [e]
      exact ih (by omega) (by omega)

/-- A sequence's gathered block after a point holds the sum of its row blocks finished so far. -/
theorem o_dm (n : ℕ) (hn : n < 64) (h3 : 3 ≤ n % 32) (k : Fin 8) (d : Fin 1024) :
    (outsAt0 m c n hn).2.2.2.2.2.1 (ix3 0 k d)
      = ((∑ i ∈ Finset.range ((n % 32 + 1) / 4), dmv P (n / 32 * 8 + i) k d : ℝ) : EReal) := by
  induction n with
  | zero => omega
  | succ n ih =>
    by_cases h1 : (n + 1) % 4 = 3
    · by_cases h4 : ((n + 1) % 32 = 0 ∨ (n + 1) % 32 = 1 ∨ (n + 1) % 32 = 2 ∨ (n + 1) % 32 = 3)
      · rw [dm_first m c ⟨n + 1, hn⟩ h1 h4]
        pointwise [k0_pay15]
        rw [dm_part H ⟨n + 1, hn⟩ h1]
        have e : (n + 1) % 32 = 3 := by omega
        have e' : (n + 1) / 4 = (n + 1) / 32 * 8 := by omega
        simp [e, e']
      · rw [dm_next m c ⟨n + 1, hn⟩ h1 h4]
        pointwise [k0_pay4]
        rw [dm_part H ⟨n + 1, hn⟩ h1]
        have e : ((n + 1) % 32 + 1) / 4 = (n % 32 + 1) / 4 + 1 := by omega
        have e' : (n + 1) / 32 = n / 32 := by omega
        have e'' : (n + 1) / 4 = n / 32 * 8 + (n % 32 + 1) / 4 := by omega
        rw [e, e', Finset.sum_range_succ, EReal.coe_add]
        simp only [e'']
        exact congrArg (· + _) (ih (by omega) (by omega))
    · rw [dm_keep m c ⟨n + 1, hn⟩ h1 (by simp)]
      have e : ((n + 1) % 32 + 1) / 4 = (n % 32 + 1) / 4 := by omega
      have e' : (n + 1) / 32 = n / 32 := by omega
      rw [e, e']
      exact ih (by omega) (by omega)

end Cert.Kernel13Ideal.FeedForward

end
-- ==== Proof.FeedForwardValue.lean ====
/-
  The feed-forward network's forward pass: what each of its six results holds after the run, as real numbers.
-/
module

public import proofs.«01_k».proof.Proof.FeedForwardAcc
public import proofs.«01_k».proof.Proof.FfnValue

@[expose] public section

noncomputable section

namespace Cert.Kernel13Ideal.FeedForward

open Idealize.ShloMosaic Idealize.ShloMosaic.TcCoe Idealize.SL.Sem
open Cert.Kernel13Ideal Cert.Kernel13Ideal.Gen Cert.Kernel13Ideal.Value Cert.FeedForward
open Cert.Kernel3Ideal.Ffn (one3 two2)

/-- The written windows' blocks at a point. -/
theorem oidx : ∀ t : Fin cfg0.N, win0_8.index t = ![t.val % 4, t.val / 4, 0] ∧ win0_9.index t = ![t.val % 4, t.val / 4, 0]
    ∧ win0_10.index t = ![t.val / 4, 0] ∧ win0_11.index t = ![t.val / 4, 0] ∧ win0_12.index t = ![0, 0]
    ∧ win0_13.index t = ![t.val / 32, 0, 0] :=
  (by decide +kernel : ∀ t : Fin grid0.N, _)

theorem flush11 : ∀ t : Fin cfg0.N, (cfg0.win 11).flush t = true → t.val % 4 = 3 := by decide +kernel
theorem flush12 : ∀ t : Fin cfg0.N, (cfg0.win 12).flush t = true → t.val = 63 := by decide +kernel
theorem flush13 : ∀ t : Fin cfg0.N, (cfg0.win 13).flush t = true → t.val % 32 = 31 := by decide +kernel

theorem emb8 (t : Fin cfg0.N) (p : Fin 512) (q : Fin 704) :
    (win0_8.blk t).view.emb (ix3 0 p q : S1x512x704.Idx) = (ix3 (sl t) (rw_ t p) q : S4x8192x704.Idx) := by
  funext a
  apply Fin.ext
  fin_cases a <;> blk_simp [oidx t] <;> rfl

theorem emb9 (t : Fin cfg0.N) (p : Fin 512) (q : Fin 704) :
    (win0_9.blk t).view.emb (ix3 0 p q : S1x512x704.Idx) = (ix3 (sl t) (rw_ t p) q : S4x8192x704.Idx) := by
  funext a
  apply Fin.ext
  fin_cases a <;> blk_simp [oidx t] <;> rfl

theorem emb10 (t : Fin cfg0.N) (p : Fin 512) (q : Fin 1024) :
    (win0_10.blk t).view.emb (ix2 p q : S512x1024.Idx) = (ix2 (rw_ t p) q : S8192x1024.Idx) := by
  funext a
  apply Fin.ext
  fin_cases a <;> blk_simp [oidx t] <;> rfl

theorem emb11 (t : Fin cfg0.N) (p : Fin 512) (q : Fin 1024) :
    (win0_11.blk t).view.emb (ix2 p q : S512x1024.Idx) = (ix2 (rw_ t p) q : S8192x1024.Idx) := by
  funext a
  apply Fin.ext
  fin_cases a <;> blk_simp [oidx t] <;> rfl

theorem emb12 (t : Fin cfg0.N) (k : Fin 8) (d : Fin 1024) :
    (win0_12.blk t).view.emb (ix2 k d : S8x1024.Idx) = (ix2 k d : S8x1024.Idx) := by
  funext a
  apply Fin.ext
  fin_cases a <;> blk_simp [oidx t] <;> rfl

theorem emb13 (t : Fin cfg0.N) (k : Fin 8) (d : Fin 1024) :
    (win0_13.blk t).view.emb (ix3 0 k d : S1x8x1024.Idx) = (ix3 (sq t) k d : S2x8x1024.Idx) := by
  funext a
  apply Fin.ext
  fin_cases a <;> blk_simp [oidx t] <;> rfl

variable {m : (ℓ : Loc nD τ sig) → Buf (Elt Ideal) ℓ} {c : Dev nD} {P : Args} (H : Holds m c P)
include H

theorem final_a : (dats m 0 c).arrAt 8 cfg0.N = fun i : S4x8192x704.Idx => ((P.a (i 1) (i 0) (i 2) : ℝ) : EReal) := by
  refine (dats m 0 c).arrAt_eq_of_covers 8 _ (by decide +kernel) fun t hf y => ?_
  blk_simp
  rw [after0_8]
  obtain ⟨p, q, rfl⟩ := one3 (n1 := 512) (n2 := 704) y
  have e := emb8 t p q
  refine (o_a H t p q).trans ?_
  rw [e]
  rfl

theorem final_b : (dats m 0 c).arrAt 9 cfg0.N = fun i : S4x8192x704.Idx => ((P.b (i 1) (i 0) (i 2) : ℝ) : EReal) := by
  refine (dats m 0 c).arrAt_eq_of_covers 9 _ (by decide +kernel) fun t hf y => ?_
  blk_simp
  rw [after0_9]
  obtain ⟨p, q, rfl⟩ := one3 (n1 := 512) (n2 := 704) y
  have e := emb9 t p q
  refine (o_b H t p q).trans ?_
  rw [e]
  rfl

theorem final_h : (dats m 0 c).arrAt 10 cfg0.N = fun i : S8192x1024.Idx => ((P.h (i 0) (i 1) : ℝ) : EReal) := by
  refine (dats m 0 c).arrAt_eq_of_covers 10 _ (by decide +kernel) fun t hf y => ?_
  blk_simp
  rw [after0_10]
  obtain ⟨p, q, rfl⟩ := two2 (n0 := 512) (n1 := 1024) y
  have e := emb10 t p q
  refine (o_h H t p q).trans ?_
  rw [e]
  rfl

theorem final_dz : (dats m 0 c).arrAt 11 cfg0.N = fun i : S8192x1024.Idx => ((P.dz (i 0) (i 1) : ℝ) : EReal) := by
  refine (dats m 0 c).arrAt_eq_of_covers 11 _ (by decide +kernel) fun t hf y => ?_
  blk_simp
  rw [after0_11]
  obtain ⟨p, q, rfl⟩ := two2 (n0 := 512) (n1 := 1024) y
  have e := emb11 t p q
  refine (o_dz H t (flush11 t hf) p q).trans ?_
  rw [e]
  rfl

theorem final_st : (dats m 0 c).arrAt 12 cfg0.N = fun i : S8x1024.Idx => ((P.sums (i 0) (i 1) : ℝ) : EReal) := by
  refine (dats m 0 c).arrAt_eq_of_covers 12 _ (by decide +kernel) fun t hf y => ?_
  blk_simp
  rw [after0_12]
  obtain ⟨p, q, rfl⟩ := two2 (n0 := 8) (n1 := 1024) y
  have e := emb12 t p q
  have ht := flush12 t hf
  refine (o_st H t.val (lt64 t) (by omega) p q).trans ?_
  rw [e, show (t.val + 1) / 4 = 16 by omega, sum_stv]
  rfl

theorem final_dm : (dats m 0 c).arrAt 13 cfg0.N = fun i : S2x8x1024.Idx => ((P.dmod (i 0) (i 1) (i 2) : ℝ) : EReal) := by
  refine (dats m 0 c).arrAt_eq_of_covers 13 _ (by decide +kernel) fun t hf y => ?_
  blk_simp
  rw [after0_13]
  obtain ⟨p, q, rfl⟩ := one3 (n1 := 8) (n2 := 1024) y
  have e := emb13 t p q
  have ht := flush13 t hf
  refine (o_dm H t.val (lt64 t) (by omega) p q).trans ?_
  rw [e, show (t.val % 32 + 1) / 4 = 8 by omega]
  exact congrArg _ (sum_dmv P (sq t) p q)

end Cert.Kernel13Ideal.FeedForward

end
-- ==== Proof.FeedForwardRef.lean ====
/-
  The reference of the feed-forward network's forward pass, the loss and the gradient that starts the backward pass, at finite
  arguments: what each of its intermediate arrays holds, element by element, as a real number.
-/
module

public import proofs.«01_k».proof.Defs
public import proofs.«01_k».proof.Proof.FeedForwardReal
public import proofs.«01_k».proof.Proof.FfnRef
public import proofs.«01_k».proof.Proof.Gen.Reference13Ideal.Read

@[expose] public section

noncomputable section

namespace Cert.FeedForward.Ref

open Idealize.ShloMosaic Idealize.ShloMosaic.TcCoe
open Cert.Reference13Ideal Cert.Reference13Ideal.Read Cert.FeedForward
open Cert.Ffn (bat row al ep al_word ep_word one_word zero_word two_word half_word div_1024 div_pos_coe coe_sum rsqrt_pos)
open Cert.Ffn.Ref (slab lane bat_row row_eq row_div slab_pair lane_pair slab_eq lane_eq sum_feat outer_sums)
open Idealize.ShloMosaic.ValueIdx (hostReduceAdd_apply)

/-- The argument arrays hold the real numbers `P`. -/
structure Holds (P : Args) (x0 : (⟨S8192x1024, .f32⟩ : BufTy).Contents (Elt Ideal)) (x1 : (⟨S2x8x1024, .f32⟩ : BufTy).Contents (Elt Ideal))
    (x2 x3 x4 : (⟨S4x704x1024, .bf16⟩ : BufTy).Contents (Elt Ideal)) (x5 : (⟨S8192x1024, .f32⟩ : BufTy).Contents (Elt Ideal))
    (x6 x7 : (⟨S1x1024, .f32⟩ : BufTy).Contents (Elt Ideal)) : Prop where
  x : ∀ r d, x0 (ix2 r d) = (P.x r d : EReal)
  md : ∀ b k d, x1 (ix3 b k d) = (P.md b k d : EReal)
  wg : ∀ j q d, x2 (ix3 j q d) = (P.wg j q d : EReal)
  wu : ∀ j q d, x3 (ix3 j q d) = (P.wu j q d : EReal)
  wd : ∀ j q d, x4 (ix3 j q d) = (P.wd j q d : EReal)
  tg : ∀ r d, x5 (ix2 r d) = (P.tg r d : EReal)
  w : ∀ d, x6 (ix2 0 d) = (P.w d : EReal)
  bi : ∀ d, x7 (ix2 0 d) = (P.bi d : EReal)

/-- A sum over both axes of a rank-two array. -/
theorem both_sums {n0 n1 : Nat} (h : (⟨2, ![n0, n1]⟩ : Shape).ReducesTo [0, 1] ⟨0, ![]⟩)
    (v : (⟨2, ![n0, n1]⟩ : Shape).Idx → EReal) (init : EReal) (i : (⟨0, ![]⟩ : Shape).Idx) :
    Ideal.hostReduceAdd h v init i = init + ∑ k0 : Fin n0, ∑ k1 : Fin n1, v (ix2 k0 k1) := by
  refine congrArg (init + ·) ?_
  refine (Finset.sum_filter_eq_sum_of_fiber _ (fun k : Fin n0 × Fin n1 => ix2 k.1 k.2)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
    · rintro ⟨k, rfl⟩
      funext b
      exact b.elim0
  · simp only [Fintype.sum_prod_type]

variable {P : Args} {x0 : (⟨S8192x1024, .f32⟩ : BufTy).Contents (Elt Ideal)} {x1 : (⟨S2x8x1024, .f32⟩ : BufTy).Contents (Elt Ideal)}
    {x2 x3 x4 : (⟨S4x704x1024, .bf16⟩ : BufTy).Contents (Elt Ideal)} {x5 : (⟨S8192x1024, .f32⟩ : BufTy).Contents (Elt Ideal)}
    {x6 x7 : (⟨S1x1024, .f32⟩ : BufTy).Contents (Elt Ideal)}
    (H : Holds P x0 x1 x2 x3 x4 x5 x6 x7)
include H

theorem r_h (b : Fin 2) (t : Fin 4096) (d : Fin 1024) :
    val_main_v9 (F := Ideal) x0 x1 (ix3 b t d) = ((P.h (row b t) d : ℝ) : EReal) := by
  pointwise [val_main_v9, val_main_v8, val_main_v7, val_main_v6, val_main_v5, val_main_v4, val_main_v3, val_main_v1, val_main_v0, val_main_cst]
  simp only [row_eq, slab_eq, lane_eq, H.x, H.md, al_word, ep_word, one_word, zero_word, two_word, half_word, hf_word, div_1024, ← EReal.coe_one, ← EReal.coe_zero, ← EReal.coe_neg, ← EReal.coe_mul, ← EReal.coe_add, ← EReal.coe_sub, coe_sum]
  simp only [Args.h, bat_row]

theorem r_wg (d : Fin 1024) (f : Fin 2816) :
    val_main_v12 (F := Ideal) x2 (ix2 d f) = ((P.wg (slab f) (lane f) d : ℝ) : EReal) := by
  pointwise [val_main_v12, val_main_v11, val_main_v10]
  simp only [row_eq, slab_eq, lane_eq, H.wg, al_word, ep_word, one_word, zero_word, two_word, half_word, hf_word, div_1024, ← EReal.coe_one, ← EReal.coe_zero, ← EReal.coe_neg, ← EReal.coe_mul, ← EReal.coe_add, ← EReal.coe_sub, coe_sum]

theorem r_wu (d : Fin 1024) (f : Fin 2816) :
    val_main_v16 (F := Ideal) x3 (ix2 d f) = ((P.wu (slab f) (lane f) d : ℝ) : EReal) := by
  pointwise [val_main_v16, val_main_v15, val_main_v14]
  simp only [row_eq, slab_eq, lane_eq, H.wu, al_word, ep_word, one_word, zero_word, two_word, half_word, hf_word, div_1024, ← EReal.coe_one, ← EReal.coe_zero, ← EReal.coe_neg, ← EReal.coe_mul, ← EReal.coe_add, ← EReal.coe_sub, coe_sum]

theorem r_wd (d : Fin 1024) (f : Fin 2816) :
    val_main_v21 (F := Ideal) x4 (ix2 f d) = ((P.wd (slab f) (lane f) d : ℝ) : EReal) := by
  pointwise [val_main_v21, val_main_v20]
  simp only [row_eq, slab_eq, lane_eq, H.wd, al_word, ep_word, one_word, zero_word, two_word, half_word, hf_word, div_1024, ← EReal.coe_one, ← EReal.coe_zero, ← EReal.coe_neg, ← EReal.coe_mul, ← EReal.coe_add, ← EReal.coe_sub, coe_sum]

theorem r_a (b : Fin 2) (t : Fin 4096) (f : Fin 2816) :
    val_main_v13 (F := Ideal) x0 x1 x2 (ix3 b t f) = ((P.a (row b t) (slab f) (lane f) : ℝ) : EReal) := by
  pointwise [val_main_v13]
  simp only [row_eq, slab_eq, lane_eq, r_h H, r_wg H, al_word, ep_word, one_word, zero_word, two_word, half_word, hf_word, div_1024, ← EReal.coe_one, ← EReal.coe_zero, ← EReal.coe_neg, ← EReal.coe_mul, ← EReal.coe_add, ← EReal.coe_sub, coe_sum]
  rfl

theorem r_b (b : Fin 2) (t : Fin 4096) (f : Fin 2816) :
    val_main_v17 (F := Ideal) x0 x1 x3 (ix3 b t f) = ((P.b (row b t) (slab f) (lane f) : ℝ) : EReal) := by
  pointwise [val_main_v17]
  simp only [row_eq, slab_eq, lane_eq, r_h H, r_wu H, al_word, ep_word, one_word, zero_word, two_word, half_word, hf_word, div_1024, ← EReal.coe_one, ← EReal.coe_zero, ← EReal.coe_neg, ← EReal.coe_mul, ← EReal.coe_add, ← EReal.coe_sub, coe_sum]
  rfl

theorem r_sg (b : Fin 2) (t : Fin 4096) (f : Fin 2816) :
    val_main_call0_v5 (F := Ideal) x0 x1 x2 (ix3 b t f) = (((1 + Real.exp (-P.a (row b t) (slab f) (lane f)))⁻¹ : ℝ) : EReal) := by
  pointwise [val_main_call0_v5, val_main_call0_v4, val_main_call0_v3, val_main_call0_v2, val_main_call0_v1, val_main_call0_v0, val_main_call0_cst, val_main_call0_cst_0]
  rw [r_a H]
  exact Ideal.logistic_coe _

theorem r_hm (b : Fin 2) (t : Fin 4096) (f : Fin 2816) :
    val_main_v19 (F := Ideal) x0 x1 x2 x3 (ix3 b t f) = ((P.hm (row b t) (slab f) (lane f) : ℝ) : EReal) := by
  pointwise [val_main_v19, val_main_v18]
  simp only [row_eq, slab_eq, lane_eq, r_a H, r_sg H, r_b H, al_word, ep_word, one_word, zero_word, two_word, half_word, hf_word, div_1024, ← EReal.coe_one, ← EReal.coe_zero, ← EReal.coe_neg, ← EReal.coe_mul, ← EReal.coe_add, ← EReal.coe_sub, coe_sum]
  rfl

theorem r_ff (b : Fin 2) (t : Fin 4096) (d : Fin 1024) :
    val_main_v22 (F := Ideal) x0 x1 x2 x3 x4 (ix3 b t d) = ((P.ff (row b t) d : ℝ) : EReal) := by
  pointwise [val_main_v22]
  simp only [row_eq, slab_eq, lane_eq, r_hm H, r_wd H, al_word, ep_word, one_word, zero_word, two_word, half_word, hf_word, div_1024, ← EReal.coe_one, ← EReal.coe_zero, ← EReal.coe_neg, ← EReal.coe_mul, ← EReal.coe_add, ← EReal.coe_sub, coe_sum]
  congr 1
  exact sum_feat fun j q => P.hm (row b t) j q * P.wd j q d

theorem r_z (b : Fin 2) (t : Fin 4096) (d : Fin 1024) :
    val_main_v30 (F := Ideal) x0 x1 x2 x3 x4 (ix3 b t d) = ((P.z (row b t) d : ℝ) : EReal) := by
  pointwise [val_main_v30, val_main_v29, val_main_v28, val_main_v27, val_main_v26, val_main_v25, val_main_v24, val_main_v23, val_main_v2, val_main_cst_0, val_main_cst_1]
  simp only [row_eq, slab_eq, lane_eq, r_ff H, H.x, H.md, al_word, ep_word, one_word, zero_word, two_word, half_word, hf_word, div_1024, ← EReal.coe_one, ← EReal.coe_zero, ← EReal.coe_neg, ← EReal.coe_mul, ← EReal.coe_add, ← EReal.coe_sub, coe_sum]
  simp only [Args.z, bat_row]

theorem r_mu (b : Fin 2) (t : Fin 4096) :
    val_main_v35 (F := Ideal) x0 x1 x2 x3 x4 (ix3 b t 0) = ((P.mu (row b t) : ℝ) : EReal) := by
  pointwise [val_main_v35, val_main_v34, val_main_v33, val_main_v32, val_main_cst_2, val_main_cst_3]
  simp only [row_eq, slab_eq, lane_eq, r_z H, al_word, ep_word, one_word, zero_word, two_word, half_word, hf_word, div_1024, ← EReal.coe_one, ← EReal.coe_zero, ← EReal.coe_neg, ← EReal.coe_mul, ← EReal.coe_add, ← EReal.coe_sub, coe_sum]
  rfl

theorem r_zcl (b : Fin 2) (t : Fin 4096) (d : Fin 1024) :
    val_main_v37 (F := Ideal) x0 x1 x2 x3 x4 (ix3 b t d) = ((P.zc (row b t) d : ℝ) : EReal) := by
  pointwise [val_main_v37, val_main_v36]
  simp only [row_eq, slab_eq, lane_eq, r_z H, r_mu H, al_word, ep_word, one_word, zero_word, two_word, half_word, hf_word, div_1024, ← EReal.coe_one, ← EReal.coe_zero, ← EReal.coe_neg, ← EReal.coe_mul, ← EReal.coe_add, ← EReal.coe_sub, coe_sum]
  rfl

theorem r_zc (b : Fin 2) (t : Fin 4096) (d : Fin 1024) :
    val_main_v46 (F := Ideal) x0 x1 x2 x3 x4 (ix3 b t d) = ((P.zc (row b t) d : ℝ) : EReal) := by
  pointwise [val_main_v46, val_main_v45]
  simp only [row_eq, slab_eq, lane_eq, r_z H, r_mu H, al_word, ep_word, one_word, zero_word, two_word, half_word, hf_word, div_1024, ← EReal.coe_one, ← EReal.coe_zero, ← EReal.coe_neg, ← EReal.coe_mul, ← EReal.coe_add, ← EReal.coe_sub, coe_sum]
  rfl

theorem r_va (b : Fin 2) (t : Fin 4096) :
    val_main_v44 (F := Ideal) x0 x1 x2 x3 x4 (ix3 b t 0) = ((P.va (row b t) : ℝ) : EReal) := by
  pointwise [val_main_v44, val_main_v43, val_main_v42, val_main_v41, val_main_v38, val_main_cst_5, val_main_cst_6]
  simp only [row_eq, slab_eq, lane_eq, r_zcl H, al_word, ep_word, one_word, zero_word, two_word, half_word, hf_word, div_1024, ← EReal.coe_one, ← EReal.coe_zero, ← EReal.coe_neg, ← EReal.coe_mul, ← EReal.coe_add, ← EReal.coe_sub, coe_sum]
  rfl

theorem r_rs (b : Fin 2) (t : Fin 4096) :
    val_main_v49 (F := Ideal) x0 x1 x2 x3 x4 (ix3 b t 0) = ((P.rs (row b t) : ℝ) : EReal) := by
  pointwise [val_main_v49, val_main_v48, val_main_v47, val_main_cst_7]
  simp only [row_eq, slab_eq, lane_eq, r_va H, al_word, ep_word, one_word, zero_word, two_word, half_word, hf_word, div_1024, ← EReal.coe_one, ← EReal.coe_zero, ← EReal.coe_neg, ← EReal.coe_mul, ← EReal.coe_add, ← EReal.coe_sub, coe_sum]
  exact rsqrt_pos (P.va_ep_pos _)

theorem r_half (b : Fin 2) (t : Fin 4096) :
    val_main_v52 (F := Ideal) x0 x1 x2 x3 x4 (ix3 b t 0) = ((-(1 / 2) * (P.rs (row b t) / (P.va (row b t) + ep)) : ℝ) : EReal) := by
  pointwise [val_main_v52, val_main_v51, val_main_v50, val_main_v48, val_main_v47, val_main_cst_8, val_main_cst_7]
  simp only [r_rs H, r_va H, ep_word, half_word, ← EReal.coe_add, div_pos_coe _ (P.va_ep_pos _), ← EReal.coe_mul]

theorem r_two (b : Fin 2) (t : Fin 4096) (d : Fin 1024) :
    val_main_v40 (F := Ideal) x0 x1 x2 x3 x4 (ix3 b t d) = ((2 * P.zc (row b t) d : ℝ) : EReal) := by
  pointwise [val_main_v40, val_main_v39, val_main_cst_4]
  simp only [row_eq, slab_eq, lane_eq, r_zcl H, al_word, ep_word, one_word, zero_word, two_word, half_word, hf_word, div_1024, ← EReal.coe_one, ← EReal.coe_zero, ← EReal.coe_neg, ← EReal.coe_mul, ← EReal.coe_add, ← EReal.coe_sub, coe_sum]

theorem r_xh (b : Fin 2) (t : Fin 4096) (d : Fin 1024) :
    val_main_v54 (F := Ideal) x0 x1 x2 x3 x4 (ix3 b t d) = ((P.xh (row b t) d : ℝ) : EReal) := by
  pointwise [val_main_v54, val_main_v53]
  simp only [row_eq, slab_eq, lane_eq, r_zc H, r_rs H, al_word, ep_word, one_word, zero_word, two_word, half_word, hf_word, div_1024, ← EReal.coe_one, ← EReal.coe_zero, ← EReal.coe_neg, ← EReal.coe_mul, ← EReal.coe_add, ← EReal.coe_sub, coe_sum]
  rfl

theorem r_er (b : Fin 2) (t : Fin 4096) (d : Fin 1024) :
    val_main_v61 (F := Ideal) x0 x1 x2 x3 x4 x5 x6 x7 (ix3 b t d) = ((P.er (row b t) d : ℝ) : EReal) := by
  pointwise [val_main_v61, val_main_v60, val_main_v59, val_main_v58, val_main_v57, val_main_v56, val_main_v55, val_main_v31]
  simp only [row_eq, slab_eq, lane_eq, r_xh H, H.w, H.bi, H.tg, al_word, ep_word, one_word, zero_word, two_word, half_word, hf_word, div_1024, ← EReal.coe_one, ← EReal.coe_zero, ← EReal.coe_neg, ← EReal.coe_mul, ← EReal.coe_add, ← EReal.coe_sub, coe_sum]
  rfl

theorem r_ls (b : Fin 2) (t : Fin 4096) :
    val_main_v67 (F := Ideal) x0 x1 x2 x3 x4 x5 x6 x7 (ix2 b t) = ((P.ls (row b t) / 1024 : ℝ) : EReal) := by
  pointwise [val_main_v67, val_main_v66, val_main_v65, val_main_v62, val_main_cst_10, val_main_cst_11]
  simp only [row_eq, slab_eq, lane_eq, r_er H, al_word, ep_word, one_word, zero_word, two_word, half_word, hf_word, div_1024, ← EReal.coe_one, ← EReal.coe_zero, ← EReal.coe_neg, ← EReal.coe_mul, ← EReal.coe_add, ← EReal.coe_sub, coe_sum]
  rfl

theorem r_loss (i : S_.Idx) :
    val_main_v69 (F := Ideal) x0 x1 x2 x3 x4 x5 x6 x7 i = ((1 / 2 * (∑ b, ∑ t, P.ls (row b t)) / 1024 : ℝ) : EReal) := by
  have e : val_main_v68 (F := Ideal) x0 x1 x2 x3 x4 x5 x6 x7 i = ((∑ b, ∑ t, P.ls (row b t) / 1024 : ℝ) : EReal) := by
    unfold val_main_v68
    rw [hostReduceAdd_apply, both_sums]
    pointwise [val_main_cst_12]
    simp only [r_ls H, al_word, ep_word, one_word, zero_word, two_word, half_word, hf_word, div_1024, ← EReal.coe_one, ← EReal.coe_zero, ← EReal.coe_neg, ← EReal.coe_mul, ← EReal.coe_add, ← EReal.coe_sub, coe_sum]
  pointwise [val_main_v69, val_main_cst_13]
  simp only [e, al_word, ep_word, one_word, zero_word, two_word, half_word, hf_word, div_1024, ← EReal.coe_one, ← EReal.coe_zero, ← EReal.coe_neg, ← EReal.coe_mul, ← EReal.coe_add, ← EReal.coe_sub, coe_sum]
  congr 1
  simp only [← Finset.sum_div]
  ring

theorem r_dy (b : Fin 2) (t : Fin 4096) (d : Fin 1024) :
    val_main_v75 (F := Ideal) x0 x1 x2 x3 x4 x5 x6 x7 (ix3 b t d) = ((P.dy (row b t) d : ℝ) : EReal) := by
  pointwise [val_main_v75, val_main_v74, val_main_v73, val_main_v72, val_main_v71, val_main_v70, val_main_v64, val_main_v63, val_main_cst_9, val_main_cst_14, val_main_cst_15, val_main_cst_16]
  simp only [row_eq, slab_eq, lane_eq, r_er H, al_word, ep_word, one_word, zero_word, two_word, half_word, hf_word, div_1024, ← EReal.coe_one, ← EReal.coe_zero, ← EReal.coe_neg, ← EReal.coe_mul, ← EReal.coe_add, ← EReal.coe_sub, coe_sum]
  congr 1
  rw [Args.dy]
  ring

theorem r_dxh (b : Fin 2) (t : Fin 4096) (d : Fin 1024) :
    val_main_v84 (F := Ideal) x0 x1 x2 x3 x4 x5 x6 x7 (ix3 b t d) = ((P.dxh (row b t) d : ℝ) : EReal) := by
  pointwise [val_main_v84, val_main_v83, val_main_v55]
  simp only [row_eq, slab_eq, lane_eq, r_dy H, H.w, al_word, ep_word, one_word, zero_word, two_word, half_word, hf_word, div_1024, ← EReal.coe_one, ← EReal.coe_zero, ← EReal.coe_neg, ← EReal.coe_mul, ← EReal.coe_add, ← EReal.coe_sub, coe_sum]
  rfl

theorem r_dzv (b : Fin 2) (t : Fin 4096) :
    val_main_v97 (F := Ideal) x0 x1 x2 x3 x4 x5 x6 x7 (ix3 b t 0) = (((∑ k, P.zc (row b t) k * P.dxh (row b t) k) * (-(1 / 2) * (P.rs (row b t) / (P.va (row b t) + ep))) / 1024 : ℝ) : EReal) := by
  pointwise [val_main_v97, val_main_v96, val_main_v92, val_main_v89, val_main_v88, val_main_v87, val_main_cst_21, val_main_cst_23]
  simp only [row_eq, slab_eq, lane_eq, r_zc H, r_dxh H, r_half H, al_word, ep_word, one_word, zero_word, two_word, half_word, hf_word, div_1024, ← EReal.coe_one, ← EReal.coe_zero, ← EReal.coe_neg, ← EReal.coe_mul, ← EReal.coe_add, ← EReal.coe_sub, coe_sum]

theorem r_dzd (b : Fin 2) (t : Fin 4096) (d : Fin 1024) :
    val_main_v100 (F := Ideal) x0 x1 x2 x3 x4 x5 x6 x7 (ix3 b t d) = (((∑ k, P.zc (row b t) k * P.dxh (row b t) k) * (-(1 / 2) * (P.rs (row b t) / (P.va (row b t) + ep))) / 1024 * (2 * P.zc (row b t) d) : ℝ) : EReal) := by
  pointwise [val_main_v100, val_main_v99, val_main_v98, val_main_cst_24]
  simp only [row_eq, slab_eq, lane_eq, Fin.sum_univ_one, r_dzv H, r_two H, al_word, ep_word, one_word, zero_word, two_word, half_word, hf_word, div_1024, ← EReal.coe_one, ← EReal.coe_zero, ← EReal.coe_neg, ← EReal.coe_mul, ← EReal.coe_add, ← EReal.coe_sub, coe_sum]

theorem r_dxr (b : Fin 2) (t : Fin 4096) (d : Fin 1024) :
    val_main_v91 (F := Ideal) x0 x1 x2 x3 x4 x5 x6 x7 (ix3 b t d) = ((P.dxh (row b t) d * P.rs (row b t) : ℝ) : EReal) := by
  pointwise [val_main_v91, val_main_v90]
  simp only [row_eq, slab_eq, lane_eq, r_dxh H, r_rs H, al_word, ep_word, one_word, zero_word, two_word, half_word, hf_word, div_1024, ← EReal.coe_one, ← EReal.coe_zero, ← EReal.coe_neg, ← EReal.coe_mul, ← EReal.coe_add, ← EReal.coe_sub, coe_sum]

theorem r_dz (b : Fin 2) (t : Fin 4096) (d : Fin 1024) :
    val_main_v110 (F := Ideal) x0 x1 x2 x3 x4 x5 x6 x7 (ix3 b t d) = ((P.dz (row b t) d : ℝ) : EReal) := by
  pointwise [val_main_v110, val_main_v109, val_main_v108, val_main_v107, val_main_v106, val_main_v105, val_main_v104, val_main_v103, val_main_v102, val_main_v101, val_main_v95, val_main_v94, val_main_v93, val_main_cst_22, val_main_cst_25, val_main_cst_26, val_main_cst_27]
  simp only [row_eq, slab_eq, lane_eq, Fin.sum_univ_one, r_dxr H, r_dzd H, al_word, ep_word, one_word, zero_word, two_word, half_word, hf_word, div_1024, ← EReal.coe_one, ← EReal.coe_zero, ← EReal.coe_neg, ← EReal.coe_mul, ← EReal.coe_add, ← EReal.coe_sub, coe_sum]
  exact congrArg _ (P.dz_alg _ d)

theorem r_dg (b : Fin 2) (d : Fin 1024) :
    val_main_v119 (F := Ideal) x0 x1 x2 x3 x4 x5 x6 x7 (ix3 b 0 d) = ((∑ t, P.dz (row b t) d * P.ff (row b t) d : ℝ) : EReal) := by
  pointwise [val_main_v119, val_main_v118, val_main_v117, val_main_cst_29]
  simp only [row_eq, slab_eq, lane_eq, r_dz H, r_ff H, al_word, ep_word, one_word, zero_word, two_word, half_word, hf_word, div_1024, ← EReal.coe_one, ← EReal.coe_zero, ← EReal.coe_neg, ← EReal.coe_mul, ← EReal.coe_add, ← EReal.coe_sub, coe_sum]

theorem r_s76 (d : Fin 1024) : val_main_v76 (F := Ideal) x0 x1 x2 x3 x4 x5 x6 x7 (ix1 d) = ((∑ b, ∑ t, P.dy (row b t) d : ℝ) : EReal) := by
  unfold val_main_v76
  rw [hostReduceAdd_apply, outer_sums]
  pointwise [val_main_cst_17]
  simp only [Fin.sum_univ_one, r_dy H, al_word, ep_word, one_word, zero_word, two_word, half_word, hf_word, div_1024, ← EReal.coe_one, ← EReal.coe_zero, ← EReal.coe_neg, ← EReal.coe_mul, ← EReal.coe_add, ← EReal.coe_sub, coe_sum]

theorem r_s78 (d : Fin 1024) : val_main_v78 (F := Ideal) x0 x1 x2 x3 x4 x5 x6 x7 (ix1 d) = ((∑ b, ∑ t, P.dy (row b t) d : ℝ) : EReal) := by
  unfold val_main_v78
  rw [hostReduceAdd_apply, outer_sums]
  pointwise [val_main_cst_18, val_main_v77]
  simp only [Fin.sum_univ_one, r_s76 H, al_word, ep_word, one_word, zero_word, two_word, half_word, hf_word, div_1024, ← EReal.coe_one, ← EReal.coe_zero, ← EReal.coe_neg, ← EReal.coe_mul, ← EReal.coe_add, ← EReal.coe_sub, coe_sum]

theorem r_dbi (d : Fin 1024) :
    val_main_v79 (F := Ideal) x0 x1 x2 x3 x4 x5 x6 x7 (ix2 0 d) = ((∑ b, ∑ t, P.dy (row b t) d : ℝ) : EReal) := by
  pointwise [val_main_v79]
  simp only [row_eq, slab_eq, lane_eq, r_s78 H, al_word, ep_word, one_word, zero_word, two_word, half_word, hf_word, div_1024, ← EReal.coe_one, ← EReal.coe_zero, ← EReal.coe_neg, ← EReal.coe_mul, ← EReal.coe_add, ← EReal.coe_sub, coe_sum]

theorem r_s81 (d : Fin 1024) : val_main_v81 (F := Ideal) x0 x1 x2 x3 x4 x5 x6 x7 (ix1 d) = ((∑ b, ∑ t, P.dy (row b t) d * P.xh (row b t) d : ℝ) : EReal) := by
  unfold val_main_v81
  rw [hostReduceAdd_apply, outer_sums]
  pointwise [val_main_cst_19, val_main_v80]
  simp only [Fin.sum_univ_one, r_dy H, r_xh H, mul_comm, al_word, ep_word, one_word, zero_word, two_word, half_word, hf_word, div_1024, ← EReal.coe_one, ← EReal.coe_zero, ← EReal.coe_neg, ← EReal.coe_mul, ← EReal.coe_add, ← EReal.coe_sub, coe_sum]

theorem r_s85 (d : Fin 1024) : val_main_v85 (F := Ideal) x0 x1 x2 x3 x4 x5 x6 x7 (ix1 d) = ((∑ b, ∑ t, P.dy (row b t) d * P.xh (row b t) d : ℝ) : EReal) := by
  unfold val_main_v85
  rw [hostReduceAdd_apply, outer_sums]
  pointwise [val_main_cst_20, val_main_v82]
  simp only [Fin.sum_univ_one, r_s81 H, al_word, ep_word, one_word, zero_word, two_word, half_word, hf_word, div_1024, ← EReal.coe_one, ← EReal.coe_zero, ← EReal.coe_neg, ← EReal.coe_mul, ← EReal.coe_add, ← EReal.coe_sub, coe_sum]

theorem r_dw (d : Fin 1024) :
    val_main_v86 (F := Ideal) x0 x1 x2 x3 x4 x5 x6 x7 (ix2 0 d) = ((∑ b, ∑ t, P.dy (row b t) d * P.xh (row b t) d : ℝ) : EReal) := by
  pointwise [val_main_v86]
  simp only [row_eq, slab_eq, lane_eq, r_s85 H, al_word, ep_word, one_word, zero_word, two_word, half_word, hf_word, div_1024, ← EReal.coe_one, ← EReal.coe_zero, ← EReal.coe_neg, ← EReal.coe_mul, ← EReal.coe_add, ← EReal.coe_sub, coe_sum]

theorem r_lane (d : Fin 1024) :
    val_main_v123 (F := Ideal) x0 x1 x2 x3 x4 x5 x6 x7 (ix2 0 d) = ((if d = 0 then 1 / 2 * (∑ b, ∑ t, P.ls (row b t)) / 1024 else 0 : ℝ) : EReal) := by
  pointwise [val_main_v123, val_main_v122, val_main_v121, val_main_v120, val_main_c, val_main_call1_v2, val_main_call1_v1, val_main_call1_v0, val_main_cst_30]
  simp only [row_eq, slab_eq, lane_eq, r_loss H, al_word, ep_word, one_word, zero_word, two_word, half_word, hf_word, div_1024, ← EReal.coe_one, ← EReal.coe_zero, ← EReal.coe_neg, ← EReal.coe_mul, ← EReal.coe_add, ← EReal.coe_sub, coe_sum]
  refine (congrArg (Scalar.select _ _) ?_).trans (lane_first d _)
  show Ideal.ofBits .f32 0x00000000#32 = 0
  simp only [zero_word, EReal.coe_zero]

theorem r_out_a (j : Fin 4) (r : Fin 8192) (q : Fin 704) :
    val_main_v131 (F := Ideal) x0 x1 x2 (ix3 j r q) = ((P.a r j q : ℝ) : EReal) := by
  pointwise [val_main_v131, val_main_v130, val_main_v129]
  simp only [row_eq, slab_eq, lane_eq, r_a H, row_div, slab_pair, lane_pair, al_word, ep_word, one_word, zero_word, two_word, half_word, hf_word, div_1024, ← EReal.coe_one, ← EReal.coe_zero, ← EReal.coe_neg, ← EReal.coe_mul, ← EReal.coe_add, ← EReal.coe_sub, coe_sum]

theorem r_out_b (j : Fin 4) (r : Fin 8192) (q : Fin 704) :
    val_main_v134 (F := Ideal) x0 x1 x3 (ix3 j r q) = ((P.b r j q : ℝ) : EReal) := by
  pointwise [val_main_v134, val_main_v133, val_main_v132]
  simp only [row_eq, slab_eq, lane_eq, r_b H, row_div, slab_pair, lane_pair, al_word, ep_word, one_word, zero_word, two_word, half_word, hf_word, div_1024, ← EReal.coe_one, ← EReal.coe_zero, ← EReal.coe_neg, ← EReal.coe_mul, ← EReal.coe_add, ← EReal.coe_sub, coe_sum]

theorem r_out_h (r : Fin 8192) (d : Fin 1024) :
    val_main_v136 (F := Ideal) x0 x1 (ix2 r d) = ((P.h r d : ℝ) : EReal) := by
  pointwise [val_main_v136, val_main_v135]
  simp only [row_eq, slab_eq, lane_eq, r_h H, row_div, al_word, ep_word, one_word, zero_word, two_word, half_word, hf_word, div_1024, ← EReal.coe_one, ← EReal.coe_zero, ← EReal.coe_neg, ← EReal.coe_mul, ← EReal.coe_add, ← EReal.coe_sub, coe_sum]

theorem r_out_dz (r : Fin 8192) (d : Fin 1024) :
    val_main_v137 (F := Ideal) x0 x1 x2 x3 x4 x5 x6 x7 (ix2 r d) = ((P.dz r d : ℝ) : EReal) := by
  pointwise [val_main_v137]
  simp only [row_eq, slab_eq, lane_eq, r_dz H, row_div, al_word, ep_word, one_word, zero_word, two_word, half_word, hf_word, div_1024, ← EReal.coe_one, ← EReal.coe_zero, ← EReal.coe_neg, ← EReal.coe_mul, ← EReal.coe_add, ← EReal.coe_sub, coe_sum]

theorem r_out_sums (k : Fin 8) (d : Fin 1024) :
    val_main_v125 (F := Ideal) x0 x1 x2 x3 x4 x5 x6 x7 (ix2 k d) = ((P.sums k d : ℝ) : EReal) := by
  pointwise [val_main_v125, val_main_v124, val_main_cst_31]
  simp only [row_eq, slab_eq, lane_eq, r_dw H, r_dbi H, r_lane H, al_word, ep_word, one_word, zero_word, two_word, half_word, hf_word, div_1024, ← EReal.coe_one, ← EReal.coe_zero, ← EReal.coe_neg, ← EReal.coe_mul, ← EReal.coe_add, ← EReal.coe_sub, coe_sum]
  fin_cases k <;> simp [Args.sums, r_dw H, r_dbi H, r_lane H]

theorem r_out_dmod (b : Fin 2) (k : Fin 8) (d : Fin 1024) :
    val_main_v128 (F := Ideal) x0 x1 x2 x3 x4 x5 x6 x7 (ix3 b k d) = ((P.dmod b k d : ℝ) : EReal) := by
  pointwise [val_main_v128, val_main_v127, val_main_v126, val_main_cst_32, val_main_cst_33]
  simp only [row_eq, slab_eq, lane_eq, r_dg H, al_word, ep_word, one_word, zero_word, two_word, half_word, hf_word, div_1024, ← EReal.coe_one, ← EReal.coe_zero, ← EReal.coe_neg, ← EReal.coe_mul, ← EReal.coe_add, ← EReal.coe_sub, coe_sum]
  fin_cases k <;> simp [Args.dmod, r_dg H]

theorem arr_a : val_main_v131 (F := Ideal) x0 x1 x2 = fun i : S4x8192x704.Idx => ((P.a (i 1) (i 0) (i 2) : ℝ) : EReal) :=
  funext fun i => (congrArg _ (ValueIdx.eq_ix3 i)).trans (r_out_a H (i 0) (i 1) (i 2))

theorem arr_b : val_main_v134 (F := Ideal) x0 x1 x3 = fun i : S4x8192x704.Idx => ((P.b (i 1) (i 0) (i 2) : ℝ) : EReal) :=
  funext fun i => (congrArg _ (ValueIdx.eq_ix3 i)).trans (r_out_b H (i 0) (i 1) (i 2))

theorem arr_h : val_main_v136 (F := Ideal) x0 x1 = fun i : S8192x1024.Idx => ((P.h (i 0) (i 1) : ℝ) : EReal) :=
  funext fun i => (congrArg _ (ValueIdx.eq_ix2 i)).trans (r_out_h H (i 0) (i 1))

theorem arr_dz : val_main_v137 (F := Ideal) x0 x1 x2 x3 x4 x5 x6 x7 = fun i : S8192x1024.Idx => ((P.dz (i 0) (i 1) : ℝ) : EReal) :=
  funext fun i => (congrArg _ (ValueIdx.eq_ix2 i)).trans (r_out_dz H (i 0) (i 1))

theorem arr_sums : val_main_v125 (F := Ideal) x0 x1 x2 x3 x4 x5 x6 x7 = fun i : S8x1024.Idx => ((P.sums (i 0) (i 1) : ℝ) : EReal) :=
  funext fun i => (congrArg _ (ValueIdx.eq_ix2 i)).trans (r_out_sums H (i 0) (i 1))

theorem arr_dmod : val_main_v128 (F := Ideal) x0 x1 x2 x3 x4 x5 x6 x7 = fun i : S2x8x1024.Idx => ((P.dmod (i 0) (i 1) (i 2) : ℝ) : EReal) :=
  funext fun i => (congrArg _ (ValueIdx.eq_ix3 i)).trans (r_out_dmod H (i 0) (i 1) (i 2))

end Cert.FeedForward.Ref

end
-- ==== Proof.FeedForwardClaims.lean ====
/- The claims about the forward pass of the feed-forward network, assembled from the runs of the two programs. -/
module

public import proofs.«01_k».proof.Defs
public import proofs.«01_k».proof.Proof.FeedForwardValue
public import proofs.«01_k».proof.Proof.FeedForwardRef
public import proofs.«01_k».proof.Proof.FfnClaims
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Pre_real
public import Idealize.ShloMosaic.Lib.Claim
public import Idealize.ShloMosaic.Lib.Quiescent

@[expose] public section

noncomputable section

open Idealize.ShloMosaic Idealize.ShloMosaic.TcCoe Idealize.SL.Sem

namespace Cert.Proof.FeedForward

open Cert.FeedForward
open Cert.Proof.Ffn (real_of_lt)

/-- The real numbers the argument arrays hold. -/
def args (m : (ℓ : Loc Cert.Kernel13Ideal.nD Cert.Kernel13Ideal.τ Cert.Kernel13Ideal.sig) → Buf (Elt Ideal) ℓ) (c : Dev Cert.Kernel13Ideal.nD) : Args where
  x := fun r d => ((m ((c.tc : Thread Cert.Kernel13Ideal.nD Cert.Kernel13Ideal.τ).loc Cert.Kernel13Ideal.main_arg0) : Cert.Kernel13Ideal.S8192x1024.Idx → EReal) (ix2 r d)).toReal
  md := fun b k d => ((m ((c.tc : Thread Cert.Kernel13Ideal.nD Cert.Kernel13Ideal.τ).loc Cert.Kernel13Ideal.main_arg1) : Cert.Kernel13Ideal.S2x8x1024.Idx → EReal) (ix3 b k d)).toReal
  wg := fun j q d => ((m ((c.tc : Thread Cert.Kernel13Ideal.nD Cert.Kernel13Ideal.τ).loc Cert.Kernel13Ideal.main_arg2) : Cert.Kernel13Ideal.S4x704x1024.Idx → EReal) (ix3 j q d)).toReal
  wu := fun j q d => ((m ((c.tc : Thread Cert.Kernel13Ideal.nD Cert.Kernel13Ideal.τ).loc Cert.Kernel13Ideal.main_arg3) : Cert.Kernel13Ideal.S4x704x1024.Idx → EReal) (ix3 j q d)).toReal
  wd := fun j q d => ((m ((c.tc : Thread Cert.Kernel13Ideal.nD Cert.Kernel13Ideal.τ).loc Cert.Kernel13Ideal.main_arg4) : Cert.Kernel13Ideal.S4x704x1024.Idx → EReal) (ix3 j q d)).toReal
  tg := fun r d => ((m ((c.tc : Thread Cert.Kernel13Ideal.nD Cert.Kernel13Ideal.τ).loc Cert.Kernel13Ideal.main_arg5) : Cert.Kernel13Ideal.S8192x1024.Idx → EReal) (ix2 r d)).toReal
  w := fun d => ((m ((c.tc : Thread Cert.Kernel13Ideal.nD Cert.Kernel13Ideal.τ).loc Cert.Kernel13Ideal.main_arg6) : Cert.Kernel13Ideal.S1x1024.Idx → EReal) (ix2 0 d)).toReal
  bi := fun d => ((m ((c.tc : Thread Cert.Kernel13Ideal.nD Cert.Kernel13Ideal.τ).loc Cert.Kernel13Ideal.main_arg7) : Cert.Kernel13Ideal.S1x1024.Idx → EReal) (ix2 0 d)).toReal

/-- At finite arguments the arrays hold those numbers. -/
theorem holds (m : (ℓ : Loc Cert.Kernel13Ideal.nD Cert.Kernel13Ideal.τ Cert.Kernel13Ideal.sig) → Buf (Elt Ideal) ℓ)
    [Cert.Pre_real.Facts] (hpre : Cert.Pre_Kernel13Ideal_real m) (c : Dev Cert.Kernel13Ideal.nD) :
    Cert.Kernel13Ideal.FeedForward.Holds m c (args m c) := by
  obtain ⟨h0, h1, h2, h3, h4, h5, h6, h7⟩ := hpre c
  exact {
    x := fun r d => real_of_lt _ (congrFun h0 (ix2 r d))
    md := fun b k d => real_of_lt _ (congrFun h1 (ix3 b k d))
    wg := fun j q d => real_of_lt _ (congrFun h2 (ix3 j q d))
    wu := fun j q d => real_of_lt _ (congrFun h3 (ix3 j q d))
    wd := fun j q d => real_of_lt _ (congrFun h4 (ix3 j q d))
    tg := fun r d => real_of_lt _ (congrFun h5 (ix2 r d))
    w := fun d => real_of_lt _ (congrFun h6 (ix2 0 d))
    bi := fun d => real_of_lt _ (congrFun h7 (ix2 0 d))
  }

/-- The reference's arrays, equal to the kernel's, hold them too. -/
theorem holds_ref (m : (ℓ : Loc Cert.Kernel13Ideal.nD Cert.Kernel13Ideal.τ Cert.Kernel13Ideal.sig) → Buf (Elt Ideal) ℓ)
    (c : Dev Cert.Kernel13Ideal.nD) {P : Args} (H : Cert.Kernel13Ideal.FeedForward.Holds m c P) :
    Cert.FeedForward.Ref.Holds P (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1))
      (m ((c.tc : Thread Cert.Kernel13Ideal.nD Cert.Kernel13Ideal.τ).loc Cert.Kernel13Ideal.main_arg2))
      (m ((c.tc : Thread Cert.Kernel13Ideal.nD Cert.Kernel13Ideal.τ).loc Cert.Kernel13Ideal.main_arg3))
      (m ((c.tc : Thread Cert.Kernel13Ideal.nD Cert.Kernel13Ideal.τ).loc Cert.Kernel13Ideal.main_arg4))
      (m ((c.tc : Thread Cert.Kernel13Ideal.nD Cert.Kernel13Ideal.τ).loc Cert.Kernel13Ideal.main_arg5))
      (m ((c.tc : Thread Cert.Kernel13Ideal.nD Cert.Kernel13Ideal.τ).loc Cert.Kernel13Ideal.main_arg6))
      (m ((c.tc : Thread Cert.Kernel13Ideal.nD Cert.Kernel13Ideal.τ).loc Cert.Kernel13Ideal.main_arg7)) where
  x := H.x
  md := H.md
  wg := H.wg
  wu := H.wu
  wd := H.wd
  tg := H.tg
  w := H.w
  bi := H.bi

/-- The kernel and its idealization run and leave the memory they were given. -/
theorem frame_kernel : Cert.quiescent_Kernel13 := fun m ρ _ => Cert.Kernel13.Gen.frame m ρ
theorem frame_ideal : Cert.quiescent_Kernel13Ideal := fun m ρ _ => Cert.Kernel13Ideal.Gen.frame m ρ
theorem frame_ideal_real [Cert.Pre_real.Facts] : Cert.quiescent_Kernel13Ideal_pre_real := fun m ρ _ => Cert.Kernel13Ideal.Gen.frame m ρ

/-- The reference declares no semaphore; its run leaves its arguments as they were. -/
theorem frame_reference : Cert.quiescent_Reference13Ideal := fun m ρ _ =>
  (θ_run Cert.Reference13Ideal.defs _ _).mono (fun r h => ⟨fun c => (h c).2.2.2.2.2.2,
      sem_eq_zero_of_no_sems (by decide) r.2⟩)
    (Cert.Reference13Ideal.Value.run (F := Ideal) m ρ)
theorem frame_reference_real [Cert.Pre_real.Facts] : Cert.quiescent_Reference13Ideal_pre_real := fun m ρ _ =>
  frame_reference m ρ trivial

set_option maxHeartbeats 2000000 in
/-- At finite arguments every result of the call is the reference's. -/
theorem algebraic [Cert.Pre_real.Facts] : Cert.algebraic_Kernel13Ideal_Reference13Ideal_pre_real := by
  intro m ρ m' ρ' hpre hagree
  refine ⟨fun c => (Cert.Kernel13Ideal.Gen.dats m 0 c).arrAt 8 Cert.Kernel13Ideal.cfg0.N,
    fun c => (Cert.Kernel13Ideal.Gen.dats m 0 c).arrAt 9 Cert.Kernel13Ideal.cfg0.N,
    fun c => (Cert.Kernel13Ideal.Gen.dats m 0 c).arrAt 10 Cert.Kernel13Ideal.cfg0.N,
    fun c => (Cert.Kernel13Ideal.Gen.dats m 0 c).arrAt 11 Cert.Kernel13Ideal.cfg0.N,
    fun c => (Cert.Kernel13Ideal.Gen.dats m 0 c).arrAt 12 Cert.Kernel13Ideal.cfg0.N,
    fun c => (Cert.Kernel13Ideal.Gen.dats m 0 c).arrAt 13 Cert.Kernel13Ideal.cfg0.N, ?_, ?_⟩
  · refine (θ_run Cert.Kernel13Ideal.defs _ _).mono (fun r h c => ?_) (Cert.Kernel13Ideal.Value.run_blocks (F := Ideal) m ρ)
    exact h c
  · refine (θ_run Cert.Reference13Ideal.defs _ _).mono (fun r h c => ?_) (Cert.Reference13Ideal.Value.run (F := Ideal) m' ρ')
    have H := holds m hpre c
    have HR := holds_ref m c H
    obtain ⟨e0, e1, e2, e3, e4, e5, e6, e7⟩ := hagree c
    rw [← e0, ← e1, ← e2, ← e3, ← e4, ← e5, ← e6, ← e7] at HR
    obtain ⟨r0, r1, r2, r3, r4, r5, rest⟩ := h c
    replace r0 := (r0.trans (Cert.Reference13Ideal.Read.val_main_v131_eq _)).trans (Cert.FeedForward.Ref.arr_a HR)
    replace r1 := (r1.trans (Cert.Reference13Ideal.Read.val_main_v134_eq _)).trans (Cert.FeedForward.Ref.arr_b HR)
    replace r2 := (r2.trans (Cert.Reference13Ideal.Read.val_main_v136_eq _)).trans (Cert.FeedForward.Ref.arr_h HR)
    replace r3 := (r3.trans (Cert.Reference13Ideal.Read.val_main_v137_eq _)).trans (Cert.FeedForward.Ref.arr_dz HR)
    replace r4 := (r4.trans (Cert.Reference13Ideal.Read.val_main_v125_eq _)).trans (Cert.FeedForward.Ref.arr_sums HR)
    replace r5 := (r5.trans (Cert.Reference13Ideal.Read.val_main_v128_eq _)).trans (Cert.FeedForward.Ref.arr_dmod HR)
    have t0 := r0.trans (Cert.Kernel13Ideal.FeedForward.final_a H).symm
    have t1 := r1.trans (Cert.Kernel13Ideal.FeedForward.final_b H).symm
    have t2 := r2.trans (Cert.Kernel13Ideal.FeedForward.final_h H).symm
    have t3 := r3.trans (Cert.Kernel13Ideal.FeedForward.final_dz H).symm
    have t4 := r4.trans (Cert.Kernel13Ideal.FeedForward.final_st H).symm
    have t5 := r5.trans (Cert.Kernel13Ideal.FeedForward.final_dm H).symm
    exact ⟨t0, t1, t2, t3, t4, t5, rest⟩

end Cert.Proof.FeedForward

end
-- ==== Proof.Adam.lean ====
/- One step of AdamW, as a function of the numbers of one weight: the first moment, the second moment, the change. -/
module

public import Idealize.ShloMosaic.Lib.Pipeline.ValueKit

@[expose] public section

noncomputable section

namespace Cert.Adam

open Idealize.ShloMosaic

/-- The new first and second moments from the old ones and the gradient; the change of the weight from the new moments. -/
def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)
def change (w g m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

/-- The gradient of half `h`: the device's own where the device has that half, else its sibling's. -/
def pick (c : BitVec 32) (h : ℕ) (mine sibling : EReal) : EReal :=
  Scalar.select (IntOp.cmpi .eq (BitVec.ofNat 32 h) c) mine sibling

/-- A choice between two arrays, read at one place. -/
theorem select_at {s : Shape} (b : BitVec 1) (x y : s.Idx → EReal) (i : s.Idx) :
    Scalar.select b x y i = if b = 1 then x i else y i := by
  unfold Scalar.select
  split <;> rfl

theorem pick_of (c : BitVec 32) (h : ℕ) (x y : EReal) :
    Scalar.select (IntOp.cmpi .eq c (BitVec.ofNat 32 h)) x y = pick c h x y := by
  unfold pick
  rw [show IntOp.cmpi .eq c (BitVec.ofNat 32 h) = IntOp.cmpi .eq (BitVec.ofNat 32 h) c by
    simp only [IntOp.cmpi]; rw [Bool.beq_comm]]

end Cert.Adam
-- ==== Proof.UpdateInput.lean ====
/-
  The AdamW step of a weight of shape 1024 × 1410 whose summed gradient lies in two halves of rows: the gradient, the change and the
  two moments, entry by entry, of the kernel's arrays and of the reference's.
-/
module

public import proofs.«01_k».proof.Defs
public import proofs.«01_k».proof.Proof.Adam
public import proofs.«01_k».proof.Proof.Gen.Kernel14.Frame
public import proofs.«01_k».proof.Proof.Gen.Kernel14Ideal.Frame
public import proofs.«01_k».proof.Proof.Gen.Reference14Ideal.Read
public import proofs.«01_k».proof.Proof.Gen.Reference14Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

noncomputable section

namespace Cert.Kernel14Ideal.Update

open Idealize.ShloMosaic Idealize.ShloMosaic.TcCoe Idealize.SL.Sem
open Cert.Kernel14Ideal Cert.Kernel14Ideal.Gen Cert.Adam

variable (m : (ℓ : Loc nD τ sig) → Buf (Elt Ideal) ℓ) (hO : Ok m) (c : Dev nD)

/-- The kernel's argument arrays: the device's half, the weight, the two halves of the gradient, the two moments. -/
def a0 : S1.Idx → BitVec 32 := m (c, Proc.tc.devRef main_arg0)
def a1 : S1024x1410.Idx → EReal := m (c, Proc.tc.devRef main_arg1)
def a2 : S512x1410.Idx → EReal := m (c, Proc.tc.devRef main_arg2)
def a3 : S512x1410.Idx → EReal := m (c, Proc.tc.devRef main_arg3)
def a4 : S1024x1410.Idx → EReal := m (c, Proc.tc.devRef main_arg4)
def a5 : S1024x1410.Idx → EReal := m (c, Proc.tc.devRef main_arg5)

/-- Row `p` of row block `i`; a row inside its half; the gradient. -/
def rb (i : ℕ) (p : Fin 128) : Fin 1024 := ⟨(i * 128 + p.val) % 1024, Nat.mod_lt _ (by norm_num)⟩
def inner (r : Fin 1024) : Fin 512 := ⟨r.val % 512, Nat.mod_lt _ (by norm_num)⟩
def gr (r : Fin 1024) (d : Fin 1410) : EReal :=
  pick (a0 m c (ix1 0)) (r.val / 512) (a2 m c (ix2 (inner r) d)) (a3 m c (ix2 (inner r) d))

/-- The windows' maps read no word of the table, so they are those at any table; the table of zeroes stands for all. -/
def any : (pcfg0 (F := Ideal)).Adm := ⟨fun | 0 => fun _ => (0#32 : BitVec 32), trivial⟩

theorem idx₀ : ∀ t : Fin grid0.N, ((cfg0 any).win 0).index t = ![t.val, 0] ∧ ((cfg0 any).win 1).index t = ![t.val % 4, 0]
    ∧ ((cfg0 any).win 2).index t = ![t.val % 4, 0] ∧ ((cfg0 any).win 3).index t = ![t.val, 0]
    ∧ ((cfg0 any).win 4).index t = ![t.val, 0] ∧ ((cfg0 any).win 5).index t = ![t.val, 0]
    ∧ ((cfg0 any).win 6).index t = ![t.val, 0] ∧ ((cfg0 any).win 7).index t = ![t.val, 0]
    ∧ ((cfg0 any).win 8).index t = ![t.val, 0] ∧ (grid0.coords t 0).val = t.val / 4 := by
  decide +kernel

theorem idx (t : Fin (cfgM m hO).N) : ((cfgM m hO).win 0).index t = ![t.val, 0] ∧ ((cfgM m hO).win 1).index t = ![t.val % 4, 0]
    ∧ ((cfgM m hO).win 2).index t = ![t.val % 4, 0] ∧ ((cfgM m hO).win 3).index t = ![t.val, 0]
    ∧ ((cfgM m hO).win 4).index t = ![t.val, 0] ∧ ((cfgM m hO).win 5).index t = ![t.val, 0]
    ∧ ((cfgM m hO).win 6).index t = ![t.val, 0] ∧ ((cfgM m hO).win 7).index t = ![t.val, 0]
    ∧ ((cfgM m hO).win 8).index t = ![t.val, 0] ∧ (grid0.coords t 0).val = t.val / 4 := idx₀ t

theorem covers : ((cfg0 any).win 5).Covers ∧ ((cfg0 any).win 6).Covers ∧ ((cfg0 any).win 7).Covers ∧ ((cfg0 any).win 8).Covers := by
  decide +kernel

section blocks

variable (t : Fin (cfgM m hO).N)

theorem points : t.val < 8 := t.isLt

theorem blk0 (p : Fin 128) (d : Fin 1410) : iblk m hO c 0 t (ix2 p d) = a1 m c (ix2 (rb t.val p) d) := by
  have ht := points m hO t
  unfold a1
  blk_point [iblk, idx m hO t, V] <;> first | rfl | (simp only [rb]; omega)

theorem blk3 (p : Fin 128) (d : Fin 1410) : iblk m hO c 3 t (ix2 p d) = a4 m c (ix2 (rb t.val p) d) := by
  have ht := points m hO t
  unfold a4
  blk_point [iblk, idx m hO t, V] <;> first | rfl | (simp only [rb]; omega)

theorem blk4 (p : Fin 128) (d : Fin 1410) : iblk m hO c 4 t (ix2 p d) = a5 m c (ix2 (rb t.val p) d) := by
  have ht := points m hO t
  unfold a5
  blk_point [iblk, idx m hO t, V] <;> first | rfl | (simp only [rb]; omega)

theorem blk1 (p : Fin 128) (d : Fin 1410) : iblk m hO c 1 t (ix2 p d) = a2 m c (ix2 (inner (rb t.val p)) d) := by
  have ht := points m hO t
  unfold a2
  blk_point [iblk, idx m hO t, V] <;> first | rfl | (simp only [rb, inner]; omega)

theorem blk2 (p : Fin 128) (d : Fin 1410) : iblk m hO c 2 t (ix2 p d) = a3 m c (ix2 (inner (rb t.val p)) d) := by
  have ht := points m hO t
  unfold a3
  blk_point [iblk, idx m hO t, V] <;> first | rfl | (simp only [rb, inner]; omega)

/-- The word the body reads from the table. -/
theorem word : View.readAt (Elt Ideal) (View.whole main_arg0) (Rect.unit ![0] ![1] inb_S1_S1_0).toLoadRect (tbl m 0)
    (Shape.Idx.first (by decide)) = a0 m c (ix1 0) := by
  obtain rfl : c = 0 := Subsingleton.elim _ _
  refine congrArg (V m 0 main_arg0) (funext fun a => ?_)
  fin_cases a
  rfl

/-! What a staging cell holds is read back whole. -/

theorem read0 : (ms0_0 m hO t).view.read (Elt Ideal) ((hs0_0 m hO t).unread (iblk m hO c 0 t)) = iblk m hO c 0 t :=
  (hs0_0 m hO t).read_unread _

theorem read1 : (ms0_1 m hO t).view.read (Elt Ideal) ((hs0_1 m hO t).unread (iblk m hO c 1 t)) = iblk m hO c 1 t :=
  (hs0_1 m hO t).read_unread _

theorem read2 : (ms0_2 m hO t).view.read (Elt Ideal) ((hs0_2 m hO t).unread (iblk m hO c 2 t)) = iblk m hO c 2 t :=
  (hs0_2 m hO t).read_unread _

theorem read3 : (ms0_3 m hO t).view.read (Elt Ideal) ((hs0_3 m hO t).unread (iblk m hO c 3 t)) = iblk m hO c 3 t :=
  (hs0_3 m hO t).read_unread _

theorem read4 : (ms0_4 m hO t).view.read (Elt Ideal) ((hs0_4 m hO t).unread (iblk m hO c 4 t)) = iblk m hO c 4 t :=
  (hs0_4 m hO t).read_unread _

theorem pair (y : S128x1410.Idx) : ∃ p q, y = ix2 p q := ⟨y 0, y 1, ValueIdx.eq_ix2 y⟩

/-- The point's four blocks. -/
abbrev gT := k0_pay1 (F := Ideal) (grid0.coords t) (a0 m c (ix1 0)) (iblk m hO c 1 t) (iblk m hO c 2 t)
abbrev mT := k0_pay2 (F := Ideal) (grid0.coords t) (a0 m c (ix1 0)) (iblk m hO c 1 t) (iblk m hO c 2 t) (iblk m hO c 3 t)
abbrev vT := k0_pay3 (F := Ideal) (grid0.coords t) (a0 m c (ix1 0)) (iblk m hO c 1 t) (iblk m hO c 2 t) (iblk m hO c 4 t)
abbrev dT := k0_pay4 (F := Ideal) (grid0.coords t) (a0 m c (ix1 0)) (iblk m hO c 1 t) (iblk m hO c 2 t) (iblk m hO c 0 t)
  (iblk m hO c 3 t) (iblk m hO c 4 t)

theorem g_at : (outsAt0 m hO c t).1 = gT m hO c t := by
  unfold outsAt0 gT
  frame_out
  exact congr (congr (congrArg (k0_pay1 (F := Ideal) (grid0.coords t)) (word m c)) (read1 m hO c t)) (read2 m hO c t)

theorem d_at : (outsAt0 m hO c t).2.1 = dT m hO c t := by
  unfold outsAt0 dT
  frame_out
  exact congr (congr (congr (congr (congr (congrArg (k0_pay4 (F := Ideal) (grid0.coords t)) (word m c)) (read1 m hO c t)) (read2 m hO c t)) (read0 m hO c t)) (read3 m hO c t)) (read4 m hO c t)

theorem m_at : (outsAt0 m hO c t).2.2.1 = mT m hO c t := by
  unfold outsAt0 mT
  frame_out
  exact congr (congr (congr (congrArg (k0_pay2 (F := Ideal) (grid0.coords t)) (word m c)) (read1 m hO c t)) (read2 m hO c t)) (read3 m hO c t)

theorem v_at : (outsAt0 m hO c t).2.2.2 = vT m hO c t := by
  unfold outsAt0 vT
  frame_out
  exact congr (congr (congr (congrArg (k0_pay3 (F := Ideal) (grid0.coords t)) (word m c)) (read1 m hO c t)) (read2 m hO c t)) (read4 m hO c t)

theorem g_val (p : Fin 128) (d : Fin 1410) : gT m hO c t (ix2 p d) = gr m c (rb t.val p) d := by
  have ht := points m hO t
  have e : (rb t.val p).val / 512 = (grid0.coords t 0).val := by
    rw [(idx m hO t).2.2.2.2.2.2.2.2.2]; simp only [rb]; omega
  unfold gr pick
  rw [e, ← blk1 m hO c t p d, ← blk2 m hO c t p d]
  exact select_at (s := S128x1410) _ (iblk m hO c 1 t) (iblk m hO c 2 t) (ix2 p d)

theorem m_val (p : Fin 128) (d : Fin 1410) :
    mT m hO c t (ix2 p d) = first (gr m c (rb t.val p) d) (a4 m c (ix2 (rb t.val p) d)) := by
  have hg := g_val m hO c t p d
  rw [← hg, ← blk3 m hO c t p d]
  rfl

theorem v_val (p : Fin 128) (d : Fin 1410) :
    vT m hO c t (ix2 p d) = second (gr m c (rb t.val p) d) (a5 m c (ix2 (rb t.val p) d)) := by
  have hg := g_val m hO c t p d
  rw [← hg, ← blk4 m hO c t p d]
  rfl

theorem d_val (p : Fin 128) (d : Fin 1410) :
    dT m hO c t (ix2 p d) = change (a1 m c (ix2 (rb t.val p) d)) (gr m c (rb t.val p) d) (a4 m c (ix2 (rb t.val p) d))
      (a5 m c (ix2 (rb t.val p) d)) := by
  unfold change
  rw [← m_val, ← v_val, ← blk0 m hO c t p d]
  rfl

theorem emb5 (p : Fin 128) (d : Fin 1410) :
    (((cfgM m hO).win 5).blk t).view.emb (ix2 p d : S128x1410.Idx) = (ix2 (rb t.val p) d : S1024x1410.Idx) := by
  have ht := points m hO t
  funext a
  apply Fin.ext
  fin_cases a <;> blk_simp [idx m hO t] <;> first | rfl | (show t.val * 128 + p.val = (t.val * 128 + p.val) % 1024; omega)

theorem emb6 (p : Fin 128) (d : Fin 1410) :
    (((cfgM m hO).win 6).blk t).view.emb (ix2 p d : S128x1410.Idx) = (ix2 (rb t.val p) d : S1024x1410.Idx) := by
  have ht := points m hO t
  funext a
  apply Fin.ext
  fin_cases a <;> blk_simp [idx m hO t] <;> first | rfl | (show t.val * 128 + p.val = (t.val * 128 + p.val) % 1024; omega)

theorem emb7 (p : Fin 128) (d : Fin 1410) :
    (((cfgM m hO).win 7).blk t).view.emb (ix2 p d : S128x1410.Idx) = (ix2 (rb t.val p) d : S1024x1410.Idx) := by
  have ht := points m hO t
  funext a
  apply Fin.ext
  fin_cases a <;> blk_simp [idx m hO t] <;> first | rfl | (show t.val * 128 + p.val = (t.val * 128 + p.val) % 1024; omega)

theorem emb8 (p : Fin 128) (d : Fin 1410) :
    (((cfgM m hO).win 8).blk t).view.emb (ix2 p d : S128x1410.Idx) = (ix2 (rb t.val p) d : S1024x1410.Idx) := by
  have ht := points m hO t
  funext a
  apply Fin.ext
  fin_cases a <;> blk_simp [idx m hO t] <;> first | rfl | (show t.val * 128 + p.val = (t.val * 128 + p.val) % 1024; omega)

end blocks

/-- The kernel's arrays, entry by entry. -/
theorem final_g : (dats m hO 0 c).arrAt 5 (cfgM m hO).N = fun i : S1024x1410.Idx => gr m c (i 0) (i 1) := by
  refine (dats m hO 0 c).arrAt_eq_of_covers 5 _ covers.1 fun t hf y => ?_
  blk_simp
  rw [after0_5, g_at]
  obtain ⟨p, q, rfl⟩ := pair y
  have e := emb5 m hO t p q
  refine (g_val m hO c t p q).trans ?_
  rw [e]
  rfl

theorem final_d : (dats m hO 0 c).arrAt 6 (cfgM m hO).N = fun i : S1024x1410.Idx => change (a1 m c i) (gr m c (i 0) (i 1)) (a4 m c i) (a5 m c i) := by
  refine (dats m hO 0 c).arrAt_eq_of_covers 6 _ covers.2.1 fun t hf y => ?_
  blk_simp
  rw [after0_6, d_at]
  obtain ⟨p, q, rfl⟩ := pair y
  have e := emb6 m hO t p q
  refine (d_val m hO c t p q).trans ?_
  rw [e]
  rfl

theorem final_m : (dats m hO 0 c).arrAt 7 (cfgM m hO).N = fun i : S1024x1410.Idx => first (gr m c (i 0) (i 1)) (a4 m c i) := by
  refine (dats m hO 0 c).arrAt_eq_of_covers 7 _ covers.2.2.1 fun t hf y => ?_
  blk_simp
  rw [after0_7, m_at]
  obtain ⟨p, q, rfl⟩ := pair y
  have e := emb7 m hO t p q
  refine (m_val m hO c t p q).trans ?_
  rw [e]
  rfl

theorem final_v : (dats m hO 0 c).arrAt 8 (cfgM m hO).N = fun i : S1024x1410.Idx => second (gr m c (i 0) (i 1)) (a5 m c i) := by
  refine (dats m hO 0 c).arrAt_eq_of_covers 8 _ covers.2.2.2 fun t hf y => ?_
  blk_simp
  rw [after0_8, v_at]
  obtain ⟨p, q, rfl⟩ := pair y
  have e := emb8 m hO t p q
  refine (v_val m hO c t p q).trans ?_
  rw [e]
  rfl

end Cert.Kernel14Ideal.Update

namespace Cert.Reference14Ideal.Update

open Idealize.ShloMosaic Cert.Reference14Ideal Cert.Reference14Ideal.Read Cert.Adam

variable (x0 : (⟨S1, .i32⟩ : BufTy).Contents (Elt Ideal)) (x1 x4 x5 : (⟨S1024x1410, .f32⟩ : BufTy).Contents (Elt Ideal))
  (x2 x3 : (⟨S512x1410, .f32⟩ : BufTy).Contents (Elt Ideal))

theorem one (i : S1.Idx) : i = ix1 0 :=
  funext fun a => by fin_cases a; exact Subsingleton.elim (α := Fin 1) _ _

theorem g_at (r : Fin 1024) (d : Fin 1410) : val_main_v6 (F := Ideal) x0 x2 x3 (ix2 r d)
    = pick (x0 (ix1 0)) (r.val / 512) (x2 (ix2 (⟨r.val % 512, Nat.mod_lt _ (by norm_num)⟩ : Fin 512) d))
        (x3 (ix2 (⟨r.val % 512, Nat.mod_lt _ (by norm_num)⟩ : Fin 512) d)) := by
  pointwise [val_main_v6, val_main_v2, val_main_v5]
  have hz : val_main_v0 (F := Ideal) x0 ix0 = x0 (ix1 0) := congrArg x0 (one _)
  have hz' : val_main_v3 (F := Ideal) x0 ix0 = x0 (ix1 0) := congrArg x0 (one _)
  split
  · rename_i hr
    rw [val_main_v1_apply, hz, show r.val / 512 = 0 by omega]
    refine (pick_of _ 0 _ _).trans ?_
    congr 3 <;> (apply Fin.ext; show r.val = r.val % 512; omega)
  · rename_i hr
    have := r.isLt
    rw [val_main_v4_apply, hz', show r.val / 512 = 1 by omega]
    refine (pick_of _ 1 _ _).trans ?_
    congr 3 <;> (apply Fin.ext; show r.val - 512 = r.val % 512; omega)

theorem m_at (i : S1024x1410.Idx) : val_main_v11 (F := Ideal) x0 x2 x3 x4 i
    = first (val_main_v6 (F := Ideal) x0 x2 x3 i) (x4 i) := rfl

theorem v_at (i : S1024x1410.Idx) : val_main_v17 (F := Ideal) x0 x2 x3 x5 i
    = second (val_main_v6 (F := Ideal) x0 x2 x3 i) (x5 i) := rfl

theorem d_at (i : S1024x1410.Idx) : val_main_v30 (F := Ideal) x0 x1 x2 x3 x4 x5 i
    = change (x1 i) (val_main_v6 (F := Ideal) x0 x2 x3 i) (x4 i) (x5 i) := rfl

end Cert.Reference14Ideal.Update

namespace Cert.Proof.UpdateInput

open Idealize.ShloMosaic Idealize.ShloMosaic.TcCoe Idealize.SL.Sem
open Cert.Adam Cert.Kernel14Ideal Cert.Kernel14Ideal.Gen Cert.Kernel14Ideal.Update

/-- The kernel, its idealization and the reference run and leave the memory they were given. -/
theorem frame_kernel : Cert.quiescent_Kernel14 := fun m ρ _ => Cert.Kernel14.Gen.frame m ρ trivial
theorem frame_ideal : Cert.quiescent_Kernel14Ideal := fun m ρ _ => Cert.Kernel14Ideal.Gen.frame m ρ trivial
theorem frame_reference : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

section kernel

variable (m : (ℓ : Loc nD τ sig) → Buf (Elt Ideal) ℓ) (hO : Ok m) (c : Dev nD)

/-- The kernel's gradient is the reference's, and with it the change and both moments. -/
theorem gradient (i : S1024x1410.Idx) :
    Cert.Reference14Ideal.Read.val_main_v6 (F := Ideal) (a0 m c) (a2 m c) (a3 m c) i = gr m c (i 0) (i 1) := by
  obtain ⟨p, q, rfl⟩ : ∃ p q, i = ix2 p q := ⟨i 0, i 1, ValueIdx.eq_ix2 i⟩
  exact Cert.Reference14Ideal.Update.g_at _ _ _ p q

end kernel

/-- The gradient, the change and both moments are the reference's. -/
theorem algebraic : Cert.algebraic_Kernel14Ideal_Reference14Ideal := by
  intro m ρ m' ρ' _ hagree
  have hO : Ok (F := Ideal) m := trivial
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N, ?_, ?_⟩
  · refine (θ_run defs _ _).mono (fun r h c => ?_) (run_main (F := Ideal) m ρ hO)
    exact ⟨(h c).1 5, (h c).1 6, (h c).1 7, (h c).1 8,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩
  · refine (θ_run Cert.Reference14Ideal.defs _ _).mono (fun r h c => ?_) (Cert.Reference14Ideal.Value.run (F := Ideal) m' ρ')
    obtain ⟨e0, e1, e2, e3, e4, e5⟩ := hagree c
    obtain ⟨r0, r1, r2, r3, rest⟩ := h c
    replace r0 := r0.trans (Cert.Reference14Ideal.Read.val_main_v6_eq _ _ _)
    rw [e0, e2, e3] at r0
    replace r1 := r1.trans (Cert.Reference14Ideal.Read.val_main_v30_eq _ _ _ _ _ _)
    rw [e0, e1, e2, e3, e4, e5] at r1
    replace r2 := r2.trans (Cert.Reference14Ideal.Read.val_main_v11_eq _ _ _ _)
    rw [e0, e2, e3, e4] at r2
    replace r3 := r3.trans (Cert.Reference14Ideal.Read.val_main_v17_eq _ _ _ _)
    rw [e0, e2, e3, e5] at r3
    refine ⟨(r0.trans ?_).trans (final_g m hO c).symm, (r1.trans ?_).trans (final_d m hO c).symm,
      (r2.trans ?_).trans (final_m m hO c).symm, (r3.trans ?_).trans (final_v m hO c).symm, rest⟩
    · exact funext fun i => gradient m c i
    · exact funext fun i => (Cert.Reference14Ideal.Update.d_at (a0 m c) (a1 m c) (a4 m c) (a5 m c) (a2 m c) (a3 m c) i).trans
        (congrArg (fun g => change (a1 m c i) g (a4 m c i) (a5 m c i)) (gradient m c i))
    · exact funext fun i => (Cert.Reference14Ideal.Update.m_at (a0 m c) (a4 m c) (a2 m c) (a3 m c) i).trans
        (congrArg (fun g => first g (a4 m c i)) (gradient m c i))
    · exact funext fun i => (Cert.Reference14Ideal.Update.v_at (a0 m c) (a5 m c) (a2 m c) (a3 m c) i).trans
        (congrArg (fun g => second g (a5 m c i)) (gradient m c i))

end Cert.Proof.UpdateInput

end
-- ==== Proof.UpdateBranch.lean ====
/-
  The AdamW step of a weight of shape 512 × 256 whose summed gradient lies in two halves of rows: the gradient, the change and the
  two moments, entry by entry, of the kernel's arrays and of the reference's.
-/
module

public import proofs.«01_k».proof.Defs
public import proofs.«01_k».proof.Proof.Adam
public import proofs.«01_k».proof.Proof.Gen.Kernel15.Frame
public import proofs.«01_k».proof.Proof.Gen.Kernel15Ideal.Frame
public import proofs.«01_k».proof.Proof.Gen.Reference15Ideal.Read
public import proofs.«01_k».proof.Proof.Gen.Reference15Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

noncomputable section

namespace Cert.Kernel15Ideal.Update

open Idealize.ShloMosaic Idealize.ShloMosaic.TcCoe Idealize.SL.Sem
open Cert.Kernel15Ideal Cert.Kernel15Ideal.Gen Cert.Adam

variable (m : (ℓ : Loc nD τ sig) → Buf (Elt Ideal) ℓ) (hO : Ok m) (c : Dev nD)

/-- The kernel's argument arrays: the device's half, the weight, the two halves of the gradient, the two moments. -/
def a0 : S1.Idx → BitVec 32 := m (c, Proc.tc.devRef main_arg0)
def a1 : S512x256.Idx → EReal := m (c, Proc.tc.devRef main_arg1)
def a2 : S256x256.Idx → EReal := m (c, Proc.tc.devRef main_arg2)
def a3 : S256x256.Idx → EReal := m (c, Proc.tc.devRef main_arg3)
def a4 : S512x256.Idx → EReal := m (c, Proc.tc.devRef main_arg4)
def a5 : S512x256.Idx → EReal := m (c, Proc.tc.devRef main_arg5)

/-- Row `p` of row block `i`; a row inside its half; the gradient. -/
def rb (i : ℕ) (p : Fin 128) : Fin 512 := ⟨(i * 128 + p.val) % 512, Nat.mod_lt _ (by norm_num)⟩
def inner (r : Fin 512) : Fin 256 := ⟨r.val % 256, Nat.mod_lt _ (by norm_num)⟩
def gr (r : Fin 512) (d : Fin 256) : EReal :=
  pick (a0 m c (ix1 0)) (r.val / 256) (a2 m c (ix2 (inner r) d)) (a3 m c (ix2 (inner r) d))

/-- The windows' maps read no word of the table, so they are those at any table; the table of zeroes stands for all. -/
def any : (pcfg0 (F := Ideal)).Adm := ⟨fun | 0 => fun _ => (0#32 : BitVec 32), trivial⟩

theorem idx₀ : ∀ t : Fin grid0.N, ((cfg0 any).win 0).index t = ![t.val, 0] ∧ ((cfg0 any).win 1).index t = ![t.val % 2, 0]
    ∧ ((cfg0 any).win 2).index t = ![t.val % 2, 0] ∧ ((cfg0 any).win 3).index t = ![t.val, 0]
    ∧ ((cfg0 any).win 4).index t = ![t.val, 0] ∧ ((cfg0 any).win 5).index t = ![t.val, 0]
    ∧ ((cfg0 any).win 6).index t = ![t.val, 0] ∧ ((cfg0 any).win 7).index t = ![t.val, 0]
    ∧ ((cfg0 any).win 8).index t = ![t.val, 0] ∧ (grid0.coords t 0).val = t.val / 2 := by
  decide +kernel

theorem idx (t : Fin (cfgM m hO).N) : ((cfgM m hO).win 0).index t = ![t.val, 0] ∧ ((cfgM m hO).win 1).index t = ![t.val % 2, 0]
    ∧ ((cfgM m hO).win 2).index t = ![t.val % 2, 0] ∧ ((cfgM m hO).win 3).index t = ![t.val, 0]
    ∧ ((cfgM m hO).win 4).index t = ![t.val, 0] ∧ ((cfgM m hO).win 5).index t = ![t.val, 0]
    ∧ ((cfgM m hO).win 6).index t = ![t.val, 0] ∧ ((cfgM m hO).win 7).index t = ![t.val, 0]
    ∧ ((cfgM m hO).win 8).index t = ![t.val, 0] ∧ (grid0.coords t 0).val = t.val / 2 := idx₀ t

theorem covers : ((cfg0 any).win 5).Covers ∧ ((cfg0 any).win 6).Covers ∧ ((cfg0 any).win 7).Covers ∧ ((cfg0 any).win 8).Covers := by
  decide +kernel

section blocks

variable (t : Fin (cfgM m hO).N)

theorem points : t.val < 4 := t.isLt

theorem blk0 (p : Fin 128) (d : Fin 256) : iblk m hO c 0 t (ix2 p d) = a1 m c (ix2 (rb t.val p) d) := by
  have ht := points m hO t
  unfold a1
  blk_point [iblk, idx m hO t, V] <;> first | rfl | (simp only [rb]; omega)

theorem blk3 (p : Fin 128) (d : Fin 256) : iblk m hO c 3 t (ix2 p d) = a4 m c (ix2 (rb t.val p) d) := by
  have ht := points m hO t
  unfold a4
  blk_point [iblk, idx m hO t, V] <;> first | rfl | (simp only [rb]; omega)

theorem blk4 (p : Fin 128) (d : Fin 256) : iblk m hO c 4 t (ix2 p d) = a5 m c (ix2 (rb t.val p) d) := by
  have ht := points m hO t
  unfold a5
  blk_point [iblk, idx m hO t, V] <;> first | rfl | (simp only [rb]; omega)

theorem blk1 (p : Fin 128) (d : Fin 256) : iblk m hO c 1 t (ix2 p d) = a2 m c (ix2 (inner (rb t.val p)) d) := by
  have ht := points m hO t
  unfold a2
  blk_point [iblk, idx m hO t, V] <;> first | rfl | (simp only [rb, inner]; omega)

theorem blk2 (p : Fin 128) (d : Fin 256) : iblk m hO c 2 t (ix2 p d) = a3 m c (ix2 (inner (rb t.val p)) d) := by
  have ht := points m hO t
  unfold a3
  blk_point [iblk, idx m hO t, V] <;> first | rfl | (simp only [rb, inner]; omega)

/-- The word the body reads from the table. -/
theorem word : View.readAt (Elt Ideal) (View.whole main_arg0) (Rect.unit ![0] ![1] inb_S1_S1_0).toLoadRect (tbl m 0)
    (Shape.Idx.first (by decide)) = a0 m c (ix1 0) := by
  obtain rfl : c = 0 := Subsingleton.elim _ _
  refine congrArg (V m 0 main_arg0) (funext fun a => ?_)
  fin_cases a
  rfl

/-! What a staging cell holds is read back whole. -/

theorem read0 : (ms0_0 m hO t).view.read (Elt Ideal) ((hs0_0 m hO t).unread (iblk m hO c 0 t)) = iblk m hO c 0 t :=
  (hs0_0 m hO t).read_unread _

theorem read1 : (ms0_1 m hO t).view.read (Elt Ideal) ((hs0_1 m hO t).unread (iblk m hO c 1 t)) = iblk m hO c 1 t :=
  (hs0_1 m hO t).read_unread _

theorem read2 : (ms0_2 m hO t).view.read (Elt Ideal) ((hs0_2 m hO t).unread (iblk m hO c 2 t)) = iblk m hO c 2 t :=
  (hs0_2 m hO t).read_unread _

theorem read3 : (ms0_3 m hO t).view.read (Elt Ideal) ((hs0_3 m hO t).unread (iblk m hO c 3 t)) = iblk m hO c 3 t :=
  (hs0_3 m hO t).read_unread _

theorem read4 : (ms0_4 m hO t).view.read (Elt Ideal) ((hs0_4 m hO t).unread (iblk m hO c 4 t)) = iblk m hO c 4 t :=
  (hs0_4 m hO t).read_unread _

theorem pair (y : S128x256.Idx) : ∃ p q, y = ix2 p q := ⟨y 0, y 1, ValueIdx.eq_ix2 y⟩

/-- The point's four blocks. -/
abbrev gT := k0_pay1 (F := Ideal) (grid0.coords t) (a0 m c (ix1 0)) (iblk m hO c 1 t) (iblk m hO c 2 t)
abbrev mT := k0_pay2 (F := Ideal) (grid0.coords t) (a0 m c (ix1 0)) (iblk m hO c 1 t) (iblk m hO c 2 t) (iblk m hO c 3 t)
abbrev vT := k0_pay3 (F := Ideal) (grid0.coords t) (a0 m c (ix1 0)) (iblk m hO c 1 t) (iblk m hO c 2 t) (iblk m hO c 4 t)
abbrev dT := k0_pay4 (F := Ideal) (grid0.coords t) (a0 m c (ix1 0)) (iblk m hO c 1 t) (iblk m hO c 2 t) (iblk m hO c 0 t)
  (iblk m hO c 3 t) (iblk m hO c 4 t)

theorem g_at : (outsAt0 m hO c t).1 = gT m hO c t := by
  unfold outsAt0 gT
  frame_out
  exact congr (congr (congrArg (k0_pay1 (F := Ideal) (grid0.coords t)) (word m c)) (read1 m hO c t)) (read2 m hO c t)

theorem d_at : (outsAt0 m hO c t).2.1 = dT m hO c t := by
  unfold outsAt0 dT
  frame_out
  exact congr (congr (congr (congr (congr (congrArg (k0_pay4 (F := Ideal) (grid0.coords t)) (word m c)) (read1 m hO c t)) (read2 m hO c t)) (read0 m hO c t)) (read3 m hO c t)) (read4 m hO c t)

theorem m_at : (outsAt0 m hO c t).2.2.1 = mT m hO c t := by
  unfold outsAt0 mT
  frame_out
  exact congr (congr (congr (congrArg (k0_pay2 (F := Ideal) (grid0.coords t)) (word m c)) (read1 m hO c t)) (read2 m hO c t)) (read3 m hO c t)

theorem v_at : (outsAt0 m hO c t).2.2.2 = vT m hO c t := by
  unfold outsAt0 vT
  frame_out
  exact congr (congr (congr (congrArg (k0_pay3 (F := Ideal) (grid0.coords t)) (word m c)) (read1 m hO c t)) (read2 m hO c t)) (read4 m hO c t)

theorem g_val (p : Fin 128) (d : Fin 256) : gT m hO c t (ix2 p d) = gr m c (rb t.val p) d := by
  have ht := points m hO t
  have e : (rb t.val p).val / 256 = (grid0.coords t 0).val := by
    rw [(idx m hO t).2.2.2.2.2.2.2.2.2]; simp only [rb]; omega
  unfold gr pick
  rw [e, ← blk1 m hO c t p d, ← blk2 m hO c t p d]
  exact select_at (s := S128x256) _ (iblk m hO c 1 t) (iblk m hO c 2 t) (ix2 p d)

theorem m_val (p : Fin 128) (d : Fin 256) :
    mT m hO c t (ix2 p d) = first (gr m c (rb t.val p) d) (a4 m c (ix2 (rb t.val p) d)) := by
  have hg := g_val m hO c t p d
  rw [← hg, ← blk3 m hO c t p d]
  rfl

theorem v_val (p : Fin 128) (d : Fin 256) :
    vT m hO c t (ix2 p d) = second (gr m c (rb t.val p) d) (a5 m c (ix2 (rb t.val p) d)) := by
  have hg := g_val m hO c t p d
  rw [← hg, ← blk4 m hO c t p d]
  rfl

theorem d_val (p : Fin 128) (d : Fin 256) :
    dT m hO c t (ix2 p d) = change (a1 m c (ix2 (rb t.val p) d)) (gr m c (rb t.val p) d) (a4 m c (ix2 (rb t.val p) d))
      (a5 m c (ix2 (rb t.val p) d)) := by
  unfold change
  rw [← m_val, ← v_val, ← blk0 m hO c t p d]
  rfl

theorem emb5 (p : Fin 128) (d : Fin 256) :
    (((cfgM m hO).win 5).blk t).view.emb (ix2 p d : S128x256.Idx) = (ix2 (rb t.val p) d : S512x256.Idx) := by
  have ht := points m hO t
  funext a
  apply Fin.ext
  fin_cases a <;> blk_simp [idx m hO t] <;> first | rfl | (show t.val * 128 + p.val = (t.val * 128 + p.val) % 512; omega)

theorem emb6 (p : Fin 128) (d : Fin 256) :
    (((cfgM m hO).win 6).blk t).view.emb (ix2 p d : S128x256.Idx) = (ix2 (rb t.val p) d : S512x256.Idx) := by
  have ht := points m hO t
  funext a
  apply Fin.ext
  fin_cases a <;> blk_simp [idx m hO t] <;> first | rfl | (show t.val * 128 + p.val = (t.val * 128 + p.val) % 512; omega)

theorem emb7 (p : Fin 128) (d : Fin 256) :
    (((cfgM m hO).win 7).blk t).view.emb (ix2 p d : S128x256.Idx) = (ix2 (rb t.val p) d : S512x256.Idx) := by
  have ht := points m hO t
  funext a
  apply Fin.ext
  fin_cases a <;> blk_simp [idx m hO t] <;> first | rfl | (show t.val * 128 + p.val = (t.val * 128 + p.val) % 512; omega)

theorem emb8 (p : Fin 128) (d : Fin 256) :
    (((cfgM m hO).win 8).blk t).view.emb (ix2 p d : S128x256.Idx) = (ix2 (rb t.val p) d : S512x256.Idx) := by
  have ht := points m hO t
  funext a
  apply Fin.ext
  fin_cases a <;> blk_simp [idx m hO t] <;> first | rfl | (show t.val * 128 + p.val = (t.val * 128 + p.val) % 512; omega)

end blocks

/-- The kernel's arrays, entry by entry. -/
theorem final_g : (dats m hO 0 c).arrAt 5 (cfgM m hO).N = fun i : S512x256.Idx => gr m c (i 0) (i 1) := by
  refine (dats m hO 0 c).arrAt_eq_of_covers 5 _ covers.1 fun t hf y => ?_
  blk_simp
  rw [after0_5, g_at]
  obtain ⟨p, q, rfl⟩ := pair y
  have e := emb5 m hO t p q
  refine (g_val m hO c t p q).trans ?_
  rw [e]
  rfl

theorem final_d : (dats m hO 0 c).arrAt 6 (cfgM m hO).N = fun i : S512x256.Idx => change (a1 m c i) (gr m c (i 0) (i 1)) (a4 m c i) (a5 m c i) := by
  refine (dats m hO 0 c).arrAt_eq_of_covers 6 _ covers.2.1 fun t hf y => ?_
  blk_simp
  rw [after0_6, d_at]
  obtain ⟨p, q, rfl⟩ := pair y
  have e := emb6 m hO t p q
  refine (d_val m hO c t p q).trans ?_
  rw [e]
  rfl

theorem final_m : (dats m hO 0 c).arrAt 7 (cfgM m hO).N = fun i : S512x256.Idx => first (gr m c (i 0) (i 1)) (a4 m c i) := by
  refine (dats m hO 0 c).arrAt_eq_of_covers 7 _ covers.2.2.1 fun t hf y => ?_
  blk_simp
  rw [after0_7, m_at]
  obtain ⟨p, q, rfl⟩ := pair y
  have e := emb7 m hO t p q
  refine (m_val m hO c t p q).trans ?_
  rw [e]
  rfl

theorem final_v : (dats m hO 0 c).arrAt 8 (cfgM m hO).N = fun i : S512x256.Idx => second (gr m c (i 0) (i 1)) (a5 m c i) := by
  refine (dats m hO 0 c).arrAt_eq_of_covers 8 _ covers.2.2.2 fun t hf y => ?_
  blk_simp
  rw [after0_8, v_at]
  obtain ⟨p, q, rfl⟩ := pair y
  have e := emb8 m hO t p q
  refine (v_val m hO c t p q).trans ?_
  rw [e]
  rfl

end Cert.Kernel15Ideal.Update

namespace Cert.Reference15Ideal.Update

open Idealize.ShloMosaic Cert.Reference15Ideal Cert.Reference15Ideal.Read Cert.Adam

variable (x0 : (⟨S1, .i32⟩ : BufTy).Contents (Elt Ideal)) (x1 x4 x5 : (⟨S512x256, .f32⟩ : BufTy).Contents (Elt Ideal))
  (x2 x3 : (⟨S256x256, .f32⟩ : BufTy).Contents (Elt Ideal))

theorem one (i : S1.Idx) : i = ix1 0 :=
  funext fun a => by fin_cases a; exact Subsingleton.elim (α := Fin 1) _ _

theorem g_at (r : Fin 512) (d : Fin 256) : val_main_v6 (F := Ideal) x0 x2 x3 (ix2 r d)
    = pick (x0 (ix1 0)) (r.val / 256) (x2 (ix2 (⟨r.val % 256, Nat.mod_lt _ (by norm_num)⟩ : Fin 256) d))
        (x3 (ix2 (⟨r.val % 256, Nat.mod_lt _ (by norm_num)⟩ : Fin 256) d)) := by
  pointwise [val_main_v6, val_main_v2, val_main_v5]
  have hz : val_main_v0 (F := Ideal) x0 ix0 = x0 (ix1 0) := congrArg x0 (one _)
  have hz' : val_main_v3 (F := Ideal) x0 ix0 = x0 (ix1 0) := congrArg x0 (one _)
  split
  · rename_i hr
    rw [val_main_v1_apply, hz, show r.val / 256 = 0 by omega]
    refine (pick_of _ 0 _ _).trans ?_
    congr 3 <;> (apply Fin.ext; show r.val = r.val % 256; omega)
  · rename_i hr
    have := r.isLt
    rw [val_main_v4_apply, hz', show r.val / 256 = 1 by omega]
    refine (pick_of _ 1 _ _).trans ?_
    congr 3 <;> (apply Fin.ext; show r.val - 256 = r.val % 256; omega)

theorem m_at (i : S512x256.Idx) : val_main_v11 (F := Ideal) x0 x2 x3 x4 i
    = first (val_main_v6 (F := Ideal) x0 x2 x3 i) (x4 i) := rfl

theorem v_at (i : S512x256.Idx) : val_main_v17 (F := Ideal) x0 x2 x3 x5 i
    = second (val_main_v6 (F := Ideal) x0 x2 x3 i) (x5 i) := rfl

theorem d_at (i : S512x256.Idx) : val_main_v30 (F := Ideal) x0 x1 x2 x3 x4 x5 i
    = change (x1 i) (val_main_v6 (F := Ideal) x0 x2 x3 i) (x4 i) (x5 i) := rfl

end Cert.Reference15Ideal.Update

namespace Cert.Proof.UpdateBranch

open Idealize.ShloMosaic Idealize.ShloMosaic.TcCoe Idealize.SL.Sem
open Cert.Adam Cert.Kernel15Ideal Cert.Kernel15Ideal.Gen Cert.Kernel15Ideal.Update

/-- The kernel, its idealization and the reference run and leave the memory they were given. -/
theorem frame_kernel : Cert.quiescent_Kernel15 := fun m ρ _ => Cert.Kernel15.Gen.frame m ρ trivial
theorem frame_ideal : Cert.quiescent_Kernel15Ideal := fun m ρ _ => Cert.Kernel15Ideal.Gen.frame m ρ trivial
theorem frame_reference : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

section kernel

variable (m : (ℓ : Loc nD τ sig) → Buf (Elt Ideal) ℓ) (hO : Ok m) (c : Dev nD)

/-- The kernel's gradient is the reference's, and with it the change and both moments. -/
theorem gradient (i : S512x256.Idx) :
    Cert.Reference15Ideal.Read.val_main_v6 (F := Ideal) (a0 m c) (a2 m c) (a3 m c) i = gr m c (i 0) (i 1) := by
  obtain ⟨p, q, rfl⟩ : ∃ p q, i = ix2 p q := ⟨i 0, i 1, ValueIdx.eq_ix2 i⟩
  exact Cert.Reference15Ideal.Update.g_at _ _ _ p q

end kernel

/-- The gradient, the change and both moments are the reference's. -/
theorem algebraic : Cert.algebraic_Kernel15Ideal_Reference15Ideal := by
  intro m ρ m' ρ' _ hagree
  have hO : Ok (F := Ideal) m := trivial
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N, ?_, ?_⟩
  · refine (θ_run defs _ _).mono (fun r h c => ?_) (run_main (F := Ideal) m ρ hO)
    exact ⟨(h c).1 5, (h c).1 6, (h c).1 7, (h c).1 8,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩
  · refine (θ_run Cert.Reference15Ideal.defs _ _).mono (fun r h c => ?_) (Cert.Reference15Ideal.Value.run (F := Ideal) m' ρ')
    obtain ⟨e0, e1, e2, e3, e4, e5⟩ := hagree c
    obtain ⟨r0, r1, r2, r3, rest⟩ := h c
    replace r0 := r0.trans (Cert.Reference15Ideal.Read.val_main_v6_eq _ _ _)
    rw [e0, e2, e3] at r0
    replace r1 := r1.trans (Cert.Reference15Ideal.Read.val_main_v30_eq _ _ _ _ _ _)
    rw [e0, e1, e2, e3, e4, e5] at r1
    replace r2 := r2.trans (Cert.Reference15Ideal.Read.val_main_v11_eq _ _ _ _)
    rw [e0, e2, e3, e4] at r2
    replace r3 := r3.trans (Cert.Reference15Ideal.Read.val_main_v17_eq _ _ _ _)
    rw [e0, e2, e3, e5] at r3
    refine ⟨(r0.trans ?_).trans (final_g m hO c).symm, (r1.trans ?_).trans (final_d m hO c).symm,
      (r2.trans ?_).trans (final_m m hO c).symm, (r3.trans ?_).trans (final_v m hO c).symm, rest⟩
    · exact funext fun i => gradient m c i
    · exact funext fun i => (Cert.Reference15Ideal.Update.d_at (a0 m c) (a1 m c) (a4 m c) (a5 m c) (a2 m c) (a3 m c) i).trans
        (congrArg (fun g => change (a1 m c i) g (a4 m c i) (a5 m c i)) (gradient m c i))
    · exact funext fun i => (Cert.Reference15Ideal.Update.m_at (a0 m c) (a4 m c) (a2 m c) (a3 m c) i).trans
        (congrArg (fun g => first g (a4 m c i)) (gradient m c i))
    · exact funext fun i => (Cert.Reference15Ideal.Update.v_at (a0 m c) (a5 m c) (a2 m c) (a3 m c) i).trans
        (congrArg (fun g => second g (a5 m c i)) (gradient m c i))

end Cert.Proof.UpdateBranch

end
-- ==== Proof.UpdateOutput.lean ====
/-
  The AdamW step of a weight of shape 256 × 1024 whose summed gradient lies in two halves of rows: the gradient, the change and the
  two moments, entry by entry, of the kernel's arrays and of the reference's.
-/
module

public import proofs.«01_k».proof.Defs
public import proofs.«01_k».proof.Proof.Adam
public import proofs.«01_k».proof.Proof.Gen.Kernel16.Frame
public import proofs.«01_k».proof.Proof.Gen.Kernel16Ideal.Frame
public import proofs.«01_k».proof.Proof.Gen.Reference16Ideal.Read
public import proofs.«01_k».proof.Proof.Gen.Reference16Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

noncomputable section

namespace Cert.Kernel16Ideal.Update

open Idealize.ShloMosaic Idealize.ShloMosaic.TcCoe Idealize.SL.Sem
open Cert.Kernel16Ideal Cert.Kernel16Ideal.Gen Cert.Adam

variable (m : (ℓ : Loc nD τ sig) → Buf (Elt Ideal) ℓ) (hO : Ok m) (c : Dev nD)

/-- The kernel's argument arrays: the device's half, the weight, the two halves of the gradient, the two moments. -/
def a0 : S1.Idx → BitVec 32 := m (c, Proc.tc.devRef main_arg0)
def a1 : S256x1024.Idx → EReal := m (c, Proc.tc.devRef main_arg1)
def a2 : S128x1024.Idx → EReal := m (c, Proc.tc.devRef main_arg2)
def a3 : S128x1024.Idx → EReal := m (c, Proc.tc.devRef main_arg3)
def a4 : S256x1024.Idx → EReal := m (c, Proc.tc.devRef main_arg4)
def a5 : S256x1024.Idx → EReal := m (c, Proc.tc.devRef main_arg5)

/-- Row `p` of row block `i`; a row inside its half; the gradient. -/
def rb (i : ℕ) (p : Fin 128) : Fin 256 := ⟨(i * 128 + p.val) % 256, Nat.mod_lt _ (by norm_num)⟩
def inner (r : Fin 256) : Fin 128 := ⟨r.val % 128, Nat.mod_lt _ (by norm_num)⟩
def gr (r : Fin 256) (d : Fin 1024) : EReal :=
  pick (a0 m c (ix1 0)) (r.val / 128) (a2 m c (ix2 (inner r) d)) (a3 m c (ix2 (inner r) d))

/-- The windows' maps read no word of the table, so they are those at any table; the table of zeroes stands for all. -/
def any : (pcfg0 (F := Ideal)).Adm := ⟨fun | 0 => fun _ => (0#32 : BitVec 32), trivial⟩

theorem idx₀ : ∀ t : Fin grid0.N, ((cfg0 any).win 0).index t = ![t.val, 0] ∧ ((cfg0 any).win 1).index t = ![t.val % 1, 0]
    ∧ ((cfg0 any).win 2).index t = ![t.val % 1, 0] ∧ ((cfg0 any).win 3).index t = ![t.val, 0]
    ∧ ((cfg0 any).win 4).index t = ![t.val, 0] ∧ ((cfg0 any).win 5).index t = ![t.val, 0]
    ∧ ((cfg0 any).win 6).index t = ![t.val, 0] ∧ ((cfg0 any).win 7).index t = ![t.val, 0]
    ∧ ((cfg0 any).win 8).index t = ![t.val, 0] ∧ (grid0.coords t 0).val = t.val / 1 := by
  decide +kernel

theorem idx (t : Fin (cfgM m hO).N) : ((cfgM m hO).win 0).index t = ![t.val, 0] ∧ ((cfgM m hO).win 1).index t = ![t.val % 1, 0]
    ∧ ((cfgM m hO).win 2).index t = ![t.val % 1, 0] ∧ ((cfgM m hO).win 3).index t = ![t.val, 0]
    ∧ ((cfgM m hO).win 4).index t = ![t.val, 0] ∧ ((cfgM m hO).win 5).index t = ![t.val, 0]
    ∧ ((cfgM m hO).win 6).index t = ![t.val, 0] ∧ ((cfgM m hO).win 7).index t = ![t.val, 0]
    ∧ ((cfgM m hO).win 8).index t = ![t.val, 0] ∧ (grid0.coords t 0).val = t.val / 1 := idx₀ t

theorem covers : ((cfg0 any).win 5).Covers ∧ ((cfg0 any).win 6).Covers ∧ ((cfg0 any).win 7).Covers ∧ ((cfg0 any).win 8).Covers := by
  decide +kernel

section blocks

variable (t : Fin (cfgM m hO).N)

theorem points : t.val < 2 := t.isLt

theorem blk0 (p : Fin 128) (d : Fin 1024) : iblk m hO c 0 t (ix2 p d) = a1 m c (ix2 (rb t.val p) d) := by
  have ht := points m hO t
  unfold a1
  blk_point [iblk, idx m hO t, V] <;> first | rfl | (simp only [rb]; omega)

theorem blk3 (p : Fin 128) (d : Fin 1024) : iblk m hO c 3 t (ix2 p d) = a4 m c (ix2 (rb t.val p) d) := by
  have ht := points m hO t
  unfold a4
  blk_point [iblk, idx m hO t, V] <;> first | rfl | (simp only [rb]; omega)

theorem blk4 (p : Fin 128) (d : Fin 1024) : iblk m hO c 4 t (ix2 p d) = a5 m c (ix2 (rb t.val p) d) := by
  have ht := points m hO t
  unfold a5
  blk_point [iblk, idx m hO t, V] <;> first | rfl | (simp only [rb]; omega)

theorem blk1 (p : Fin 128) (d : Fin 1024) : iblk m hO c 1 t (ix2 p d) = a2 m c (ix2 (inner (rb t.val p)) d) := by
  have ht := points m hO t
  unfold a2
  blk_point [iblk, idx m hO t, V] <;> first | rfl | (simp only [rb, inner]; omega)

theorem blk2 (p : Fin 128) (d : Fin 1024) : iblk m hO c 2 t (ix2 p d) = a3 m c (ix2 (inner (rb t.val p)) d) := by
  have ht := points m hO t
  unfold a3
  blk_point [iblk, idx m hO t, V] <;> first | rfl | (simp only [rb, inner]; omega)

/-- The word the body reads from the table. -/
theorem word : View.readAt (Elt Ideal) (View.whole main_arg0) (Rect.unit ![0] ![1] inb_S1_S1_0).toLoadRect (tbl m 0)
    (Shape.Idx.first (by decide)) = a0 m c (ix1 0) := by
  obtain rfl : c = 0 := Subsingleton.elim _ _
  refine congrArg (V m 0 main_arg0) (funext fun a => ?_)
  fin_cases a
  rfl

/-! What a staging cell holds is read back whole. -/

theorem read0 : (ms0_0 m hO t).view.read (Elt Ideal) ((hs0_0 m hO t).unread (iblk m hO c 0 t)) = iblk m hO c 0 t :=
  (hs0_0 m hO t).read_unread _

theorem read1 : (ms0_1 m hO t).view.read (Elt Ideal) ((hs0_1 m hO t).unread (iblk m hO c 1 t)) = iblk m hO c 1 t :=
  (hs0_1 m hO t).read_unread _

theorem read2 : (ms0_2 m hO t).view.read (Elt Ideal) ((hs0_2 m hO t).unread (iblk m hO c 2 t)) = iblk m hO c 2 t :=
  (hs0_2 m hO t).read_unread _

theorem read3 : (ms0_3 m hO t).view.read (Elt Ideal) ((hs0_3 m hO t).unread (iblk m hO c 3 t)) = iblk m hO c 3 t :=
  (hs0_3 m hO t).read_unread _

theorem read4 : (ms0_4 m hO t).view.read (Elt Ideal) ((hs0_4 m hO t).unread (iblk m hO c 4 t)) = iblk m hO c 4 t :=
  (hs0_4 m hO t).read_unread _

theorem pair (y : S128x1024.Idx) : ∃ p q, y = ix2 p q := ⟨y 0, y 1, ValueIdx.eq_ix2 y⟩

/-- The point's four blocks. -/
abbrev gT := k0_pay1 (F := Ideal) (grid0.coords t) (a0 m c (ix1 0)) (iblk m hO c 1 t) (iblk m hO c 2 t)
abbrev mT := k0_pay2 (F := Ideal) (grid0.coords t) (a0 m c (ix1 0)) (iblk m hO c 1 t) (iblk m hO c 2 t) (iblk m hO c 3 t)
abbrev vT := k0_pay3 (F := Ideal) (grid0.coords t) (a0 m c (ix1 0)) (iblk m hO c 1 t) (iblk m hO c 2 t) (iblk m hO c 4 t)
abbrev dT := k0_pay4 (F := Ideal) (grid0.coords t) (a0 m c (ix1 0)) (iblk m hO c 1 t) (iblk m hO c 2 t) (iblk m hO c 0 t)
  (iblk m hO c 3 t) (iblk m hO c 4 t)

theorem g_at : (outsAt0 m hO c t).1 = gT m hO c t := by
  unfold outsAt0 gT
  frame_out
  exact congr (congr (congrArg (k0_pay1 (F := Ideal) (grid0.coords t)) (word m c)) (read1 m hO c t)) (read2 m hO c t)

theorem d_at : (outsAt0 m hO c t).2.1 = dT m hO c t := by
  unfold outsAt0 dT
  frame_out
  exact congr (congr (congr (congr (congr (congrArg (k0_pay4 (F := Ideal) (grid0.coords t)) (word m c)) (read1 m hO c t)) (read2 m hO c t)) (read0 m hO c t)) (read3 m hO c t)) (read4 m hO c t)

theorem m_at : (outsAt0 m hO c t).2.2.1 = mT m hO c t := by
  unfold outsAt0 mT
  frame_out
  exact congr (congr (congr (congrArg (k0_pay2 (F := Ideal) (grid0.coords t)) (word m c)) (read1 m hO c t)) (read2 m hO c t)) (read3 m hO c t)

theorem v_at : (outsAt0 m hO c t).2.2.2 = vT m hO c t := by
  unfold outsAt0 vT
  frame_out
  exact congr (congr (congr (congrArg (k0_pay3 (F := Ideal) (grid0.coords t)) (word m c)) (read1 m hO c t)) (read2 m hO c t)) (read4 m hO c t)

theorem g_val (p : Fin 128) (d : Fin 1024) : gT m hO c t (ix2 p d) = gr m c (rb t.val p) d := by
  have ht := points m hO t
  have e : (rb t.val p).val / 128 = (grid0.coords t 0).val := by
    rw [(idx m hO t).2.2.2.2.2.2.2.2.2]; simp only [rb]; omega
  unfold gr pick
  rw [e, ← blk1 m hO c t p d, ← blk2 m hO c t p d]
  exact select_at (s := S128x1024) _ (iblk m hO c 1 t) (iblk m hO c 2 t) (ix2 p d)

theorem m_val (p : Fin 128) (d : Fin 1024) :
    mT m hO c t (ix2 p d) = first (gr m c (rb t.val p) d) (a4 m c (ix2 (rb t.val p) d)) := by
  have hg := g_val m hO c t p d
  rw [← hg, ← blk3 m hO c t p d]
  rfl

theorem v_val (p : Fin 128) (d : Fin 1024) :
    vT m hO c t (ix2 p d) = second (gr m c (rb t.val p) d) (a5 m c (ix2 (rb t.val p) d)) := by
  have hg := g_val m hO c t p d
  rw [← hg, ← blk4 m hO c t p d]
  rfl

theorem d_val (p : Fin 128) (d : Fin 1024) :
    dT m hO c t (ix2 p d) = change (a1 m c (ix2 (rb t.val p) d)) (gr m c (rb t.val p) d) (a4 m c (ix2 (rb t.val p) d))
      (a5 m c (ix2 (rb t.val p) d)) := by
  unfold change
  rw [← m_val, ← v_val, ← blk0 m hO c t p d]
  rfl

theorem emb5 (p : Fin 128) (d : Fin 1024) :
    (((cfgM m hO).win 5).blk t).view.emb (ix2 p d : S128x1024.Idx) = (ix2 (rb t.val p) d : S256x1024.Idx) := by
  have ht := points m hO t
  funext a
  apply Fin.ext
  fin_cases a <;> blk_simp [idx m hO t] <;> first | rfl | (show t.val * 128 + p.val = (t.val * 128 + p.val) % 256; omega)

theorem emb6 (p : Fin 128) (d : Fin 1024) :
    (((cfgM m hO).win 6).blk t).view.emb (ix2 p d : S128x1024.Idx) = (ix2 (rb t.val p) d : S256x1024.Idx) := by
  have ht := points m hO t
  funext a
  apply Fin.ext
  fin_cases a <;> blk_simp [idx m hO t] <;> first | rfl | (show t.val * 128 + p.val = (t.val * 128 + p.val) % 256; omega)

theorem emb7 (p : Fin 128) (d : Fin 1024) :
    (((cfgM m hO).win 7).blk t).view.emb (ix2 p d : S128x1024.Idx) = (ix2 (rb t.val p) d : S256x1024.Idx) := by
  have ht := points m hO t
  funext a
  apply Fin.ext
  fin_cases a <;> blk_simp [idx m hO t] <;> first | rfl | (show t.val * 128 + p.val = (t.val * 128 + p.val) % 256; omega)

theorem emb8 (p : Fin 128) (d : Fin 1024) :
    (((cfgM m hO).win 8).blk t).view.emb (ix2 p d : S128x1024.Idx) = (ix2 (rb t.val p) d : S256x1024.Idx) := by
  have ht := points m hO t
  funext a
  apply Fin.ext
  fin_cases a <;> blk_simp [idx m hO t] <;> first | rfl | (show t.val * 128 + p.val = (t.val * 128 + p.val) % 256; omega)

end blocks

/-- The kernel's arrays, entry by entry. -/
theorem final_g : (dats m hO 0 c).arrAt 5 (cfgM m hO).N = fun i : S256x1024.Idx => gr m c (i 0) (i 1) := by
  refine (dats m hO 0 c).arrAt_eq_of_covers 5 _ covers.1 fun t hf y => ?_
  blk_simp
  rw [after0_5, g_at]
  obtain ⟨p, q, rfl⟩ := pair y
  have e := emb5 m hO t p q
  refine (g_val m hO c t p q).trans ?_
  rw [e]
  rfl

theorem final_d : (dats m hO 0 c).arrAt 6 (cfgM m hO).N = fun i : S256x1024.Idx => change (a1 m c i) (gr m c (i 0) (i 1)) (a4 m c i) (a5 m c i) := by
  refine (dats m hO 0 c).arrAt_eq_of_covers 6 _ covers.2.1 fun t hf y => ?_
  blk_simp
  rw [after0_6, d_at]
  obtain ⟨p, q, rfl⟩ := pair y
  have e := emb6 m hO t p q
  refine (d_val m hO c t p q).trans ?_
  rw [e]
  rfl

theorem final_m : (dats m hO 0 c).arrAt 7 (cfgM m hO).N = fun i : S256x1024.Idx => first (gr m c (i 0) (i 1)) (a4 m c i) := by
  refine (dats m hO 0 c).arrAt_eq_of_covers 7 _ covers.2.2.1 fun t hf y => ?_
  blk_simp
  rw [after0_7, m_at]
  obtain ⟨p, q, rfl⟩ := pair y
  have e := emb7 m hO t p q
  refine (m_val m hO c t p q).trans ?_
  rw [e]
  rfl

theorem final_v : (dats m hO 0 c).arrAt 8 (cfgM m hO).N = fun i : S256x1024.Idx => second (gr m c (i 0) (i 1)) (a5 m c i) := by
  refine (dats m hO 0 c).arrAt_eq_of_covers 8 _ covers.2.2.2 fun t hf y => ?_
  blk_simp
  rw [after0_8, v_at]
  obtain ⟨p, q, rfl⟩ := pair y
  have e := emb8 m hO t p q
  refine (v_val m hO c t p q).trans ?_
  rw [e]
  rfl

end Cert.Kernel16Ideal.Update

namespace Cert.Reference16Ideal.Update

open Idealize.ShloMosaic Cert.Reference16Ideal Cert.Reference16Ideal.Read Cert.Adam

variable (x0 : (⟨S1, .i32⟩ : BufTy).Contents (Elt Ideal)) (x1 x4 x5 : (⟨S256x1024, .f32⟩ : BufTy).Contents (Elt Ideal))
  (x2 x3 : (⟨S128x1024, .f32⟩ : BufTy).Contents (Elt Ideal))

theorem one (i : S1.Idx) : i = ix1 0 :=
  funext fun a => by fin_cases a; exact Subsingleton.elim (α := Fin 1) _ _

theorem g_at (r : Fin 256) (d : Fin 1024) : val_main_v6 (F := Ideal) x0 x2 x3 (ix2 r d)
    = pick (x0 (ix1 0)) (r.val / 128) (x2 (ix2 (⟨r.val % 128, Nat.mod_lt _ (by norm_num)⟩ : Fin 128) d))
        (x3 (ix2 (⟨r.val % 128, Nat.mod_lt _ (by norm_num)⟩ : Fin 128) d)) := by
  pointwise [val_main_v6, val_main_v2, val_main_v5]
  have hz : val_main_v0 (F := Ideal) x0 ix0 = x0 (ix1 0) := congrArg x0 (one _)
  have hz' : val_main_v3 (F := Ideal) x0 ix0 = x0 (ix1 0) := congrArg x0 (one _)
  split
  · rename_i hr
    rw [val_main_v1_apply, hz, show r.val / 128 = 0 by omega]
    refine (pick_of _ 0 _ _).trans ?_
    congr 3 <;> (apply Fin.ext; show r.val = r.val % 128; omega)
  · rename_i hr
    have := r.isLt
    rw [val_main_v4_apply, hz', show r.val / 128 = 1 by omega]
    refine (pick_of _ 1 _ _).trans ?_
    congr 3 <;> (apply Fin.ext; show r.val - 128 = r.val % 128; omega)

theorem m_at (i : S256x1024.Idx) : val_main_v11 (F := Ideal) x0 x2 x3 x4 i
    = first (val_main_v6 (F := Ideal) x0 x2 x3 i) (x4 i) := rfl

theorem v_at (i : S256x1024.Idx) : val_main_v17 (F := Ideal) x0 x2 x3 x5 i
    = second (val_main_v6 (F := Ideal) x0 x2 x3 i) (x5 i) := rfl

theorem d_at (i : S256x1024.Idx) : val_main_v30 (F := Ideal) x0 x1 x2 x3 x4 x5 i
    = change (x1 i) (val_main_v6 (F := Ideal) x0 x2 x3 i) (x4 i) (x5 i) := rfl

end Cert.Reference16Ideal.Update

namespace Cert.Proof.UpdateOutput

open Idealize.ShloMosaic Idealize.ShloMosaic.TcCoe Idealize.SL.Sem
open Cert.Adam Cert.Kernel16Ideal Cert.Kernel16Ideal.Gen Cert.Kernel16Ideal.Update

/-- The kernel, its idealization and the reference run and leave the memory they were given. -/
theorem frame_kernel : Cert.quiescent_Kernel16 := fun m ρ _ => Cert.Kernel16.Gen.frame m ρ trivial
theorem frame_ideal : Cert.quiescent_Kernel16Ideal := fun m ρ _ => Cert.Kernel16Ideal.Gen.frame m ρ trivial
theorem frame_reference : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

section kernel

variable (m : (ℓ : Loc nD τ sig) → Buf (Elt Ideal) ℓ) (hO : Ok m) (c : Dev nD)

/-- The kernel's gradient is the reference's, and with it the change and both moments. -/
theorem gradient (i : S256x1024.Idx) :
    Cert.Reference16Ideal.Read.val_main_v6 (F := Ideal) (a0 m c) (a2 m c) (a3 m c) i = gr m c (i 0) (i 1) := by
  obtain ⟨p, q, rfl⟩ : ∃ p q, i = ix2 p q := ⟨i 0, i 1, ValueIdx.eq_ix2 i⟩
  exact Cert.Reference16Ideal.Update.g_at _ _ _ p q

end kernel

/-- The gradient, the change and both moments are the reference's. -/
theorem algebraic : Cert.algebraic_Kernel16Ideal_Reference16Ideal := by
  intro m ρ m' ρ' _ hagree
  have hO : Ok (F := Ideal) m := trivial
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N, ?_, ?_⟩
  · refine (θ_run defs _ _).mono (fun r h c => ?_) (run_main (F := Ideal) m ρ hO)
    exact ⟨(h c).1 5, (h c).1 6, (h c).1 7, (h c).1 8,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩
  · refine (θ_run Cert.Reference16Ideal.defs _ _).mono (fun r h c => ?_) (Cert.Reference16Ideal.Value.run (F := Ideal) m' ρ')
    obtain ⟨e0, e1, e2, e3, e4, e5⟩ := hagree c
    obtain ⟨r0, r1, r2, r3, rest⟩ := h c
    replace r0 := r0.trans (Cert.Reference16Ideal.Read.val_main_v6_eq _ _ _)
    rw [e0, e2, e3] at r0
    replace r1 := r1.trans (Cert.Reference16Ideal.Read.val_main_v30_eq _ _ _ _ _ _)
    rw [e0, e1, e2, e3, e4, e5] at r1
    replace r2 := r2.trans (Cert.Reference16Ideal.Read.val_main_v11_eq _ _ _ _)
    rw [e0, e2, e3, e4] at r2
    replace r3 := r3.trans (Cert.Reference16Ideal.Read.val_main_v17_eq _ _ _ _)
    rw [e0, e2, e3, e5] at r3
    refine ⟨(r0.trans ?_).trans (final_g m hO c).symm, (r1.trans ?_).trans (final_d m hO c).symm,
      (r2.trans ?_).trans (final_m m hO c).symm, (r3.trans ?_).trans (final_v m hO c).symm, rest⟩
    · exact funext fun i => gradient m c i
    · exact funext fun i => (Cert.Reference16Ideal.Update.d_at (a0 m c) (a1 m c) (a4 m c) (a5 m c) (a2 m c) (a3 m c) i).trans
        (congrArg (fun g => change (a1 m c i) g (a4 m c i) (a5 m c i)) (gradient m c i))
    · exact funext fun i => (Cert.Reference16Ideal.Update.m_at (a0 m c) (a4 m c) (a2 m c) (a3 m c) i).trans
        (congrArg (fun g => first g (a4 m c i)) (gradient m c i))
    · exact funext fun i => (Cert.Reference16Ideal.Update.v_at (a0 m c) (a5 m c) (a2 m c) (a3 m c) i).trans
        (congrArg (fun g => second g (a5 m c i)) (gradient m c i))

end Cert.Proof.UpdateOutput

end
-- ==== Proof.UpdateFfn.lean ====
/-
  The AdamW step of a weight of shape 704 × 1024 whose summed gradient lies in two halves of rows: the gradient, the change and the
  two moments, entry by entry, of the kernel's arrays and of the reference's.
-/
module

public import proofs.«01_k».proof.Defs
public import proofs.«01_k».proof.Proof.Adam
public import proofs.«01_k».proof.Proof.Gen.Kernel17.Frame
public import proofs.«01_k».proof.Proof.Gen.Kernel17Ideal.Frame
public import proofs.«01_k».proof.Proof.Gen.Reference17Ideal.Read
public import proofs.«01_k».proof.Proof.Gen.Reference17Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

noncomputable section

namespace Cert.Kernel17Ideal.Update

open Idealize.ShloMosaic Idealize.ShloMosaic.TcCoe Idealize.SL.Sem
open Cert.Kernel17Ideal Cert.Kernel17Ideal.Gen Cert.Adam

variable (m : (ℓ : Loc nD τ sig) → Buf (Elt Ideal) ℓ) (hO : Ok m) (c : Dev nD)

/-- The kernel's argument arrays: the device's half, the weight, the two halves of the gradient, the two moments. -/
def a0 : S1.Idx → BitVec 32 := m (c, Proc.tc.devRef main_arg0)
def a1 : S704x1024.Idx → EReal := m (c, Proc.tc.devRef main_arg1)
def a2 : S352x1024.Idx → EReal := m (c, Proc.tc.devRef main_arg2)
def a3 : S352x1024.Idx → EReal := m (c, Proc.tc.devRef main_arg3)
def a4 : S704x1024.Idx → EReal := m (c, Proc.tc.devRef main_arg4)
def a5 : S704x1024.Idx → EReal := m (c, Proc.tc.devRef main_arg5)

/-- Row `p` of row block `i`; a row inside its half; the gradient. -/
def rb (i : ℕ) (p : Fin 88) : Fin 704 := ⟨(i * 88 + p.val) % 704, Nat.mod_lt _ (by norm_num)⟩
def inner (r : Fin 704) : Fin 352 := ⟨r.val % 352, Nat.mod_lt _ (by norm_num)⟩
def gr (r : Fin 704) (d : Fin 1024) : EReal :=
  pick (a0 m c (ix1 0)) (r.val / 352) (a2 m c (ix2 (inner r) d)) (a3 m c (ix2 (inner r) d))

/-- The windows' maps read no word of the table, so they are those at any table; the table of zeroes stands for all. -/
def any : (pcfg0 (F := Ideal)).Adm := ⟨fun | 0 => fun _ => (0#32 : BitVec 32), trivial⟩

theorem idx₀ : ∀ t : Fin grid0.N, ((cfg0 any).win 0).index t = ![t.val, 0] ∧ ((cfg0 any).win 1).index t = ![t.val % 4, 0]
    ∧ ((cfg0 any).win 2).index t = ![t.val % 4, 0] ∧ ((cfg0 any).win 3).index t = ![t.val, 0]
    ∧ ((cfg0 any).win 4).index t = ![t.val, 0] ∧ ((cfg0 any).win 5).index t = ![t.val, 0]
    ∧ ((cfg0 any).win 6).index t = ![t.val, 0] ∧ ((cfg0 any).win 7).index t = ![t.val, 0]
    ∧ ((cfg0 any).win 8).index t = ![t.val, 0] ∧ (grid0.coords t 0).val = t.val / 4 := by
  decide +kernel

theorem idx (t : Fin (cfgM m hO).N) : ((cfgM m hO).win 0).index t = ![t.val, 0] ∧ ((cfgM m hO).win 1).index t = ![t.val % 4, 0]
    ∧ ((cfgM m hO).win 2).index t = ![t.val % 4, 0] ∧ ((cfgM m hO).win 3).index t = ![t.val, 0]
    ∧ ((cfgM m hO).win 4).index t = ![t.val, 0] ∧ ((cfgM m hO).win 5).index t = ![t.val, 0]
    ∧ ((cfgM m hO).win 6).index t = ![t.val, 0] ∧ ((cfgM m hO).win 7).index t = ![t.val, 0]
    ∧ ((cfgM m hO).win 8).index t = ![t.val, 0] ∧ (grid0.coords t 0).val = t.val / 4 := idx₀ t

theorem covers : ((cfg0 any).win 5).Covers ∧ ((cfg0 any).win 6).Covers ∧ ((cfg0 any).win 7).Covers ∧ ((cfg0 any).win 8).Covers := by
  decide +kernel

section blocks

variable (t : Fin (cfgM m hO).N)

theorem points : t.val < 8 := t.isLt

theorem blk0 (p : Fin 88) (d : Fin 1024) : iblk m hO c 0 t (ix2 p d) = a1 m c (ix2 (rb t.val p) d) := by
  have ht := points m hO t
  unfold a1
  blk_point [iblk, idx m hO t, V] <;> first | rfl | (simp only [rb]; omega)

theorem blk3 (p : Fin 88) (d : Fin 1024) : iblk m hO c 3 t (ix2 p d) = a4 m c (ix2 (rb t.val p) d) := by
  have ht := points m hO t
  unfold a4
  blk_point [iblk, idx m hO t, V] <;> first | rfl | (simp only [rb]; omega)

theorem blk4 (p : Fin 88) (d : Fin 1024) : iblk m hO c 4 t (ix2 p d) = a5 m c (ix2 (rb t.val p) d) := by
  have ht := points m hO t
  unfold a5
  blk_point [iblk, idx m hO t, V] <;> first | rfl | (simp only [rb]; omega)

theorem blk1 (p : Fin 88) (d : Fin 1024) : iblk m hO c 1 t (ix2 p d) = a2 m c (ix2 (inner (rb t.val p)) d) := by
  have ht := points m hO t
  unfold a2
  blk_point [iblk, idx m hO t, V] <;> first | rfl | (simp only [rb, inner]; omega)

theorem blk2 (p : Fin 88) (d : Fin 1024) : iblk m hO c 2 t (ix2 p d) = a3 m c (ix2 (inner (rb t.val p)) d) := by
  have ht := points m hO t
  unfold a3
  blk_point [iblk, idx m hO t, V] <;> first | rfl | (simp only [rb, inner]; omega)

/-- The word the body reads from the table. -/
theorem word : View.readAt (Elt Ideal) (View.whole main_arg0) (Rect.unit ![0] ![1] inb_S1_S1_0).toLoadRect (tbl m 0)
    (Shape.Idx.first (by decide)) = a0 m c (ix1 0) := by
  obtain rfl : c = 0 := Subsingleton.elim _ _
  refine congrArg (V m 0 main_arg0) (funext fun a => ?_)
  fin_cases a
  rfl

/-! What a staging cell holds is read back whole. -/

theorem read0 : (ms0_0 m hO t).view.read (Elt Ideal) ((hs0_0 m hO t).unread (iblk m hO c 0 t)) = iblk m hO c 0 t :=
  (hs0_0 m hO t).read_unread _

theorem read1 : (ms0_1 m hO t).view.read (Elt Ideal) ((hs0_1 m hO t).unread (iblk m hO c 1 t)) = iblk m hO c 1 t :=
  (hs0_1 m hO t).read_unread _

theorem read2 : (ms0_2 m hO t).view.read (Elt Ideal) ((hs0_2 m hO t).unread (iblk m hO c 2 t)) = iblk m hO c 2 t :=
  (hs0_2 m hO t).read_unread _

theorem read3 : (ms0_3 m hO t).view.read (Elt Ideal) ((hs0_3 m hO t).unread (iblk m hO c 3 t)) = iblk m hO c 3 t :=
  (hs0_3 m hO t).read_unread _

theorem read4 : (ms0_4 m hO t).view.read (Elt Ideal) ((hs0_4 m hO t).unread (iblk m hO c 4 t)) = iblk m hO c 4 t :=
  (hs0_4 m hO t).read_unread _

theorem pair (y : S88x1024.Idx) : ∃ p q, y = ix2 p q := ⟨y 0, y 1, ValueIdx.eq_ix2 y⟩

/-- The point's four blocks. -/
abbrev gT := k0_pay1 (F := Ideal) (grid0.coords t) (a0 m c (ix1 0)) (iblk m hO c 1 t) (iblk m hO c 2 t)
abbrev mT := k0_pay2 (F := Ideal) (grid0.coords t) (a0 m c (ix1 0)) (iblk m hO c 1 t) (iblk m hO c 2 t) (iblk m hO c 3 t)
abbrev vT := k0_pay3 (F := Ideal) (grid0.coords t) (a0 m c (ix1 0)) (iblk m hO c 1 t) (iblk m hO c 2 t) (iblk m hO c 4 t)
abbrev dT := k0_pay4 (F := Ideal) (grid0.coords t) (a0 m c (ix1 0)) (iblk m hO c 1 t) (iblk m hO c 2 t) (iblk m hO c 0 t)
  (iblk m hO c 3 t) (iblk m hO c 4 t)

theorem g_at : (outsAt0 m hO c t).1 = gT m hO c t := by
  unfold outsAt0 gT
  frame_out
  exact congr (congr (congrArg (k0_pay1 (F := Ideal) (grid0.coords t)) (word m c)) (read1 m hO c t)) (read2 m hO c t)

theorem d_at : (outsAt0 m hO c t).2.1 = dT m hO c t := by
  unfold outsAt0 dT
  frame_out
  exact congr (congr (congr (congr (congr (congrArg (k0_pay4 (F := Ideal) (grid0.coords t)) (word m c)) (read1 m hO c t)) (read2 m hO c t)) (read0 m hO c t)) (read3 m hO c t)) (read4 m hO c t)

theorem m_at : (outsAt0 m hO c t).2.2.1 = mT m hO c t := by
  unfold outsAt0 mT
  frame_out
  exact congr (congr (congr (congrArg (k0_pay2 (F := Ideal) (grid0.coords t)) (word m c)) (read1 m hO c t)) (read2 m hO c t)) (read3 m hO c t)

theorem v_at : (outsAt0 m hO c t).2.2.2 = vT m hO c t := by
  unfold outsAt0 vT
  frame_out
  exact congr (congr (congr (congrArg (k0_pay3 (F := Ideal) (grid0.coords t)) (word m c)) (read1 m hO c t)) (read2 m hO c t)) (read4 m hO c t)

theorem g_val (p : Fin 88) (d : Fin 1024) : gT m hO c t (ix2 p d) = gr m c (rb t.val p) d := by
  have ht := points m hO t
  have e : (rb t.val p).val / 352 = (grid0.coords t 0).val := by
    rw [(idx m hO t).2.2.2.2.2.2.2.2.2]; simp only [rb]; omega
  unfold gr pick
  rw [e, ← blk1 m hO c t p d, ← blk2 m hO c t p d]
  exact select_at (s := S88x1024) _ (iblk m hO c 1 t) (iblk m hO c 2 t) (ix2 p d)

theorem m_val (p : Fin 88) (d : Fin 1024) :
    mT m hO c t (ix2 p d) = first (gr m c (rb t.val p) d) (a4 m c (ix2 (rb t.val p) d)) := by
  have hg := g_val m hO c t p d
  rw [← hg, ← blk3 m hO c t p d]
  rfl

theorem v_val (p : Fin 88) (d : Fin 1024) :
    vT m hO c t (ix2 p d) = second (gr m c (rb t.val p) d) (a5 m c (ix2 (rb t.val p) d)) := by
  have hg := g_val m hO c t p d
  rw [← hg, ← blk4 m hO c t p d]
  rfl

theorem d_val (p : Fin 88) (d : Fin 1024) :
    dT m hO c t (ix2 p d) = change (a1 m c (ix2 (rb t.val p) d)) (gr m c (rb t.val p) d) (a4 m c (ix2 (rb t.val p) d))
      (a5 m c (ix2 (rb t.val p) d)) := by
  unfold change
  rw [← m_val, ← v_val, ← blk0 m hO c t p d]
  rfl

theorem emb5 (p : Fin 88) (d : Fin 1024) :
    (((cfgM m hO).win 5).blk t).view.emb (ix2 p d : S88x1024.Idx) = (ix2 (rb t.val p) d : S704x1024.Idx) := by
  have ht := points m hO t
  funext a
  apply Fin.ext
  fin_cases a <;> blk_simp [idx m hO t] <;> first | rfl | (show t.val * 88 + p.val = (t.val * 88 + p.val) % 704; omega)

theorem emb6 (p : Fin 88) (d : Fin 1024) :
    (((cfgM m hO).win 6).blk t).view.emb (ix2 p d : S88x1024.Idx) = (ix2 (rb t.val p) d : S704x1024.Idx) := by
  have ht := points m hO t
  funext a
  apply Fin.ext
  fin_cases a <;> blk_simp [idx m hO t] <;> first | rfl | (show t.val * 88 + p.val = (t.val * 88 + p.val) % 704; omega)

theorem emb7 (p : Fin 88) (d : Fin 1024) :
    (((cfgM m hO).win 7).blk t).view.emb (ix2 p d : S88x1024.Idx) = (ix2 (rb t.val p) d : S704x1024.Idx) := by
  have ht := points m hO t
  funext a
  apply Fin.ext
  fin_cases a <;> blk_simp [idx m hO t] <;> first | rfl | (show t.val * 88 + p.val = (t.val * 88 + p.val) % 704; omega)

theorem emb8 (p : Fin 88) (d : Fin 1024) :
    (((cfgM m hO).win 8).blk t).view.emb (ix2 p d : S88x1024.Idx) = (ix2 (rb t.val p) d : S704x1024.Idx) := by
  have ht := points m hO t
  funext a
  apply Fin.ext
  fin_cases a <;> blk_simp [idx m hO t] <;> first | rfl | (show t.val * 88 + p.val = (t.val * 88 + p.val) % 704; omega)

end blocks

/-- The kernel's arrays, entry by entry. -/
theorem final_g : (dats m hO 0 c).arrAt 5 (cfgM m hO).N = fun i : S704x1024.Idx => gr m c (i 0) (i 1) := by
  refine (dats m hO 0 c).arrAt_eq_of_covers 5 _ covers.1 fun t hf y => ?_
  blk_simp
  rw [after0_5, g_at]
  obtain ⟨p, q, rfl⟩ := pair y
  have e := emb5 m hO t p q
  refine (g_val m hO c t p q).trans ?_
  rw [e]
  rfl

theorem final_d : (dats m hO 0 c).arrAt 6 (cfgM m hO).N = fun i : S704x1024.Idx => change (a1 m c i) (gr m c (i 0) (i 1)) (a4 m c i) (a5 m c i) := by
  refine (dats m hO 0 c).arrAt_eq_of_covers 6 _ covers.2.1 fun t hf y => ?_
  blk_simp
  rw [after0_6, d_at]
  obtain ⟨p, q, rfl⟩ := pair y
  have e := emb6 m hO t p q
  refine (d_val m hO c t p q).trans ?_
  rw [e]
  rfl

theorem final_m : (dats m hO 0 c).arrAt 7 (cfgM m hO).N = fun i : S704x1024.Idx => first (gr m c (i 0) (i 1)) (a4 m c i) := by
  refine (dats m hO 0 c).arrAt_eq_of_covers 7 _ covers.2.2.1 fun t hf y => ?_
  blk_simp
  rw [after0_7, m_at]
  obtain ⟨p, q, rfl⟩ := pair y
  have e := emb7 m hO t p q
  refine (m_val m hO c t p q).trans ?_
  rw [e]
  rfl

theorem final_v : (dats m hO 0 c).arrAt 8 (cfgM m hO).N = fun i : S704x1024.Idx => second (gr m c (i 0) (i 1)) (a5 m c i) := by
  refine (dats m hO 0 c).arrAt_eq_of_covers 8 _ covers.2.2.2 fun t hf y => ?_
  blk_simp
  rw [after0_8, v_at]
  obtain ⟨p, q, rfl⟩ := pair y
  have e := emb8 m hO t p q
  refine (v_val m hO c t p q).trans ?_
  rw [e]
  rfl

end Cert.Kernel17Ideal.Update

namespace Cert.Reference17Ideal.Update

open Idealize.ShloMosaic Cert.Reference17Ideal Cert.Reference17Ideal.Read Cert.Adam

variable (x0 : (⟨S1, .i32⟩ : BufTy).Contents (Elt Ideal)) (x1 x4 x5 : (⟨S704x1024, .f32⟩ : BufTy).Contents (Elt Ideal))
  (x2 x3 : (⟨S352x1024, .f32⟩ : BufTy).Contents (Elt Ideal))

theorem one (i : S1.Idx) : i = ix1 0 :=
  funext fun a => by fin_cases a; exact Subsingleton.elim (α := Fin 1) _ _

theorem g_at (r : Fin 704) (d : Fin 1024) : val_main_v6 (F := Ideal) x0 x2 x3 (ix2 r d)
    = pick (x0 (ix1 0)) (r.val / 352) (x2 (ix2 (⟨r.val % 352, Nat.mod_lt _ (by norm_num)⟩ : Fin 352) d))
        (x3 (ix2 (⟨r.val % 352, Nat.mod_lt _ (by norm_num)⟩ : Fin 352) d)) := by
  pointwise [val_main_v6, val_main_v2, val_main_v5]
  have hz : val_main_v0 (F := Ideal) x0 ix0 = x0 (ix1 0) := congrArg x0 (one _)
  have hz' : val_main_v3 (F := Ideal) x0 ix0 = x0 (ix1 0) := congrArg x0 (one _)
  split
  · rename_i hr
    rw [val_main_v1_apply, hz, show r.val / 352 = 0 by omega]
    refine (pick_of _ 0 _ _).trans ?_
    congr 3 <;> (apply Fin.ext; show r.val = r.val % 352; omega)
  · rename_i hr
    have := r.isLt
    rw [val_main_v4_apply, hz', show r.val / 352 = 1 by omega]
    refine (pick_of _ 1 _ _).trans ?_
    congr 3 <;> (apply Fin.ext; show r.val - 352 = r.val % 352; omega)

theorem m_at (i : S704x1024.Idx) : val_main_v11 (F := Ideal) x0 x2 x3 x4 i
    = first (val_main_v6 (F := Ideal) x0 x2 x3 i) (x4 i) := rfl

theorem v_at (i : S704x1024.Idx) : val_main_v17 (F := Ideal) x0 x2 x3 x5 i
    = second (val_main_v6 (F := Ideal) x0 x2 x3 i) (x5 i) := rfl

theorem d_at (i : S704x1024.Idx) : val_main_v30 (F := Ideal) x0 x1 x2 x3 x4 x5 i
    = change (x1 i) (val_main_v6 (F := Ideal) x0 x2 x3 i) (x4 i) (x5 i) := rfl

end Cert.Reference17Ideal.Update

namespace Cert.Proof.UpdateFfn

open Idealize.ShloMosaic Idealize.ShloMosaic.TcCoe Idealize.SL.Sem
open Cert.Adam Cert.Kernel17Ideal Cert.Kernel17Ideal.Gen Cert.Kernel17Ideal.Update

/-- The kernel, its idealization and the reference run and leave the memory they were given. -/
theorem frame_kernel : Cert.quiescent_Kernel17 := fun m ρ _ => Cert.Kernel17.Gen.frame m ρ trivial
theorem frame_ideal : Cert.quiescent_Kernel17Ideal := fun m ρ _ => Cert.Kernel17Ideal.Gen.frame m ρ trivial
theorem frame_reference : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

section kernel

variable (m : (ℓ : Loc nD τ sig) → Buf (Elt Ideal) ℓ) (hO : Ok m) (c : Dev nD)

/-- The kernel's gradient is the reference's, and with it the change and both moments. -/
theorem gradient (i : S704x1024.Idx) :
    Cert.Reference17Ideal.Read.val_main_v6 (F := Ideal) (a0 m c) (a2 m c) (a3 m c) i = gr m c (i 0) (i 1) := by
  obtain ⟨p, q, rfl⟩ : ∃ p q, i = ix2 p q := ⟨i 0, i 1, ValueIdx.eq_ix2 i⟩
  exact Cert.Reference17Ideal.Update.g_at _ _ _ p q

end kernel

/-- The gradient, the change and both moments are the reference's. -/
theorem algebraic : Cert.algebraic_Kernel17Ideal_Reference17Ideal := by
  intro m ρ m' ρ' _ hagree
  have hO : Ok (F := Ideal) m := trivial
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N, ?_, ?_⟩
  · refine (θ_run defs _ _).mono (fun r h c => ?_) (run_main (F := Ideal) m ρ hO)
    exact ⟨(h c).1 5, (h c).1 6, (h c).1 7, (h c).1 8,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩
  · refine (θ_run Cert.Reference17Ideal.defs _ _).mono (fun r h c => ?_) (Cert.Reference17Ideal.Value.run (F := Ideal) m' ρ')
    obtain ⟨e0, e1, e2, e3, e4, e5⟩ := hagree c
    obtain ⟨r0, r1, r2, r3, rest⟩ := h c
    replace r0 := r0.trans (Cert.Reference17Ideal.Read.val_main_v6_eq _ _ _)
    rw [e0, e2, e3] at r0
    replace r1 := r1.trans (Cert.Reference17Ideal.Read.val_main_v30_eq _ _ _ _ _ _)
    rw [e0, e1, e2, e3, e4, e5] at r1
    replace r2 := r2.trans (Cert.Reference17Ideal.Read.val_main_v11_eq _ _ _ _)
    rw [e0, e2, e3, e4] at r2
    replace r3 := r3.trans (Cert.Reference17Ideal.Read.val_main_v17_eq _ _ _ _)
    rw [e0, e2, e3, e5] at r3
    refine ⟨(r0.trans ?_).trans (final_g m hO c).symm, (r1.trans ?_).trans (final_d m hO c).symm,
      (r2.trans ?_).trans (final_m m hO c).symm, (r3.trans ?_).trans (final_v m hO c).symm, rest⟩
    · exact funext fun i => gradient m c i
    · exact funext fun i => (Cert.Reference17Ideal.Update.d_at (a0 m c) (a1 m c) (a4 m c) (a5 m c) (a2 m c) (a3 m c) i).trans
        (congrArg (fun g => change (a1 m c i) g (a4 m c i) (a5 m c i)) (gradient m c i))
    · exact funext fun i => (Cert.Reference17Ideal.Update.m_at (a0 m c) (a4 m c) (a2 m c) (a3 m c) i).trans
        (congrArg (fun g => first g (a4 m c i)) (gradient m c i))
    · exact funext fun i => (Cert.Reference17Ideal.Update.v_at (a0 m c) (a5 m c) (a2 m c) (a3 m c) i).trans
        (congrArg (fun g => second g (a5 m c i)) (gradient m c i))

end Cert.Proof.UpdateFfn

end
-- ==== Proof.UpdateAda.lean ====
/-
  The modulation's weight: its gradient, the product of the conditioning's silu with the modulation's gradient over the
  16 rows of the batch, and its AdamW step on the whole array.
-/
module

public import proofs.«01_k».proof.Defs
public import proofs.«01_k».proof.Proof.Adam
public import proofs.«01_k».proof.Proof.Gen.Kernel18.Frame
public import proofs.«01_k».proof.Proof.Gen.Kernel18Ideal.Value
public import proofs.«01_k».proof.Proof.Gen.Reference18Ideal.Read
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Read
public import proofs.«01_k».proof.Proof.Gen.Reference19Ideal.Run
public import Idealize.ShloMosaic.Lib.Pointwise
public import Idealize.ShloMosaic.Lib.Claim
public import Idealize.ShloMosaic.Lib.Quiescent

@[expose] public section

noncomputable section

open Idealize.ShloMosaic Idealize.ShloMosaic.TcCoe Idealize.SL.Sem

namespace Cert.Proof.UpdateAda

open Cert.Adam

/-- The kernel, its idealization and the reference run and leave the memory they were given. -/
theorem frame_kernel : Cert.quiescent_Kernel18 := fun m ρ _ => Cert.Kernel18.Gen.frame m ρ
theorem frame_ideal : Cert.quiescent_Kernel18Ideal := fun m ρ _ => Cert.Kernel18Ideal.Gen.frame m ρ
theorem frame_reference : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

section values

open Cert.Reference18Ideal Cert.Reference18Ideal.Read

variable (w g m v : S1024x1536.Idx → EReal) (i : S1024x1536.Idx)

/-- The kernel's three arrays and the reference's, entry by entry. -/
theorem change_kernel : Cert.Kernel18Ideal.Value.G4 (F := Ideal) w g m v i = change (w i) (g i) (m i) (v i) := rfl
theorem first_kernel : Cert.Kernel18Ideal.Value.G5 (F := Ideal) g m i = first (g i) (m i) := rfl
theorem second_kernel : Cert.Kernel18Ideal.Value.G6 (F := Ideal) g v i = second (g i) (v i) := rfl
theorem change_reference : val_main_v23 (F := Ideal) w g m v i = change (w i) (g i) (m i) (v i) := rfl
theorem first_reference : val_main_v4 (F := Ideal) g m i = first (g i) (m i) := rfl
theorem second_reference : val_main_v10 (F := Ideal) g v i = second (g i) (v i) := rfl

end values

/-- The change and both moments are the reference's. -/
theorem algebraic : Cert.algebraic_Kernel18Ideal_Reference18Ideal := by
  intro m ρ m' ρ' _ hagree
  refine ⟨_, _, _, Cert.Kernel18Ideal.Value.run (F := Ideal) m ρ, ?_⟩
  refine (θ_run Cert.Reference18Ideal.defs _ _).mono (fun r h c => ?_) (Cert.Reference18Ideal.Value.run (F := Ideal) m' ρ')
  obtain ⟨e0, e1, e2, e3⟩ := hagree c
  obtain ⟨r0, r1, r2, rest⟩ := h c
  replace r0 := r0.trans (Cert.Reference18Ideal.Read.val_main_v23_eq _ _ _ _)
  rw [e0, e1, e2, e3] at r0
  replace r1 := r1.trans (Cert.Reference18Ideal.Read.val_main_v4_eq _ _)
  rw [e1, e2] at r1
  replace r2 := r2.trans (Cert.Reference18Ideal.Read.val_main_v10_eq _ _)
  rw [e1, e3] at r2
  exact ⟨r0.trans (funext fun i => (change_reference _ _ _ _ i).trans (change_kernel _ _ _ _ i).symm),
    r1.trans (funext fun i => (first_reference _ _ i).trans (first_kernel _ _ i).symm),
    r2.trans (funext fun i => (second_reference _ _ i).trans (second_kernel _ _ i).symm), rest⟩

end Cert.Proof.UpdateAda

namespace Cert.Proof.AdaWeight

/-- The kernel, its idealization and the reference run and leave the memory they were given. -/
theorem frame_kernel : Cert.quiescent_Kernel19 := fun m ρ _ => Cert.Kernel19.Gen.frame m ρ
theorem frame_ideal : Cert.quiescent_Kernel19Ideal := fun m ρ _ => Cert.Kernel19Ideal.Gen.frame m ρ
theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

section values

open Cert.Reference19Ideal Cert.Reference19Ideal.Read

variable (x : S16x1024.Idx → EReal) (y : S16x1536.Idx → EReal)

/-- Entry `(p, q)`: the conditioning's silu times the modulation's gradient, summed over the batch. -/
def entry (p : Fin 1024) (q : Fin 1536) : EReal :=
  ∑ k : Fin 16, x (ix2 k p) * Ideal.logistic (x (ix2 k p)) * y (ix2 k q)

theorem at_kernel (p : Fin 1024) (q : Fin 1536) :
    Cert.Kernel19Ideal.Gen.k0_pay1 (F := Ideal) x y (ix2 p q) = entry x y p q := by
  unfold entry
  pointwise [Cert.Kernel19Ideal.Gen.k0_pay1]

/-- The reference's sigmoid, spelt out, is the logistic function. -/
theorem logistic_ref (x : EReal) :
    Ideal.div (Ideal.ofBits .f32 0x3F800000#32) (Ideal.ofBits .f32 0x3F800000#32 + Ideal.exp (-x)) = Ideal.logistic x := by
  have h : Ideal.ofBits .f32 0x3F800000#32 = 1 := by simp
  rw [h]
  rfl

theorem at_reference (p : Fin 1024) (q : Fin 1536) : val_main_v4 (F := Ideal) x y (ix2 p q) = entry x y p q := by
  rw [val_main_v4_apply, val_main_v3_apply]
  refine Finset.sum_congr rfl fun k _ => ?_
  rw [mul_comm, ← logistic_ref]
  refine congrArg₂ _ ?_ (congrArg y ?_)
  · have e : ridx_main_v3 (idx_main_v4 (ix2 p q)) k = (ix2 k p : S16x1024.Idx) := by
      funext a; fin_cases a <;> rfl
    rw [e]
    pointwise [val_main_v0, val_main_call0_v5, val_main_call0_v4, val_main_call0_v3, val_main_call0_v2, val_main_call0_v1,
      val_main_call0_v0, val_main_call0_cst, val_main_call0_cst_0]
  · funext a; fin_cases a <;> rfl

end values

/-- The weight's gradient is the reference's. -/
theorem algebraic : Cert.algebraic_Kernel19Ideal_Reference19Ideal := by
  intro m ρ m' ρ' _ hagree
  refine ⟨_, Cert.Kernel19Ideal.Value.run (F := Ideal) m ρ, ?_⟩
  refine (θ_run Cert.Reference19Ideal.defs _ _).mono (fun r h c => ?_) (Cert.Reference19Ideal.Value.run (F := Ideal) m' ρ')
  obtain ⟨e0, e1⟩ := hagree c
  obtain ⟨r0, rest⟩ := h c
  replace r0 := r0.trans (Cert.Reference19Ideal.Read.val_main_v4_eq _ _)
  rw [e0, e1] at r0
  refine ⟨r0.trans (funext fun i => ?_), rest⟩
  obtain ⟨p, q, rfl⟩ : ∃ p q, i = ix2 p q := ⟨i 0, i 1, ValueIdx.eq_ix2 i⟩
  exact (at_reference _ _ p q).trans (at_kernel _ _ p q).symm

end Cert.Proof.AdaWeight

end
-- ==== Proof.lean ====
/- The proof of the certificate's claims about the calls of a training step. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.On_gate_columns
public import proofs.«01_k».proof.Proof.Gen.Kernel2
public import proofs.«01_k».proof.Proof.Gen.Kernel2Ideal
public import proofs.«01_k».proof.Proof.Gen.Pre_causal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Pre_real
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.AttentionFrames
public import proofs.«01_k».proof.Proof.MergeClaims
public import proofs.«01_k».proof.Proof.FfnClaims
public import proofs.«01_k».proof.Proof.WeightClaims
public import proofs.«01_k».proof.Proof.RecurrenceFrames
public import proofs.«01_k».proof.Proof.ForwardClaims
public import proofs.«01_k».proof.Proof.FeedForwardClaims
public import proofs.«01_k».proof.Proof.UpdateInput
public import proofs.«01_k».proof.Proof.UpdateBranch
public import proofs.«01_k».proof.Proof.UpdateOutput
public import proofs.«01_k».proof.Proof.UpdateFfn
public import proofs.«01_k».proof.Proof.UpdateAda
public import Idealize.ShloMosaic.Adequacy
public import Idealize.ShloMosaic.Init

@[expose] public section

noncomputable section

namespace Cert.Proof

theorem claim : Cert.Claim :=
  have := Cert.Pre_finite.Gen.facts
  have := Cert.Pre_real.Gen.facts
  ⟨Cert.Kernel.Gen.facts, Cert.KernelIdeal.Gen.facts, Cert.ReferenceIdeal.Gen.facts, Cert.Kernel2.Gen.facts,
    Cert.Kernel2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Pre_causal.Gen.facts, Cert.Pre_finite.Gen.facts, Cert.Pre_real.Gen.facts, Cert.On_gate_columns.Gen.facts,
    Merge.frame_kernel, Merge.frame_ideal, Merge.frame_reference, Attention.frame_kernel, Attention.frame_ideal,
    Ffn.frame_kernel, Ffn.frame_ideal, Ffn.frame_ideal_finite, Ffn.frame_reference, Ffn.frame_reference_finite,
    Down.frame_kernel, Down.frame_ideal, Down.frame_reference,
    Gate.frame_kernel, Gate.frame_ideal, Gate.frame_reference,
    In.frame_kernel, In.frame_ideal, In.frame_reference,
    Input.frame_kernel, Input.frame_ideal, Input.frame_reference,
    Out.frame_kernel, Out.frame_ideal, Out.frame_reference,
    Branch.frame_kernel, Branch.frame_ideal, Branch.frame_reference,
    Recurrence.frame_kernel, Recurrence.frame_ideal,
    Project.frame_kernel, Project.frame_ideal, Project.frame_reference,
    MergeForward.frame_kernel, MergeForward.frame_ideal, MergeForward.frame_reference,
    FeedForward.frame_kernel, FeedForward.frame_ideal, FeedForward.frame_ideal_real, FeedForward.frame_reference,
    FeedForward.frame_reference_real,
    UpdateInput.frame_kernel, UpdateInput.frame_ideal, UpdateInput.frame_reference,
    UpdateBranch.frame_kernel, UpdateBranch.frame_ideal, UpdateBranch.frame_reference,
    UpdateOutput.frame_kernel, UpdateOutput.frame_ideal, UpdateOutput.frame_reference,
    UpdateFfn.frame_kernel, UpdateFfn.frame_ideal, UpdateFfn.frame_reference,
    UpdateAda.frame_kernel, UpdateAda.frame_ideal, UpdateAda.frame_reference,
    AdaWeight.frame_kernel, AdaWeight.frame_ideal, AdaWeight.frame_reference,
    trivial, Merge.algebraic, trivial, trivial, Ffn.algebraic, trivial, Down.algebraic, trivial, Gate.algebraic, trivial, In.algebraic, trivial, Input.algebraic, trivial, Out.algebraic, trivial, Branch.algebraic,
    trivial, trivial, Project.algebraic, trivial, MergeForward.algebraic, trivial, FeedForward.algebraic,
    trivial, UpdateInput.algebraic, trivial, UpdateBranch.algebraic, trivial, UpdateOutput.algebraic, trivial, UpdateFfn.algebraic, trivial, UpdateAda.algebraic, trivial, AdaWeight.algebraic⟩

end Cert.Proof

end
